-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_apart [hPre_scores_apart : Cert.Pre_scores_apart.Facts] (m : (ℓ : Loc Cert.KernelIdeal.nD Cert.KernelIdeal.τ Cert.KernelIdeal.sig) → Buf (Elt Ideal) ℓ) : Prop :=
  ∀ c : Dev Cert.KernelIdeal.nD,
    (Cert.Pre_scores_apart.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_apart [hPre_scores_apart : Cert.Pre_scores_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_apart.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_scores_apart [hKernelIdeal : Cert.KernelIdeal.Facts] [hPre_scores_apart : Cert.Pre_scores_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_apart m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_scores_apart [hReferenceIdeal : Cert.ReferenceIdeal.Facts] [hPre_scores_apart : Cert.Pre_scores_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_apart m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def preserves_Kernel_KernelIdeal : Prop :=
  True

def algebraic_KernelIdeal_ReferenceIdeal_pre_scores_apart [hKernelIdeal : Cert.KernelIdeal.Facts] [hReferenceIdeal : Cert.ReferenceIdeal.Facts] [hPre_scores_apart : Cert.Pre_scores_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_apart m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v17)) (v1 : (c : Dev Cert.Kernel2Ideal.nD) → Buf (Elt Ideal) ((c.tc : Thread Cert.Kernel2Ideal.nD Cert.Kernel2Ideal.τ).loc Cert.Kernel2Ideal.main_v24)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v17) = v0 c
          ∧ r.2.mem ((c.tc : Thread Cert.Kernel2Ideal.nD Cert.Kernel2Ideal.τ).loc Cert.Kernel2Ideal.main_v24) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_v32) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v33) = v0 c
          ∧ r.2.mem ((c.tc : Thread Cert.Reference4Ideal.nD Cert.Reference4Ideal.τ).loc Cert.Reference4Ideal.main_v34) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v12) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v4)) (v1 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_v5) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_v9) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v17)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v17) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v31) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v12) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v16)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v16) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v34) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_scores_apart : Cert.Pre_scores_apart.Facts),
    quiescent_Kernel (hKernel := hKernel)
    ∧ quiescent_KernelIdeal (hKernelIdeal := hKernelIdeal)
    ∧ quiescent_KernelIdeal_pre_scores_apart (hKernelIdeal := hKernelIdeal) (hPre_scores_apart := hPre_scores_apart)
    ∧ quiescent_ReferenceIdeal (hReferenceIdeal := hReferenceIdeal)
    ∧ quiescent_ReferenceIdeal_pre_scores_apart (hReferenceIdeal := hReferenceIdeal) (hPre_scores_apart := hPre_scores_apart)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_scores_apart (hKernelIdeal := hKernelIdeal) (hReferenceIdeal := hReferenceIdeal) (hPre_scores_apart := hPre_scores_apart)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_scores_apart.lean ====
abbrev S4x2048x7264 : Shape := ⟨3, ![4, 2048, 7264]⟩
abbrev S4x2048x1024 : Shape := ⟨3, ![4, 2048, 1024]⟩
abbrev S4x2048x64 : Shape := ⟨3, ![4, 2048, 64]⟩
abbrev S4x2048x16 : Shape := ⟨3, ![4, 2048, 16]⟩
abbrev S2048 : Shape := ⟨1, ![2048]⟩
abbrev S4x2048x16x64 : Shape := ⟨4, ![4, 2048, 16, 64]⟩
abbrev S_ : Shape := ⟨0, ![]⟩
abbrev S4x2048x16x2048 : Shape := ⟨4, ![4, 2048, 16, 2048]⟩
abbrev S4x2048x2048 : Shape := ⟨3, ![4, 2048, 2048]⟩
abbrev S1x1x2048 : Shape := ⟨3, ![1, 1, 2048]⟩
abbrev S1x2048x1 : Shape := ⟨3, ![1, 2048, 1]⟩
abbrev S1x2048x2048 : Shape := ⟨3, ![1, 2048, 2048]⟩
abbrev S4x2048x257 : Shape := ⟨3, ![4, 2048, 257]⟩
abbrev S4x2048 : Shape := ⟨2, ![4, 2048]⟩
abbrev S4x2048x1 : Shape := ⟨3, ![4, 2048, 1]⟩
abbrev S1x2048 : Shape := ⟨2, ![1, 2048]⟩

class Facts : Prop where
  slices_S4x2048x7264_S4x2048x1024_0_0_3088 : S4x2048x7264.Slices ![0, 0, 3088] S4x2048x1024
  slices_S4x2048x7264_S4x2048x1024_0_0_4112 : S4x2048x7264.Slices ![0, 0, 4112] S4x2048x1024
  slices_S4x2048x7264_S4x2048x1024_0_0_6160 : S4x2048x7264.Slices ![0, 0, 6160] S4x2048x1024
  slices_S4x2048x7264_S4x2048x64_0_0_7184 : S4x2048x7264.Slices ![0, 0, 7184] S4x2048x64
  slices_S4x2048x7264_S4x2048x16_0_0_7248 : S4x2048x7264.Slices ![0, 0, 7248] S4x2048x16
  shapeCasts_S4x2048x1024_S4x2048x16x64 : S4x2048x1024.ShapeCasts S4x2048x16x64
  bcast_S_S4x2048x16 : S_.BroadcastsInDim S4x2048x16 (![] : Fin 0 → Fin S4x2048x16.rank)
  bcast_S_S4x2048x16x2048 : S_.BroadcastsInDim S4x2048x16x2048 (![] : Fin 0 → Fin S4x2048x16x2048.rank)
  bcast_S2048_S1x1x2048_2 : S2048.BroadcastsInDim S1x1x2048 (![2] : Fin 1 → Fin S1x1x2048.rank)
  bcast_S2048_S1x2048x1_1 : S2048.BroadcastsInDim S1x2048x1 (![1] : Fin 1 → Fin S1x2048x1.rank)
  bcast_S1x1x2048_S1x2048x2048_0_1_2 : S1x1x2048.BroadcastsInDim S1x2048x2048 (![0, 1, 2] : Fin 3 → Fin S1x2048x2048.rank)
  bcast_S1x2048x1_S1x2048x2048_0_1_2 : S1x2048x1.BroadcastsInDim S1x2048x2048 (![0, 1, 2] : Fin 3 → Fin S1x2048x2048.rank)
  bcast_S1x2048x2048_S4x2048x2048_0_1_2 : S1x2048x2048.BroadcastsInDim S4x2048x2048 (![0, 1, 2] : Fin 3 → Fin S4x2048x2048.rank)
  bcast_S_S4x2048x2048 : S_.BroadcastsInDim S4x2048x2048 (![] : Fin 0 → Fin S4x2048x2048.rank)
  sliceFits_S4x2048x2048_S4x2048x257 : S4x2048x2048.Slices (fun _ => 0) S4x2048x257
  reducesTo_S4x2048x2048_S4x2048_d2 : S4x2048x2048.ReducesTo [2] S4x2048
  h_S_ : 0 < S_.numel
  slices_S4x2048x257_S4x2048x1_0_0_255 : S4x2048x257.Slices ![0, 0, 255] S4x2048x1
  shapeCasts_S4x2048x1_S4x2048 : S4x2048x1.ShapeCasts S4x2048
  slices_S4x2048x257_S4x2048x1_0_0_256 : S4x2048x257.Slices ![0, 0, 256] S4x2048x1
  slices_S4x2048x257_S4x2048x1_0_0_0 : S4x2048x257.Slices ![0, 0, 0] S4x2048x1
  bcast_S_S4x2048 : S_.BroadcastsInDim S4x2048 (![] : Fin 0 → Fin S4x2048.rank)
  bcast_S_S4x2048x1024 : S_.BroadcastsInDim S4x2048x1024 (![] : Fin 0 → Fin S4x2048x1024.rank)
  reducesTo_S4x2048x1024_S4x2048_d2 : S4x2048x1024.ReducesTo [2] S4x2048
  bcast_S2048_S1x2048_1 : S2048.BroadcastsInDim S1x2048 (![1] : Fin 1 → Fin S1x2048.rank)
  bcast_S_S1x2048 : S_.BroadcastsInDim S1x2048 (![] : Fin 0 → Fin S1x2048.rank)
  bcast_S1x2048_S4x2048_0_1 : S1x2048.BroadcastsInDim S4x2048 (![0, 1] : Fin 2 → Fin S4x2048.rank)
  dot_S4x2048x16x64_S4x2048x64_S4x2048x16x2048_3_2_12_1_0_0_wf : DotDims.WF S4x2048x16x64 S4x2048x64 S4x2048x16x2048 [3] [2] [1, 2] [1] [0] [0]
  dot_S4x2048x16_S4x2048x16x2048_S4x2048x2048_2_2_n_3_01_01_wf : DotDims.WF S4x2048x16 S4x2048x16x2048 S4x2048x2048 [2] [2] [] [3] [0, 1] [0, 1]

variable [Facts]

def dot_S4x2048x16x64_S4x2048x64_S4x2048x16x2048_3_2_12_1_0_0 : DotDims S4x2048x16x64 S4x2048x64 S4x2048x16x2048 where
  lhsContracting := [3]
  rhsContracting := [2]
  lhsNonContracting := [1, 2]
  rhsNonContracting := [1]
  lhsBatch := [0]
  rhsBatch := [0]
  wf := dot_S4x2048x16x64_S4x2048x64_S4x2048x16x2048_3_2_12_1_0_0_wf
def dot_S4x2048x16_S4x2048x16x2048_S4x2048x2048_2_2_n_3_01_01 : DotDims S4x2048x16 S4x2048x16x2048 S4x2048x2048 where
  lhsContracting := [2]
  rhsContracting := [2]
  lhsNonContracting := []
  rhsNonContracting := [3]
  lhsBatch := [0, 1]
  rhsBatch := [0, 1]
  wf := dot_S4x2048x16_S4x2048x16x2048_S4x2048x2048_2_2_n_3_01_01_wf
def fn_relu {F : FTy → Type} [FloatOps F] (arg0 : FVec F S4x2048x16x2048 .f32) : FVec F S4x2048x16x2048 .f32 :=
  let cst : FVec F S_ .f32 := constant S_ .f32 0x00000000#32
  let v0 : FVec F S4x2048x16x2048 .f32 := broadcastInDim S4x2048x16x2048 ![] bcast_S_S4x2048x16x2048 cst
  let v1 : FVec F S4x2048x16x2048 .f32 := maximumf arg0 v0
  v1

def fn_where {F : FTy → Type} [FloatOps F] (arg0 : IVec S1x2048x2048 1) (arg1 : FVec F S4x2048x2048 .f32) (arg2 : FVec F S_ .f32) : FVec F S4x2048x2048 .f32 :=
  let v0 : FVec F S_ .f32 := id arg2
  let v1 : IVec S4x2048x2048 1 := broadcastInDim S4x2048x2048 ![0, 1, 2] bcast_S1x2048x2048_S4x2048x2048_0_1_2 arg0
  let v2 : FVec F S4x2048x2048 .f32 := broadcastInDim S4x2048x2048 ![] bcast_S_S4x2048x2048 v0
  let v3 : FVec F S4x2048x2048 .f32 := select v1 arg1 v2
  v3

def fn_part2 {F : FTy → Type} [FloatOps F] (main_v0 : FVec F S4x2048x1024 .f32) (main_v1 : FVec F S4x2048x1024 .f32) (main_v5 : IVec S2048 32) (main_v39 : IVec S4x2048 1) : IVec S4x2048 1 :=
  let main_v40 : FVec F S4x2048x1024 .f32 := Host.absf main_v0
  let main_cst_5 : FVec F S_ .f32 := constant S_ .f32 0x7F800000#32
  let main_v41 : FVec F S4x2048x1024 .f32 := broadcastInDim S4x2048x1024 ![] bcast_S_S4x2048x1024 main_cst_5
  let main_v42 : IVec S4x2048x1024 1 := cmpf .olt main_v40 main_v41
  let main_c : IVec S_ 1 := constantI S_ 1 1#1
  let main_v43 : IVec S4x2048 1 := (fun x v => Host.reduce IntOp.andi x v reducesTo_S4x2048x1024_S4x2048_d2 h_S_) main_v42 main_c
  let main_v44 : FVec F S4x2048x1024 .f32 := Host.absf main_v1
  let main_cst_6 : FVec F S_ .f32 := constant S_ .f32 0x7F800000#32
  let main_v45 : FVec F S4x2048x1024 .f32 := broadcastInDim S4x2048x1024 ![] bcast_S_S4x2048x1024 main_cst_6
  let main_v46 : IVec S4x2048x1024 1 := cmpf .olt main_v44 main_v45
  let main_c_7 : IVec S_ 1 := constantI S_ 1 1#1
  let main_v47 : IVec S4x2048 1 := (fun x v => Host.reduce IntOp.andi x v reducesTo_S4x2048x1024_S4x2048_d2 h_S_) main_v46 main_c_7
  let main_v48 : IVec S4x2048 1 := andi main_v43 main_v47
  let main_v49 : IVec S1x2048 32 := broadcastInDim S1x2048 ![1] bcast_S2048_S1x2048_1 main_v5
  let main_c_8 : IVec S_ 32 := constantI S_ 32 256#32
  let main_v50 : IVec S1x2048 32 := broadcastInDim S1x2048 ![] bcast_S_S1x2048 main_c_8
  let main_v51 : IVec S1x2048 1 := cmpi .slt main_v49 main_v50
  let main_v52 : IVec S4x2048 1 := broadcastInDim S4x2048 ![0, 1] bcast_S1x2048_S4x2048_0_1 main_v51
  let main_v53 : IVec S4x2048 1 := ori main_v39 main_v52
  let main_v54 : IVec S4x2048 1 := andi main_v48 main_v53
  main_v54

def fn_part1 {F : FTy → Type} [FloatOps F] (main_v0 : FVec F S4x2048x1024 .f32) (main_v1 : FVec F S4x2048x1024 .f32) (main_v5 : IVec S2048 32) (main_v14 : FVec F S4x2048x2048 .f32) (main_v20 : IVec S1x2048x2048 1) (main_cst_1 : FVec F S_ .f32) : IVec S4x2048 1 :=
  let main_v21 : FVec F S4x2048x2048 .f32 := fn_where (F := F) main_v20 main_v14 main_cst_1
  let main_values : FVec F S4x2048x257 .f32 := (fun x => (Host.topK S4x2048x257 2 (FloatOps.cmpfTotal .gt) x sliceFits_S4x2048x2048_S4x2048x257).1) main_v21
  let main_indices : IVec S4x2048x257 32 := (fun x => (Host.topK S4x2048x257 2 (FloatOps.cmpfTotal .gt) x sliceFits_S4x2048x2048_S4x2048x257).2) main_v21
  let main_v22 : IVec S1x1x2048 32 := broadcastInDim S1x1x2048 ![2] bcast_S2048_S1x1x2048_2 main_v5
  let main_v23 : IVec S1x2048x1 32 := broadcastInDim S1x2048x1 ![1] bcast_S2048_S1x2048x1_1 main_v5
  let main_v24 : IVec S1x2048x2048 32 := broadcastInDim S1x2048x2048 ![0, 1, 2] bcast_S1x1x2048_S1x2048x2048_0_1_2 main_v22
  let main_v25 : IVec S1x2048x2048 32 := broadcastInDim S1x2048x2048 ![0, 1, 2] bcast_S1x2048x1_S1x2048x2048_0_1_2 main_v23
  let main_v26 : IVec S1x2048x2048 1 := cmpi .sle main_v24 main_v25
  let main_cst_2 : FVec F S_ .f32 := constant S_ .f32 0x7F800000#32
  let main_v27 : FVec F S4x2048x2048 .f32 := fn_where (F := F) main_v26 main_v21 main_cst_2
  let main_cst_3 : FVec F S_ .f32 := constant S_ .f32 0x7F800000#32
  let main_v28 : FVec F S4x2048 .f32 := (fun x v => Host.reduce FloatOps.minimumf x v reducesTo_S4x2048x2048_S4x2048_d2 h_S_) main_v27 main_cst_3
  let main_v29 : FVec F S4x2048x1 .f32 := (extractStridedSlice S4x2048x1 ![0, 0, 255] · slices_S4x2048x257_S4x2048x1_0_0_255) main_values
  let main_v30 : FVec F S4x2048 .f32 := shapeCast S4x2048 main_v29 shapeCasts_S4x2048x1_S4x2048
  let main_v31 : FVec F S4x2048x1 .f32 := (extractStridedSlice S4x2048x1 ![0, 0, 256] · slices_S4x2048x257_S4x2048x1_0_0_256) main_values
  let main_v32 : FVec F S4x2048 .f32 := shapeCast S4x2048 main_v31 shapeCasts_S4x2048x1_S4x2048
  let main_v33 : FVec F S4x2048 .f32 := subf main_v30 main_v32
  let main_v34 : FVec F S4x2048x1 .f32 := (extractStridedSlice S4x2048x1 ![0, 0, 0] · slices_S4x2048x257_S4x2048x1_0_0_0) main_values
  let main_v35 : FVec F S4x2048 .f32 := shapeCast S4x2048 main_v34 shapeCasts_S4x2048x1_S4x2048
  let main_v36 : FVec F S4x2048 .f32 := subf main_v35 main_v28
  let main_cst_4 : FVec F S_ .f32 := constant S_ .f32 0x2F800000#32
  let main_v37 : FVec F S4x2048 .f32 := broadcastInDim S4x2048 ![] bcast_S_S4x2048 main_cst_4
  let main_v38 : FVec F S4x2048 .f32 := mulf main_v36 main_v37
  let main_v39 : IVec S4x2048 1 := cmpf .ogt main_v33 main_v38
  fn_part2 (F := F) main_v0 main_v1 main_v5 main_v39

def fn {F : FTy → Type} [FloatOps F] (main_arg0 : FVec F S4x2048x7264 .f32) : IVec S4x2048 1 :=
  let main_v0 : FVec F S4x2048x1024 .f32 := (extractStridedSlice S4x2048x1024 ![0, 0, 3088] · slices_S4x2048x7264_S4x2048x1024_0_0_3088) main_arg0
  let main_v1 : FVec F S4x2048x1024 .f32 := (extractStridedSlice S4x2048x1024 ![0, 0, 4112] · slices_S4x2048x7264_S4x2048x1024_0_0_4112) main_arg0
  let main_v2 : FVec F S4x2048x1024 .f32 := (extractStridedSlice S4x2048x1024 ![0, 0, 6160] · slices_S4x2048x7264_S4x2048x1024_0_0_6160) main_arg0
  let main_v3 : FVec F S4x2048x64 .f32 := (extractStridedSlice S4x2048x64 ![0, 0, 7184] · slices_S4x2048x7264_S4x2048x64_0_0_7184) main_arg0
  let main_v4 : FVec F S4x2048x16 .f32 := (extractStridedSlice S4x2048x16 ![0, 0, 7248] · slices_S4x2048x7264_S4x2048x16_0_0_7248) main_arg0
  let main_v5 : IVec S2048 32 := iotaInDim S2048 32 0
  let main_v6 : FVec F S4x2048x16x64 .f32 := shapeCast S4x2048x16x64 main_v2 shapeCasts_S4x2048x1024_S4x2048x16x64
  let main_cst : FVec F S_ .f32 := constant S_ .f32 0x3E800000#32
  let main_v7 : FVec F S4x2048x16 .f32 := broadcastInDim S4x2048x16 ![] bcast_S_S4x2048x16 main_cst
  let main_v8 : FVec F S4x2048x16 .f32 := mulf main_v4 main_v7
  let main_v9 : IVec S2048 32 := iotaInDim S2048 32 0
  let main_v10 : FVec F S4x2048x16x2048 .f32 := (fun l r => Host.dotGeneral dot_S4x2048x16x64_S4x2048x64_S4x2048x16x2048_3_2_12_1_0_0 none l r) main_v6 main_v3
  let main_cst_0 : FVec F S_ .f32 := constant S_ .f32 0x3E000000#32
  let main_v11 : FVec F S4x2048x16x2048 .f32 := broadcastInDim S4x2048x16x2048 ![] bcast_S_S4x2048x16x2048 main_cst_0
  let main_v12 : FVec F S4x2048x16x2048 .f32 := mulf main_v10 main_v11
  let main_v13 : FVec F S4x2048x16x2048 .f32 := fn_relu (F := F) main_v12
  let main_v14 : FVec F S4x2048x2048 .f32 := (fun l r => Host.dotGeneral dot_S4x2048x16_S4x2048x16x2048_S4x2048x2048_2_2_n_3_01_01 none l r) main_v8 main_v13
  let main_v15 : IVec S2048 32 := iotaInDim S2048 32 0
  let main_v16 : IVec S1x1x2048 32 := broadcastInDim S1x1x2048 ![2] bcast_S2048_S1x1x2048_2 main_v15
  let main_v17 : IVec S1x2048x1 32 := broadcastInDim S1x2048x1 ![1] bcast_S2048_S1x2048x1_1 main_v9
  let main_v18 : IVec S1x2048x2048 32 := broadcastInDim S1x2048x2048 ![0, 1, 2] bcast_S1x1x2048_S1x2048x2048_0_1_2 main_v16
  let main_v19 : IVec S1x2048x2048 32 := broadcastInDim S1x2048x2048 ![0, 1, 2] bcast_S1x2048x1_S1x2048x2048_0_1_2 main_v17
  let main_v20 : IVec S1x2048x2048 1 := cmpi .sle main_v18 main_v19
  let main_cst_1 : FVec F S_ .f32 := constant S_ .f32 0xFF800000#32
  fn_part1 (F := F) main_v0 main_v1 main_v5 main_v14 main_v20 main_cst_1
-- ==== Kernel.lean ====
abbrev S4x2048x7264 : Shape := ⟨3, ![4, 2048, 7264]⟩
abbrev S_ : Shape := ⟨0, ![]⟩
abbrev S4x2048x32 : Shape := ⟨3, ![4, 2048, 32]⟩
abbrev S4x2048x3072 : Shape := ⟨3, ![4, 2048, 3072]⟩
abbrev S4x2048x4096 : Shape := ⟨3, ![4, 2048, 4096]⟩
abbrev S4x2048x64 : Shape := ⟨3, ![4, 2048, 64]⟩
abbrev S4x2048x16 : Shape := ⟨3, ![4, 2048, 16]⟩
abbrev S4x2048x7296 : Shape := ⟨3, ![4, 2048, 7296]⟩
abbrev S4x2048x1024 : Shape := ⟨3, ![4, 2048, 1024]⟩
abbrev S1x256x1024 : Shape := ⟨3, ![1, 256, 1024]⟩
abbrev S1x256x128 : Shape := ⟨3, ![1, 256, 128]⟩
abbrev S1x2048x1024 : Shape := ⟨3, ![1, 2048, 1024]⟩
abbrev S1x2048x128 : Shape := ⟨3, ![1, 2048, 128]⟩
abbrev S256x2048 : Shape := ⟨2, ![256, 2048]⟩
abbrev S256x1 : Shape := ⟨2, ![256, 1]⟩
abbrev S1x256x16 : Shape := ⟨3, ![1, 256, 16]⟩
abbrev S256x16 : Shape := ⟨2, ![256, 16]⟩
abbrev S1x2048 : Shape := ⟨2, ![1, 2048]⟩
abbrev S1x512x64 : Shape := ⟨3, ![1, 512, 64]⟩
abbrev S512x64 : Shape := ⟨2, ![512, 64]⟩
abbrev S256x512 : Shape := ⟨2, ![256, 512]⟩
abbrev S1x256x64 : Shape := ⟨3, ![1, 256, 64]⟩
abbrev S256x64 : Shape := ⟨2, ![256, 64]⟩
abbrev S256 : Shape := ⟨1, ![256]⟩
abbrev S1x256x1 : Shape := ⟨3, ![1, 256, 1]⟩
abbrev S1 : Shape := ⟨1, ![1]⟩
abbrev S1x1x1 : Shape := ⟨3, ![1, 1, 1]⟩
abbrev S256x128 : Shape := ⟨2, ![256, 128]⟩
abbrev S2048x128 : Shape := ⟨2, ![2048, 128]⟩
abbrev S1x1536 : Shape := ⟨2, ![1, 1536]⟩
abbrev S256x1536 : Shape := ⟨2, ![256, 1536]⟩
abbrev S1x1536x128 : Shape := ⟨3, ![1, 1536, 128]⟩
abbrev S1536x128 : Shape := ⟨2, ![1536, 128]⟩
abbrev S1x1024 : Shape := ⟨2, ![1, 1024]⟩
abbrev S256x1024 : Shape := ⟨2, ![256, 1024]⟩
abbrev S1x1024x128 : Shape := ⟨3, ![1, 1024, 128]⟩
abbrev S1024x128 : Shape := ⟨2, ![1024, 128]⟩
abbrev S1x512 : Shape := ⟨2, ![1, 512]⟩
abbrev S1x512x128 : Shape := ⟨3, ![1, 512, 128]⟩
abbrev S512x128 : Shape := ⟨2, ![512, 128]⟩

abbrev nBuf : Space → Nat
  | .hbm => 11
  | .vmem => 15
  | .smem => 0
  | _ => 0

abbrev bufTy : (tb : Table) → Fin (tcTables nBuf tb) → BufTy
  | .hbm, ⟨0, _⟩ => ⟨S4x2048x7264, .f32⟩
  | .hbm, ⟨1, _⟩ => ⟨S_, .f32⟩
  | .hbm, ⟨2, _⟩ => ⟨S4x2048x32, .f32⟩
  | .hbm, ⟨3, _⟩ => ⟨S4x2048x3072, .f32⟩
  | .hbm, ⟨4, _⟩ => ⟨S4x2048x4096, .f32⟩
  | .hbm, ⟨5, _⟩ => ⟨S4x2048x64, .f32⟩
  | .hbm, ⟨6, _⟩ => ⟨S4x2048x16, .f32⟩
  | .hbm, ⟨7, _⟩ => ⟨S4x2048x16, .f32⟩
  | .hbm, ⟨8, _⟩ => ⟨S4x2048x7296, .f32⟩
  | .hbm, ⟨9, _⟩ => ⟨S4x2048x7296, .bf16⟩
  | .hbm, ⟨10, _⟩ => ⟨S4x2048x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x128, .f32⟩
  | .local _ .vmem, ⟨5, _⟩ => ⟨S1x256x128, .f32⟩
  | .local _ .vmem, ⟨6, _⟩ => ⟨S1x2048x1024, .bf16⟩
  | .local _ .vmem, ⟨7, _⟩ => ⟨S1x2048x1024, .bf16⟩
  | .local _ .vmem, ⟨8, _⟩ => ⟨S1x2048x1024, .bf16⟩
  | .local _ .vmem, ⟨9, _⟩ => ⟨S1x2048x1024, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x256x1024, .f32⟩
  | .local _ .vmem, ⟨13, _⟩ => ⟨S1x256x1024, .f32⟩
  | .local _ .vmem, ⟨14, _⟩ => ⟨S256x2048, .f32⟩
  | _, _ => ⟨S4x2048x7264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_2 : BitVec 32 := 0#32
  let v15 : BitVec 1 := Scalar.cmpi .slt arg1 c0_i32_2
  let v16 : BitVec 32 := Scalar.extui v15
  let v17 : BitVec 32 := Scalar.subi v14 v16
  let c2_i32 : BitVec 32 := 2#32
  let c0_i32_3 : BitVec 32 := 0#32
  let v18 : BitVec 1 := Scalar.cmpi .sgt c2_i32 c0_i32_3
  let v19 : BitVec 32 := Scalar.extui v18
  let c0_i32_4 : BitVec 32 := 0#32
  let v20 : BitVec 1 := Scalar.cmpi .slt c2_i32 c0_i32_4
  let v21 : BitVec 32 := Scalar.extui v20
  let v22 : BitVec 32 := Scalar.subi v19 v21
  let v23 : BitVec 1 := Scalar.cmpi .ne v17 v22
  let v24 : BitVec 32 := Scalar.remsi arg1 c2_i32
  let c0_i32_5 : BitVec 32 := 0#32
  let v25 : BitVec 1 := Scalar.cmpi .ne v24 c0_i32_5
  let v26 : BitVec 1 := Scalar.andi v23 v25
  let v12 : BitVec 32 := Scalar.divsi arg1 c2_i32
  let c1_i32_6 : BitVec 32 := 1#32
  let v27 : BitVec 32 := Scalar.subi v12 c1_i32_6
  let v28 : BitVec 32 := Scalar.select v26 v27 v12
  let c0_i32_7 : BitVec 32 := 0#32
  let v29 : BitVec 32 := Scalar.maxsi v28 c0_i32_7
  let c3_i32 : BitVec 32 := 3#32
  let v30 : BitVec 32 := Scalar.minsi v29 c3_i32
  let c0_i32_8 : BitVec 32 := 0#32
  let v31 : BitVec 1 := Scalar.cmpi .ne v30 c0_i32_8
  v31

def k0_cond2 (i : grid0.Coords) : BitVec 1 :=
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_2 : BitVec 32 := 0#32
  let v15 : BitVec 1 := Scalar.cmpi .slt arg1 c0_i32_2
  let v16 : BitVec 32 := Scalar.extui v15
  let v17 : BitVec 32 := Scalar.subi v14 v16
  let c2_i32 : BitVec 32 := 2#32
  let c0_i32_3 : BitVec 32 := 0#32
  let v18 : BitVec 1 := Scalar.cmpi .sgt c2_i32 c0_i32_3
  let v19 : BitVec 32 := Scalar.extui v18
  let c0_i32_4 : BitVec 32 := 0#32
  let v20 : BitVec 1 := Scalar.cmpi .slt c2_i32 c0_i32_4
  let v21 : BitVec 32 := Scalar.extui v20
  let v22 : BitVec 32 := Scalar.subi v19 v21
  let v23 : BitVec 1 := Scalar.cmpi .ne v17 v22
  let v24 : BitVec 32 := Scalar.remsi arg1 c2_i32
  let c0_i32_5 : BitVec 32 := 0#32
  let v25 : BitVec 1 := Scalar.cmpi .ne v24 c0_i32_5
  let v26 : BitVec 1 := Scalar.andi v23 v25
  let v12 : BitVec 32 := Scalar.divsi arg1 c2_i32
  let c1_i32_6 : BitVec 32 := 1#32
  let v27 : BitVec 32 := Scalar.subi v12 c1_i32_6
  let v28 : BitVec 32 := Scalar.select v26 v27 v12
  let c0_i32_7 : BitVec 32 := 0#32
  let v29 : BitVec 32 := Scalar.maxsi v28 c0_i32_7
  let c3_i32 : BitVec 32 := 3#32
  let v30 : BitVec 32 := Scalar.minsi v29 c3_i32
  let c1_i32_9 : BitVec 32 := 1#32
  let v32 : BitVec 32 := Scalar.subi v30 c1_i32_9
  let c0_i32_10 : BitVec 32 := 0#32
  let v33 : BitVec 1 := Scalar.cmpi .ne v32 c0_i32_10
  v33

def k0_cond3 (i : grid0.Coords) : BitVec 1 :=
  let arg1 : BitVec 32 := BitVec.ofNat 32 (i 1).val
  let c0_i32 : BitVec 32 := 0#32
  let v13 : BitVec 1 := Scalar.cmpi .sgt arg1 c0_i32
  let v14 : BitVec 32 := Scalar.extui v13
  let c0_i32_2 : BitVec 32 := 0#32
  let v15 : BitVec 1 := Scalar.cmpi .slt arg1 c0_i32_2
  let v16 : BitVec 32 := Scalar.extui v15
  let v17 : BitVec 32 := Scalar.subi v14 v16
  let c2_i32 : BitVec 32 := 2#32
  let c0_i32_3 : BitVec 32 := 0#32
  let v18 : BitVec 1 := Scalar.cmpi .sgt c2_i32 c0_i32_3
  let v19 : BitVec 32 := Scalar.extui v18
  let c0_i32_4 : BitVec 32 := 0#32
  let v20 : BitVec 1 := Scalar.cmpi .slt c2_i32 c0_i32_4
  let v21 : BitVec 32 := Scalar.extui v20
  let v22 : BitVec 32 := Scalar.subi v19 v21
  let v23 : BitVec 1 := Scalar.cmpi .ne v17 v22
  let v24 : BitVec 32 := Scalar.remsi arg1 c2_i32
  let c0_i32_5 : BitVec 32 := 0#32
  let v25 : BitVec 1 := Scalar.cmpi .ne v24 c0_i32_5
  let v26 : BitVec 1 := Scalar.andi v23 v25
  let v12 : BitVec 32 := Scalar.divsi arg1 c2_i32
  let c1_i32_6 : BitVec 32 := 1#32
  let v27 : BitVec 32 := Scalar.subi v12 c1_i32_6
  let v28 : BitVec 32 := Scalar.select v26 v27 v12
  let c0_i32_7 : BitVec 32 := 0#32
  let v29 : BitVec 32 := Scalar.maxsi v28 c0_i32_7
  let c3_i32 : BitVec 32 := 3#32
  let v30 : BitVec 32 := Scalar.minsi v29 c3_i32
  let c1_i32_9 : BitVec 32 := 1#32
  let v32 : BitVec 32 := Scalar.subi v30 c1_i32_9
  let c1_i32_11 : BitVec 32 := 1#32
  let v34 : BitVec 32 := Scalar.subi v32 c1_i32_11
  let c0_i32_12 : BitVec 32 := 0#32
  let v35 : BitVec 1 := Scalar.cmpi .ne v34 c0_i32_12
  v35

@[reducible] def k0_t1_loop : Scf.Loop 32 :=
  let c0_i32_351 : BitVec 32 := 0#32
  let c32_i32 : BitVec 32 := 32#32
  let v659 : BitVec 32 := Scalar.addi c0_i32_351 c32_i32
  let c1_i32_352 : BitVec 32 := 1#32
  ⟨c0_i32_351, v659, c1_i32_352⟩
@[reducible] def k0_t2_loop : Scf.Loop 32 :=
  let c0_i32_266 : BitVec 32 := 0#32
  let c32_i32 : BitVec 32 := 32#32
  let v509 : BitVec 32 := Scalar.addi c0_i32_266 c32_i32
  let c1_i32_267 : BitVec 32 := 1#32
  ⟨c0_i32_266, v509, c1_i32_267⟩
@[reducible] def k0_t3_loop : Scf.Loop 32 :=
  let c0_i32_179 : BitVec 32 := 0#32
  let c32_i32 : BitVec 32 := 32#32
  let v357 : BitVec 32 := Scalar.addi c0_i32_179 c32_i32
  let c1_i32_180 : BitVec 32 := 1#32
  ⟨c0_i32_179, v357, c1_i32_180⟩
@[reducible] def k0_t4_loop : Scf.Loop 32 :=
  let c0_i32_91 : BitVec 32 := 0#32
  let c32_i32 : BitVec 32 := 32#32
  let v205 : BitVec 32 := Scalar.addi c0_i32_91 c32_i32
  let c1_i32_92 : BitVec 32 := 1#32
  ⟨c0_i32_91, v205, c1_i32_92⟩
def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_1 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_2 (i : grid0.Coords) : Fin 3 → Nat :=
  let arg0 : BitVec 32 := BitVec.ofNat 32 (i 0).val
  let arg1 : BitVec 32 := BitVec.ofNat 32 (i 1).val
  let c56_i32 : BitVec 32 := 56#32
  let c0_i32 : BitVec 32 := 0#32
  ![arg0.toNat, arg1.toNat, c56_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c56_i32 : BitVec 32 := 56#32
  let c0_i32_0 : BitVec 32 := 0#32
  ![arg0.toNat, c0_i32.toNat, c56_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S4x2048x7264 : Shape := ⟨3, ![4, 2048, 7264]⟩
abbrev S4x2048x512 : Shape := ⟨3, ![4, 2048, 512]⟩
abbrev S4x2048x1024 : Shape := ⟨3, ![4, 2048, 1024]⟩
abbrev S4x2048x16 : Shape := ⟨3, ![4, 2048, 16]⟩
abbrev S4x2048x64 : Shape := ⟨3, ![4, 2048, 64]⟩
abbrev S4x2048x8x128 : Shape := ⟨4, ![4, 2048, 8, 128]⟩
abbrev S2048 : Shape := ⟨1, ![2048]⟩
abbrev S4x2048x16x64 : Shape := ⟨4, ![4, 2048, 16, 64]⟩
abbrev S_ : Shape := ⟨0, ![]⟩
abbrev S4x2048x16x2048 : Shape := ⟨4, ![4, 2048, 16, 2048]⟩
abbrev S4x2048x2048 : Shape := ⟨3, ![4, 2048, 2048]⟩
abbrev S1x1x2048 : Shape := ⟨3, ![1, 1, 2048]⟩
abbrev S1x2048x1 : Shape := ⟨3, ![1, 2048, 1]⟩
abbrev S1x2048x2048 : Shape := ⟨3, ![1, 2048, 2048]⟩
abbrev S4x2048x256 : Shape := ⟨3, ![4, 2048, 256]⟩
abbrev S4x2048x256x1 : Shape := ⟨4, ![4, 2048, 256, 1]⟩
abbrev S4x2048x256x8x128 : Shape := ⟨5, ![4, 2048, 256, 8, 128]⟩
abbrev S4x2048x8x256 : Shape := ⟨4, ![4, 2048, 8, 256]⟩
abbrev S4x2048x1x256 : Shape := ⟨4, ![4, 2048, 1, 256]⟩
abbrev S4x2048x8 : Shape := ⟨3, ![4, 2048, 8]⟩
abbrev S4x2048x8x1 : Shape := ⟨4, ![4, 2048, 8, 1]⟩

abbrev nBuf : Space → Nat
  | .hbm => 89
  | .vmem => 0
  | .smem => 0
  | _ => 0

abbrev bufTy : (tb : Table) → Fin (tcTables nBuf tb) → BufTy
  | .hbm, ⟨0, _⟩ => ⟨S4x2048x7264, .f32⟩
  | .hbm, ⟨1, _⟩ => ⟨S4x2048x512, .f32⟩
  | .hbm, ⟨2, _⟩ => ⟨S4x2048x512, .f32⟩
  | .hbm, ⟨3, _⟩ => ⟨S4x2048x1024, .f32⟩
  | .hbm, ⟨4, _⟩ => ⟨S4x2048x1024, .f32⟩
  | .hbm, ⟨5, _⟩ => ⟨S4x2048x16, .f32⟩
  | .hbm, ⟨6, _⟩ => ⟨S4x2048x1024, .f32⟩
  | .hbm, ⟨7, _⟩ => ⟨S4x2048x1024, .f32⟩
  | .hbm, ⟨8, _⟩ => ⟨S4x2048x1024, .f32⟩
  | .hbm, ⟨9, _⟩ => ⟨S4x2048x1024, .f32⟩
  | .hbm, ⟨10, _⟩ => ⟨S4x2048x64, .f32⟩
  | .hbm, ⟨11, _⟩ => ⟨S4x2048x16, .f32⟩
  | .hbm, ⟨12, _⟩ => ⟨S4x2048x8x128, .f32⟩
  | .hbm, ⟨13, _⟩ => ⟨S4x2048x8x128, .f32⟩
  | .hbm, ⟨14, _⟩ => ⟨S4x2048x8x128, .f32⟩
  | .hbm, ⟨15, _⟩ => ⟨S2048, .i32⟩
  | .hbm, ⟨16, _⟩ => ⟨S4x2048x16x64, .f32⟩
  | .hbm, ⟨17, _⟩ => ⟨S_, .f32⟩
  | .hbm, ⟨18, _⟩ => ⟨S4x2048x16, .f32⟩
  | .hbm, ⟨19, _⟩ => ⟨S4x2048x16, .f32⟩
  | .hbm, ⟨20, _⟩ => ⟨S2048, .i32⟩
  | .hbm, ⟨21, _⟩ => ⟨S4x2048x16x2048, .f32⟩
  | .hbm, ⟨22, _⟩ => ⟨S_, .f32⟩
  | .hbm, ⟨23, _⟩ => ⟨S4x2048x16x2048, .f32⟩
  | .hbm, ⟨24, _⟩ => ⟨S4x2048x16x2048, .f32⟩
  | .hbm, ⟨25, _⟩ => ⟨S_, .f32⟩
  | .hbm, ⟨26, _⟩ => ⟨S4x2048x16x2048, .f32⟩
  | .hbm, ⟨27, _⟩ => ⟨S4x2048x16x2048, .f32⟩
  | .hbm, ⟨28, _⟩ => ⟨S4x2048x2048, .f32⟩
  | .hbm, ⟨29, _⟩ => ⟨S2048, .i32⟩
  | .hbm, ⟨30, _⟩ => ⟨S1x1x2048, .i32⟩
  | .hbm, ⟨31, _⟩ => ⟨S1x2048x1, .i32⟩
  | .hbm, ⟨32, _⟩ => ⟨S1x2048x2048, .i32⟩
  | .hbm, ⟨33, _⟩ => ⟨S1x2048x2048, .i32⟩
  | .hbm, ⟨34, _⟩ => ⟨S1x2048x2048, .i1⟩
  | .hbm, ⟨35, _⟩ => ⟨S_, .f32⟩
  | .hbm, ⟨36, _⟩ => ⟨S_, .f32⟩
  | .hbm, ⟨37, _⟩ => ⟨S4x2048x2048, .i1⟩
  | .hbm, ⟨38, _⟩ => ⟨S4x2048x2048, .f32⟩
  | .hbm, ⟨39, _⟩ => ⟨S4x2048x2048, .f32⟩
  | .hbm, ⟨40, _⟩ => ⟨S4x2048x256, .f32⟩
  | .hbm, ⟨41, _⟩ => ⟨S4x2048x256, .i32⟩
  | .hbm, ⟨42, _⟩ => ⟨S1x2048x1, .i32⟩
  | .hbm, ⟨43, _⟩ => ⟨S4x2048x256, .i32⟩
  | .hbm, ⟨44, _⟩ => ⟨S4x2048x256, .i1⟩
  | .hbm, ⟨45, _⟩ => ⟨S_, .i32⟩
  | .hbm, ⟨46, _⟩ => ⟨S4x2048x256, .i32⟩
  | .hbm, ⟨47, _⟩ => ⟨S4x2048x256, .i1⟩
  | .hbm, ⟨48, _⟩ => ⟨S_, .i32⟩
  | .hbm, ⟨49, _⟩ => ⟨S4x2048x256, .i32⟩
  | .hbm, ⟨50, _⟩ => ⟨S4x2048x256, .i32⟩
  | .hbm, ⟨51, _⟩ => ⟨S4x2048x256, .i32⟩
  | .hbm, ⟨52, _⟩ => ⟨S4x2048x256x1, .i32⟩
  | .hbm, ⟨53, _⟩ => ⟨S4x2048x256x8x128, .f32⟩
  | .hbm, ⟨54, _⟩ => ⟨S_, .i32⟩
  | .hbm, ⟨55, _⟩ => ⟨S4x2048x256, .i32⟩
  | .hbm, ⟨56, _⟩ => ⟨S4x2048x256, .i1⟩
  | .hbm, ⟨57, _⟩ => ⟨S_, .i32⟩
  | .hbm, ⟨58, _⟩ => ⟨S4x2048x256, .i32⟩
  | .hbm, ⟨59, _⟩ => ⟨S4x2048x256, .i32⟩
  | .hbm, ⟨60, _⟩ => ⟨S4x2048x256, .i32⟩
  | .hbm, ⟨61, _⟩ => ⟨S4x2048x256x1, .i32⟩
  | .hbm, ⟨62, _⟩ => ⟨S4x2048x256x8x128, .f32⟩
  | .hbm, ⟨63, _⟩ => ⟨S4x2048x8x256, .f32⟩
  | .hbm, ⟨64, _⟩ => ⟨S_, .f32⟩
  | .hbm, ⟨65, _⟩ => ⟨S4x2048x8x256, .f32⟩
  | .hbm, ⟨66, _⟩ => ⟨S4x2048x8x256, .f32⟩
  | .hbm, ⟨67, _⟩ => ⟨S4x2048x1x256, .i1⟩
  | .hbm, ⟨68, _⟩ => ⟨S_, .f32⟩
  | .hbm, ⟨69, _⟩ => ⟨S_, .f32⟩
  | .hbm, ⟨70, _⟩ => ⟨S4x2048x8x256, .i1⟩
  | .hbm, ⟨71, _⟩ => ⟨S4x2048x8x256, .f32⟩
  | .hbm, ⟨72, _⟩ => ⟨S4x2048x8x256, .f32⟩
  | .hbm, ⟨73, _⟩ => ⟨S_, .f32⟩
  | .hbm, ⟨74, _⟩ => ⟨S4x2048x8, .f32⟩
  | .hbm, ⟨75, _⟩ => ⟨S_, .f32⟩
  | .hbm, ⟨76, _⟩ => ⟨S4x2048x8, .f32⟩
  | .hbm, ⟨77, _⟩ => ⟨S4x2048x8, .f32⟩
  | .hbm, ⟨78, _⟩ => ⟨S4x2048x8x1, .f32⟩
  | .hbm, ⟨79, _⟩ => ⟨S4x2048x8x256, .f32⟩
  | .hbm, ⟨80, _⟩ => ⟨S4x2048x8x256, .f32⟩
  | .hbm, ⟨81, _⟩ => ⟨S4x2048x8x256, .f32⟩
  | .hbm, ⟨82, _⟩ => ⟨S_, .f32⟩
  | .hbm, ⟨83, _⟩ => ⟨S4x2048x8, .f32⟩
  | .hbm, ⟨84, _⟩ => ⟨S4x2048x8x1, .f32⟩
  | .hbm, ⟨85, _⟩ => ⟨S4x2048x8x256, .f32⟩
  | .hbm, ⟨86, _⟩ => ⟨S4x2048x8x256, .f32⟩
  | .hbm, ⟨87, _⟩ => ⟨S4x2048x8x128, .f32⟩
  | .hbm, ⟨88, _⟩ => ⟨S4x2048x1024, .f32⟩
  | _, _ => ⟨S4x2048x7264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_cst : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_cst_0 : Ref sig .tc := ⟨.hbm, 22, rfl⟩
abbrev main_v20 : Ref sig .tc := ⟨.hbm, 23, rfl⟩
abbrev main_v21 : Ref sig .tc := ⟨.hbm, 24, rfl⟩
abbrev main_call0_cst : Ref sig .tc := ⟨.hbm, 25, rfl⟩
abbrev main_call0_v0 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_cst_1 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v30 : Ref sig .tc := ⟨.hbm, 39, rfl⟩
abbrev main_values : Ref sig .tc := ⟨.hbm, 40, rfl⟩
abbrev main_indices : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c : Ref sig .tc := ⟨.hbm, 45, rfl⟩
abbrev main_v34 : Ref sig .tc := ⟨.hbm, 46, rfl⟩
abbrev main_v35 : Ref sig .tc := ⟨.hbm, 47, rfl⟩
abbrev main_c_2 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_c_3 : Ref sig .tc := ⟨.hbm, 54, rfl⟩
abbrev main_v41 : Ref sig .tc := ⟨.hbm, 55, rfl⟩
abbrev main_v42 : Ref sig .tc := ⟨.hbm, 56, rfl⟩
abbrev main_c_4 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_5 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_6 : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_v52 : Ref sig .tc := ⟨.hbm, 72, rfl⟩
abbrev main_cst_7 : Ref sig .tc := ⟨.hbm, 73, rfl⟩
abbrev main_v53 : Ref sig .tc := ⟨.hbm, 74, rfl⟩
abbrev main_cst_8 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_9 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩

abbrev nD : Nat := 1
abbrev τ : Topo := Topo.v7x

variable {F : FTy → Type} [FloatOps F]
-- ==== Kernel2.lean ====
abbrev S4x2048x2048 : Shape := ⟨3, ![4, 2048, 2048]⟩
abbrev S384x12288 : Shape := ⟨2, ![384, 12288]⟩
abbrev S2x2048 : Shape := ⟨2, ![2, 2048]⟩
abbrev S2x2048x7264 : Shape := ⟨3, ![2, 2048, 7264]⟩
abbrev S2x1x2048 : Shape := ⟨3, ![2, 1, 2048]⟩
abbrev S384x1x12288 : Shape := ⟨3, ![384, 1, 12288]⟩
abbrev S_ : Shape := ⟨0, ![]⟩
abbrev S2x2048x32 : Shape := ⟨3, ![2, 2048, 32]⟩
abbrev S2x2048x3072 : Shape := ⟨3, ![2, 2048, 3072]⟩
abbrev S2x2048x4096 : Shape := ⟨3, ![2, 2048, 4096]⟩
abbrev S2x2048x64 : Shape := ⟨3, ![2, 2048, 64]⟩
abbrev S2x2048x16 : Shape := ⟨3, ![2, 2048, 16]⟩
abbrev S2x2048x7296 : Shape := ⟨3, ![2, 2048, 7296]⟩
abbrev S8192x7296 : Shape := ⟨2, ![8192, 7296]⟩
abbrev S1x512x2048 : Shape := ⟨3, ![1, 512, 2048]⟩
abbrev S1x1x2048 : Shape := ⟨3, ![1, 1, 2048]⟩
abbrev S1x2048x2432 : Shape := ⟨3, ![1, 2048, 2432]⟩
abbrev S512x2432 : Shape := ⟨2, ![512, 2432]⟩
abbrev S1x512 : Shape := ⟨2, ![1, 512]⟩
abbrev S1x512x1 : Shape := ⟨3, ![1, 512, 1]⟩
abbrev S512x2048 : Shape := ⟨2, ![512, 2048]⟩
abbrev S2048x2432 : Shape := ⟨2, ![2048, 2432]⟩
abbrev S4x2048x7296 : Shape := ⟨3, ![4, 2048, 7296]⟩
abbrev S4x2048x3072 : Shape := ⟨3, ![4, 2048, 3072]⟩
abbrev S4x2048x16 : Shape := ⟨3, ![4, 2048, 16]⟩
abbrev S4x2048x4096 : Shape := ⟨3, ![4, 2048, 4096]⟩
abbrev S4x2048x64 : Shape := ⟨3, ![4, 2048, 64]⟩
abbrev S4x2048x7264 : Shape := ⟨3, ![4, 2048, 7264]⟩

abbrev nBuf : Space → Nat
  | .hbm => 31
  | .vmem => 13
  | .smem => 0
  | _ => 0

abbrev bufTy : (tb : Table) → Fin (tcTables nBuf tb) → BufTy
  | .hbm, ⟨0, _⟩ => ⟨S4x2048x2048, .f32⟩
  | .hbm, ⟨1, _⟩ => ⟨S384x12288, .f32⟩
  | .hbm, ⟨2, _⟩ => ⟨S2x2048, .f32⟩
  | .hbm, ⟨3, _⟩ => ⟨S2x2048x7264, .f32⟩
  | .hbm, ⟨4, _⟩ => ⟨S2x1x2048, .f32⟩
  | .hbm, ⟨5, _⟩ => ⟨S384x1x12288, .f32⟩
  | .hbm, ⟨6, _⟩ => ⟨S_, .f32⟩
  | .hbm, ⟨7, _⟩ => ⟨S2x2048x32, .f32⟩
  | .hbm, ⟨8, _⟩ => ⟨S2x2048x3072, .f32⟩
  | .hbm, ⟨9, _⟩ => ⟨S2x2048x4096, .f32⟩
  | .hbm, ⟨10, _⟩ => ⟨S2x2048x64, .f32⟩
  | .hbm, ⟨11, _⟩ => ⟨S2x2048x16, .f32⟩
  | .hbm, ⟨12, _⟩ => ⟨S2x2048x16, .f32⟩
  | .hbm, ⟨13, _⟩ => ⟨S2x2048x7296, .f32⟩
  | .hbm, ⟨14, _⟩ => ⟨S2x2048x7296, .bf16⟩
  | .hbm, ⟨15, _⟩ => ⟨S8192x7296, .f32⟩
  | .hbm, ⟨16, _⟩ => ⟨S8192x7296, .bf16⟩
  | .hbm, ⟨17, _⟩ => ⟨S4x2048x7296, .f32⟩
  | .hbm, ⟨18, _⟩ => ⟨S4x2048x3072, .f32⟩
  | .hbm, ⟨19, _⟩ => ⟨S4x2048x16, .f32⟩
  | .hbm, ⟨20, _⟩ => ⟨S4x2048x4096, .f32⟩
  | .hbm, ⟨21, _⟩ => ⟨S4x2048x64, .f32⟩
  | .hbm, ⟨22, _⟩ => ⟨S4x2048x16, .f32⟩
  | .hbm, ⟨23, _⟩ => ⟨S4x2048x7264, .f32⟩
  | .hbm, ⟨24, _⟩ => ⟨S4x2048x7296, .bf16⟩
  | .hbm, ⟨25, _⟩ => ⟨S4x2048x3072, .bf16⟩
  | .hbm, ⟨26, _⟩ => ⟨S4x2048x16, .bf16⟩
  | .hbm, ⟨27, _⟩ => ⟨S4x2048x4096, .bf16⟩
  | .hbm, ⟨28, _⟩ => ⟨S4x2048x64, .bf16⟩
  | .hbm, ⟨29, _⟩ => ⟨S4x2048x16, .bf16⟩
  | .hbm, ⟨30, _⟩ => ⟨S4x2048x7264, .bf16⟩
  | .local _ .vmem, ⟨0, _⟩ => ⟨S1x512x2048, .f32⟩
  | .local _ .vmem, ⟨1, _⟩ => ⟨S1x512x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048x2432, .bf16⟩
  | .local _ .vmem, ⟨8, _⟩ => ⟨S1x2048x2432, .bf16⟩
  | .local _ .vmem, ⟨9, _⟩ => ⟨S512x2432, .f32⟩
  | .local _ .vmem, ⟨10, _⟩ => ⟨S512x2432, .f32⟩
  | .local _ .vmem, ⟨11, _⟩ => ⟨S512x2432, .bf16⟩
  | .local _ .vmem, ⟨12, _⟩ => ⟨S512x2432, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![3, 16], ![false, false]⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c128_i32 : BitVec 32 := 128#32
  let v17 : BitVec 32 := Scalar.addi c128_i32 v16
  let c0_i32_4 : BitVec 32 := 0#32
  let c1_i32_5 : BitVec 32 := 1#32
  let c0_i32_6 : BitVec 32 := 0#32
  ![v17.toNat, c0_i32_4.toNat, c1_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c128_i32 : BitVec 32 := 128#32
  let v17 : BitVec 32 := Scalar.addi c128_i32 v16
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x2432 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2432 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x2432 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S4x2048x2048 : Shape := ⟨3, ![4, 2048, 2048]⟩
abbrev S384x12288 : Shape := ⟨2, ![384, 12288]⟩
abbrev S2x2048 : Shape := ⟨2, ![2, 2048]⟩
abbrev S2x2048x7264 : Shape := ⟨3, ![2, 2048, 7264]⟩
abbrev S4x12288 : Shape := ⟨2, ![4, 12288]⟩
abbrev S4x1x12288 : Shape := ⟨3, ![4, 1, 12288]⟩
abbrev S4x1x2048 : Shape := ⟨3, ![4, 1, 2048]⟩
abbrev S1x2048 : Shape := ⟨2, ![1, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S1x2048x7264 : Shape := ⟨3, ![1, 2048, 7264]⟩
abbrev S2048x7264 : Shape := ⟨2, ![2048, 7264]⟩
abbrev S4x2048x7264 : Shape := ⟨3, ![4, 2048, 7264]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S384x12288, .f32⟩
  | .hbm, ⟨2, _⟩ => ⟨S2x2048, .f32⟩
  | .hbm, ⟨3, _⟩ => ⟨S2x2048x7264, .f32⟩
  | .hbm, ⟨4, _⟩ => ⟨S4x12288, .f32⟩
  | .hbm, ⟨5, _⟩ => ⟨S4x1x12288, .f32⟩
  | .hbm, ⟨6, _⟩ => ⟨S4x1x2048, .f32⟩
  | .hbm, ⟨7, _⟩ => ⟨S4x1x2048, .f32⟩
  | .hbm, ⟨8, _⟩ => ⟨S4x1x2048, .f32⟩
  | .hbm, ⟨9, _⟩ => ⟨S4x1x2048, .f32⟩
  | .hbm, ⟨10, _⟩ => ⟨S4x1x2048, .f32⟩
  | .hbm, ⟨11, _⟩ => ⟨S4x1x2048, .f32⟩
  | .hbm, ⟨12, _⟩ => ⟨S1x2048, .f32⟩
  | .hbm, ⟨13, _⟩ => ⟨S2048, .f32⟩
  | .hbm, ⟨14, _⟩ => ⟨S4x2048x2048, .f32⟩
  | .hbm, ⟨15, _⟩ => ⟨S_, .f32⟩
  | .hbm, ⟨16, _⟩ => ⟨S4x2048, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S4x2048x1, .f32⟩
  | .hbm, ⟨25, _⟩ => ⟨S4x2048x2048, .f32⟩
  | .hbm, ⟨26, _⟩ => ⟨S4x2048x2048, .f32⟩
  | .hbm, ⟨27, _⟩ => ⟨S1x1x2048, .f32⟩
  | .hbm, ⟨28, _⟩ => ⟨S4x2048x2048, .f32⟩
  | .hbm, ⟨29, _⟩ => ⟨S4x2048x2048, .f32⟩
  | .hbm, ⟨30, _⟩ => ⟨S_, .f32⟩
  | .hbm, ⟨31, _⟩ => ⟨S4x1x2048, .f32⟩
  | .hbm, ⟨32, _⟩ => ⟨S4x1x2048, .f32⟩
  | .hbm, ⟨33, _⟩ => ⟨S4x2048x2048, .f32⟩
  | .hbm, ⟨34, _⟩ => ⟨S4x2048x2048, .f32⟩
  | .hbm, ⟨35, _⟩ => ⟨S4x2048x2048, .f32⟩
  | .hbm, ⟨36, _⟩ => ⟨S4x2048x2048, .f32⟩
  | .hbm, ⟨37, _⟩ => ⟨S1x2048x7264, .f32⟩
  | .hbm, ⟨38, _⟩ => ⟨S2048x7264, .f32⟩
  | .hbm, ⟨39, _⟩ => ⟨S4x2048x7264, .f32⟩
  | .hbm, ⟨40, _⟩ => ⟨S4x2048x7264, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]
-- ==== Kernel3.lean ====
abbrev S4x2048x2048 : Shape := ⟨3, ![4, 2048, 2048]⟩
abbrev S384x12288 : Shape := ⟨2, ![384, 12288]⟩
abbrev S4x2048x1024 : Shape := ⟨3, ![4, 2048, 1024]⟩
abbrev S2x2048x2048 : Shape := ⟨3, ![2, 2048, 2048]⟩
abbrev S384x1x12288 : Shape := ⟨3, ![384, 1, 12288]⟩
abbrev S8192x1024 : Shape := ⟨2, ![8192, 1024]⟩
abbrev S1x512x2048 : Shape := ⟨3, ![1, 512, 2048]⟩
abbrev S1x1x2048 : Shape := ⟨3, ![1, 1, 2048]⟩
abbrev S512x1024 : Shape := ⟨2, ![512, 1024]⟩
abbrev S1x2048x2048 : Shape := ⟨3, ![1, 2048, 2048]⟩
abbrev S1x1024x2048 : Shape := ⟨3, ![1, 1024, 2048]⟩
abbrev S1024x2048 : Shape := ⟨2, ![1024, 2048]⟩
abbrev S512x2048 : Shape := ⟨2, ![512, 2048]⟩

abbrev nBuf : Space → Nat
  | .hbm => 10
  | .vmem => 11
  | .smem => 0
  | _ => 0

abbrev bufTy : (tb : Table) → Fin (tcTables nBuf tb) → BufTy
  | .hbm, ⟨0, _⟩ => ⟨S4x2048x2048, .f32⟩
  | .hbm, ⟨1, _⟩ => ⟨S384x12288, .f32⟩
  | .hbm, ⟨2, _⟩ => ⟨S4x2048x1024, .f32⟩
  | .hbm, ⟨3, _⟩ => ⟨S4x2048x1024, .f32⟩
  | .hbm, ⟨4, _⟩ => ⟨S2x2048x2048, .f32⟩
  | .hbm, ⟨5, _⟩ => ⟨S384x1x12288, .f32⟩
  | .hbm, ⟨6, _⟩ => ⟨S8192x1024, .f32⟩
  | .hbm, ⟨7, _⟩ => ⟨S8192x1024, .f32⟩
  | .hbm, ⟨8, _⟩ => ⟨S2x2048x2048, .bf16⟩
  | .hbm, ⟨9, _⟩ => ⟨S4x2048x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x1x2048, .f32⟩
  | .local _ .vmem, ⟨3, _⟩ => ⟨S1x1x2048, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x2048x2048, .bf16⟩
  | .local _ .vmem, ⟨9, _⟩ => ⟨S1x512x2048, .f32⟩
  | .local _ .vmem, ⟨10, _⟩ => ⟨S1x512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c128_i32 : BitVec 32 := 128#32
  let v17 : BitVec 32 := Scalar.addi c128_i32 v16
  let c0_i32_4 : BitVec 32 := 0#32
  let c2_i32 : BitVec 32 := 2#32
  let c0_i32_5 : BitVec 32 := 0#32
  ![v17.toNat, c0_i32_4.toNat, c2_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S4x2048x2048 : Shape := ⟨3, ![4, 2048, 2048]⟩
abbrev S384x12288 : Shape := ⟨2, ![384, 12288]⟩
abbrev S4x2048x1024 : Shape := ⟨3, ![4, 2048, 1024]⟩
abbrev S2x2048x2048 : Shape := ⟨3, ![2, 2048, 2048]⟩
abbrev S4x12288 : Shape := ⟨2, ![4, 12288]⟩
abbrev S4x1x12288 : Shape := ⟨3, ![4, 1, 12288]⟩
abbrev S4x1x2048 : Shape := ⟨3, ![4, 1, 2048]⟩
abbrev S1x2048x2048 : Shape := ⟨3, ![1, 2048, 2048]⟩
abbrev S2048x2048 : Shape := ⟨2, ![2048, 2048]⟩

abbrev nBuf : Space → Nat
  | .hbm => 20
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S384x12288, .f32⟩
  | .hbm, ⟨2, _⟩ => ⟨S4x2048x1024, .f32⟩
  | .hbm, ⟨3, _⟩ => ⟨S4x2048x1024, .f32⟩
  | .hbm, ⟨4, _⟩ => ⟨S2x2048x2048, .f32⟩
  | .hbm, ⟨5, _⟩ => ⟨S4x12288, .f32⟩
  | .hbm, ⟨6, _⟩ => ⟨S4x1x12288, .f32⟩
  | .hbm, ⟨7, _⟩ => ⟨S4x1x2048, .f32⟩
  | .hbm, ⟨8, _⟩ => ⟨S4x1x2048, .f32⟩
  | .hbm, ⟨9, _⟩ => ⟨S4x1x2048, .f32⟩
  | .hbm, ⟨10, _⟩ => ⟨S4x1x2048, .f32⟩
  | .hbm, ⟨11, _⟩ => ⟨S4x1x2048, .f32⟩
  | .hbm, ⟨12, _⟩ => ⟨S4x1x2048, .f32⟩
  | .hbm, ⟨13, _⟩ => ⟨S4x2048x2048, .f32⟩
  | .hbm, ⟨14, _⟩ => ⟨S1x2048x2048, .f32⟩
  | .hbm, ⟨15, _⟩ => ⟨S2048x2048, .f32⟩
  | .hbm, ⟨16, _⟩ => ⟨S4x2048x2048, .f32⟩
  | .hbm, ⟨17, _⟩ => ⟨S4x2048x2048, .f32⟩
  | .hbm, ⟨18, _⟩ => ⟨S4x2048x2048, .f32⟩
  | .hbm, ⟨19, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel4.lean ====
abbrev S4x2048x2048 : Shape := ⟨3, ![4, 2048, 2048]⟩
abbrev S384x12288 : Shape := ⟨2, ![384, 12288]⟩
abbrev S2x2048 : Shape := ⟨2, ![2, 2048]⟩
abbrev S2x2048x2048 : Shape := ⟨3, ![2, 2048, 2048]⟩
abbrev S2x1x2048 : Shape := ⟨3, ![2, 1, 2048]⟩
abbrev S384x1x12288 : Shape := ⟨3, ![384, 1, 12288]⟩
abbrev S2048x8192 : Shape := ⟨2, ![2048, 8192]⟩
abbrev S8192x2048 : Shape := ⟨2, ![8192, 2048]⟩
abbrev S1x512x2048 : Shape := ⟨3, ![1, 512, 2048]⟩
abbrev S1x1x2048 : Shape := ⟨3, ![1, 1, 2048]⟩
abbrev S1x2048x2048 : Shape := ⟨3, ![1, 2048, 2048]⟩
abbrev S2048x512 : Shape := ⟨2, ![2048, 512]⟩
abbrev S512x2048 : Shape := ⟨2, ![512, 2048]⟩
abbrev S1x512 : Shape := ⟨2, ![1, 512]⟩
abbrev S1x512x1 : Shape := ⟨3, ![1, 512, 1]⟩
abbrev S2048x2048 : Shape := ⟨2, ![2048, 2048]⟩

abbrev nBuf : Space → Nat
  | .hbm => 10
  | .vmem => 12
  | .smem => 0
  | _ => 0

abbrev bufTy : (tb : Table) → Fin (tcTables nBuf tb) → BufTy
  | .hbm, ⟨0, _⟩ => ⟨S4x2048x2048, .f32⟩
  | .hbm, ⟨1, _⟩ => ⟨S384x12288, .f32⟩
  | .hbm, ⟨2, _⟩ => ⟨S2x2048, .f32⟩
  | .hbm, ⟨3, _⟩ => ⟨S2x2048x2048, .f32⟩
  | .hbm, ⟨4, _⟩ => ⟨S2x1x2048, .f32⟩
  | .hbm, ⟨5, _⟩ => ⟨S384x1x12288, .f32⟩
  | .hbm, ⟨6, _⟩ => ⟨S2x2048x2048, .f32⟩
  | .hbm, ⟨7, _⟩ => ⟨S2x2048x2048, .bf16⟩
  | .hbm, ⟨8, _⟩ => ⟨S2048x8192, .f32⟩
  | .hbm, ⟨9, _⟩ => ⟨S8192x2048, .bf16⟩
  | .local _ .vmem, ⟨0, _⟩ => ⟨S1x512x2048, .f32⟩
  | .local _ .vmem, ⟨1, _⟩ => ⟨S1x512x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048x2048, .bf16⟩
  | .local _ .vmem, ⟨8, _⟩ => ⟨S2048x512, .f32⟩
  | .local _ .vmem, ⟨9, _⟩ => ⟨S2048x512, .f32⟩
  | .local _ .vmem, ⟨10, _⟩ => ⟨S512x2048, .bf16⟩
  | .local _ .vmem, ⟨11, _⟩ => ⟨S512x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c128_i32 : BitVec 32 := 128#32
  let v17 : BitVec 32 := Scalar.addi c128_i32 v16
  let c0_i32_4 : BitVec 32 := 0#32
  let c4_i32_5 : BitVec 32 := 4#32
  let c0_i32_6 : BitVec 32 := 0#32
  ![v17.toNat, c0_i32_4.toNat, c4_i32_5.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c128_i32 : BitVec 32 := 128#32
  let v17 : BitVec 32 := Scalar.addi c128_i32 v16
  let c0_i32_4 : BitVec 32 := 0#32
  let c3_i32 : BitVec 32 := 3#32
  let c0_i32_5 : BitVec 32 := 0#32
  ![v17.toNat, c0_i32_4.toNat, c3_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S4x2048x2048 : Shape := ⟨3, ![4, 2048, 2048]⟩
abbrev S384x12288 : Shape := ⟨2, ![384, 12288]⟩
abbrev S2x2048 : Shape := ⟨2, ![2, 2048]⟩
abbrev S2x2048x2048 : Shape := ⟨3, ![2, 2048, 2048]⟩
abbrev S4x12288 : Shape := ⟨2, ![4, 12288]⟩
abbrev S4x1x12288 : Shape := ⟨3, ![4, 1, 12288]⟩
abbrev S4x1x2048 : Shape := ⟨3, ![4, 1, 2048]⟩
abbrev S1x2048 : Shape := ⟨2, ![1, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S8192x2048 : Shape := ⟨2, ![8192, 2048]⟩
abbrev S1x2048x2048 : Shape := ⟨3, ![1, 2048, 2048]⟩
abbrev S2048x2048 : Shape := ⟨2, ![2048, 2048]⟩
abbrev S2048x8192 : Shape := ⟨2, ![2048, 8192]⟩

abbrev nBuf : Space → Nat
  | .hbm => 43
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S384x12288, .f32⟩
  | .hbm, ⟨2, _⟩ => ⟨S2x2048, .f32⟩
  | .hbm, ⟨3, _⟩ => ⟨S2x2048x2048, .f32⟩
  | .hbm, ⟨4, _⟩ => ⟨S4x12288, .f32⟩
  | .hbm, ⟨5, _⟩ => ⟨S4x1x12288, .f32⟩
  | .hbm, ⟨6, _⟩ => ⟨S4x1x2048, .f32⟩
  | .hbm, ⟨7, _⟩ => ⟨S4x1x2048, .f32⟩
  | .hbm, ⟨8, _⟩ => ⟨S4x1x2048, .f32⟩
  | .hbm, ⟨9, _⟩ => ⟨S4x1x2048, .f32⟩
  | .hbm, ⟨10, _⟩ => ⟨S4x1x2048, .f32⟩
  | .hbm, ⟨11, _⟩ => ⟨S4x1x2048, .f32⟩
  | .hbm, ⟨12, _⟩ => ⟨S1x2048, .f32⟩
  | .hbm, ⟨13, _⟩ => ⟨S2048, .f32⟩
  | .hbm, ⟨14, _⟩ => ⟨S4x2048x2048, .f32⟩
  | .hbm, ⟨15, _⟩ => ⟨S_, .f32⟩
  | .hbm, ⟨16, _⟩ => ⟨S4x2048, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S4x2048x1, .f32⟩
  | .hbm, ⟨25, _⟩ => ⟨S4x2048x2048, .f32⟩
  | .hbm, ⟨26, _⟩ => ⟨S4x2048x2048, .f32⟩
  | .hbm, ⟨27, _⟩ => ⟨S1x1x2048, .f32⟩
  | .hbm, ⟨28, _⟩ => ⟨S4x2048x2048, .f32⟩
  | .hbm, ⟨29, _⟩ => ⟨S4x2048x2048, .f32⟩
  | .hbm, ⟨30, _⟩ => ⟨S_, .f32⟩
  | .hbm, ⟨31, _⟩ => ⟨S4x1x2048, .f32⟩
  | .hbm, ⟨32, _⟩ => ⟨S4x1x2048, .f32⟩
  | .hbm, ⟨33, _⟩ => ⟨S4x2048x2048, .f32⟩
  | .hbm, ⟨34, _⟩ => ⟨S4x2048x2048, .f32⟩
  | .hbm, ⟨35, _⟩ => ⟨S4x2048x2048, .f32⟩
  | .hbm, ⟨36, _⟩ => ⟨S4x2048x2048, .f32⟩
  | .hbm, ⟨37, _⟩ => ⟨S8192x2048, .f32⟩
  | .hbm, ⟨38, _⟩ => ⟨S1x2048x2048, .f32⟩
  | .hbm, ⟨39, _⟩ => ⟨S2048x2048, .f32⟩
  | .hbm, ⟨40, _⟩ => ⟨S8192x2048, .f32⟩
  | .hbm, ⟨41, _⟩ => ⟨S2048x8192, .f32⟩
  | .hbm, ⟨42, _⟩ => ⟨S8192x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩

abbrev nD : Nat := 1
abbrev τ : Topo := Topo.v7x

variable {F : FTy → Type} [FloatOps F]
-- ==== Kernel5.lean ====
abbrev S4x2048x2048 : Shape := ⟨3, ![4, 2048, 2048]⟩
abbrev S2048 : Shape := ⟨1, ![2048]⟩
abbrev S1x1x2048 : Shape := ⟨3, ![1, 1, 2048]⟩
abbrev S1x512x2048 : Shape := ⟨3, ![1, 512, 2048]⟩
abbrev S1x512 : Shape := ⟨2, ![1, 512]⟩
abbrev S1x512x1 : Shape := ⟨3, ![1, 512, 1]⟩

abbrev nBuf : Space → Nat
  | .hbm => 4
  | .vmem => 5
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S1x1x2048, .f32⟩
  | .hbm, ⟨3, _⟩ => ⟨S4x2048x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x1x2048, .f32⟩
  | .local _ .vmem, ⟨3, _⟩ => ⟨S1x512x2048, .f32⟩
  | .local _ .vmem, ⟨4, _⟩ => ⟨S1x512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference5Ideal.lean ====
abbrev S4x2048x2048 : Shape := ⟨3, ![4, 2048, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S4x2048x2048, .f32⟩
  | .hbm, ⟨3, _⟩ => ⟨S_, .f32⟩
  | .hbm, ⟨4, _⟩ => ⟨S4x2048, .f32⟩
  | .hbm, ⟨5, _⟩ => ⟨S4x2048x1, .f32⟩
  | .hbm, ⟨6, _⟩ => ⟨S_, .f32⟩
  | .hbm, ⟨7, _⟩ => ⟨S4x2048x1, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S4x2048x1, .f32⟩
  | .hbm, ⟨13, _⟩ => ⟨S4x2048x2048, .f32⟩
  | .hbm, ⟨14, _⟩ => ⟨S4x2048x2048, .f32⟩
  | .hbm, ⟨15, _⟩ => ⟨S1x1x2048, .f32⟩
  | .hbm, ⟨16, _⟩ => ⟨S4x2048x2048, .f32⟩
  | .hbm, ⟨17, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel6.lean ====
abbrev S4x2048 : Shape := ⟨2, ![4, 2048]⟩
abbrev S128x2048 : Shape := ⟨2, ![128, 2048]⟩
abbrev S2x2048x12288 : Shape := ⟨3, ![2, 2048, 12288]⟩
abbrev S2x12288 : Shape := ⟨2, ![2, 12288]⟩
abbrev S_ : Shape := ⟨0, ![]⟩
abbrev S60x2048 : Shape := ⟨2, ![60, 2048]⟩
abbrev S192x2048 : Shape := ⟨2, ![192, 2048]⟩
abbrev S2x1x12288 : Shape := ⟨3, ![2, 1, 12288]⟩
abbrev S2x192x12288 : Shape := ⟨3, ![2, 192, 12288]⟩
abbrev S1x2048x1024 : Shape := ⟨3, ![1, 2048, 1024]⟩
abbrev S1x1x1024 : Shape := ⟨3, ![1, 1, 1024]⟩
abbrev S1x192x1024 : Shape := ⟨3, ![1, 192, 1024]⟩
abbrev S2048x1024 : Shape := ⟨2, ![2048, 1024]⟩
abbrev S192x1024 : Shape := ⟨2, ![192, 1024]⟩
abbrev S1x1024 : Shape := ⟨2, ![1, 1024]⟩
abbrev S2x4x12288 : Shape := ⟨3, ![2, 4, 12288]⟩
abbrev S2x128x12288 : Shape := ⟨3, ![2, 128, 12288]⟩

abbrev nBuf : Space → Nat
  | .hbm => 11
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S128x2048, .f32⟩
  | .hbm, ⟨2, _⟩ => ⟨S2x2048x12288, .f32⟩
  | .hbm, ⟨3, _⟩ => ⟨S2x12288, .f32⟩
  | .hbm, ⟨4, _⟩ => ⟨S_, .f32⟩
  | .hbm, ⟨5, _⟩ => ⟨S60x2048, .f32⟩
  | .hbm, ⟨6, _⟩ => ⟨S192x2048, .f32⟩
  | .hbm, ⟨7, _⟩ => ⟨S2x1x12288, .f32⟩
  | .hbm, ⟨8, _⟩ => ⟨S2x192x12288, .f32⟩
  | .hbm, ⟨9, _⟩ => ⟨S2x4x12288, .f32⟩
  | .hbm, ⟨10, _⟩ => ⟨S2x128x12288, .f32⟩
  | .local _ .vmem, ⟨0, _⟩ => ⟨S192x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x192x1024, .f32⟩
  | .local _ .vmem, ⟨6, _⟩ => ⟨S1x192x1024, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S192x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x192x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S4x2048 : Shape := ⟨2, ![4, 2048]⟩
abbrev S128x2048 : Shape := ⟨2, ![128, 2048]⟩
abbrev S2x2048x12288 : Shape := ⟨3, ![2, 2048, 12288]⟩
abbrev S2x12288 : Shape := ⟨2, ![2, 12288]⟩
abbrev S2x12288x4 : Shape := ⟨3, ![2, 12288, 4]⟩
abbrev S2x4x12288 : Shape := ⟨3, ![2, 4, 12288]⟩
abbrev S2x1x12288 : Shape := ⟨3, ![2, 1, 12288]⟩
abbrev S2x12288x128 : Shape := ⟨3, ![2, 12288, 128]⟩
abbrev S2x128x12288 : Shape := ⟨3, ![2, 128, 12288]⟩

abbrev nBuf : Space → Nat
  | .hbm => 14
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S128x2048, .f32⟩
  | .hbm, ⟨2, _⟩ => ⟨S2x2048x12288, .f32⟩
  | .hbm, ⟨3, _⟩ => ⟨S2x12288, .f32⟩
  | .hbm, ⟨4, _⟩ => ⟨S2x12288x4, .f32⟩
  | .hbm, ⟨5, _⟩ => ⟨S2x4x12288, .f32⟩
  | .hbm, ⟨6, _⟩ => ⟨S2x1x12288, .f32⟩
  | .hbm, ⟨7, _⟩ => ⟨S2x4x12288, .f32⟩
  | .hbm, ⟨8, _⟩ => ⟨S2x4x12288, .f32⟩
  | .hbm, ⟨9, _⟩ => ⟨S2x12288x128, .f32⟩
  | .hbm, ⟨10, _⟩ => ⟨S2x128x12288, .f32⟩
  | .hbm, ⟨11, _⟩ => ⟨S2x1x12288, .f32⟩
  | .hbm, ⟨12, _⟩ => ⟨S2x128x12288, .f32⟩
  | .hbm, ⟨13, _⟩ => ⟨S2x128x12288, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel7.lean ====
abbrev S128x8x2048 : Shape := ⟨3, ![128, 8, 2048]⟩
abbrev S384x12288 : Shape := ⟨2, ![384, 12288]⟩
abbrev S2x2048 : Shape := ⟨2, ![2, 2048]⟩
abbrev S2x2048x7264 : Shape := ⟨3, ![2, 2048, 7264]⟩
abbrev S2x1x2048 : Shape := ⟨3, ![2, 1, 2048]⟩
abbrev S384x1x12288 : Shape := ⟨3, ![384, 1, 12288]⟩
abbrev S_ : Shape := ⟨0, ![]⟩
abbrev S2x2048x32 : Shape := ⟨3, ![2, 2048, 32]⟩
abbrev S2x2048x3072 : Shape := ⟨3, ![2, 2048, 3072]⟩
abbrev S2x2048x4096 : Shape := ⟨3, ![2, 2048, 4096]⟩
abbrev S2x2048x64 : Shape := ⟨3, ![2, 2048, 64]⟩
abbrev S2x2048x16 : Shape := ⟨3, ![2, 2048, 16]⟩
abbrev S2x2048x7296 : Shape := ⟨3, ![2, 2048, 7296]⟩
abbrev S1024x7296 : Shape := ⟨2, ![1024, 7296]⟩
abbrev S64x8x2048 : Shape := ⟨3, ![64, 8, 2048]⟩
abbrev S1x1x2048 : Shape := ⟨3, ![1, 1, 2048]⟩
abbrev S64x1x2048 : Shape := ⟨3, ![64, 1, 2048]⟩
abbrev S1x2048x2432 : Shape := ⟨3, ![1, 2048, 2432]⟩
abbrev S512x2432 : Shape := ⟨2, ![512, 2432]⟩
abbrev S64x8 : Shape := ⟨2, ![64, 8]⟩
abbrev S64x8x1 : Shape := ⟨3, ![64, 8, 1]⟩
abbrev S512x2048 : Shape := ⟨2, ![512, 2048]⟩
abbrev S2048x2432 : Shape := ⟨2, ![2048, 2432]⟩
abbrev S128x8x7296 : Shape := ⟨3, ![128, 8, 7296]⟩
abbrev S128x8x3072 : Shape := ⟨3, ![128, 8, 3072]⟩
abbrev S128x8x16 : Shape := ⟨3, ![128, 8, 16]⟩
abbrev S128x8x4096 : Shape := ⟨3, ![128, 8, 4096]⟩
abbrev S128x8x64 : Shape := ⟨3, ![128, 8, 64]⟩
abbrev S128x8x7264 : Shape := ⟨3, ![128, 8, 7264]⟩

abbrev nBuf : Space → Nat
  | .hbm => 23
  | .vmem => 11
  | .smem => 0
  | _ => 0

abbrev bufTy : (tb : Table) → Fin (tcTables nBuf tb) → BufTy
  | .hbm, ⟨0, _⟩ => ⟨S128x8x2048, .f32⟩
  | .hbm, ⟨1, _⟩ => ⟨S384x12288, .f32⟩
  | .hbm, ⟨2, _⟩ => ⟨S2x2048, .f32⟩
  | .hbm, ⟨3, _⟩ => ⟨S2x2048x7264, .f32⟩
  | .hbm, ⟨4, _⟩ => ⟨S2x1x2048, .f32⟩
  | .hbm, ⟨5, _⟩ => ⟨S384x1x12288, .f32⟩
  | .hbm, ⟨6, _⟩ => ⟨S_, .f32⟩
  | .hbm, ⟨7, _⟩ => ⟨S2x2048x32, .f32⟩
  | .hbm, ⟨8, _⟩ => ⟨S2x2048x3072, .f32⟩
  | .hbm, ⟨9, _⟩ => ⟨S2x2048x4096, .f32⟩
  | .hbm, ⟨10, _⟩ => ⟨S2x2048x64, .f32⟩
  | .hbm, ⟨11, _⟩ => ⟨S2x2048x16, .f32⟩
  | .hbm, ⟨12, _⟩ => ⟨S2x2048x16, .f32⟩
  | .hbm, ⟨13, _⟩ => ⟨S2x2048x7296, .f32⟩
  | .hbm, ⟨14, _⟩ => ⟨S2x2048x7296, .bf16⟩
  | .hbm, ⟨15, _⟩ => ⟨S1024x7296, .f32⟩
  | .hbm, ⟨16, _⟩ => ⟨S128x8x7296, .f32⟩
  | .hbm, ⟨17, _⟩ => ⟨S128x8x3072, .f32⟩
  | .hbm, ⟨18, _⟩ => ⟨S128x8x16, .f32⟩
  | .hbm, ⟨19, _⟩ => ⟨S128x8x4096, .f32⟩
  | .hbm, ⟨20, _⟩ => ⟨S128x8x64, .f32⟩
  | .hbm, ⟨21, _⟩ => ⟨S128x8x16, .f32⟩
  | .hbm, ⟨22, _⟩ => ⟨S128x8x7264, .f32⟩
  | .local _ .vmem, ⟨0, _⟩ => ⟨S64x8x2048, .f32⟩
  | .local _ .vmem, ⟨1, _⟩ => ⟨S64x8x2048, .f32⟩
  | .local _ .vmem, ⟨2, _⟩ => ⟨S1x1x2048, .f32⟩
  | .local _ .vmem, ⟨3, _⟩ => ⟨S64x1x2048, .f32⟩
  | .local _ .vmem, ⟨4, _⟩ => ⟨S64x1x2048, .f32⟩
  | .local _ .vmem, ⟨5, _⟩ => ⟨S64x1x2048, .f32⟩
  | .local _ .vmem, ⟨6, _⟩ => ⟨S64x1x2048, .f32⟩
  | .local _ .vmem, ⟨7, _⟩ => ⟨S1x2048x2432, .bf16⟩
  | .local _ .vmem, ⟨8, _⟩ => ⟨S1x2048x2432, .bf16⟩
  | .local _ .vmem, ⟨9, _⟩ => ⟨S512x2432, .f32⟩
  | .local _ .vmem, ⟨10, _⟩ => ⟨S512x2432, .f32⟩
  | _, _ => ⟨S128x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![3, 2], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c0_i32_6 : BitVec 32 := 0#32
  let c1_i32_7 : BitVec 32 := 1#32
  let c0_i32_8 : BitVec 32 := 0#32
  ![v17.toNat, c0_i32_6.toNat, c1_i32_7.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c0_i32_6 : BitVec 32 := 0#32
  let c0_i32_7 : BitVec 32 := 0#32
  let c0_i32_8 : BitVec 32 := 0#32
  ![v17.toNat, c0_i32_6.toNat, c0_i32_7.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S64x8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S64x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S64x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x2432 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2432 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S128x8x2048 : Shape := ⟨3, ![128, 8, 2048]⟩
abbrev S384x12288 : Shape := ⟨2, ![384, 12288]⟩
abbrev S2x2048 : Shape := ⟨2, ![2, 2048]⟩
abbrev S2x2048x7264 : Shape := ⟨3, ![2, 2048, 7264]⟩
abbrev S128x12288 : Shape := ⟨2, ![128, 12288]⟩
abbrev S128x1x12288 : Shape := ⟨3, ![128, 1, 12288]⟩
abbrev S128x1x2048 : Shape := ⟨3, ![128, 1, 2048]⟩
abbrev S1x2048 : Shape := ⟨2, ![1, 2048]⟩
abbrev S2048 : Shape := ⟨1, ![2048]⟩
abbrev S_ : Shape := ⟨0, ![]⟩
abbrev S128x8 : Shape := ⟨2, ![128, 8]⟩
abbrev S128x8x1 : Shape := ⟨3, ![128, 8, 1]⟩
abbrev S1x1x2048 : Shape := ⟨3, ![1, 1, 2048]⟩
abbrev S1x2048x7264 : Shape := ⟨3, ![1, 2048, 7264]⟩
abbrev S2048x7264 : Shape := ⟨2, ![2048, 7264]⟩
abbrev S128x8x7264 : Shape := ⟨3, ![128, 8, 7264]⟩

abbrev nBuf : Space → Nat
  | .hbm => 40
  | .vmem => 0
  | .smem => 0
  | _ => 0

abbrev bufTy : (tb : Table) → Fin (tcTables nBuf tb) → BufTy
  | .hbm, ⟨0, _⟩ => ⟨S128x8x2048, .f32⟩
  | .hbm, ⟨1, _⟩ => ⟨S384x12288, .f32⟩
  | .hbm, ⟨2, _⟩ => ⟨S2x2048, .f32⟩
  | .hbm, ⟨3, _⟩ => ⟨S2x2048x7264, .f32⟩
  | .hbm, ⟨4, _⟩ => ⟨S128x12288, .f32⟩
  | .hbm, ⟨5, _⟩ => ⟨S128x1x12288, .f32⟩
  | .hbm, ⟨6, _⟩ => ⟨S128x1x2048, .f32⟩
  | .hbm, ⟨7, _⟩ => ⟨S128x1x2048, .f32⟩
  | .hbm, ⟨8, _⟩ => ⟨S128x1x2048, .f32⟩
  | .hbm, ⟨9, _⟩ => ⟨S128x1x2048, .f32⟩
  | .hbm, ⟨10, _⟩ => ⟨S128x1x2048, .f32⟩
  | .hbm, ⟨11, _⟩ => ⟨S128x1x2048, .f32⟩
  | .hbm, ⟨12, _⟩ => ⟨S1x2048, .f32⟩
  | .hbm, ⟨13, _⟩ => ⟨S2048, .f32⟩
  | .hbm, ⟨14, _⟩ => ⟨S128x8x2048, .f32⟩
  | .hbm, ⟨15, _⟩ => ⟨S_, .f32⟩
  | .hbm, ⟨16, _⟩ => ⟨S128x8, .f32⟩
  | .hbm, ⟨17, _⟩ => ⟨S128x8x1, .f32⟩
  | .hbm, ⟨18, _⟩ => ⟨S_, .f32⟩
  | .hbm, ⟨19, _⟩ => ⟨S128x8x1, .f32⟩
  | .hbm, ⟨20, _⟩ => ⟨S128x8x1, .f32⟩
  | .hbm, ⟨21, _⟩ => ⟨S_, .f32⟩
  | .hbm, ⟨22, _⟩ => ⟨S128x8x1, .f32⟩
  | .hbm, ⟨23, _⟩ => ⟨S128x8x1, .f32⟩
  | .hbm, ⟨24, _⟩ => ⟨S128x8x1, .f32⟩
  | .hbm, ⟨25, _⟩ => ⟨S128x8x2048, .f32⟩
  | .hbm, ⟨26, _⟩ => ⟨S128x8x2048, .f32⟩
  | .hbm, ⟨27, _⟩ => ⟨S1x1x2048, .f32⟩
  | .hbm, ⟨28, _⟩ => ⟨S128x8x2048, .f32⟩
  | .hbm, ⟨29, _⟩ => ⟨S128x8x2048, .f32⟩
  | .hbm, ⟨30, _⟩ => ⟨S_, .f32⟩
  | .hbm, ⟨31, _⟩ => ⟨S128x1x2048, .f32⟩
  | .hbm, ⟨32, _⟩ => ⟨S128x1x2048, .f32⟩
  | .hbm, ⟨33, _⟩ => ⟨S128x8x2048, .f32⟩
  | .hbm, ⟨34, _⟩ => ⟨S128x8x2048, .f32⟩
  | .hbm, ⟨35, _⟩ => ⟨S128x8x2048, .f32⟩
  | .hbm, ⟨36, _⟩ => ⟨S128x8x2048, .f32⟩
  | .hbm, ⟨37, _⟩ => ⟨S1x2048x7264, .f32⟩
  | .hbm, ⟨38, _⟩ => ⟨S2048x7264, .f32⟩
  | .hbm, ⟨39, _⟩ => ⟨S128x8x7264, .f32⟩
  | _, _ => ⟨S128x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]
-- ==== Kernel8.lean ====
abbrev S128x8x2048 : Shape := ⟨3, ![128, 8, 2048]⟩
abbrev S2048 : Shape := ⟨1, ![2048]⟩
abbrev S1x1x2048 : Shape := ⟨3, ![1, 1, 2048]⟩
abbrev S64x8x2048 : Shape := ⟨3, ![64, 8, 2048]⟩
abbrev S64x8 : Shape := ⟨2, ![64, 8]⟩
abbrev S64x8x1 : Shape := ⟨3, ![64, 8, 1]⟩

abbrev nBuf : Space → Nat
  | .hbm => 4
  | .vmem => 5
  | .smem => 0
  | _ => 0

abbrev bufTy : (tb : Table) → Fin (tcTables nBuf tb) → BufTy
  | .hbm, ⟨0, _⟩ => ⟨S128x8x2048, .f32⟩
  | .hbm, ⟨1, _⟩ => ⟨S2048, .f32⟩
  | .hbm, ⟨2, _⟩ => ⟨S1x1x2048, .f32⟩
  | .hbm, ⟨3, _⟩ => ⟨S128x8x2048, .f32⟩
  | .local _ .vmem, ⟨0, _⟩ => ⟨S64x8x2048, .f32⟩
  | .local _ .vmem, ⟨1, _⟩ => ⟨S64x8x2048, .f32⟩
  | .local _ .vmem, ⟨2, _⟩ => ⟨S1x1x2048, .f32⟩
  | .local _ .vmem, ⟨3, _⟩ => ⟨S64x8x2048, .f32⟩
  | .local _ .vmem, ⟨4, _⟩ => ⟨S64x8x2048, .f32⟩
  | _, _ => ⟨S128x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, v26.toNat, c0_i32_11.toNat]

abbrev stage0_0 : Fin 2 → Memref sig .tc .vmem S64x8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S128x8x2048 : Shape := ⟨3, ![128, 8, 2048]⟩
abbrev S2048 : Shape := ⟨1, ![2048]⟩
abbrev S_ : Shape := ⟨0, ![]⟩
abbrev S128x8 : Shape := ⟨2, ![128, 8]⟩
abbrev S128x8x1 : Shape := ⟨3, ![128, 8, 1]⟩
abbrev S1x1x2048 : Shape := ⟨3, ![1, 1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S128x8x2048, .f32⟩
  | .hbm, ⟨1, _⟩ => ⟨S2048, .f32⟩
  | .hbm, ⟨2, _⟩ => ⟨S128x8x2048, .f32⟩
  | .hbm, ⟨3, _⟩ => ⟨S_, .f32⟩
  | .hbm, ⟨4, _⟩ => ⟨S128x8, .f32⟩
  | .hbm, ⟨5, _⟩ => ⟨S128x8x1, .f32⟩
  | .hbm, ⟨6, _⟩ => ⟨S_, .f32⟩
  | .hbm, ⟨7, _⟩ => ⟨S128x8x1, .f32⟩
  | .hbm, ⟨8, _⟩ => ⟨S128x8x1, .f32⟩
  | .hbm, ⟨9, _⟩ => ⟨S_, .f32⟩
  | .hbm, ⟨10, _⟩ => ⟨S128x8x1, .f32⟩
  | .hbm, ⟨11, _⟩ => ⟨S128x8x1, .f32⟩
  | .hbm, ⟨12, _⟩ => ⟨S128x8x1, .f32⟩
  | .hbm, ⟨13, _⟩ => ⟨S128x8x2048, .f32⟩
  | .hbm, ⟨14, _⟩ => ⟨S128x8x2048, .f32⟩
  | .hbm, ⟨15, _⟩ => ⟨S1x1x2048, .f32⟩
  | .hbm, ⟨16, _⟩ => ⟨S128x8x2048, .f32⟩
  | .hbm, ⟨17, _⟩ => ⟨S128x8x2048, .f32⟩
  | _, _ => ⟨S128x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel9.lean ====
abbrev S128x8x7264 : Shape := ⟨3, ![128, 8, 7264]⟩
abbrev S2x128x4x128x256 : Shape := ⟨5, ![2, 128, 4, 128, 256]⟩
abbrev S2x16x512 : Shape := ⟨3, ![2, 16, 512]⟩
abbrev S2x512 : Shape := ⟨2, ![2, 512]⟩
abbrev S2x1024 : Shape := ⟨2, ![2, 1024]⟩
abbrev S_ : Shape := ⟨0, ![]⟩
abbrev S128x8x32 : Shape := ⟨3, ![128, 8, 32]⟩
abbrev S128x8x3072 : Shape := ⟨3, ![128, 8, 3072]⟩
abbrev S128x8x4096 : Shape := ⟨3, ![128, 8, 4096]⟩
abbrev S128x8x64 : Shape := ⟨3, ![128, 8, 64]⟩
abbrev S128x8x16 : Shape := ⟨3, ![128, 8, 16]⟩
abbrev S128x8x7296 : Shape := ⟨3, ![128, 8, 7296]⟩
abbrev S2x128x512 : Shape := ⟨3, ![2, 128, 512]⟩
abbrev S1 : Shape := ⟨1, ![1]⟩
abbrev S1x128x512 : Shape := ⟨3, ![1, 128, 512]⟩
abbrev S128x512 : Shape := ⟨2, ![128, 512]⟩
abbrev S1x512 : Shape := ⟨2, ![1, 512]⟩
abbrev S1x1024 : Shape := ⟨2, ![1, 1024]⟩
abbrev S256x4x128x256 : Shape := ⟨4, ![256, 4, 128, 256]⟩
abbrev S128x8x1024 : Shape := ⟨3, ![128, 8, 1024]⟩
abbrev S1x8x512 : Shape := ⟨3, ![1, 8, 512]⟩
abbrev S1x8x1024 : Shape := ⟨3, ![1, 8, 1024]⟩
abbrev S1x8x128 : Shape := ⟨3, ![1, 8, 128]⟩
abbrev S1x4x128x256 : Shape := ⟨4, ![1, 4, 128, 256]⟩
abbrev S4x128x256 : Shape := ⟨3, ![4, 128, 256]⟩
abbrev S8x8 : Shape := ⟨2, ![8, 8]⟩
abbrev S8x128 : Shape := ⟨2, ![8, 128]⟩
abbrev S8x512 : Shape := ⟨2, ![8, 512]⟩
abbrev S1x8x256 : Shape := ⟨3, ![1, 8, 256]⟩
abbrev S8x256 : Shape := ⟨2, ![8, 256]⟩
abbrev S1x128x256 : Shape := ⟨3, ![1, 128, 256]⟩
abbrev S128x256 : Shape := ⟨2, ![128, 256]⟩
abbrev S1x128 : Shape := ⟨2, ![1, 128]⟩
abbrev S128x128 : Shape := ⟨2, ![128, 128]⟩
abbrev S128x1 : Shape := ⟨2, ![128, 1]⟩
abbrev S8 : Shape := ⟨1, ![8]⟩
abbrev S8x1 : Shape := ⟨2, ![8, 1]⟩
abbrev S1x256 : Shape := ⟨2, ![1, 256]⟩
abbrev S128x4x128x256 : Shape := ⟨4, ![128, 4, 128, 256]⟩

abbrev nBuf : Space → Nat
  | .hbm => 26
  | .vmem => 20
  | .smem => 0
  | _ => 0

abbrev bufTy : (tb : Table) → Fin (tcTables nBuf tb) → BufTy
  | .hbm, ⟨0, _⟩ => ⟨S128x8x7264, .f32⟩
  | .hbm, ⟨1, _⟩ => ⟨S2x128x4x128x256, .f32⟩
  | .hbm, ⟨2, _⟩ => ⟨S2x16x512, .f32⟩
  | .hbm, ⟨3, _⟩ => ⟨S2x512, .f32⟩
  | .hbm, ⟨4, _⟩ => ⟨S2x1024, .f32⟩
  | .hbm, ⟨5, _⟩ => ⟨S_, .f32⟩
  | .hbm, ⟨6, _⟩ => ⟨S128x8x32, .f32⟩
  | .hbm, ⟨7, _⟩ => ⟨S128x8x3072, .f32⟩
  | .hbm, ⟨8, _⟩ => ⟨S128x8x4096, .f32⟩
  | .hbm, ⟨9, _⟩ => ⟨S128x8x64, .f32⟩
  | .hbm, ⟨10, _⟩ => ⟨S128x8x16, .f32⟩
  | .hbm, ⟨11, _⟩ => ⟨S128x8x16, .f32⟩
  | .hbm, ⟨12, _⟩ => ⟨S128x8x7296, .f32⟩
  | .hbm, ⟨13, _⟩ => ⟨S_, .f32⟩
  | .hbm, ⟨14, _⟩ => ⟨S2x128x512, .f32⟩
  | .hbm, ⟨15, _⟩ => ⟨S_, .i32⟩
  | .hbm, ⟨16, _⟩ => ⟨S1, .i32⟩
  | .hbm, ⟨17, _⟩ => ⟨S2x128x512, .f32⟩
  | .hbm, ⟨18, _⟩ => ⟨S1x128x512, .f32⟩
  | .hbm, ⟨19, _⟩ => ⟨S128x512, .f32⟩
  | .hbm, ⟨20, _⟩ => ⟨S1x512, .f32⟩
  | .hbm, ⟨21, _⟩ => ⟨S1x1024, .f32⟩
  | .hbm, ⟨22, _⟩ => ⟨S256x4x128x256, .f32⟩
  | .hbm, ⟨23, _⟩ => ⟨S128x8x1024, .f32⟩
  | .hbm, ⟨24, _⟩ => ⟨S256x4x128x256, .f32⟩
  | .hbm, ⟨25, _⟩ => ⟨S128x4x128x256, .f32⟩
  | .local _ .vmem, ⟨0, _⟩ => ⟨S1x8x512, .f32⟩
  | .local _ .vmem, ⟨1, _⟩ => ⟨S1x8x512, .f32⟩
  | .local _ .vmem, ⟨2, _⟩ => ⟨S1x8x512, .f32⟩
  | .local _ .vmem, ⟨3, _⟩ => ⟨S1x8x512, .f32⟩
  | .local _ .vmem, ⟨4, _⟩ => ⟨S1x8x1024, .f32⟩
  | .local _ .vmem, ⟨5, _⟩ => ⟨S1x8x1024, .f32⟩
  | .local _ .vmem, ⟨6, _⟩ => ⟨S1x8x1024, .f32⟩
  | .local _ .vmem, ⟨7, _⟩ => ⟨S1x8x1024, .f32⟩
  | .local _ .vmem, ⟨8, _⟩ => ⟨S1x8x128, .f32⟩
  | .local _ .vmem, ⟨9, _⟩ => ⟨S1x8x128, .f32⟩
  | .local _ .vmem, ⟨10, _⟩ => ⟨S128x512, .f32⟩
  | .local _ .vmem, ⟨11, _⟩ => ⟨S1x512, .f32⟩
  | .local _ .vmem, ⟨12, _⟩ => ⟨S1x1024, .f32⟩
  | .local _ .vmem, ⟨13, _⟩ => ⟨S1x4x128x256, .f32⟩
  | .local _ .vmem, ⟨14, _⟩ => ⟨S1x4x128x256, .f32⟩
  | .local _ .vmem, ⟨15, _⟩ => ⟨S1x8x1024, .f32⟩
  | .local _ .vmem, ⟨16, _⟩ => ⟨S1x8x1024, .f32⟩
  | .local _ .vmem, ⟨17, _⟩ => ⟨S1x4x128x256, .f32⟩
  | .local _ .vmem, ⟨18, _⟩ => ⟨S1x4x128x256, .f32⟩
  | .local _ .vmem, ⟨19, _⟩ => ⟨S4x128x256, .f32⟩
  | _, _ => ⟨S128x8x7264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![128, 1], ![false, false]⟩

def k0_mult1 : BitVec 32 :=
  let c0_i32_1 : BitVec 32 := 0#32
  c0_i32_1
def k0_cond2 (i : grid0.Coords) : BitVec 1 :=
  let arg1 : BitVec 32 := BitVec.ofNat 32 (i 1).val
  let c0_i32_120 : BitVec 32 := 0#32
  let v328 : BitVec 1 := Scalar.cmpi .eq arg1 c0_i32_120
  let v329 : BitVec 32 := Scalar.extui v328
  let c0_i32_121 : BitVec 32 := 0#32
  let v330 : BitVec 1 := Scalar.cmpi .ne v329 c0_i32_121
  v330

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_4 (i : grid0.Coords) : Fin 3 → Nat :=
  let arg0 : BitVec 32 := BitVec.ofNat 32 (i 0).val
  let arg1 : BitVec 32 := BitVec.ofNat 32 (i 1).val
  let c56_i32 : BitVec 32 := 56#32
  let c0_i32 : BitVec 32 := 0#32
  ![arg0.toNat, arg1.toNat, c56_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  let c0_i32_3 : BitVec 32 := 0#32
  ![v0.toNat, c0_i32_0.toNat, c0_i32_1.toNat, c0_i32_2.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  let c0_i32_3 : BitVec 32 := 0#32
  ![v0.toNat, c0_i32_0.toNat, c0_i32_1.toNat, c0_i32_2.toNat]

abbrev stage0_0 : Fin 2 → Memref sig .tc .vmem S1x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x4x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x8x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference9Ideal.lean ====
abbrev S128x8x7264 : Shape := ⟨3, ![128, 8, 7264]⟩
abbrev S2x128x4x128x256 : Shape := ⟨5, ![2, 128, 4, 128, 256]⟩
abbrev S2x16x512 : Shape := ⟨3, ![2, 16, 512]⟩
abbrev S2x512 : Shape := ⟨2, ![2, 512]⟩
abbrev S2x1024 : Shape := ⟨2, ![2, 1024]⟩
abbrev S128x8x512 : Shape := ⟨3, ![128, 8, 512]⟩
abbrev S128x8x1024 : Shape := ⟨3, ![128, 8, 1024]⟩
abbrev S128x8x4x128 : Shape := ⟨4, ![128, 8, 4, 128]⟩
abbrev S128x4x8x128 : Shape := ⟨4, ![128, 4, 8, 128]⟩
abbrev S128x8x4x256 : Shape := ⟨4, ![128, 8, 4, 256]⟩
abbrev S128x4x8x256 : Shape := ⟨4, ![128, 4, 8, 256]⟩
abbrev S1x128x4x128x256 : Shape := ⟨5, ![1, 128, 4, 128, 256]⟩
abbrev S128x4x128x256 : Shape := ⟨4, ![128, 4, 128, 256]⟩
abbrev S128x8x16 : Shape := ⟨3, ![128, 8, 16]⟩
abbrev S1x16x512 : Shape := ⟨3, ![1, 16, 512]⟩
abbrev S16x512 : Shape := ⟨2, ![16, 512]⟩
abbrev S1x512 : Shape := ⟨2, ![1, 512]⟩
abbrev S512 : Shape := ⟨1, ![512]⟩
abbrev S1x1x512 : Shape := ⟨3, ![1, 1, 512]⟩
abbrev S_ : Shape := ⟨0, ![]⟩
abbrev S128x4x1x128 : Shape := ⟨4, ![128, 4, 1, 128]⟩
abbrev S128x4x128 : Shape := ⟨3, ![128, 4, 128]⟩
abbrev S128x4x128x1 : Shape := ⟨4, ![128, 4, 128, 1]⟩

abbrev nBuf : Space → Nat
  | .hbm => 58
  | .vmem => 0
  | .smem => 0
  | _ => 0

abbrev bufTy : (tb : Table) → Fin (tcTables nBuf tb) → BufTy
  | .hbm, ⟨0, _⟩ => ⟨S128x8x7264, .f32⟩
  | .hbm, ⟨1, _⟩ => ⟨S2x128x4x128x256, .f32⟩
  | .hbm, ⟨2, _⟩ => ⟨S2x16x512, .f32⟩
  | .hbm, ⟨3, _⟩ => ⟨S2x512, .f32⟩
  | .hbm, ⟨4, _⟩ => ⟨S2x1024, .f32⟩
  | .hbm, ⟨5, _⟩ => ⟨S128x8x512, .f32⟩
  | .hbm, ⟨6, _⟩ => ⟨S128x8x1024, .f32⟩
  | .hbm, ⟨7, _⟩ => ⟨S128x8x4x128, .f32⟩
  | .hbm, ⟨8, _⟩ => ⟨S128x4x8x128, .f32⟩
  | .hbm, ⟨9, _⟩ => ⟨S128x8x4x256, .f32⟩
  | .hbm, ⟨10, _⟩ => ⟨S128x4x8x256, .f32⟩
  | .hbm, ⟨11, _⟩ => ⟨S1x128x4x128x256, .f32⟩
  | .hbm, ⟨12, _⟩ => ⟨S128x4x128x256, .f32⟩
  | .hbm, ⟨13, _⟩ => ⟨S128x8x16, .f32⟩
  | .hbm, ⟨14, _⟩ => ⟨S1x16x512, .f32⟩
  | .hbm, ⟨15, _⟩ => ⟨S16x512, .f32⟩
  | .hbm, ⟨16, _⟩ => ⟨S128x8x512, .f32⟩
  | .hbm, ⟨17, _⟩ => ⟨S1x512, .f32⟩
  | .hbm, ⟨18, _⟩ => ⟨S512, .f32⟩
  | .hbm, ⟨19, _⟩ => ⟨S1x1x512, .f32⟩
  | .hbm, ⟨20, _⟩ => ⟨S128x8x512, .f32⟩
  | .hbm, ⟨21, _⟩ => ⟨S128x8x512, .f32⟩
  | .hbm, ⟨22, _⟩ => ⟨S128x8x4x128, .f32⟩
  | .hbm, ⟨23, _⟩ => ⟨S128x8x4x128, .f32⟩
  | .hbm, ⟨24, _⟩ => ⟨S_, .f32⟩
  | .hbm, ⟨25, _⟩ => ⟨S128x8x4x128, .f32⟩
  | .hbm, ⟨26, _⟩ => ⟨S128x8x4x128, .f32⟩
  | .hbm, ⟨27, _⟩ => ⟨S128x8x4x128, .f32⟩
  | .hbm, ⟨28, _⟩ => ⟨S128x8x4x128, .f32⟩
  | .hbm, ⟨29, _⟩ => ⟨S128x8x4x128, .i1⟩
  | .hbm, ⟨30, _⟩ => ⟨S128x8x4x128, .f32⟩
  | .hbm, ⟨31, _⟩ => ⟨S128x8x4x128, .f32⟩
  | .hbm, ⟨32, _⟩ => ⟨S128x8x4x128, .f32⟩
  | .hbm, ⟨33, _⟩ => ⟨S128x8x4x128, .f32⟩
  | .hbm, ⟨34, _⟩ => ⟨S128x8x4x128, .f32⟩
  | .hbm, ⟨35, _⟩ => ⟨S128x8x4x128, .f32⟩
  | .hbm, ⟨36, _⟩ => ⟨S128x8x4x128, .f32⟩
  | .hbm, ⟨37, _⟩ => ⟨S128x8x4x128, .f32⟩
  | .hbm, ⟨38, _⟩ => ⟨S128x8x4x128, .f32⟩
  | .hbm, ⟨39, _⟩ => ⟨S_, .f32⟩
  | .hbm, ⟨40, _⟩ => ⟨S128x8x4x128, .f32⟩
  | .hbm, ⟨41, _⟩ => ⟨S128x8x4x128, .f32⟩
  | .hbm, ⟨42, _⟩ => ⟨S128x4x8x128, .f32⟩
  | .hbm, ⟨43, _⟩ => ⟨S_, .f32⟩
  | .hbm, ⟨44, _⟩ => ⟨S_, .f32⟩
  | .hbm, ⟨45, _⟩ => ⟨S128x4x8x128, .f32⟩
  | .hbm, ⟨46, _⟩ => ⟨S128x4x1x128, .f32⟩
  | .hbm, ⟨47, _⟩ => ⟨S128x4x128, .f32⟩
  | .hbm, ⟨48, _⟩ => ⟨S128x4x128, .f32⟩
  | .hbm, ⟨49, _⟩ => ⟨S128x4x128x1, .f32⟩
  | .hbm, ⟨50, _⟩ => ⟨S128x4x128x256, .f32⟩
  | .hbm, ⟨51, _⟩ => ⟨S128x4x128x256, .f32⟩
  | .hbm, ⟨52, _⟩ => ⟨S128x4x8x128, .f32⟩
  | .hbm, ⟨53, _⟩ => ⟨S128x4x8x128, .f32⟩
  | .hbm, ⟨54, _⟩ => ⟨S128x4x8x128, .f32⟩
  | .hbm, ⟨55, _⟩ => ⟨S128x4x8x128, .f32⟩
  | .hbm, ⟨56, _⟩ => ⟨S128x4x128x256, .f32⟩
  | .hbm, ⟨57, _⟩ => ⟨S128x4x128x256, .f32⟩
  | _, _ => ⟨S128x8x7264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_call0_v0 : Ref sig .tc := ⟨.hbm, 23, rfl⟩
abbrev main_call0_call0_cst : Ref sig .tc := ⟨.hbm, 24, rfl⟩
abbrev main_call0_call0_v0 : Ref sig .tc := ⟨.hbm, 25, rfl⟩
abbrev main_call0_call0_v1 : Ref sig .tc := ⟨.hbm, 26, rfl⟩
abbrev main_call0_call0_v2 : Ref sig .tc := ⟨.hbm, 27, rfl⟩
abbrev main_call0_call0_v3 : Ref sig .tc := ⟨.hbm, 28, rfl⟩
abbrev main_call0_call0_v4 : Ref sig .tc := ⟨.hbm, 29, rfl⟩
abbrev main_call0_call0_v5 : Ref sig .tc := ⟨.hbm, 30, rfl⟩
abbrev main_call0_call0_v6 : Ref sig .tc := ⟨.hbm, 31, rfl⟩
abbrev main_call0_call0_v7 : Ref sig .tc := ⟨.hbm, 32, rfl⟩
abbrev main_call0_call0_v8 : Ref sig .tc := ⟨.hbm, 33, rfl⟩
abbrev main_call0_call0_v9 : Ref sig .tc := ⟨.hbm, 34, rfl⟩
abbrev main_call0_call0_v10 : Ref sig .tc := ⟨.hbm, 35, rfl⟩
abbrev main_call0_call0_v11 : Ref sig .tc := ⟨.hbm, 36, rfl⟩
abbrev main_call0_v1 : Ref sig .tc := ⟨.hbm, 37, rfl⟩
abbrev main_v18 : Ref sig .tc := ⟨.hbm, 38, rfl⟩
abbrev main_cst : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_call1_call0_cst : Ref sig .tc := ⟨.hbm, 43, rfl⟩
abbrev main_call1_call0_v0 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩

abbrev nD : Nat := 1
abbrev τ : Topo := Topo.v7x

variable {F : FTy → Type} [FloatOps F]
-- ==== Proof.Run.lean ====
/- The kernel body's run, once per branch of its `lax.switch`: on whole staging buffers at known contents, and the
   scratch at any contents, the body ends with the inputs as they were and the output's buffer written with the
   pieces the run finds. -/
module

public import proofs.«01_k».proof.Proof.Gen.KernelIdeal.Frame
public import proofs.«01_k».proof.Proof.Gen.KernelIdeal.Loops
public import Idealize.ShloMosaic.Lib.Exec
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (i : grid0.Coords)
  (arg2 : Memref sig .tc .vmem S1x256x1024 .bf16) (harg2 : arg2.IsWhole) (arg3 : Memref sig .tc .vmem S1x256x1024 .bf16) (harg3 : arg3.IsWhole)
  (arg4 : Memref sig .tc .vmem S1x256x128 .f32) (harg4 : arg4.IsWhole) (arg5 : Memref sig .tc .vmem S1x2048x1024 .bf16) (harg5 : arg5.IsWhole)
  (arg6 : Memref sig .tc .vmem S1x2048x1024 .bf16) (harg6 : arg6.IsWhole) (arg7 : Memref sig .tc .vmem S1x2048x128 .bf16) (harg7 : arg7.IsWhole)
  (arg8 : Memref sig .tc .vmem S1x256x1024 .f32) (harg8 : arg8.IsWhole) (arg9 : Memref sig .tc .vmem S256x2048 .f32) (harg9 : arg9.IsWhole)
  (x2 : S1x256x1024.Idx → Elt F .bf16) (x3 : S1x256x1024.Idx → Elt F .bf16) (x4 : S1x256x128.Idx → Elt F .f32)
  (x5 : S1x2048x1024.Idx → Elt F .bf16) (x6 : S1x2048x1024.Idx → Elt F .bf16) (x7 : S1x2048x128.Idx → Elt F .bf16)
  (x9 : S256x2048.Idx → Elt F .f32)

/-- The body at coordinates `i`, run from its input buffers at `x2 … x7`, the output's at anything and the scratch at `x9`,
    ends with the inputs as they were, the pieces `L` written to the output and the scratch at some contents. -/
def Ran (L : List (View.Piece (Elt F) S1x256x1024 .f32)) : Prop :=
  ∀ (f8 : BufTy.Contents (Elt F) arg8.view.ty) (E : Set ℕ) (K : PUnit → sProp 𝕄),
    iprop((arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4)
        ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} harg7.unread x7)
        ∗ (arg8.view.loc (c : Thread nD τ) ↦[arg8.view.set]{fullShare} f8) ∗ (arg9.view.loc (c : Thread nD τ) ↦[arg9.view.set]{fullShare} harg9.unread x9)
        ∗ (iprop((arg2.view.loc (c : Thread nD τ) ↦[arg2.view.set]{fullShare} harg2.unread x2) ∗ (arg3.view.loc (c : Thread nD τ) ↦[arg3.view.set]{fullShare} harg3.unread x3) ∗ (arg4.view.loc (c : Thread nD τ) ↦[arg4.view.set]{fullShare} harg4.unread x4)
        ∗ (arg5.view.loc (c : Thread nD τ) ↦[arg5.view.set]{fullShare} harg5.unread x5) ∗ (arg6.view.loc (c : Thread nD τ) ↦[arg6.view.set]{fullShare} harg6.unread x6) ∗ (arg7.view.loc (c : Thread nD τ) ↦[arg7.view.set]{fullShare} harg7.unread x7)
        ∗ (arg8.view.loc (c : Thread nD τ) ↦[arg8.view.set]{fullShare} arg8.view.writes (Elt F) f8 L) ∗ (∃ f, (arg9.view.loc (c : Thread nD τ) ↦[arg9.view.set]{fullShare} f))) -∗ K ⟨⟩))
      ⊢ wp frame (wpE (defs₀ (F := F)) Variants.none c none) E (cc0_dsa_prompt i arg2 harg2 arg3 harg3 arg4 harg4 arg5 harg5 arg6 harg6 arg7 harg7 arg8 harg8 arg9 harg9) K

set_option maxHeartbeats 2000000 in
/-- The branch over the first 512 keys, with the pieces it writes. -/
def runD (hc1 : ¬(k0_cond1 i = 1#1)) :
    { L // Ran c i arg2 harg2 arg3 harg3 arg4 harg4 arg5 harg5 arg6 harg6 arg7 harg7 arg8 harg8 arg9 harg9 x2 x3 x4 x5 x6 x7 x9 L } := by
  refine ⟨?_, fun f8 E K => ?run⟩
  case run =>
    simp only [cc0_dsa_prompt_eq_skeleton]; unfold cc0_dsa_prompt_skel
    iintro ⟨H2, H3, H4, H5, H6, H7, H8, H9, Hk⟩
    sl_exec (disch := first | sl_exact hc1)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9

set_option maxHeartbeats 2000000 in
/-- The branch over the first 1024 keys, with the pieces it writes. -/
def runC (hc1 : k0_cond1 i = 1#1) (hc2 : ¬(k0_cond2 i = 1#1)) :
    { L // Ran c i arg2 harg2 arg3 harg3 arg4 harg4 arg5 harg5 arg6 harg6 arg7 harg7 arg8 harg8 arg9 harg9 x2 x3 x4 x5 x6 x7 x9 L } := by
  refine ⟨?_, fun f8 E K => ?run⟩
  case run =>
    simp only [cc0_dsa_prompt_eq_skeleton]; unfold cc0_dsa_prompt_skel
    iintro ⟨H2, H3, H4, H5, H6, H7, H8, H9, Hk⟩
    sl_exec (disch := first | sl_exact hc1 | sl_exact hc2)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9

set_option maxHeartbeats 2000000 in
/-- The branch over the first 1536 keys, with the pieces it writes. -/
def runB (hc1 : k0_cond1 i = 1#1) (hc2 : k0_cond2 i = 1#1) (hc3 : ¬(k0_cond3 i = 1#1)) :
    { L // Ran c i arg2 harg2 arg3 harg3 arg4 harg4 arg5 harg5 arg6 harg6 arg7 harg7 arg8 harg8 arg9 harg9 x2 x3 x4 x5 x6 x7 x9 L } := by
  refine ⟨?_, fun f8 E K => ?run⟩
  case run =>
    simp only [cc0_dsa_prompt_eq_skeleton]; unfold cc0_dsa_prompt_skel
    iintro ⟨H2, H3, H4, H5, H6, H7, H8, H9, Hk⟩
    sl_exec (disch := first | sl_exact hc1 | sl_exact hc2 | sl_exact hc3)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9

set_option maxHeartbeats 2000000 in
/-- The branch over the first 2048 keys, with the pieces it writes. -/
def runA (hc1 : k0_cond1 i = 1#1) (hc2 : k0_cond2 i = 1#1) (hc3 : k0_cond3 i = 1#1) :
    { L // Ran c i arg2 harg2 arg3 harg3 arg4 harg4 arg5 harg5 arg6 harg6 arg7 harg7 arg8 harg8 arg9 harg9 x2 x3 x4 x5 x6 x7 x9 L } := by
  refine ⟨?_, fun f8 E K => ?run⟩
  case run =>
    simp only [cc0_dsa_prompt_eq_skeleton]; unfold cc0_dsa_prompt_skel
    iintro ⟨H2, H3, H4, H5, H6, H7, H8, H9, Hk⟩
    sl_exec (disch := first | sl_exact hc1 | sl_exact hc2 | sl_exact hc3)
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9

end Cert.KernelIdeal.Hand

end
-- ==== Proof.Closed.lean ====
/- The body's result in closed form: what each branch writes to the output block, as a function of the loaded blocks
   alone. The scratch is read only where the same run has stored, so its contents at entry do not matter. -/
module

public import proofs.«01_k».proof.Proof.Generic
public import Idealize.ShloMosaic.Lib.WholeRead
public import Idealize.ShloMosaic.Lib.Pipeline.Value

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx

variable {F : FTy → Type} [FloatOps F]

/-- A unit-stride load of `x` at offset `off`. -/
abbrev ldU {s : Shape} {e : EltTy} (x : s.Idx → Elt F e) (off size : Fin s.rank → ℕ) (h : ∀ a, off a + size a ≤ s.size a) :
    (Rect.unit off size h).shape.Idx → Elt F e := fun j => x ((Rect.unit off size h).toLoadRect.idx j)

theorem readAt_unread_ldU {sig : RefSig} {κ : Kind} {sp : Space} {s : Shape} {e : EltTy} (m : Memref sig κ sp s e) (hm : m.IsWhole)
    (x : s.Idx → Elt F e) (off size : Fin s.rank → ℕ) (h : ∀ a, off a + size a ≤ s.size a) :
    View.readAt (Elt F) m.view (Rect.unit off size h).toLoadRect (hm.unread x) = ldU x off size h :=
  funext fun j => Memref.IsWhole.readAt_unread hm x _ j

/-- Reading back the last store. -/
theorem readAt_writes_cons {sig : RefSig} {κ : Kind} {sp : Space} {s : Shape} {e : EltTy} (v : View sig κ sp s e)
    (f : v.ty.Contents (Elt F)) (r : Rect s) (w : r.shape.Idx → Elt F e) (L : List (View.Piece (Elt F) s e)) :
    v.readAt (Elt F) r.toLoadRect (v.writes (Elt F) f (⟨r, w⟩ :: L)) = w := by
  rw [View.readAt_writes_of_cover v f _ _ fun j => ⟨_, List.mem_cons_self, r.idx_mem j⟩]
  exact View.readCov_cons_toLoadRect v r w L

theorem unit_emb_val {s : Shape} (off size : Fin s.rank → ℕ) (h : ∀ a, off a + size a ≤ s.size a) (x : (Rect.unit off size h).shape.Idx)
    (a : Fin s.rank) : ((Rect.unit off size h).emb x a).val = off a + (x a).val := by
  show off a + 1 * (x a).val = _
  omega

/-- The weights' columns of a tail block. -/
abbrev wAt (x4 : S1x256x128.Idx → Elt F .f32) : FVec F S256x16 .f32 :=
  k0_pay2 (ldU x4 ![0, 0, 80] S1x256x16.size inb_S1x256x128_S1x256x16_0_0_80)
/-- Indexer head `h`'s queries. -/
abbrev qiAt (x3 : S1x256x1024.Idx → Elt F .bf16) (h : Fin 16) : Vec F S1x256x64 .bf16 :=
  ldU x3 ![0, 0, 64 * h.val] S1x256x64.size (by revert h; decide)
/-- The indexer's keys of 512-key block `b`. -/
abbrev kiAt (x7 : S1x2048x128.Idx → Elt F .bf16) (b : Fin 4) : Vec F S1x512x64 .bf16 :=
  ldU x7 ![0, 512 * b.val, 0] S1x512x64.size (by revert b; decide)

/-- The scores of 512-key block `b`. -/
def blkAt (x3 : S1x256x1024.Idx → Elt F .bf16) (x4 : S1x256x128.Idx → Elt F .f32) (x7 : S1x2048x128.Idx → Elt F .bf16) (b : Fin 4) :
    FVec F S256x512 .f32 := scoreBlk (wAt x4) (kiAt x7 b) (qiAt x3)

/-- Every score of the block of queries, by query and key. -/
def scoreAll (x3 : S1x256x1024.Idx → Elt F .bf16) (x4 : S1x256x128.Idx → Elt F .f32) (x7 : S1x2048x128.Idx → Elt F .bf16) :
    S256x2048.Idx → Elt F .f32 := fun j =>
  blkAt x3 x4 x7 ⟨(j 1).val / 512, Nat.div_lt_of_lt_mul (j 1).isLt⟩ (ix2 (j 0) ⟨(j 1).val % 512, Nat.mod_lt _ (by decide)⟩)

/-- The scores of the first `N` keys. -/
def scoreN {N : ℕ} (hN : N ≤ 2048) (x3 : S1x256x1024.Idx → Elt F .bf16) (x4 : S1x256x128.Idx → Elt F .f32)
    (x7 : S1x2048x128.Idx → Elt F .bf16) : Vec F (SK N) .f32 :=
  ldU (scoreAll x3 x4 x7) ![0, 0] ![256, N] (by intro a; fin_cases a <;> simp <;> omega)

/-- The masked scores of the first `N` keys. -/
def keysN {N : ℕ} (h : Fit N) (hN : N ≤ 2048) (i : grid0.Coords) (x3 : S1x256x1024.Idx → Elt F .bf16)
    (x4 : S1x256x128.Idx → Elt F .f32) (x7 : S1x2048x128.Idx → Elt F .bf16) : FVec F (SK N) .f32 :=
  maskG (causalG h (k0_pay1 i)) (scoreN hN x3 x4 x7)

/-- The bias of the first `N` keys. -/
def biasN {N : ℕ} (h : Fit N) (hN : N ≤ 2048) (i : grid0.Coords) (x3 : S1x256x1024.Idx → Elt F .bf16)
    (x4 : S1x256x128.Idx → Elt F .f32) (x7 : S1x2048x128.Idx → Elt F .bf16) : FVec F (SK N) .f32 :=
  biasG h (causalG h (k0_pay1 i)) (k0_pay3 i) (keysN h hN i x3 x4 x7)

/-- What head `hd` writes. -/
def headN {N : ℕ} (h : Fit N) (hN : N ≤ 2048) (i : grid0.Coords) (x2 x3 : S1x256x1024.Idx → Elt F .bf16)
    (x4 : S1x256x128.Idx → Elt F .f32) (x5 x6 : S1x2048x1024.Idx → Elt F .bf16) (x7 : S1x2048x128.Idx → Elt F .bf16) (hd : Fin 8) :
    FVec F S1x256x128 .f32 :=
  headG h (ldU x2 ![0, 0, 128 * hd.val] S1x256x128.size (by revert hd; decide))
    (ldU x5 ![0, 0, 128 * hd.val] ![1, N, 128] (by intro a; fin_cases a <;> simp <;> omega))
    (biasN h hN i x3 x4 x7)
    (ldU x6 ![0, 0, 128 * hd.val] ![1, N, 128] (by intro a; fin_cases a <;> simp <;> omega))

/-- Where head `hd` writes. -/
abbrev headRect (hd : Fin 8) : Rect S1x256x1024 := Rect.unit ![0, 0, 128 * hd.val] S1x256x128.size (by revert hd; decide)

/-- The eight stores to the output block, the last first. -/
def headsN {N : ℕ} (h : Fit N) (hN : N ≤ 2048) (i : grid0.Coords) (x2 x3 : S1x256x1024.Idx → Elt F .bf16)
    (x4 : S1x256x128.Idx → Elt F .f32) (x5 x6 : S1x2048x1024.Idx → Elt F .bf16) (x7 : S1x2048x128.Idx → Elt F .bf16) :
    List (View.Piece (Elt F) S1x256x1024 .f32) :=
  [7, 6, 5, 4, 3, 2, 1, 0].map fun hd => ⟨headRect hd, headN h hN i x2 x3 x4 x5 x6 x7 hd⟩

/-- The output block, by query and lane. -/
def outN {N : ℕ} (h : Fit N) (hN : N ≤ 2048) (i : grid0.Coords) (x2 x3 : S1x256x1024.Idx → Elt F .bf16)
    (x4 : S1x256x128.Idx → Elt F .f32) (x5 x6 : S1x2048x1024.Idx → Elt F .bf16) (x7 : S1x2048x128.Idx → Elt F .bf16) :
    S1x256x1024.Idx → Elt F .f32 := fun j =>
  headN h hN i x2 x3 x4 x5 x6 x7 ⟨(j 2).val / 128, Nat.div_lt_of_lt_mul (j 2).isLt⟩
    (ix3 0 (j 1) ⟨(j 2).val % 128, Nat.mod_lt _ (by decide)⟩)

theorem headsN_cover {N : ℕ} (h : Fit N) (hN : N ≤ 2048) (i : grid0.Coords) (x2 x3 : S1x256x1024.Idx → Elt F .bf16)
    (x4 : S1x256x128.Idx → Elt F .f32) (x5 x6 : S1x2048x1024.Idx → Elt F .bf16) (x7 : S1x2048x128.Idx → Elt F .bf16)
    (y : S1x256x1024.Idx) : ∃ p ∈ headsN h hN i x2 x3 x4 x5 x6 x7, y ∈ p.1.set := by
  have h2 : (y 2).val < 1024 := (y 2).isLt
  have h1 : (y 1).val < 256 := (y 1).isLt
  have h0 : (y 0).val < 1 := (y 0).isLt
  have hd : (y 2).val / 128 < 8 := by omega
  refine ⟨⟨headRect ⟨(y 2).val / 128, hd⟩, headN h hN i x2 x3 x4 x5 x6 x7 ⟨(y 2).val / 128, hd⟩⟩, ?_, ?_⟩
  · refine List.mem_map_of_mem ?_
    generalize (⟨(y 2).val / 128, hd⟩ : Fin 8) = z
    revert z; decide
  · rw [Rect.mem_set_unit]
    intro a
    fin_cases a <;> simp <;> omega

theorem canon_headsN {N : ℕ} (h : Fit N) (hN : N ≤ 2048) (i : grid0.Coords) (x2 x3 : S1x256x1024.Idx → Elt F .bf16)
    (x4 : S1x256x128.Idx → Elt F .f32) (x5 x6 : S1x2048x1024.Idx → Elt F .bf16) (x7 : S1x2048x128.Idx → Elt F .bf16) :
    View.canon (headsN h hN i x2 x3 x4 x5 x6 x7) = outN h hN i x2 x3 x4 x5 x6 x7 := by
  funext y
  refine View.canon_apply_of_pieces (outN h hN i x2 x3 x4 x5 x6 x7) _ ?_ y (headsN_cover h hN i x2 x3 x4 x5 x6 x7 y)
  intro p hp x
  obtain ⟨hd, -, rfl⟩ := List.mem_map.1 hp
  have h2 : (x 2).val < 128 := (x 2).isLt
  have h0 : (x 0).val < 1 := (x 0).isLt
  have e2 : ((headRect hd).emb x 2).val = 128 * hd.val + (x 2).val := unit_emb_val _ _ _ x _
  have e1 : (headRect hd).emb x 1 = x 1 := Fin.ext ((unit_emb_val _ _ _ x _).trans (Nat.zero_add _))
  show headN h hN i x2 x3 x4 x5 x6 x7 hd x = outN h hN i x2 x3 x4 x5 x6 x7 ((headRect hd).emb x)
  have hx : x = ix3 0 (x 1) ⟨((headRect hd).emb x 2).val % 128, Nat.mod_lt _ (by decide)⟩ := by
    funext a
    match a with
    | ⟨0, _⟩ => exact Fin.ext (by simp; omega)
    | ⟨1, _⟩ => rfl
    | ⟨2, _⟩ => exact Fin.ext (by simp only [e2]; show (x 2).val = _; omega)
  have hh : (⟨((headRect hd).emb x 2).val / 128, Nat.div_lt_of_lt_mul ((headRect hd).emb x 2).isLt⟩ : Fin 8) = hd :=
    Fin.ext (by simp only [e2]; omega)
  unfold outN
  rw [hh, e1]
  exact congrArg _ hx

theorem blk_in (b : Fin 4) : ∀ a, (![0, 512 * b.val] : Fin 2 → ℕ) a + S256x512.size a ≤ S256x2048.size a := by revert b; decide

/-- Where block `b`'s scores are stored. -/
abbrev blkRect (b : Fin 4) : Rect S256x2048 := Rect.unit ![0, 512 * b.val] S256x512.size (blk_in b)

/-- The score blocks' stores read back are the scores. -/
theorem readCov_blocks {N : ℕ} (hN : N ≤ 2048) (v : View sig .tc .vmem S256x2048 .f32) (x3 : S1x256x1024.Idx → Elt F .bf16)
    (x4 : S1x256x128.Idx → Elt F .f32) (x7 : S1x2048x128.Idx → Elt F .bf16) (bs : List (Fin 4))
    (hb : ∀ b : Fin 4, 512 * b.val < N → b ∈ bs) (hin : ∀ a, (![0, 0] : Fin 2 → ℕ) a + (![256, N] : Fin 2 → ℕ) a ≤ S256x2048.size a) :
    v.readCov (bs.map fun b => (⟨blkRect b, blkAt x3 x4 x7 b⟩ :
      View.Piece (Elt F) S256x2048 .f32)) (Rect.unit ![0, 0] ![256, N] hin).toLoadRect = scoreN hN x3 x4 x7 := by
  rw [View.readCov_eq_canon']
  funext j
  refine View.canon_apply_of_pieces (scoreAll x3 x4 x7) _ ?_ _ ?_
  · intro p hp x
    obtain ⟨b, -, rfl⟩ := List.mem_map.1 hp
    have h1 : (x 1).val < 512 := (x 1).isLt
    show blkAt x3 x4 x7 b x = scoreAll x3 x4 x7 ((blkRect b).emb x)
    generalize hy : (blkRect b).emb x = y
    have e1 : (y 1).val = 512 * b.val + (x 1).val := by subst hy; exact unit_emb_val _ _ (blk_in b) x 1
    have e0 : y 0 = x 0 := by
      subst hy; exact Fin.ext ((unit_emb_val _ _ (blk_in b) x 0).trans (Nat.zero_add _))
    have hx : x = ix2 (x 0) ⟨(y 1).val % 512, Nat.mod_lt _ (by decide)⟩ := by
      funext a
      match a with
      | ⟨0, _⟩ => rfl
      | ⟨1, _⟩ => exact Fin.ext (by simp only [e1]; show (x 1).val = _; omega)
    have hh : (⟨(y 1).val / 512, Nat.div_lt_of_lt_mul (y 1).isLt⟩ : Fin 4) = b := Fin.ext (by simp only [e1]; omega)
    unfold scoreAll
    rw [hh, e0]
    exact congrArg _ hx
  · have h1 : (j 1).val < N := (j 1).isLt
    have h0 : (j 0).val < 256 := (j 0).isLt
    have hq : (j 1).val / 512 < 4 := by omega
    refine ⟨_, List.mem_map_of_mem (hb ⟨(j 1).val / 512, hq⟩ (by show 512 * ((j 1).val / 512) < N; omega)), ?_⟩
    rw [Rect.mem_set_unit]
    intro a
    fin_cases a <;> simp [LoadRect.idx] <;> omega

end Cert.KernelIdeal.Hand
-- ==== Proof.Branches.lean ====
/- The four branches' runs end with the closed form's stores: at 512, 1024, 1536 and 2048 keys. -/
module

public import proofs.«01_k».proof.Proof.Closed

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F] (c : Dev nD) (i : grid0.Coords)
  (arg2 : Memref sig .tc .vmem S1x256x1024 .bf16) (harg2 : arg2.IsWhole) (arg3 : Memref sig .tc .vmem S1x256x1024 .bf16) (harg3 : arg3.IsWhole)
  (arg4 : Memref sig .tc .vmem S1x256x128 .f32) (harg4 : arg4.IsWhole) (arg5 : Memref sig .tc .vmem S1x2048x1024 .bf16) (harg5 : arg5.IsWhole)
  (arg6 : Memref sig .tc .vmem S1x2048x1024 .bf16) (harg6 : arg6.IsWhole) (arg7 : Memref sig .tc .vmem S1x2048x128 .bf16) (harg7 : arg7.IsWhole)
  (arg8 : Memref sig .tc .vmem S1x256x1024 .f32) (harg8 : arg8.IsWhole) (arg9 : Memref sig .tc .vmem S256x2048 .f32) (harg9 : arg9.IsWhole)
  (x2 x3 : S1x256x1024.Idx → Elt F .bf16) (x4 : S1x256x128.Idx → Elt F .f32) (x5 x6 : S1x2048x1024.Idx → Elt F .bf16)
  (x7 : S1x2048x128.Idx → Elt F .bf16) (x9 : S256x2048.Idx → Elt F .f32)

/-! ### 512 keys -/

theorem st_D (hc1 : ¬(k0_cond1 i = 1#1)) (v : IVec S256x1 1) (ca : IVec S256x512 1) (z : FVec F S256x512 .f32) (X : BufTy.Contents (Elt F) arg9.view.ty) (init : Carry F) (n : ℕ) (hn : n ≤ 32) :
    st_k0_t4 Variants.none c none i arg2 harg2 arg3 harg3 arg4 harg4 arg5 harg5 arg6 harg6 arg7 harg7 arg8 harg8 arg9 harg9 v hc1 ca z X init n
      = (stepG fit512 (View.readAt (Elt F) arg9.view (Rect.unit (s := S256x2048) ![0, 0] S256x512.size inb_S256x2048_S256x512_0_0).toLoadRect X : Vec F (SK 512) .f32))^[n] init := by
  induction n with
  | zero => rfl
  | succ n ih =>
    rw [Function.iterate_succ_apply', ← ih (by omega),
      st_k0_t4_succ (k := (⟨n, Nat.lt_of_lt_of_le hn (by decide)⟩ : Fin k0_t4_loop.trips))]
    unfold tripR_k0_t4 trip_k0_t4
    rfl

theorem score_D : runD.sl.v186 arg3 harg3 arg4 harg4 arg7 harg7 arg9 x3 x4 x7 = scoreN (N := 512) (by decide) x3 x4 x7 := by
  refine Eq.trans ?_ (readCov_blocks (by decide) arg9.view x3 x4 x7 [0] (by decide) inb_S256x2048_S256x512_0_0)
  unfold runD.sl.v186 runD.sl.H9_1
  sl_unfold_words
  simp only [readAt_unread_ldU]
  rfl

theorem key_D : runD.sl.v209 i arg3 harg3 arg4 harg4 arg7 harg7 arg9 x3 x4 x7 = keysN fit512 (by decide) i x3 x4 x7 := by
  unfold runD.sl.v209
  rw [View.readCov_cons_toLoadRect]
  rw [score_D]
  exact shapeCast_self _ _

theorem bias_D (hc1 : ¬(k0_cond1 i = 1#1)) : runD.sl.v226 c i arg2 harg2 arg3 harg3 arg4 harg4 arg5 harg5 arg6 harg6 arg7 harg7 arg8 harg8 arg9 harg9 x3 x4 x7 x9 hc1 = biasN fit512 (by decide) i x3 x4 x7 := by
  unfold runD.sl.v226 runD.sl.H9_3
  rw [View.readCov_cons_toLoadRect]
  rw [st_D (hn := by decide)]
  rw [readAt_writes_cons, key_D, show k0_pay195 (runD.sl.r i) (runD.sl.v186 arg3 harg3 arg4 harg4 arg7 harg7 arg9 x3 x4 x7) = keysN fit512 (by decide) i x3 x4 x7 by
    rw [score_D]; exact shapeCast_self _ _, score_D, show Scf.trips k0_t4_loop.lb k0_t4_loop.ub k0_t4_loop.st = 32 by decide]
  unfold k0_pay208
  dsimp only
  rw [shapeCast_self]
  rfl

theorem runD_eq (hc1 : ¬(k0_cond1 i = 1#1)) : (runD c i arg2 harg2 arg3 harg3 arg4 harg4 arg5 harg5 arg6 harg6 arg7 harg7 arg8 harg8 arg9 harg9 x2 x3 x4 x5 x6 x7 x9 hc1).1 = headsN fit512 (by decide) i x2 x3 x4 x5 x6 x7 := by
  unfold runD
  dsimp only
  simp only [runD.sl.r_17, runD.sl.r_9, runD.sl.r_16, runD.sl.r_13, runD.sl.r_11, runD.sl.r_12, runD.sl.r_10, runD.sl.r_15, runD.sl.r_14, bias_D, readAt_unread_ldU]
  rfl

/-! ### 1024 keys -/

theorem st_C (hc1 : k0_cond1 i = 1#1) (hc2 : ¬(k0_cond2 i = 1#1)) (v : IVec S256x1 1) (ca : IVec S256x1024 1)  (X : BufTy.Contents (Elt F) arg9.view.ty) (init : Carry F) (n : ℕ) (hn : n ≤ 32) :
    st_k0_t3 Variants.none c none i arg2 harg2 arg3 harg3 arg4 harg4 arg5 harg5 arg6 harg6 arg7 harg7 arg8 harg8 arg9 harg9 v hc1 hc2 ca  X init n
      = (stepG fit1024 (View.readAt (Elt F) arg9.view (Rect.unit (s := S256x2048) ![0, 0] S256x1024.size inb_S256x2048_S256x1024_0_0).toLoadRect X : Vec F (SK 1024) .f32))^[n] init := by
  induction n with
  | zero => rfl
  | succ n ih =>
    rw [Function.iterate_succ_apply', ← ih (by omega),
      st_k0_t3_succ (k := (⟨n, Nat.lt_of_lt_of_le hn (by decide)⟩ : Fin k0_t3_loop.trips))]
    unfold tripR_k0_t3 trip_k0_t3
    rfl

theorem score_C : runC.sl.v338 arg3 harg3 arg4 harg4 arg7 harg7 arg9 x3 x4 x7 = scoreN (N := 1024) (by decide) x3 x4 x7 := by
  refine Eq.trans ?_ (readCov_blocks (by decide) arg9.view x3 x4 x7 [1, 0] (by decide) inb_S256x2048_S256x1024_0_0)
  unfold runC.sl.v338 runC.sl.H9_2
  sl_unfold_words
  simp only [readAt_unread_ldU]
  rfl

theorem key_C : runC.sl.v361 i arg3 harg3 arg4 harg4 arg7 harg7 arg9 x3 x4 x7 = keysN fit1024 (by decide) i x3 x4 x7 := by
  unfold runC.sl.v361
  rw [View.readCov_cons_toLoadRect]
  rw [score_C]
  exact shapeCast_self _ _

theorem bias_C (hc1 : k0_cond1 i = 1#1) (hc2 : ¬(k0_cond2 i = 1#1)) : runC.sl.v378 c i arg2 harg2 arg3 harg3 arg4 harg4 arg5 harg5 arg6 harg6 arg7 harg7 arg8 harg8 arg9 harg9 x3 x4 x7 x9 hc1 hc2 = biasN fit1024 (by decide) i x3 x4 x7 := by
  unfold runC.sl.v378 runC.sl.H9_4
  rw [View.readCov_cons_toLoadRect]
  rw [st_C (hn := by decide)]
  rw [readAt_writes_cons, key_C, show k0_pay149 (runC.sl.r i) (runC.sl.v338 arg3 harg3 arg4 harg4 arg7 harg7 arg9 x3 x4 x7) = keysN fit1024 (by decide) i x3 x4 x7 by
    rw [score_C]; exact shapeCast_self _ _, score_C, show Scf.trips k0_t3_loop.lb k0_t3_loop.ub k0_t3_loop.st = 32 by decide]
  unfold k0_pay162
  dsimp only
  rw [shapeCast_self]
  rfl

theorem runC_eq (hc1 : k0_cond1 i = 1#1) (hc2 : ¬(k0_cond2 i = 1#1)) : (runC c i arg2 harg2 arg3 harg3 arg4 harg4 arg5 harg5 arg6 harg6 arg7 harg7 arg8 harg8 arg9 harg9 x2 x3 x4 x5 x6 x7 x9 hc1 hc2).1 = headsN fit1024 (by decide) i x2 x3 x4 x5 x6 x7 := by
  unfold runC
  dsimp only
  simp only [runC.sl.r_19, runC.sl.r_20, runC.sl.r_27, runC.sl.r_21, runC.sl.r_24, runC.sl.r_23, runC.sl.r_22, runC.sl.r_16, runC.sl.r_17, runC.sl.r_18, runC.sl.r_26, runC.sl.r_25, bias_C, readAt_unread_ldU]
  rfl

/-! ### 1536 keys -/

theorem st_B (hc1 : k0_cond1 i = 1#1) (hc2 : k0_cond2 i = 1#1) (hc3 : ¬(k0_cond3 i = 1#1)) (v : IVec S256x1 1) (ca : IVec S256x1536 1) (z z2 : FVec F S256x1536 .f32) (X : BufTy.Contents (Elt F) arg9.view.ty) (init : Carry F) (n : ℕ) (hn : n ≤ 32) :
    st_k0_t2 Variants.none c none i arg2 harg2 arg3 harg3 arg4 harg4 arg5 harg5 arg6 harg6 arg7 harg7 arg8 harg8 arg9 harg9 v hc1 hc2 hc3 ca z z2 X init n
      = (stepG fit1536 (View.readAt (Elt F) arg9.view (Rect.unit (s := S256x2048) ![0, 0] S256x1536.size inb_S256x2048_S256x1536_0_0).toLoadRect X : Vec F (SK 1536) .f32))^[n] init := by
  induction n with
  | zero => rfl
  | succ n ih =>
    rw [Function.iterate_succ_apply', ← ih (by omega),
      st_k0_t2_succ (k := (⟨n, Nat.lt_of_lt_of_le hn (by decide)⟩ : Fin k0_t2_loop.trips))]
    unfold tripR_k0_t2 trip_k0_t2
    rfl

theorem score_B : runB.sl.v490 arg3 harg3 arg4 harg4 arg7 harg7 arg9 x3 x4 x7 = scoreN (N := 1536) (by decide) x3 x4 x7 := by
  refine Eq.trans ?_ (readCov_blocks (by decide) arg9.view x3 x4 x7 [2, 1, 0] (by decide) inb_S256x2048_S256x1536_0_0)
  unfold runB.sl.v490 runB.sl.H9_3
  sl_unfold_words
  simp only [readAt_unread_ldU]
  rfl

theorem key_B : runB.sl.v513 i arg3 harg3 arg4 harg4 arg7 harg7 arg9 x3 x4 x7 = keysN fit1536 (by decide) i x3 x4 x7 := by
  unfold runB.sl.v513
  rw [View.readCov_cons_toLoadRect]
  rw [score_B]
  exact shapeCast_self _ _

theorem bias_B (hc1 : k0_cond1 i = 1#1) (hc2 : k0_cond2 i = 1#1) (hc3 : ¬(k0_cond3 i = 1#1)) : runB.sl.v530 c i arg2 harg2 arg3 harg3 arg4 harg4 arg5 harg5 arg6 harg6 arg7 harg7 arg8 harg8 arg9 harg9 x3 x4 x7 x9 hc1 hc2 hc3 = biasN fit1536 (by decide) i x3 x4 x7 := by
  unfold runB.sl.v530 runB.sl.H9_5
  rw [View.readCov_cons_toLoadRect]
  rw [st_B (hn := by decide)]
  rw [readAt_writes_cons, key_B, show k0_pay101 (runB.sl.r i) (runB.sl.v490 arg3 harg3 arg4 harg4 arg7 harg7 arg9 x3 x4 x7) k0_pay99 = keysN fit1536 (by decide) i x3 x4 x7 by
    rw [score_B]; exact shapeCast_self _ _, score_B, show Scf.trips k0_t2_loop.lb k0_t2_loop.ub k0_t2_loop.st = 32 by decide]
  unfold k0_pay114
  dsimp only
  rw [shapeCast_self]
  rfl

theorem runB_eq (hc1 : k0_cond1 i = 1#1) (hc2 : k0_cond2 i = 1#1) (hc3 : ¬(k0_cond3 i = 1#1)) : (runB c i arg2 harg2 arg3 harg3 arg4 harg4 arg5 harg5 arg6 harg6 arg7 harg7 arg8 harg8 arg9 harg9 x2 x3 x4 x5 x6 x7 x9 hc1 hc2 hc3).1 = headsN fit1536 (by decide) i x2 x3 x4 x5 x6 x7 := by
  unfold runB
  dsimp only
  simp only [runB.sl.r_22, runB.sl.r_31, runB.sl.r_26, runB.sl.r_25, runB.sl.r_30, runB.sl.r_23, runB.sl.r_29, runB.sl.r_27, runB.sl.r_24, runB.sl.r_28, bias_B, readAt_unread_ldU]
  rfl

/-! ### 2048 keys -/

theorem st_A (hc1 : k0_cond1 i = 1#1) (hc2 : k0_cond2 i = 1#1) (hc3 : k0_cond3 i = 1#1) (v : IVec S256x1 1) (ca : IVec S256x2048 1) (z : FVec F S256x2048 .f32) (X : BufTy.Contents (Elt F) arg9.view.ty) (init : Carry F) (n : ℕ) (hn : n ≤ 32) :
    st_k0_t1 Variants.none c none i arg2 harg2 arg3 harg3 arg4 harg4 arg5 harg5 arg6 harg6 arg7 harg7 arg8 harg8 arg9 harg9 v hc1 hc2 hc3 ca z X init n
      = (stepG fit2048 (View.readAt (Elt F) arg9.view (Rect.unit (s := S256x2048) ![0, 0] S256x2048.size inb_S256x2048_S256x2048_0_0).toLoadRect X : Vec F (SK 2048) .f32))^[n] init := by
  induction n with
  | zero => rfl
  | succ n ih =>
    rw [Function.iterate_succ_apply', ← ih (by omega),
      st_k0_t1_succ (k := (⟨n, Nat.lt_of_lt_of_le hn (by decide)⟩ : Fin k0_t1_loop.trips))]
    unfold tripR_k0_t1 trip_k0_t1
    rfl

theorem score_A : runA.sl.v640 arg3 harg3 arg4 harg4 arg7 harg7 arg9 x3 x4 x7 = scoreN (N := 2048) (by decide) x3 x4 x7 := by
  refine Eq.trans ?_ (readCov_blocks (by decide) arg9.view x3 x4 x7 [3, 2, 1, 0] (by decide) inb_S256x2048_S256x2048_0_0)
  unfold runA.sl.v640 runA.sl.H9_4
  sl_unfold_words
  simp only [readAt_unread_ldU]
  rfl

theorem key_A : runA.sl.v663 i arg3 harg3 arg4 harg4 arg7 harg7 arg9 x3 x4 x7 = keysN fit2048 (by decide) i x3 x4 x7 := by
  unfold runA.sl.v663 runA.sl.H9_5
  rw [View.readCov_cons_toLoadRect]
  unfold runA.sl.r_29
  rw [score_A]
  exact shapeCast_self _ _

theorem bias_A (hc1 : k0_cond1 i = 1#1) (hc2 : k0_cond2 i = 1#1) (hc3 : k0_cond3 i = 1#1) : runA.sl.v680 c i arg2 harg2 arg3 harg3 arg4 harg4 arg5 harg5 arg6 harg6 arg7 harg7 arg8 harg8 arg9 harg9 x3 x4 x7 hc1 hc2 hc3 = biasN fit2048 (by decide) i x3 x4 x7 := by
  unfold runA.sl.v680 runA.sl.H9_6
  rw [View.readCov_cons_toLoadRect]
  rw [st_A (hn := by decide)]
  unfold runA.sl.H9_5 runA.sl.r_29
  rw [readAt_writes_cons, key_A, show k0_pay42 (k0_pay41 (runA.sl.r i) (runA.sl.v640 arg3 harg3 arg4 harg4 arg7 harg7 arg9 x3 x4 x7)) = keysN fit2048 (by decide) i x3 x4 x7 by
    rw [score_A]; exact shapeCast_self _ _, score_A, show Scf.trips k0_t1_loop.lb k0_t1_loop.ub k0_t1_loop.st = 32 by decide]
  unfold k0_pay55
  dsimp only
  rw [shapeCast_self]
  rfl

theorem runA_eq (hc1 : k0_cond1 i = 1#1) (hc2 : k0_cond2 i = 1#1) (hc3 : k0_cond3 i = 1#1) : (runA c i arg2 harg2 arg3 harg3 arg4 harg4 arg5 harg5 arg6 harg6 arg7 harg7 arg8 harg8 arg9 harg9 x2 x3 x4 x5 x6 x7 x9 hc1 hc2 hc3).1 = headsN fit2048 (by decide) i x2 x3 x4 x5 x6 x7 := by
  unfold runA
  dsimp only
  simp only [runA.sl.r_31, runA.sl.cst_508, runA.sl.r_39, runA.sl.r_40, runA.sl.r_37, runA.sl.r_34, runA.sl.r_30, runA.sl.r_36, runA.sl.r_32, runA.sl.r_33, runA.sl.r_38, runA.sl.r_35, runA.sl.cst_301, bias_A, readAt_unread_ldU]
  rfl

end Cert.KernelIdeal.Hand
-- ==== Proof.Launch.lean ====
/- The kernel's launch: the output block each grid point leaves, the body's obligation at every point, and the run of
   `@main`, over any float model. -/
module

public import proofs.«01_k».proof.Proof.Branches
public import proofs.«01_k».proof.Proof.Gen.KernelIdeal.Launch
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The output block the body leaves at grid coordinates `i`: the keys it attends over are the first 512, 1024, 1536 or
    2048, as the query tile asks. -/
def outAt (i : grid0.Coords) (x2 x3 : S1x256x1024.Idx → Elt F .bf16) (x4 : S1x256x128.Idx → Elt F .f32)
    (x5 x6 : S1x2048x1024.Idx → Elt F .bf16) (x7 : S1x2048x128.Idx → Elt F .bf16) : S1x256x1024.Idx → F .f32 :=
  if k0_cond1 i = 1#1 then
    if k0_cond2 i = 1#1 then
      if k0_cond3 i = 1#1 then outN fit2048 (by decide) i x2 x3 x4 x5 x6 x7 else outN fit1536 (by decide) i x2 x3 x4 x5 x6 x7
    else outN fit1024 (by decide) i x2 x3 x4 x5 x6 x7
  else outN fit512 (by decide) i x2 x3 x4 x5 x6 x7

/-- The stores of a run, read back. -/
theorem read_heads {N : ℕ} (h : Fit N) (hN : N ≤ 2048) (i : grid0.Coords) (arg8 : Memref sig .tc .vmem S1x256x1024 .f32)
    (f8 : BufTy.Contents (Elt F) arg8.view.ty) (x2 x3 : S1x256x1024.Idx → Elt F .bf16) (x4 : S1x256x128.Idx → Elt F .f32)
    (x5 x6 : S1x2048x1024.Idx → Elt F .bf16) (x7 : S1x2048x128.Idx → Elt F .bf16) :
    arg8.view.read (Elt F) (arg8.view.writes (Elt F) f8 (headsN h hN i x2 x3 x4 x5 x6 x7)) = outN h hN i x2 x3 x4 x5 x6 x7 :=
  (View.read_writes_eq_canon _ _ _ (headsN_cover h hN i x2 x3 x4 x5 x6 x7)).trans (canon_headsN h hN i x2 x3 x4 x5 x6 x7)

/-- A branch's run is the body's triple: the inputs are kept, the output ends at `outAt`. -/
theorem kernel_of_ran (c : Dev nD) (i : grid0.Coords)
  (arg2 : Memref sig .tc .vmem S1x256x1024 .bf16) (harg2 : arg2.IsWhole) (arg3 : Memref sig .tc .vmem S1x256x1024 .bf16) (harg3 : arg3.IsWhole)
  (arg4 : Memref sig .tc .vmem S1x256x128 .f32) (harg4 : arg4.IsWhole) (arg5 : Memref sig .tc .vmem S1x2048x1024 .bf16) (harg5 : arg5.IsWhole)
  (arg6 : Memref sig .tc .vmem S1x2048x1024 .bf16) (harg6 : arg6.IsWhole) (arg7 : Memref sig .tc .vmem S1x2048x128 .bf16) (harg7 : arg7.IsWhole)
  (arg8 : Memref sig .tc .vmem S1x256x1024 .f32) (harg8 : arg8.IsWhole) (arg9 : Memref sig .tc .vmem S256x2048 .f32) (harg9 : arg9.IsWhole)
  (x2 x3 : S1x256x1024.Idx → Elt F .bf16) (x4 : S1x256x128.Idx → Elt F .f32) (x5 x6 : S1x2048x1024.Idx → Elt F .bf16)
  (x7 : S1x2048x128.Idx → Elt F .bf16) (L : List (View.Piece (Elt F) S1x256x1024 .f32))
  (f9 : BufTy.Contents (Elt F) arg9.view.ty)
  (hrun : Ran c i arg2 harg2 arg3 harg3 arg4 harg4 arg5 harg5 arg6 harg6 arg7 harg7 arg8 harg8 arg9 harg9 x2 x3 x4 x5 x6 x7 (arg9.view.read (Elt F) f9) L)
  (hL : ∀ f8, arg8.view.read (Elt F) (arg8.view.writes (Elt F) f8 L) = outAt i x2 x3 x4 x5 x6 x7) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (arg9.view.loc (c : Thread nD τ) ↦[arg9.view.set]{fullShare} f9)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (outAt i x2 x3 x4 x5 x6 x7)
            ∗ (∃ f, arg9.view.loc (c : Thread nD τ) ↦[arg9.view.set]{fullShare} f)) -∗ K ⟨⟩))
      ⊢ wp frame (wpE (defs₀ (F := F)) Variants.none c none) Set.univ (cc0_dsa_prompt i arg2 harg2 arg3 harg3 arg4 harg4 arg5 harg5 arg6 harg6 arg7 harg7 arg8 harg8 arg9 harg9) K := by
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, H9, Hk⟩
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  iapply (hrun f8 Set.univ K)
  rw [harg9.unread_read f9]
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iintro ⟨H2, H3, H4, H5, H6, H7, H8, H9⟩
  iapply Hk
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr; · ipureintro; exact hf6
    iexact H6
  isplitl [H7]
  · iexists _; isplitr; · ipureintro; exact hf7
    iexact H7
  isplitl [H8]
  · iexists _; isplitr; · ipureintro; exact hL f8
    iexact H8
  iexact H9

/-- The kernel body on whole staging buffers at `x2 … x7`, the scratch at anything, ends with the output at `outAt`. -/
theorem sound_kernel (c : Dev nD) (i : grid0.Coords)
  (arg2 : Memref sig .tc .vmem S1x256x1024 .bf16) (harg2 : arg2.IsWhole) (arg3 : Memref sig .tc .vmem S1x256x1024 .bf16) (harg3 : arg3.IsWhole)
  (arg4 : Memref sig .tc .vmem S1x256x128 .f32) (harg4 : arg4.IsWhole) (arg5 : Memref sig .tc .vmem S1x2048x1024 .bf16) (harg5 : arg5.IsWhole)
  (arg6 : Memref sig .tc .vmem S1x2048x1024 .bf16) (harg6 : arg6.IsWhole) (arg7 : Memref sig .tc .vmem S1x2048x128 .bf16) (harg7 : arg7.IsWhole)
  (arg8 : Memref sig .tc .vmem S1x256x1024 .f32) (harg8 : arg8.IsWhole) (arg9 : Memref sig .tc .vmem S256x2048 .f32) (harg9 : arg9.IsWhole)
  (x2 x3 : S1x256x1024.Idx → Elt F .bf16) (x4 : S1x256x128.Idx → Elt F .f32) (x5 x6 : S1x2048x1024.Idx → Elt F .bf16)
  (x7 : S1x2048x128.Idx → Elt F .bf16)
  (f9 : BufTy.Contents (Elt F) arg9.view.ty) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (arg9.view.loc (c : Thread nD τ) ↦[arg9.view.set]{fullShare} f9)
        ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (outAt i x2 x3 x4 x5 x6 x7)
            ∗ (∃ f, arg9.view.loc (c : Thread nD τ) ↦[arg9.view.set]{fullShare} f)) -∗ K ⟨⟩))
      ⊢ wp frame (wpE (defs₀ (F := F)) Variants.none c none) Set.univ (cc0_dsa_prompt i arg2 harg2 arg3 harg3 arg4 harg4 arg5 harg5 arg6 harg6 arg7 harg7 arg8 harg8 arg9 harg9) K := by
  by_cases hc1 : k0_cond1 i = 1#1
  · by_cases hc2 : k0_cond2 i = 1#1
    · by_cases hc3 : k0_cond3 i = 1#1
      · refine kernel_of_ran c i arg2 harg2 arg3 harg3 arg4 harg4 arg5 harg5 arg6 harg6 arg7 harg7 arg8 harg8 arg9 harg9 x2 x3 x4 x5 x6 x7 _ f9 (runA c i arg2 harg2 arg3 harg3 arg4 harg4 arg5 harg5 arg6 harg6 arg7 harg7 arg8 harg8 arg9 harg9 x2 x3 x4 x5 x6 x7 (arg9.view.read (Elt F) f9) hc1 hc2 hc3).2 (fun f8 => ?_) K
        rw [runA_eq, read_heads]; unfold outAt; simp only [if_pos hc1, if_pos hc2, if_pos hc3]
      · refine kernel_of_ran c i arg2 harg2 arg3 harg3 arg4 harg4 arg5 harg5 arg6 harg6 arg7 harg7 arg8 harg8 arg9 harg9 x2 x3 x4 x5 x6 x7 _ f9 (runB c i arg2 harg2 arg3 harg3 arg4 harg4 arg5 harg5 arg6 harg6 arg7 harg7 arg8 harg8 arg9 harg9 x2 x3 x4 x5 x6 x7 (arg9.view.read (Elt F) f9) hc1 hc2 hc3).2 (fun f8 => ?_) K
        rw [runB_eq, read_heads]; unfold outAt; simp only [if_pos hc1, if_pos hc2, if_neg hc3]
    · refine kernel_of_ran c i arg2 harg2 arg3 harg3 arg4 harg4 arg5 harg5 arg6 harg6 arg7 harg7 arg8 harg8 arg9 harg9 x2 x3 x4 x5 x6 x7 _ f9 (runC c i arg2 harg2 arg3 harg3 arg4 harg4 arg5 harg5 arg6 harg6 arg7 harg7 arg8 harg8 arg9 harg9 x2 x3 x4 x5 x6 x7 (arg9.view.read (Elt F) f9) hc1 hc2).2 (fun f8 => ?_) K
      rw [runC_eq, read_heads]; unfold outAt; simp only [if_pos hc1, if_neg hc2]
  · refine kernel_of_ran c i arg2 harg2 arg3 harg3 arg4 harg4 arg5 harg5 arg6 harg6 arg7 harg7 arg8 harg8 arg9 harg9 x2 x3 x4 x5 x6 x7 _ f9 (runD c i arg2 harg2 arg3 harg3 arg4 harg4 arg5 harg5 arg6 harg6 arg7 harg7 arg8 harg8 arg9 harg9 x2 x3 x4 x5 x6 x7 (arg9.view.read (Elt F) f9) hc1).2 (fun f8 => ?_) K
    rw [runD_eq, read_heads]; unfold outAt; simp only [if_neg hc1]

variable (m : (ℓ : Loc nD τ sig) → Buf (Elt F) ℓ) (ρ : Dev nD → PrngReg)

/-- The query block at point `t`. -/
def xb2 (c : Dev nD) (t : Fin cfg0.N) : S1x256x1024.Idx → Elt F .bf16 := X0_0 m c t
/-- The indexer query block at point `t`. -/
def xb3 (c : Dev nD) (t : Fin cfg0.N) : S1x256x1024.Idx → Elt F .bf16 := X0_1 m c t
/-- The weight block at point `t`. -/
def xb4 (c : Dev nD) (t : Fin cfg0.N) : S1x256x128.Idx → Elt F .f32 := iblk m c 2 t
/-- The key block at point `t`. -/
def xb5 (c : Dev nD) (t : Fin cfg0.N) : S1x2048x1024.Idx → Elt F .bf16 := X0_3 m c t
/-- The value block at point `t`. -/
def xb6 (c : Dev nD) (t : Fin cfg0.N) : S1x2048x1024.Idx → Elt F .bf16 := X0_4 m c t
/-- The indexer key block at point `t`. -/
def xb7 (c : Dev nD) (t : Fin cfg0.N) : S1x2048x128.Idx → Elt F .bf16 := iblk m c 5 t

/-- The scratch buffer whole, as its memref names it. -/
theorem scratch_whole (c : Dev nD) (f : BufTy.Contents (Elt F) (Memref.whole cc0_scratch0).view.ty) :
    ((Memref.whole cc0_scratch0).view.loc (c : Thread nD τ) ↦[(Memref.whole cc0_scratch0).view.set]{fullShare} f : sProp 𝕄)
      = (((c : Thread nD τ).loc cc0_scratch0) ↦{fullShare} f) := by
  rw [show (Memref.whole cc0_scratch0).view.set = Finset.univ from View.set_whole _]

/-- The invariant opened: the scratch at some contents, and the generator register. -/
theorem inv_open (c : Dev nD) : (Pipeline.ΦA spec0 c : sProp 𝕄)
    = iprop((∃ f, (Memref.whole cc0_scratch0).view.loc (c : Thread nD τ) ↦[(Memref.whole cc0_scratch0).view.set]{fullShare} f) ∗ ∃ r, prngReg c r) := by
  unfold Pipeline.ΦA
  rw [scopedRest0_eq]
  exact congrArg (fun P : Buf (Elt F) ((c : Thread nD τ).loc cc0_scratch0) → sProp 𝕄 => iprop((∃ f, P f) ∗ ∃ r, prngReg c r)) (funext fun f => (scratch_whole c f).symm)

/-- The one pipeline's proof data on core `c`: the inputs stay at their blocks, the output is left at `outAt`. -/
def dats (_ : Fin 1) (c : Dev nD) : Dat τ (Elt F) Unit ℕ (UR sig nD τ) ℕ cfg0 c where
  A w := V m c (Pipeline.arrRef spec0 w)
  after w t := match w with
    | ⟨0, _⟩ => xb2 m c t
    | ⟨1, _⟩ => xb3 m c t
    | ⟨2, _⟩ => xb4 m c t
    | ⟨3, _⟩ => xb5 m c t
    | ⟨4, _⟩ => xb6 m c t
    | ⟨5, _⟩ => xb7 m c t
    | ⟨6, _⟩ => outAt (grid0.coords t) (xb2 m c t) (xb3 m c t) (xb4 m c t) (xb5 m c t) (xb6 m c t) (xb7 m c t)
  Φ _ := Pipeline.ΦA spec0 c
  q := Pipeline.shareOf spec0
  owed _ := 0

theorem dats_A (c : Dev nD) (w : Fin cfg0.W) : (dats m 0 c).A w = V m c (Pipeline.arrRef spec0 w) := by
  dsimp only [dats]

theorem left_0 (c : Dev nD) (t : Fin cfg0.N) : (dats m 0 c).after 0 t = xb2 m c t := by dsimp only [dats]
theorem left_1 (c : Dev nD) (t : Fin cfg0.N) : (dats m 0 c).after 1 t = xb3 m c t := by dsimp only [dats]
theorem left_2 (c : Dev nD) (t : Fin cfg0.N) : (dats m 0 c).after 2 t = xb4 m c t := by dsimp only [dats]
theorem left_3 (c : Dev nD) (t : Fin cfg0.N) : (dats m 0 c).after 3 t = xb5 m c t := by dsimp only [dats]
theorem left_4 (c : Dev nD) (t : Fin cfg0.N) : (dats m 0 c).after 4 t = xb6 m c t := by dsimp only [dats]
theorem left_5 (c : Dev nD) (t : Fin cfg0.N) : (dats m 0 c).after 5 t = xb7 m c t := by dsimp only [dats]
theorem left_6 (c : Dev nD) (t : Fin cfg0.N) : (dats m 0 c).after 6 t = outAt (grid0.coords t) (xb2 m c t) (xb3 m c t) (xb4 m c t) (xb5 m c t) (xb6 m c t) (xb7 m c t) := by dsimp only [dats]

theorem held_0 (c : Dev nD) (t : Fin cfg0.N) (d) : (dats m 0 c).before 0 t d = xb2 m c t :=
  (before0_0_of m (dats m 0 c) (dats_A m c 0) (fun t => (left_0 m c t).trans (by unfold xb2; rfl)) t d).trans (by unfold xb2; rfl)
theorem held_1 (c : Dev nD) (t : Fin cfg0.N) (d) : (dats m 0 c).before 1 t d = xb3 m c t :=
  (before0_1_of m (dats m 0 c) (dats_A m c 1) (fun t => (left_1 m c t).trans (by unfold xb3; rfl)) t d).trans (by unfold xb3; rfl)
theorem held_2 (c : Dev nD) (t : Fin cfg0.N) (d) : (dats m 0 c).before 2 t d = xb4 m c t :=
  (before0_2_of m (dats m 0 c) (dats_A m c 2) (fun t => (left_2 m c t).trans (by unfold xb4; rfl)) t d).trans (by unfold xb4; rfl)
theorem held_3 (c : Dev nD) (t : Fin cfg0.N) (d) : (dats m 0 c).before 3 t d = xb5 m c t :=
  (before0_3_of m (dats m 0 c) (dats_A m c 3) (fun t => (left_3 m c t).trans (by unfold xb5; rfl)) t d).trans (by unfold xb5; rfl)
theorem held_4 (c : Dev nD) (t : Fin cfg0.N) (d) : (dats m 0 c).before 4 t d = xb6 m c t :=
  (before0_4_of m (dats m 0 c) (dats_A m c 4) (fun t => (left_4 m c t).trans (by unfold xb6; rfl)) t d).trans (by unfold xb6; rfl)
theorem held_5 (c : Dev nD) (t : Fin cfg0.N) (d) : (dats m 0 c).before 5 t d = xb7 m c t :=
  (before0_5_of m (dats m 0 c) (dats_A m c 5) (fun t => (left_5 m c t).trans (by unfold xb7; rfl)) t d).trans (by unfold xb7; rfl)

/-- What the body is called with at point `t`. -/
def called (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What it returns. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

theorem sound_point (c : Dev nD) (t : Fin cfg0.N) :
    called m c t ⊢ wp frame (wpE (defs₀ (F := F)) Variants.none c none) Set.univ (bodyAt0 t) (fun _ => returned m c t) := by
  unfold called returned bodyAt0
  simp only [held_0, held_1, held_2, held_3, held_4, held_5]
  rw [show (dats m 0 c).Φ t.succ = (dats m 0 c).Φ t.castSucc from rfl,
    show (dats m 0 c).owesAt () t.succ = (dats m 0 c).owesAt () t.castSucc from rfl,
    left_0, left_1, left_2, left_3, left_4, left_5, left_6,
    show (dats m 0 c).Φ t.castSucc = Pipeline.ΦA spec0 c from rfl, inv_open]
  iintro ⟨⟨⟨%f9, H9⟩, Hr⟩, Ho, ⟨%d0, H0⟩, ⟨%d1, H1⟩, ⟨%d2, H2⟩, ⟨%d3, H3⟩, ⟨%d4, H4⟩, ⟨%d5, H5⟩, ⟨%d6, H6⟩⟩
  iapply (sound_kernel c (grid0.coords t) _ _ _ _ _ _ _ _ _ _ _ _ _ _ (Memref.whole cc0_scratch0) (Memref.isWhole_whole _) (xb2 m c t) (xb3 m c t) (xb4 m c t) (xb5 m c t) (xb6 m c t) (xb7 m c t) f9 _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H9]; · iexact H9
  iintro ⟨H0, H1, H2, H3, H4, H5, H6, ⟨%g9, H9⟩⟩
  isplitl [H9 Hr]
  · isplitl [H9]; · iexists g9; iexact H9
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem row_body (t : Fin cfg0.N) :
    defs₀ (F := F) .tc cfg0.body (cfg0.bodyArgs t (cfg0.slots t)) = bodyAt0 t := by
  unfold defs₀; rw [Defs.onTc_tc]

/-- Every grid point stores its output: one of the four branches is taken. -/
theorem never_idle (i : grid0.Coords) : cfg0.idle 6 i = false := by
  show idle0 6 i = false
  dsimp only [idle0]
  generalize k0_cond1 i = a, k0_cond2 i = b, k0_cond3 i = d
  revert a b d
  decide

/-- The body's obligation at every point. -/
theorem obligation (c : Dev nD) : BodyObligation (dats (F := F) m 0 c) (defs₀ (F := F)) Variants.none () Set.univ := fun t => by
  rw [bigSep_W0, bigSep_W0, row_body]
  have e : idle0 6 (grid0.coords t) = false := never_idle _
  dsimp only
  rw [e]
  exact triple_restated (sound_point m c t) rfl .rfl fun _ => .rfl

set_option backward.isDefEq.respectTransparency.types false in
set_option maxHeartbeats 4000000 in
/-- The run: every execution of `@main` ends, each array at what the proof data says, and every counter at zero. -/
theorem run_ends : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := dats_A m) (hΦ := fun _ _ => rfl)

theorem run_post : θ_run defs (onTc (τ := τ) (main (F := F))) (s₀ m ρ) (Pipeline.FramePost cfgs (dats m) 0 (V m)) :=
  (θ_run defs _ _).mono (fun _ h => h.1) (run_ends m ρ)

/-- The argument is unchanged and every counter is back at zero, over any float model. -/
theorem run_main : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (frame_of m ρ (dats m) (dats_A m) (run_post m ρ)) ((θ_run defs _ _).mono (fun _ h => h.2) (run_ends m ρ))

end Cert.KernelIdeal.Hand
-- ==== Proof.Reference.lean ====
/- The reference's frame, read off its run. -/
module

public import proofs.«01_k».proof.Proof.Gen.ReferenceIdeal.Run
public import proofs.«01_k».proof.Proof.Gen.ReferenceIdeal.Read

@[expose] public section

namespace Cert.ReferenceIdeal.Hand

open Cert.ReferenceIdeal Idealize.ShloMosaic Idealize.SL.Sem

variable {F : FTy → Type} [FloatOps F]

/-- The argument is unchanged and every counter is back at zero. -/
theorem run_main (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  (θ_run defs _ _).mono (fun r h => ⟨fun c => (h c).2, sem_eq_zero_of_no_sems (by decide) r.2⟩) (Value.run m ρ)

end Cert.ReferenceIdeal.Hand
-- ==== Proof.Select.lean ====
/- Selecting the 256 best keys of a row: the stable sort's first 256, and the keys at least a threshold lying between the
   256th and the 257th score, are the same keys; and the halving of a bracket finds such a threshold. Plain mathematics on
   extended reals, no program. -/
module

public import Idealize.ShloMosaic.Lib.SortFacts
public import Idealize.ShloMosaic.PureOps.Ideal.Laws

@[expose] public section

noncomputable section

namespace Cert.Select

open Idealize.ShloMosaic

/-- `σ` lists the positions by descending score, equal scores by position. -/
structure Sorted {n : ℕ} (s : Fin n → EReal) (σ : Fin n → Fin n) : Prop where
  inj : Function.Injective σ
  desc : ∀ i i' : Fin n, i < i' → s (σ i') < s (σ i) ∨ (s (σ i') = s (σ i) ∧ σ i < σ i')

theorem pairwise_insertBefore_stable {n : ℕ} (s : Fin n → EReal) (a : Fin n) (l : List (Fin n))
    (hl : l.Pairwise fun b c => s c < s b ∨ (s c = s b ∧ b < c)) (ha : ∀ b ∈ l, a < b) :
    (insertBefore (fun k k' => decide (s k' < s k)) a l).Pairwise fun b c => s c < s b ∨ (s c = s b ∧ b < c) := by
  induction l with
  | nil => exact List.pairwise_singleton _ _
  | cons b l ih =>
    rw [List.pairwise_cons] at hl
    unfold insertBefore
    split
    · rename_i hb
      have hb : s a < s b := by simpa using hb
      refine List.pairwise_cons.2 ⟨fun c hc => ?_, ih hl.2 fun c hc => ha c (List.mem_cons_of_mem _ hc)⟩
      rcases List.mem_cons.1 ((perm_insertBefore _ a l).mem_iff.1 hc) with rfl | hc
      · exact Or.inl hb
      · exact hl.1 c hc
    · rename_i hb
      have hb : s b ≤ s a := by simpa using hb
      refine List.pairwise_cons.2 ⟨fun c hc => ?_, List.pairwise_cons.2 hl⟩
      have hac : a < c := ha c hc
      have hcb : s c ≤ s b := by
        rcases List.mem_cons.1 hc with rfl | hc
        · exact le_rfl
        · rcases hl.1 c hc with h | h
          · exact h.le
          · exact h.1.le
      rcases (hcb.trans hb).lt_or_eq with h | h
      · exact Or.inl h
      · exact Or.inr ⟨h, hac⟩

theorem pairwise_stableSort_stable {n : ℕ} (s : Fin n → EReal) (l : List (Fin n)) (hl : l.Pairwise (· < ·)) :
    (stableSort (fun k k' => decide (s k' < s k)) l).Pairwise fun b c => s c < s b ∨ (s c = s b ∧ b < c) := by
  induction l with
  | nil => exact List.Pairwise.nil
  | cons a l ih =>
    rw [List.pairwise_cons] at hl
    unfold stableSort
    exact pairwise_insertBefore_stable s a _ (ih hl.2) fun b hb => hl.1 b ((perm_stableSort _ l).mem_iff.1 hb)

/-- The stable sort by descending score. -/
theorem sorted_sortedFrom {n : ℕ} (s : Fin n → EReal) : Sorted s (sortedFrom fun k k' => decide (s k' < s k)) where
  inj := sortedFrom_injective _
  desc i i' h := by
    have hp := List.pairwise_iff_get.1 (pairwise_stableSort_stable s (List.finRange n) (List.pairwise_lt_finRange n))
    exact hp (i.cast (length_sortPositions n _).symm) (i'.cast (length_sortPositions n _).symm) h

variable {n : ℕ} {s : Fin n → EReal} {σ : Fin n → Fin n}

theorem Sorted.surj (h : Sorted s σ) : Function.Surjective σ := Finite.injective_iff_surjective.1 h.inj

theorem Sorted.anti (h : Sorted s σ) {i i' : Fin n} (hi : i ≤ i') : s (σ i') ≤ s (σ i) := by
  rcases hi.lt_or_eq with hi | rfl
  · rcases h.desc i i' hi with h | h
    · exact h.le
    · exact h.1.le
  · exact le_rfl

/-- How many keys score at least `x`. -/
def count (s : Fin n → EReal) (x : EReal) : ℕ := (Finset.univ.filter fun j => x ≤ s j).card

theorem Sorted.lt_count (h : Sorted s σ) (k : Fin n) (x : EReal) (hx : x ≤ s (σ k)) : k.val < count s x := by
  have h1 : (Finset.Iic k).card = k.val + 1 := Fin.card_Iic k
  have h2 : ((Finset.Iic k).image σ).card = k.val + 1 := by rw [Finset.card_image_of_injective _ h.inj, h1]
  have h3 : (Finset.Iic k).image σ ⊆ Finset.univ.filter fun j => x ≤ s j := by
    intro j hj
    obtain ⟨i, hi, rfl⟩ := Finset.mem_image.1 hj
    exact Finset.mem_filter.2 ⟨Finset.mem_univ _, hx.trans (h.anti (Finset.mem_Iic.1 hi))⟩
  have := Finset.card_le_card h3
  unfold count; omega

theorem Sorted.count_le (h : Sorted s σ) (k : Fin n) (x : EReal) (hx : s (σ k) < x) : count s x ≤ k.val := by
  have h3 : (Finset.univ.filter fun j => x ≤ s j) ⊆ (Finset.Iio k).image σ := by
    intro j hj
    obtain ⟨i, rfl⟩ := h.surj j
    refine Finset.mem_image.2 ⟨i, Finset.mem_Iio.2 (lt_of_not_ge fun hk => ?_), rfl⟩
    exact absurd ((Finset.mem_filter.1 hj).2.trans (h.anti hk)) (not_le.2 hx)
  have := Finset.card_le_card h3
  rw [Finset.card_image_of_injective _ h.inj, Fin.card_Iio] at this
  exact this

theorem Sorted.le_iff_count (h : Sorted s σ) (k : Fin n) (x : EReal) : k.val < count s x ↔ x ≤ s (σ k) :=
  ⟨fun hc => le_of_not_gt fun hx => absurd (h.count_le k x hx) (not_le.2 hc), h.lt_count k x⟩

/-- Counting among the first `N` keys only, where the others are at −∞. -/
theorem count_castLE {N : ℕ} (hN : N ≤ n) (s : Fin n → EReal) (hs : ∀ j : Fin n, N ≤ j.val → s j = ⊥) (x : EReal) (hx : x ≠ ⊥) :
    count (fun j : Fin N => s (j.castLE hN)) x = count s x := by
  unfold count
  refine Finset.card_bij (fun j _ => j.castLE hN) (fun j hj => by simpa using hj) (fun a _ b _ h => by simpa using h) ?_
  intro j hj
  have hj := (Finset.mem_filter.1 hj).2
  have hlt : j.val < N := by
    by_contra hge
    rw [hs j (not_lt.1 hge)] at hj
    exact hx (le_bot_iff.1 hj)
  exact ⟨⟨j.val, hlt⟩, by simpa using hj, rfl⟩

/-- A row with at most `K` keys not after its position: the sort puts every one of them among the first `K`. -/
theorem Sorted.few (h : Sorted s σ) (p K : ℕ) (hp : p < K) (hs : ∀ j : Fin n, p < j.val → s j = ⊥) (j : Fin n) (hj : j.val ≤ p) :
    ∃ i : Fin n, i.val < K ∧ σ i = j := by
  obtain ⟨i, rfl⟩ := h.surj j
  refine ⟨i, ?_, rfl⟩
  have hsub : ((Finset.Iio i).image σ).image Fin.val ⊆ Finset.range p.succ \ {(σ i).val} := by
    intro x hx
    simp only [Finset.mem_image, Finset.mem_Iio] at hx
    obtain ⟨_, ⟨a, ha, rfl⟩, rfl⟩ := hx
    have hne : σ a ≠ σ i := fun e => ha.ne (h.inj e)
    refine Finset.mem_sdiff.2 ⟨Finset.mem_range.2 (Nat.lt_succ_of_le ?_), by simpa using fun e => hne (Fin.ext e)⟩
    by_contra hgt
    have hb := hs (σ a) (not_le.1 hgt)
    rcases h.desc a i ha with hd | hd
    · rw [hb] at hd; exact not_lt_bot hd
    · exact hgt ((Fin.lt_def.1 hd.2).le.trans hj)
  have hc := Finset.card_le_card hsub
  rw [Finset.card_image_of_injective _ Fin.val_injective, Finset.card_image_of_injective _ h.inj, Fin.card_Iio,
    Finset.card_sdiff_of_subset (by simpa using Nat.lt_succ_of_le hj), Finset.card_range, Finset.card_singleton] at hc
  omega

/-- A threshold above the next score and at most the last selected one selects the first `k` of the sort. -/
theorem Sorted.keep_iff (h : Sorted s σ) (k k' : Fin n) (hk : k'.val = k.val + 1) (T : EReal) (hB : s (σ k') < T) (hA : T ≤ s (σ k))
    (j : Fin n) : T ≤ s j ↔ ∃ i : Fin n, i.val ≤ k.val ∧ σ i = j := by
  constructor
  · intro hj
    obtain ⟨i, rfl⟩ := h.surj j
    refine ⟨i, ?_, rfl⟩
    by_contra hlt
    exact absurd (hj.trans (h.anti (show k' ≤ i from Fin.le_def.2 (by omega)))) (not_le.2 hB)
  · rintro ⟨i, hi, rfl⟩
    exact hA.trans (h.anti (Fin.le_def.2 hi))

/-- A row's scores, as the bracket's ends and the gap are taken from them: where the gap between two listed scores exceeds a
    positive multiple of the distance of the greatest from the least, all of these are real. -/
theorem gap_real {A B top least : EReal} (c : ℝ) (hc : 0 < c) (hlt : least ≤ top) (hA : A ≤ top) (hBA : B ≤ A)
    (hl : least ≠ ⊤ ∨ B = ⊤) (h : (top - least) * (c : EReal) < A - B) :
    ∃ a t l : ℝ, A = a ∧ top = t ∧ least = l ∧ ∀ x : ℝ, a ≤ x + (t - l) * c → B < x := by
  have hAB : A ≠ ⊥ := by
    rintro rfl
    rw [EReal.bot_sub] at h
    exact not_lt_bot h
  have htop : top ≠ ⊥ := fun e => hAB (le_bot_iff.1 (e ▸ hA))
  have hc' : (0 : EReal) < (c : EReal) := by exact_mod_cast hc
  have hleast : least ≠ ⊥ := by
    rintro rfl
    rw [EReal.sub_bot htop, EReal.top_mul_of_pos hc'] at h
    exact not_top_lt h
  have htop' : top ≠ ⊤ := by
    rintro rfl
    rcases hl with hl | rfl
    · lift least to ℝ using ⟨hl, hleast⟩
      rw [EReal.top_sub_coe, EReal.top_mul_of_pos hc'] at h
      exact not_top_lt h
    · rw [EReal.sub_top] at h
      exact not_lt_bot h
  have hleast' : least ≠ ⊤ := fun e => htop' (top_le_iff.1 (e ▸ hlt))
  have hA' : A ≠ ⊤ := fun e => htop' (top_le_iff.1 (e ▸ hA))
  lift A to ℝ using ⟨hA', hAB⟩
  lift top to ℝ using ⟨htop', htop⟩
  lift least to ℝ using ⟨hleast', hleast⟩
  refine ⟨A, top, least, rfl, rfl, rfl, fun x hx => ?_⟩
  induction B using EReal.rec with
  | bot => exact EReal.bot_lt_coe x
  | top => exact absurd hBA (by simp)
  | coe b =>
    have h' : (top - least) * c < A - b := by exact_mod_cast h
    have : b < x := by linarith
    exact_mod_cast this

end Cert.Select
-- ==== Proof.Softmax.lean ====
/- Attention over a row's kept keys, two ways: over every key, those not kept at −∞, the sum divided at the end; and over the
   list of the selected ones, the weights divided first. They are equal on extended reals, whatever the values attended to,
   where the logits are real and some key is kept. Plain mathematics, no program. -/
module

public import Idealize.ShloMosaic.PureOps.Ideal.Laws

@[expose] public section

noncomputable section

namespace Cert.Attend

open Idealize.ShloMosaic

/-- A nonnegative real factor comes into a sum of extended reals. -/
theorem sum_mul_real {ι : Type} (t : Finset ι) (f : ι → EReal) (c : ℝ) (hc : 0 ≤ c) :
    (∑ j ∈ t, f j) * (c : EReal) = ∑ j ∈ t, f j * (c : EReal) := by
  classical
  induction t using Finset.induction_on with
  | empty => simp
  | insert a t ha ih =>
    rw [Finset.sum_insert ha, Finset.sum_insert ha,
      EReal.right_distrib_of_nonneg_of_ne_top (by exact_mod_cast hc) (EReal.coe_ne_top c), ih]

theorem coe_sum {ι : Type} (t : Finset ι) (f : ι → ℝ) : ((∑ j ∈ t, f j : ℝ) : EReal) = ∑ j ∈ t, (f j : EReal) := by
  classical
  induction t using Finset.induction_on with
  | empty => simp
  | insert a t ha ih => rw [Finset.sum_insert ha, Finset.sum_insert ha, EReal.coe_add, ih]

variable {N K n : ℕ} (hN : N ≤ n) (keep : Fin n → Prop) [DecidablePred keep] (hkN : ∀ j, keep j → j.val < N)
  (σ : Fin K → Fin n) (hσ : Function.Injective σ) (valid : Fin K → Prop) [DecidablePred valid]
  (hv : ∀ j, keep j ↔ ∃ i, valid i ∧ σ i = j)

include hkN in
/-- A sum over the first `N` positions of what is zero off the kept ones. -/
theorem sum_first (g : Fin n → EReal) (hg : ∀ j, ¬ keep j → g j = 0) : ∑ j : Fin N, g (j.castLE hN) = ∑ j, g j := by
  refine Finset.sum_of_injOn (fun j : Fin N => j.castLE hN) (fun a _ b _ e => by simpa using e) (fun j _ => by simp) ?_ (fun _ _ => rfl)
  intro j _ hj
  refine hg j fun hk => hj ?_
  exact ⟨⟨j.val, hkN j hk⟩, by simp, rfl⟩

include hσ hv in
/-- A sum over the list of selected positions of what is zero off the kept ones. -/
theorem sum_list (g : Fin n → EReal) (hg : ∀ j, ¬ keep j → g j = 0) :
    ∑ i : Fin K, (if valid i then g (σ i) else 0) = ∑ j, g j := by
  refine Eq.trans (Finset.sum_congr rfl fun i _ => ?_) (Finset.sum_of_injOn (g := g) (f := fun i => g (σ i)) (s := Finset.univ)
    (t := Finset.univ) σ (fun a _ b _ e => hσ e) (fun j _ => by simp) ?_ (fun _ _ => rfl))
  · by_cases hi : valid i
    · rw [if_pos hi]
    · rw [if_neg hi, hg]
      intro hk
      obtain ⟨i', hi', e⟩ := (hv _).1 hk
      exact hi (hσ e ▸ hi')
  · intro j _ hj
    refine hg j fun hk => hj ?_
    obtain ⟨i, -, rfl⟩ := (hv j).1 hk
    exact ⟨i, by simp, rfl⟩

include hkN hσ hv in
/-- The two attentions agree. -/
theorem attend (hne : ∃ j, keep j) (E : Fin n → ℝ) (v : Fin n → EReal)
    (sk : Fin N → EReal) (hsk : ∀ j, sk j = (E (j.castLE hN) : EReal) + (if keep (j.castLE hN) then 0 else ⊥))
    (sr : Fin K → EReal) (hsr : ∀ i, sr i = if valid i then (E (σ i) : EReal) else ⊥) :
    Ideal.div (∑ j, Ideal.exp (sk j - Finset.univ.sup sk) * v (j.castLE hN)) (∑ j, Ideal.exp (sk j - Finset.univ.sup sk))
      = ∑ i, Ideal.div (Ideal.exp (sr i - max ⊥ (Finset.univ.sup sr))) (0 + ∑ i, Ideal.exp (sr i - max ⊥ (Finset.univ.sup sr))) * v (σ i) := by
  have hsk' : ∀ j : Fin N, sk j = if keep (j.castLE hN) then (E (j.castLE hN) : EReal) else ⊥ := fun j => by
    rw [hsk]; split
    · rw [add_zero]
    · rw [EReal.add_bot]
  -- the largest kept logit
  have hM : ∃ M : ℝ, Finset.univ.sup sk = M ∧ Finset.univ.sup sr = M := by
    obtain ⟨j0, hj0⟩ := hne
    obtain ⟨jm, hjm, em⟩ := Finset.exists_mem_eq_sup (Finset.univ.filter keep) ⟨j0, by simpa using hj0⟩ (fun j => (E j : EReal))
    have hjm : keep jm := (Finset.mem_filter.1 hjm).2
    refine ⟨E jm, ?_, ?_⟩
    · refine le_antisymm (Finset.sup_le fun j _ => ?_) ?_
      · rw [hsk' j]; split
        · rename_i hk
          rw [← em]
          exact Finset.le_sup (f := fun j => (E j : EReal)) (Finset.mem_filter.2 ⟨Finset.mem_univ _, hk⟩)
        · exact bot_le
      · refine le_trans (le_of_eq ?_) (Finset.le_sup (f := sk) (Finset.mem_univ ⟨jm.val, hkN jm hjm⟩))
        rw [hsk']; exact (if_pos hjm).symm
    · refine le_antisymm (Finset.sup_le fun i _ => ?_) ?_
      · rw [hsr i]; split
        · rename_i hk
          rw [← em]
          exact Finset.le_sup (f := fun j => (E j : EReal)) (Finset.mem_filter.2 ⟨Finset.mem_univ _, (hv _).2 ⟨i, hk, rfl⟩⟩)
        · exact bot_le
      · obtain ⟨i, hi, e⟩ := (hv jm).1 hjm
        refine le_trans (le_of_eq ?_) (Finset.le_sup (f := sr) (Finset.mem_univ i))
        rw [hsr, if_pos hi, e]
  obtain ⟨M, hMk, hMr⟩ := hM
  rw [hMk, hMr, max_eq_right bot_le, zero_add]
  -- a key's weight
  let p : Fin n → ℝ := fun j => if keep j then Real.exp (E j - M) else 0
  have hp0 : ∀ j, ¬ keep j → p j = 0 := fun j hj => if_neg hj
  have hpn : ∀ j, 0 ≤ p j := fun j => by
    show 0 ≤ ite _ _ _
    split
    · exact (Real.exp_pos _).le
    · exact le_rfl
  have ek : ∀ j : Fin N, Ideal.exp (sk j - M) = (p (j.castLE hN) : EReal) := fun j => by
    rw [hsk' j]
    show _ = ((ite _ _ _ : ℝ) : EReal)
    split
    · rw [← EReal.coe_sub, Ideal.exp_coe]
    · rw [EReal.bot_sub, Ideal.exp_bot]; rfl
  have er : ∀ i, Ideal.exp (sr i - M) = if valid i then (p (σ i) : EReal) else 0 := fun i => by
    rw [hsr i]
    split
    · rename_i hi
      have hk : keep (σ i) := (hv _).2 ⟨i, hi, rfl⟩
      rw [← EReal.coe_sub, Ideal.exp_coe]
      show _ = ((ite _ _ _ : ℝ) : EReal)
      rw [if_pos hk]
    · rw [EReal.bot_sub, Ideal.exp_bot]
  simp only [ek, er]
  have hD : ∑ j, (p j : EReal) = ((∑ j, p j : ℝ) : EReal) := (coe_sum _ _).symm
  have hDpos : 0 < ∑ j, p j := by
    obtain ⟨j, hj⟩ := hne
    refine Finset.sum_pos' (fun j _ => hpn j) ⟨j, Finset.mem_univ _, ?_⟩
    show 0 < ite _ _ _
    rw [if_pos hj]; exact Real.exp_pos _
  rw [sum_first hN keep hkN (fun j => (p j : EReal) * v j) (fun j hj => by rw [hp0 j hj]; simp),
    sum_first hN keep hkN (fun j => (p j : EReal)) (fun j hj => by rw [hp0 j hj]; simp),
    sum_list keep σ hσ valid hv (fun j => (p j : EReal)) (fun j hj => by rw [hp0 j hj]; simp), hD]
  have hc : 0 ≤ 1 / ∑ j, p j := by positivity
  rw [Ideal.div_coe hDpos.ne', sum_mul_real _ _ _ hc]
  rw [← sum_list keep σ hσ valid hv (fun j => (p j : EReal) * v j * ((1 / ∑ j, p j : ℝ) : EReal))
    (fun j hj => by rw [hp0 j hj]; simp)]
  refine Finset.sum_congr rfl fun i _ => ?_
  rw [Ideal.div_coe hDpos.ne']
  split
  · rw [mul_assoc, mul_assoc, mul_comm (v _)]
  · rw [zero_mul, zero_mul]

end Cert.Attend
-- ==== Proof.Spec.lean ====
module

public import proofs.«01_k».proof.Proof.Select
public import proofs.«01_k».proof.Proof.Softmax
public import Idealize.ShloMosaic.Lib.ValueIdxCore

@[expose] public section

set_option maxRecDepth 16384

noncomputable section

/-! The layer's sparse attention at one batch and one query, over the projection `x`. -/

namespace Cert.Attend

open Idealize.ShloMosaic Idealize.ShloMosaic.ValueIdx Cert.Select

abbrev Proj := (⟨3, ![4, 2048, 7264]⟩ : Shape).Idx → EReal

variable (x : Proj) (b : Fin 4) (P : Fin 2048)

/-- The softmax's scale: the float32 nearest `128 ^ (-1/2)`. -/
def lscale : ℝ := 11863283 / 2 ^ 27

/-- The indexer's score of key `j`. -/
def scoreX (j : Fin 2048) : EReal :=
  ∑ h : Fin 16, (x (ix3 b P ⟨7248 + h.val, by omega⟩) * ((1 / 4 : ℝ) : EReal))
    * max ((∑ d : Fin 64, x (ix3 b P ⟨6160 + (64 * h.val + d.val), by omega⟩) * x (ix3 b j ⟨7184 + d.val, by omega⟩)) * ((1 / 8 : ℝ) : EReal)) 0

/-- The scores, −∞ at the keys after the query. -/
def rowX (j : Fin 2048) : EReal := if j.val ≤ P.val then scoreX x b P j else ⊥

/-- The keys, best score first. -/
def ordX : Fin 2048 → Fin 2048 := sortedFrom fun k k' => decide (rowX x b P k' < rowX x b P k)

theorem ordX_sorted : Sorted (rowX x b P) (ordX x b P) := sorted_sortedFrom _

attribute [irreducible] ordX

/-- The logit of key `j` in head `hd`. -/
def logitX (hd : Fin 8) (j : Fin 2048) : EReal :=
  (∑ d : Fin 128, x (ix3 b P ⟨3088 + (128 * hd.val + d.val), by omega⟩) * x (ix3 b j ⟨4112 + (128 * hd.val + d.val), by omega⟩)) * (lscale : EReal)

/-- The logits of the 256 selected keys. -/
def selX (hd : Fin 8) (i : Fin 256) : EReal :=
  if (ordX x b P (i.castLE (by decide))).val ≤ P.val then logitX x b P hd (ordX x b P (i.castLE (by decide))) else ⊥

/-- The attention's output at column `y`, in head `hd`. -/
def outX (hd : Fin 8) (y : Fin 1024) : EReal :=
  ∑ i : Fin 256, Ideal.div (Ideal.exp (selX x b P hd i - max ⊥ (Finset.univ.sup (selX x b P hd))))
      (0 + ∑ i : Fin 256, Ideal.exp (selX x b P hd i - max ⊥ (Finset.univ.sup (selX x b P hd))))
    * x (ix3 b (ordX x b P (i.castLE (by decide))) ⟨5136 + y.val, by omega⟩)

/-- The worst score of a key the query may see. -/
def leastX : EReal := Finset.univ.inf fun j : Fin 2048 => if j.val ≤ P.val then rowX x b P j else ⊤

/-- What the precondition says of one query: its query and key rows are finite, and past 256 keys the 256th and 257th
    scores lie further apart than the search resolves. -/
def PreX : Prop :=
  (∀ y : Fin 1024, ∃ r : ℝ, x (ix3 b P ⟨3088 + y.val, by omega⟩) = r) ∧ (∀ y : Fin 1024, ∃ r : ℝ, x (ix3 b P ⟨4112 + y.val, by omega⟩) = r)
    ∧ ((rowX x b P (ordX x b P 0) - leastX x b P) * (((1 / 2) ^ 32 : ℝ) : EReal) < rowX x b P (ordX x b P 255) - rowX x b P (ordX x b P 256)
      ∨ P.val < 256)

theorem rowX_after (j : Fin 2048) (h : P.val < j.val) : rowX x b P j = ⊥ := if_neg (by omega)

theorem logitX_real (hq : ∀ y : Fin 1024, ∃ r : ℝ, x (ix3 b P ⟨3088 + y.val, by omega⟩) = r)
    (hk : ∀ j : Fin 2048, ∀ y : Fin 1024, ∃ r : ℝ, x (ix3 b j ⟨4112 + y.val, by omega⟩) = r) (hd : Fin 8) (j : Fin 2048) :
    ∃ r : ℝ, logitX x b P hd j = r := by
  choose q hq using hq
  choose k hk using hk
  refine ⟨(∑ d : Fin 128, q ⟨128 * hd.val + d.val, by omega⟩ * k j ⟨128 * hd.val + d.val, by omega⟩) * lscale, ?_⟩
  unfold logitX
  rw [EReal.coe_mul, coe_sum]
  congr 1
  refine Finset.sum_congr rfl fun d _ => ?_
  rw [EReal.coe_mul]
  exact congrArg₂ (· * ·) (hq ⟨128 * hd.val + d.val, by omega⟩) (hk j ⟨128 * hd.val + d.val, by omega⟩)

theorem first_le (i : Fin 2048) : rowX x b P (ordX x b P i) ≤ rowX x b P (ordX x b P 0) :=
  (ordX_sorted x b P).anti (i := 0) (i' := i) (by rw [Fin.le_def]; exact Nat.zero_le _)

/-- The best score is the row's largest. -/
theorem sup_row {N : ℕ} (hN : N ≤ 2048) (hP : P.val < N) :
    (Finset.univ.sup fun j : Fin N => rowX x b P (j.castLE hN)) = rowX x b P (ordX x b P 0) := by
  refine le_antisymm (Finset.sup_le fun j _ => ?_) ?_
  · obtain ⟨i, e⟩ := (ordX_sorted x b P).surj (j.castLE hN)
    rw [← e]
    exact first_le x b P i
  · by_cases hl : (ordX x b P 0).val ≤ P.val
    · have e : ordX x b P 0 = (⟨(ordX x b P 0).val, by omega⟩ : Fin N).castLE hN := rfl
      exact le_of_eq_of_le (congrArg (rowX x b P) e) (Finset.le_sup (f := fun j : Fin N => rowX x b P (j.castLE hN)) (Finset.mem_univ _))
    · rw [rowX_after x b P _ (by omega)]; exact bot_le

theorem inf_row {N : ℕ} (hN : N ≤ 2048) (hP : P.val < N) :
    (Finset.univ.inf fun j : Fin N => if j.val ≤ P.val then rowX x b P (j.castLE hN) else ⊤) = leastX x b P := by
  refine le_antisymm (Finset.le_inf fun j _ => ?_) (Finset.le_inf fun j _ => ?_)
  · by_cases hj : j.val ≤ P.val
    · exact Finset.inf_le (f := fun j : Fin N => if j.val ≤ P.val then rowX x b P (j.castLE hN) else ⊤) (b := ⟨j.val, by omega⟩) (Finset.mem_univ _)
    · rw [if_neg hj]; exact le_top
  · exact Finset.inf_le (f := fun j : Fin 2048 => if j.val ≤ P.val then rowX x b P j else ⊤) (b := j.castLE hN) (Finset.mem_univ _)

theorem least_le (j : Fin 2048) (hj : j.val ≤ P.val) : leastX x b P ≤ rowX x b P j := by
  have := Finset.inf_le (f := fun j : Fin 2048 => if j.val ≤ P.val then rowX x b P j else ⊤) (b := j) (Finset.mem_univ _)
  simp only [if_pos hj] at this
  exact this

/-- Of a row whose cut is clear: the scores around the cut, real, and what the search's stopping leaves of them. -/
theorem clear_cut (hP : 256 ≤ P.val)
    (h : (rowX x b P (ordX x b P 0) - leastX x b P) * (((1 / 2) ^ 32 : ℝ) : EReal) < rowX x b P (ordX x b P 255) - rowX x b P (ordX x b P 256)) :
    ∃ a t l : ℝ, rowX x b P (ordX x b P 255) = a ∧ rowX x b P (ordX x b P 0) = t ∧ leastX x b P = l ∧ (l : EReal) ≤ a ∧ (a : EReal) ≤ t
      ∧ ∀ y : ℝ, a ≤ y + (t - l) * (1 / 2) ^ 32 → rowX x b P (ordX x b P 256) < y := by
  have S := ordX_sorted x b P
  have h0 : leastX x b P ≤ rowX x b P (ordX x b P 0) := by
    obtain ⟨i, e⟩ := S.surj P
    refine (least_le x b P P le_rfl).trans ?_
    exact le_of_eq_of_le (congrArg (rowX x b P) e.symm) (first_le x b P i)
  have hA : rowX x b P (ordX x b P 255) ≤ rowX x b P (ordX x b P 0) := first_le x b P _
  obtain ⟨a, t, l, ea, et, el, hg⟩ := gap_real ((1 / 2) ^ 32) (by positivity) h0 hA (S.anti (by decide)) (by
    by_cases hl : leastX x b P = ⊤
    · refine Or.inr (top_le_iff.1 ((S.le_iff_count 256 ⊤).1 ?_))
      have hs : (Finset.Iic P : Finset (Fin 2048)) ⊆ Finset.univ.filter fun j : Fin 2048 => ⊤ ≤ rowX x b P j := fun j hj =>
        Finset.mem_filter.2 ⟨Finset.mem_univ _, hl ▸ least_le x b P j (Fin.le_def.1 (Finset.mem_Iic.1 hj))⟩
      have := Finset.card_le_card hs
      rw [Fin.card_Iic] at this
      show 256 < (Finset.univ.filter fun j => ⊤ ≤ rowX x b P j).card
      omega
    · exact Or.inl hl) h
  refine ⟨a, t, l, ea, et, el, ?_, ea ▸ et ▸ hA, hg⟩
  rw [← el, ← ea]
  refine least_le x b P _ (not_lt.1 fun hlt => ?_)
  rw [rowX_after x b P _ hlt] at ea
  exact EReal.bot_ne_coe a ea

/-- The kept keys are the selected ones: at a threshold around the cut, and at −∞ where the query sees no more than 256. -/
theorem kept (T : EReal) (hT : (P.val < 256 ∧ T = ⊥) ∨ (rowX x b P (ordX x b P 256) < T ∧ T ≤ rowX x b P (ordX x b P 255))) (j : Fin 2048) :
    (T ≤ rowX x b P j ∧ j.val ≤ P.val) ↔ ∃ i : Fin 256, (ordX x b P (i.castLE (by decide))).val ≤ P.val ∧ ordX x b P (i.castLE (by decide)) = j := by
  have S := ordX_sorted x b P
  constructor
  · rintro ⟨hj, hjP⟩
    rcases hT with ⟨hP, rfl⟩ | ⟨hB, hA⟩
    · obtain ⟨i, hi, rfl⟩ := S.few P.val 256 hP (fun j hj => rowX_after x b P j hj) j hjP
      exact ⟨⟨i.val, hi⟩, hjP, rfl⟩
    · obtain ⟨i, hi, rfl⟩ := (S.keep_iff 255 256 rfl T hB hA j).1 hj
      exact ⟨⟨i.val, by have : i.val ≤ 255 := hi; omega⟩, hjP, rfl⟩
  · rintro ⟨i, hi, rfl⟩
    refine ⟨?_, hi⟩
    rcases hT with ⟨hP, rfl⟩ | ⟨hB, hA⟩
    · exact bot_le
    · exact (S.keep_iff 255 256 rfl T hB hA _).2 ⟨i.castLE (by decide), by show i.val ≤ 255; omega, rfl⟩

theorem kept_some (T : EReal) (hT : (P.val < 256 ∧ T = ⊥) ∨ (rowX x b P (ordX x b P 256) < T ∧ T ≤ rowX x b P (ordX x b P 255))) :
    ∃ j : Fin 2048, T ≤ rowX x b P j ∧ j.val ≤ P.val := by
  rcases hT with ⟨hP, rfl⟩ | ⟨hB, hA⟩
  · exact ⟨P, bot_le, le_rfl⟩
  · refine ⟨ordX x b P 255, hA, not_lt.1 fun hlt => ?_⟩
    rw [rowX_after x b P _ hlt] at hA
    exact absurd hB (not_lt.2 (hA.trans bot_le))

end Cert.Attend

end
-- ==== Proof.Rows.lean ====
/- The kernel body's operations read at one row of a block, with floats the extended reals: what each is at query `r` and
   key `j`, for any number `N` of keys. -/
module

public import proofs.«01_k».proof.Proof.Closed
public import proofs.«01_k».proof.Proof.Select
public import Idealize.ShloMosaic.Lib.ValueLayout

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx

theorem word_bot : Ideal.ofBits .f32 0xFF800000#32 = ⊥ := by simp [Ideal.ofBits, Ideal.ieee]
theorem word_top : Ideal.ofBits .f32 0x7F800000#32 = ⊤ := by simp [Ideal.ofBits, Ideal.ieee]
theorem word_256 : Ideal.ofBits .f32 0x43800000#32 = ((256 : ℝ) : EReal) := by
  simp [Ideal.ofBits, Ideal.ieee]; rw [← EReal.coe_mul]; norm_num
theorem word_half : Ideal.ofBits .f32 0x3F000000#32 = ((1 / 2 : ℝ) : EReal) := by
  simp [Ideal.ofBits, Ideal.ieee]; rw [← EReal.coe_mul]; norm_num
theorem word_one : Ideal.ofBits .f32 0x3F800000#32 = 1 := by
  simp [Ideal.ofBits, Ideal.ieee]; rw [← EReal.coe_mul]; norm_num
theorem word_quarter : Ideal.ofBits .f32 0x3E800000#32 = ((1 / 4 : ℝ) : EReal) := by
  simp [Ideal.ofBits, Ideal.ieee]; rw [← EReal.coe_mul]; norm_num
theorem word_eighth : Ideal.ofBits .f32 0x3E000000#32 = ((1 / 8 : ℝ) : EReal) := by
  simp [Ideal.ofBits, Ideal.ieee]; rw [← EReal.coe_mul]; norm_num
theorem word_32nd : Ideal.ofBits .f32 0x3D000000#32 = ((1 / 32 : ℝ) : EReal) := by
  simp [Ideal.ofBits, Ideal.ieee]; rw [← EReal.coe_mul]; norm_num
theorem word_ulp : Ideal.ofBits .f32 0x2F800000#32 = (((1 / 2) ^ 32 : ℝ) : EReal) := by
  simp [Ideal.ofBits, Ideal.ieee]; rw [← EReal.coe_mul]; norm_num

/-- The logits' scale. -/
def scale : ℝ := 11863283 / 2 ^ 27
theorem word_scale : Ideal.ofBits .f32 0x3DB504F3#32 = ((scale : ℝ) : EReal) := by
  simp [Ideal.ofBits, Ideal.ieee, scale]; rw [← EReal.coe_mul]; norm_num

/-- A column spread along the keys. -/
theorem wide_apply {α : Type} {M : ℕ} (x : (⟨2, ![256, 1]⟩ : Shape).Idx → α) (h : (⟨2, ![256, 1]⟩ : Shape).Broadcasts ⟨2, ![256, M]⟩)
    (r : Fin 256) (j : Fin M) : broadcastTo ⟨2, ![256, M]⟩ x h (ix2 r j) = x (ix2 r 0) := by
  refine broadcastTo_apply x h (ix2 r j) (ix2 r 0) fun a => ?_
  match a with
  | ⟨0, _⟩ => rfl
  | ⟨1, _⟩ => rfl

/-- A column of 256 entries from a vector of as many. -/
theorem column_apply {α : Type} (x : (⟨1, ![256]⟩ : Shape).Idx → α) (h : (⟨1, ![256]⟩ : Shape).ShapeCasts ⟨2, ![256, 1]⟩)
    (r : Fin 256) : shapeCast ⟨2, ![256, 1]⟩ x h (ix2 r 0) = x (ix1 r) :=
  shapeCast_apply x h _ _ (by rw [Shape.rowMajor_val_one, Shape.rowMajor_val_two]; show r.val = r.val * 1 + 0; omega)

theorem lift_row {N : ℕ} (h : (SK N).Reduces [1] S256) (r : Fin 256) (j : Fin N) : h.lift (ix1 r) j = ix2 r j := by
  funext c
  match c with
  | ⟨0, _⟩ => exact Fin.ext rfl
  | ⟨1, _⟩ => exact Fin.ext rfl

theorem fold_max_bot {ι : Type} [Fintype ι] (f : ι → EReal) : Finset.univ.fold max ⊥ f = Finset.univ.sup f := rfl
theorem fold_min_top {ι : Type} [Fintype ι] (f : ι → EReal) : Finset.univ.fold min ⊤ f = Finset.univ.inf f := rfl

variable {N : ℕ} (h : Fit N)

theorem hiG_apply (k : FVec Ideal (SK N) .f32) (r : Fin 256) :
    hiG h k (ix2 r 0) = Finset.univ.sup fun j : Fin N => k (ix2 r j) := by
  unfold hiG
  rw [column_apply]
  refine (Ideal.multiReduction_maximumf_single _ _ h.red _ _ (ix1 r)).trans ?_
  refine Eq.trans (b := Finset.univ.fold max ⊥ _) (by rw [← word_bot]; rfl) ((fold_max_bot _).trans ?_)
  exact congrArg (Finset.univ.sup) (funext fun j => congrArg k (lift_row h.red r j))

theorem rowSum_apply (k : FVec Ideal (SK N) .f32) (hφ : FKind.Formats .f32) (r : Fin 256) :
    shapeCast S256x1 (multiReduction .add [1] S256 k 0x00000000#32 h.red hφ rfl) shapeCasts_S256_S256x1 (ix2 r 0)
      = ∑ j : Fin N, (k (ix2 r j) : EReal) := by
  rw [column_apply]
  refine (Ideal.multiReduction_add_single _ _ h.red _ _ (ix1 r)).trans ?_
  exact Finset.sum_congr rfl fun j _ => congrArg k (lift_row h.red r j)

theorem loG_apply (ca : IVec (SK N) 1) (k : FVec Ideal (SK N) .f32) (r : Fin 256) :
    loG h ca k (ix2 r 0) = Finset.univ.inf fun j : Fin N => Scalar.select (ca (ix2 r j)) (k (ix2 r j)) ⊤ := by
  unfold loG
  rw [column_apply]
  refine (multiReduction_minimumf_eq_fold _ _ h.red _ _ (ix1 r)).trans ?_
  refine (h.red.fold_filter_drop_single _ _ _ (ix1 r)).trans ?_
  refine Eq.trans (b := Finset.univ.fold min ⊤ _) (by rw [← word_top]; rfl) ((fold_min_top _).trans ?_)
  refine congrArg (Finset.univ.inf) (funext fun j => ?_)
  show Scalar.select (ca (h.red.lift (ix1 r) j)) (k (h.red.lift (ix1 r) j)) (Ideal.ofBits .f32 0x7F800000#32) = _
  rw [word_top]
  rw [lift_row h.red r j]

theorem causalG_apply (qpos : IVec S256x1 32) (r : Fin 256) (j : Fin N) :
    causalG h qpos (ix2 r j) = IntOp.cmpi .sle (BitVec.ofNat 32 j.val) (qpos (ix2 r 0)) := by
  show IntOp.cmpi .sle (broadcastTo (SK N) _ h.tall (ix2 r j)) (broadcastTo (SK N) qpos h.wide (ix2 r j)) = _
  rw [wide_apply, broadcastTo_1b_ab_apply]
  refine congrArg (IntOp.cmpi .sle · _) ?_
  show BitVec.ofNat 32 (0 * N + j.val) = _
  rw [Nat.zero_mul, Nat.zero_add]

theorem maskG_apply (ca : IVec (SK N) 1) (s : FVec Ideal (SK N) .f32) (r : Fin 256) (j : Fin N) :
    maskG (F := Ideal) ca s (ix2 r j) = Scalar.select (ca (ix2 r j)) (s (ix2 r j)) (⊥ : EReal) := by
  rw [← word_bot]; rfl

/-- A column's largest entry is at least each of them. -/
theorem le_colMax (t : FVec Ideal S256x1 .f32) (r : Fin 256) : t (ix2 r 0) ≤ colMax t := by
  unfold colMax extractAt
  rw [shapeCast_apply _ shapeCasts_S1_S1x1x1 _ (ix1 0) (by rw [Shape.rowMajor_val_one, Shape.rowMajor_val_three]; rfl)]
  refine le_of_le_of_eq ?_ (multiReduction_maximumf_eq_fold _ _ reduces_S1x256x1_S1 _ _ (ix1 0)).symm
  refine (Finset.le_fold_max _).2 (Or.inr ⟨ix3 0 r 0, ?_, ?_⟩)
  · exact Finset.mem_filter.2 ⟨Finset.mem_univ _, funext fun a => match a with | ⟨0, _⟩ => Subsingleton.elim (α := Fin 1) _ _⟩
  · rw [shapeCast_ab_1ab_apply]

end Cert.KernelIdeal.Hand
-- ==== Proof.Bisect.lean ====
/- The bisection at one row, with floats the extended reals: after its thirty-two trips the bracket's lower end lies above
   the 257th score and at most at the 256th. -/
module

public import proofs.«01_k».proof.Proof.Rows

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx Cert.Select

variable {N : ℕ} (h : Fit N)

/-- A 0/1 column summed is how many ones there are. -/
theorem sum_ones {ι : Type} [Fintype ι] (p : ι → Prop) [DecidablePred p] :
    (∑ j : ι, if p j then (1 : EReal) else 0) = (((Finset.univ.filter p).card : ℝ) : EReal) := by
  rw [← Finset.sum_filter, Finset.sum_const, EReal.nsmul_eq_mul, mul_one]
  rfl

theorem cntG_apply (k : Vec Ideal (SK N) .f32) (mid : FVec Ideal S256x1 .f32) (r : Fin 256) :
    cntG h k mid (ix2 r 0) = ((count (fun j : Fin N => (k (ix2 r j) : EReal)) (mid (ix2 r 0)) : ℝ) : EReal) := by
  unfold cntG
  rw [rowSum_apply h]
  unfold Select.count
  rw [← sum_ones]
  refine Finset.sum_congr rfl fun j _ => ?_
  show Scalar.select (Ideal.cmp .oge (k (ix2 r j)) (broadcastTo (SK N) mid h.wide (ix2 r j))) (Ideal.ofBits .f32 0x3F800000#32)
    (Ideal.ofBits .f32 0x00000000#32) = _
  rw [wide_apply, word_one, Ideal.ofBits_zero_f32]
  by_cases hle : mid (ix2 r 0) ≤ k (ix2 r j) <;> simp [Scalar.select, Ideal.cmp, hle]

/-- What holds of a row's bracket `lo … hi`, of whether the row is still to be settled, and of whether any is, where `w` is the
    width an unsettled bracket has. -/
def Inv (A B : EReal) (w : ℝ) (lo hi todo pend : EReal) : Prop :=
  ∃ l u : ℝ, lo = l ∧ hi = u ∧ (l : EReal) ≤ A ∧ A ≤ u ∧ (B < l ∨ (todo = 1 ∧ u - l = w)) ∧ todo ≤ pend

theorem Inv.stop {A B : EReal} {w w' : ℝ} {lo hi todo pend : EReal} (hi' : Inv A B w lo hi todo pend) (hp : pend ≤ 0) :
    Inv A B w' lo hi todo pend := by
  obtain ⟨l, u, e1, e2, hl, hu, hs, ht⟩ := hi'
  refine ⟨l, u, e1, e2, hl, hu, Or.inl ?_, ht⟩
  rcases hs with hs | ⟨hs, -⟩
  · exact hs
  · exact absurd ((hs ▸ ht).trans hp) (by norm_num)

theorem Inv.step {A B : EReal} {w : ℝ} {lo hi todo pend mid pend' : EReal} {n : ℕ} (hi' : Inv A B w lo hi todo pend)
    (hm : mid = ((1 / 2 : ℝ) : EReal) * lo + ((1 / 2 : ℝ) : EReal) * hi)
    (hA : 256 ≤ n ↔ mid ≤ A) (hB : n = 256 → B < mid)
    (hp : (if n = 256 then (0 : EReal) else todo) ≤ pend') :
    Inv A B (w / 2) (if 256 ≤ n then mid else lo) (if 256 ≤ n then hi else mid) (if n = 256 then 0 else todo) pend' := by
  obtain ⟨l, u, rfl, rfl, hl, hu, hs, ht⟩ := hi'
  have hlu : l ≤ u := by exact_mod_cast hl.trans hu
  obtain rfl : mid = (((l + u) / 2 : ℝ) : EReal) := by
    rw [hm, ← EReal.coe_mul, ← EReal.coe_mul, ← EReal.coe_add]; congr 1; ring
  by_cases hn : 256 ≤ n
  · rw [if_pos hn, if_pos hn]
    refine ⟨_, u, rfl, rfl, hA.1 hn, hu, ?_, hp⟩
    by_cases hn' : n = 256
    · exact Or.inl (hB hn')
    · rw [if_neg hn']
      rcases hs with hs | ⟨hs, hw⟩
      · refine Or.inl (hs.trans_le ?_)
        have : l ≤ (l + u) / 2 := by linarith
        exact_mod_cast this
      · exact Or.inr ⟨hs, by linarith⟩
  · rw [if_neg hn, if_neg hn]
    refine ⟨l, _, rfl, rfl, hl, (not_le.1 (fun e => hn (hA.2 e))).le, ?_, hp⟩
    rw [if_neg (by omega)]
    rcases hs with hs | ⟨hs, hw⟩
    · exact Or.inl hs
    · exact Or.inr ⟨hs, by linarith⟩

/-- What a bracket gives once an unsettled one would be narrower than the gap. -/
theorem Inv.between {A B : EReal} {w : ℝ} {lo hi todo pend : EReal} (hi' : Inv A B w lo hi todo pend)
    (hgap : ∀ x : ℝ, A ≤ ((x + w : ℝ) : EReal) → B < x) : B < lo ∧ lo ≤ A := by
  obtain ⟨l', u', rfl, rfl, h1, h2, hs, -⟩ := hi'
  refine ⟨?_, h1⟩
  rcases hs with hs | ⟨-, hw⟩
  · exact hs
  · refine hgap l' (h2.trans (le_of_eq ?_))
    rw [← hw]
    congr 1; ring

theorem cmp_oge (a b : EReal) : Ideal.cmp .oge a b = if b ≤ a then 1#1 else 0#1 := by
  by_cases e : b ≤ a <;> simp [Ideal.cmp, e]
theorem cmp_ogt (a b : EReal) : Ideal.cmp .ogt a b = if b < a then 1#1 else 0#1 := by
  by_cases e : b < a <;> simp [Ideal.cmp, e]
theorem cmp_oeq (a b : EReal) : Ideal.cmp .oeq a b = if a = b then 1#1 else 0#1 := by
  by_cases e : a = b <;> simp [Ideal.cmp, e]
theorem select_ite {α : Type} (p : Prop) [Decidable p] (a b : α) : Scalar.select (if p then 1#1 else 0#1) a b = if p then a else b := by
  by_cases e : p <;> simp [Scalar.select, e]

/-- A trip once nothing is left to settle changes nothing. -/
theorem stepG_dead (k : Vec Ideal (SK N) .f32) (c : Carry Ideal) (hp : ¬ (0 : EReal) < c.2.2.2) : stepG h k c = c := by
  obtain ⟨lo, hi, todo, pend⟩ := c
  have hlive : (Scalar.cmpf (F := Ideal) (φ := .f32) .ogt pend (Scalar.ofBits .f32 0x00000000#32)) = 0#1 := by
    show Ideal.cmp .ogt pend (Ideal.ofBits .f32 0x00000000#32) = 0#1
    rw [Ideal.ofBits_zero_f32, cmp_ogt, if_neg hp]
  unfold stepG
  simp only [hlive]
  rfl

/-- A trip while something is left to settle, at row `r`: its count `n` decides which half is kept. -/
theorem stepG_live (k : Vec Ideal (SK N) .f32) (r : Fin 256) (c : Carry Ideal) (hp : (0 : EReal) < c.2.2.2) (n : ℕ)
    (hn : cntG h k (midG c.1 c.2.1) (ix2 r 0) = ((n : ℝ) : EReal)) :
    (stepG h k c).1 (ix2 r 0) = (if 256 ≤ n then midG c.1 c.2.1 (ix2 r 0) else c.1 (ix2 r 0)) ∧
    (stepG h k c).2.1 (ix2 r 0) = (if 256 ≤ n then c.2.1 (ix2 r 0) else midG c.1 c.2.1 (ix2 r 0)) ∧
    (stepG h k c).2.2.1 (ix2 r 0) = (if n = 256 then (0 : EReal) else c.2.2.1 (ix2 r 0)) ∧
    ((stepG h k c).2.2.1 (ix2 r 0) : EReal) ≤ (stepG h k c).2.2.2 := by
  obtain ⟨lo, hi, todo, pend⟩ := c
  have hlive : (Scalar.cmpf (F := Ideal) (φ := .f32) .ogt pend (Scalar.ofBits .f32 0x00000000#32)) = 1#1 := by
    show Ideal.cmp .ogt pend (Ideal.ofBits .f32 0x00000000#32) = 1#1
    rw [Ideal.ofBits_zero_f32, cmp_ogt]; exact if_pos hp
  dsimp only at hn ⊢
  have h256 : ((256 : ℝ) : EReal) ≤ ((n : ℝ) : EReal) ↔ 256 ≤ n := by
    rw [EReal.coe_le_coe_iff]; exact_mod_cast Iff.rfl
  have e256 : ((n : ℝ) : EReal) = ((256 : ℝ) : EReal) ↔ n = 256 := by
    rw [EReal.coe_eq_coe_iff]; exact_mod_cast Iff.rfl
  generalize hm : midG lo hi = mid at hn
  have hge : (cmpf .oge (cntG h k mid) (splat S256x1 0x43800000#32) : IVec S256x1 1) (ix2 r 0) = if 256 ≤ n then 1#1 else 0#1 := by
    show Ideal.cmp .oge (cntG h k mid (ix2 r 0)) (Ideal.ofBits .f32 0x43800000#32) = _
    rw [hn, word_256, cmp_oge]
    exact if_congr h256 rfl rfl
  have heq : (cmpf .oeq (cntG h k mid) (splat S256x1 0x43800000#32) : IVec S256x1 1) (ix2 r 0) = if n = 256 then 1#1 else 0#1 := by
    show Ideal.cmp .oeq (cntG h k mid (ix2 r 0)) (Ideal.ofBits .f32 0x43800000#32) = _
    rw [hn, word_256, cmp_oeq]
    exact if_congr e256 rfl rfl
  unfold stepG
  simp only [hm, hlive]
  generalize cntG h k mid = cnt at hge heq
  have s1 : ∀ {α : Type} (a b : α), Scalar.select 1#1 a b = a := fun a b => rfl
  simp only [s1]
  refine ⟨?_, ?_, ?_, le_colMax _ r⟩
  · rw [select_apply, hge, select_ite]
  · rw [select_apply, hge, select_ite]
  · rw [select_apply, heq, select_ite]
    exact if_congr Iff.rfl Ideal.ofBits_zero_f32 rfl

theorem stepG_inv (k : Vec Ideal (SK N) .f32) (r : Fin 256) (c : Carry Ideal) (A B : EReal) (w : ℝ)
    (hA : ∀ x : ℝ, 256 ≤ count (fun j : Fin N => (k (ix2 r j) : EReal)) x ↔ (x : EReal) ≤ A)
    (hB : ∀ x : ℝ, count (fun j : Fin N => (k (ix2 r j) : EReal)) x = 256 → B < x)
    (hc : Inv A B w (c.1 (ix2 r 0)) (c.2.1 (ix2 r 0)) (c.2.2.1 (ix2 r 0)) c.2.2.2) :
    Inv A B (w / 2) ((stepG h k c).1 (ix2 r 0)) ((stepG h k c).2.1 (ix2 r 0)) ((stepG h k c).2.2.1 (ix2 r 0)) (stepG h k c).2.2.2 := by
  by_cases hp : (0 : EReal) < c.2.2.2
  · have hm : midG c.1 c.2.1 (ix2 r 0) = ((1 / 2 : ℝ) : EReal) * c.1 (ix2 r 0) + ((1 / 2 : ℝ) : EReal) * c.2.1 (ix2 r 0) := by
      rw [← word_half]; rfl
    obtain ⟨x, hx⟩ : ∃ x : ℝ, midG c.1 c.2.1 (ix2 r 0) = (x : EReal) := by
      obtain ⟨l, u, e1, e2, -⟩ := hc
      refine ⟨1 / 2 * l + 1 / 2 * u, ?_⟩
      rw [hm, e1, e2]; push_cast; rfl
    have hn := cntG_apply h k (midG c.1 c.2.1) r
    rw [hx] at hn
    obtain ⟨s1, s2, s3, s4⟩ := stepG_live h k r c hp _ hn
    have key := Inv.step (mid := midG c.1 c.2.1 (ix2 r 0)) (pend' := (stepG h k c).2.2.2) hc hm
      (by rw [hx]; exact hA x) (by rw [hx]; exact hB x) (by rw [← s3]; exact s4)
    rw [← s1, ← s2, ← s3] at key
    exact key
  · rw [stepG_dead h k c hp]
    exact Inv.stop hc (not_lt.1 hp)

/-- After `n` trips. -/
theorem iterate_inv (k : Vec Ideal (SK N) .f32) (r : Fin 256) (A B : EReal)
    (hA : ∀ x : ℝ, 256 ≤ count (fun j : Fin N => (k (ix2 r j) : EReal)) x ↔ (x : EReal) ≤ A)
    (hB : ∀ x : ℝ, count (fun j : Fin N => (k (ix2 r j) : EReal)) x = 256 → B < x) (n : ℕ) :
    ∀ (w : ℝ) (c : Carry Ideal), Inv A B w (c.1 (ix2 r 0)) (c.2.1 (ix2 r 0)) (c.2.2.1 (ix2 r 0)) c.2.2.2 →
      Inv A B (w * (1 / 2) ^ n) (((stepG h k)^[n] c).1 (ix2 r 0)) (((stepG h k)^[n] c).2.1 (ix2 r 0))
        (((stepG h k)^[n] c).2.2.1 (ix2 r 0)) ((stepG h k)^[n] c).2.2.2 := by
  induction n with
  | zero => intro w c hc; simpa using hc
  | succ n ih =>
    intro w c hc
    rw [Function.iterate_succ_apply]
    have := ih (w / 2) _ (stepG_inv h k r c A B w hA hB hc)
    rw [show w * (1 / 2) ^ (n + 1) = w / 2 * (1 / 2) ^ n by ring]
    exact this

/-- The threshold of a row whose bracket starts real, and whose scores 256 and 257 are further apart than 2⁻³² of it. -/
theorem thrG_between (ca : IVec (SK N) 1) (few : IVec S256x1 1) (k : Vec Ideal (SK N) .f32) (r : Fin 256) (A B : EReal) (t l : ℝ)
    (hA : ∀ x : ℝ, 256 ≤ count (fun j : Fin N => (k (ix2 r j) : EReal)) x ↔ (x : EReal) ≤ A)
    (hB : ∀ x : ℝ, count (fun j : Fin N => (k (ix2 r j) : EReal)) x = 256 → B < x)
    (hlo : loG (F := Ideal) h ca k (ix2 r 0) = (l : EReal)) (hhi : hiG (F := Ideal) h k (ix2 r 0) = (t : EReal)) (hl : (l : EReal) ≤ A) (ht : A ≤ t)
    (hfew : few (ix2 r 0) = 0#1)
    (hgap : ∀ x : ℝ, A ≤ ((x + (t - l) * (1 / 2) ^ 32 : ℝ) : EReal) → B < x) :
    B < thrG (F := Ideal) h ca few k (ix2 r 0) ∧ (thrG h ca few k (ix2 r 0) : EReal) ≤ A := by
  have htodo : todoG (F := Ideal) few (ix2 r 0) = (1 : EReal) := by
    show Scalar.select (few (ix2 r 0)) _ (Ideal.ofBits .f32 0x3F800000#32) = _
    rw [hfew, word_one]; rfl
  have h0 : Inv A B (t - l) ((thrG.hiLo h ca few k).1 (ix2 r 0)) ((thrG.hiLo h ca few k).2.1 (ix2 r 0))
      ((thrG.hiLo h ca few k).2.2.1 (ix2 r 0)) (thrG.hiLo h ca few k).2.2.2 :=
    ⟨l, t, hlo, hhi, hl, ht, Or.inr ⟨htodo, rfl⟩, le_colMax _ r⟩
  exact (iterate_inv h k r A B hA hB 32 (t - l) (thrG.hiLo h ca few k) h0).between hgap

end Cert.KernelIdeal.Hand
-- ==== Proof.Body.lean ====
/- The output block the kernel's body leaves, read at one query, head and lane, with floats the extended reals: the softmax
   over the kept keys' logits, as a function of the loaded blocks. -/
module

public import proofs.«01_k».proof.Proof.Bisect
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx

theorem sum_sixteen (g : Fin 16 → EReal) :
    0 + g 0 + g 1 + g 2 + g 3 + g 4 + g 5 + g 6 + g 7 + g 8 + g 9 + g 10 + g 11 + g 12 + g 13 + g 14 + g 15 = ∑ h, g h := by
  simp only [Fin.sum_univ_castSucc, Fin.sum_univ_zero]
  rfl

theorem scoreStep_apply (w : FVec Ideal S256x1 .f32) (ki : FVec Ideal S512x64 .bf16) (acc : FVec Ideal S256x512 .f32)
    (qi : Vec Ideal S1x256x64 .bf16) (r : Fin 256) (j : Fin 512) :
    (scoreStep w ki acc qi (ix2 r j) : EReal)
      = acc (ix2 r j) + w (ix2 r 0) * max (∑ d : Fin 64, (qi (ix3 0 r d) : EReal) * ki (ix2 j d)) 0 := by
  show (acc (ix2 r j) : EReal) + (broadcastTo S256x512 w broadcasts_S256x1_S256x512 (ix2 r j) : EReal)
    * max (FloatOps.matmul (DotDims.transposedRhs 256 64 512) none
        (shapeCast S256x64 qi shapeCasts_S1x256x64_S256x64) ki (constant S256x512 .f32 0x00000000#32) (ix2 r j) : EReal)
      (Ideal.ofBits .f32 0x00000000#32) = _
  rw [wide_apply, Ideal.matmul_transposedRhs_apply, Ideal.ofBits_zero_f32]
  have e : ∑ d : Fin 64, ((shapeCast S256x64 qi shapeCasts_S1x256x64_S256x64 (ix2 r d) : EReal) * ki (ix2 j d))
      = ∑ d : Fin 64, (qi (ix3 0 r d) : EReal) * ki (ix2 j d) :=
    Finset.sum_congr rfl fun d _ => by rw [shapeCast_1ab_ab_apply]
  have z : (constant S256x512 .f32 0x00000000#32 : FVec Ideal S256x512 .f32) (ix2 r j) = (0 : EReal) := Ideal.ofBits_zero_f32
  rw [e, z, zero_add]

theorem wcol_apply (w : FVec Ideal S256x16 .f32) (h : Fin 16) (r : Fin 256) : wcol w h (ix2 r 0) = w (ix2 r h) :=
  slice2_axis1_apply h.val w _ r 0 h (by simp)

theorem scoreBlk_apply (w : FVec Ideal S256x16 .f32) (kl : Vec Ideal S1x512x64 .bf16) (q : Fin 16 → Vec Ideal S1x256x64 .bf16)
    (r : Fin 256) (j : Fin 512) :
    (scoreBlk w kl q (ix2 r j) : EReal)
      = ∑ h : Fin 16, (w (ix2 r h) : EReal) * max (∑ d : Fin 64, (q h (ix3 0 r d) : EReal) * kl (ix3 0 j d)) 0 := by
  unfold scoreBlk
  rw [shapeCast_self]
  simp only [scoreStep_apply, wcol_apply, shapeCast_1ab_ab_apply]
  rw [← sum_sixteen]
  have z : (splat S256x512 0x00000000#32 : FVec Ideal S256x512 .f32) (ix2 r j) = (0 : EReal) := Ideal.ofBits_zero_f32
  rw [z]

theorem ldU3_apply {a b c a' b' c' : ℕ} {e : EltTy} (x : (⟨3, ![a, b, c]⟩ : Shape).Idx → Elt Ideal e) (o : Fin 3 → ℕ)
    (hin : ∀ k, o k + (![a', b', c'] : Fin 3 → ℕ) k ≤ (![a, b, c] : Fin 3 → ℕ) k) (i : Fin a') (j : Fin b') (k : Fin c')
    (i' : Fin a) (j' : Fin b) (k' : Fin c) (hi : i'.val = o 0 + i.val) (hj : j'.val = o 1 + j.val) (hk : k'.val = o 2 + k.val) :
    ldU (s := ⟨3, ![a, b, c]⟩) x o ![a', b', c'] hin (ix3 i j k) = x (ix3 i' j' k') := by
  refine congrArg x (funext fun ax => Fin.ext ?_)
  match ax with
  | ⟨0, _⟩ => show o 0 + 1 * i.val = i'.val; omega
  | ⟨1, _⟩ => show o 1 + 1 * j.val = j'.val; omega
  | ⟨2, _⟩ => show o 2 + 1 * k.val = k'.val; omega

/-- The score of key `j` for query `r` of the block. -/
def scoreR (x3 : S1x256x1024.Idx → EReal) (x4 : S1x256x128.Idx → EReal) (x7 : S1x2048x128.Idx → EReal) (r : Fin 256) (j : Fin 2048) :
    EReal :=
  ∑ h : Fin 16, (x4 (ix3 0 r ⟨80 + h.val, by omega⟩) * ((1 / 32 : ℝ) : EReal))
    * max (∑ d : Fin 64, x3 (ix3 0 r ⟨64 * h.val + d.val, by omega⟩) * x7 (ix3 0 j ⟨d.val, by omega⟩)) 0

theorem scoreAll_apply (x3 : S1x256x1024.Idx → Elt Ideal .bf16) (x4 : S1x256x128.Idx → Elt Ideal .f32)
    (x7 : S1x2048x128.Idx → Elt Ideal .bf16) (r : Fin 256) (j : Fin 2048) :
    (scoreAll x3 x4 x7 (ix2 r j) : EReal) = scoreR x3 x4 x7 r j := by
  have hb : j.val / 512 < 4 := by omega
  have hm : j.val % 512 < 512 := Nat.mod_lt _ (by decide)
  show (scoreBlk (wAt x4) (kiAt x7 ⟨j.val / 512, hb⟩) (qiAt x3) (ix2 r ⟨j.val % 512, hm⟩) : EReal) = _
  rw [scoreBlk_apply]
  unfold scoreR
  refine Finset.sum_congr rfl fun h _ => ?_
  congr 1
  · show (shapeCast S256x16 _ shapeCasts_S1x256x16_S256x16 (ix2 r h) : EReal) * Ideal.ofBits .f32 0x3D000000#32 = _
    rw [shapeCast_1ab_ab_apply, word_32nd]
    congr 1
    exact ldU3_apply x4 _ _ 0 r h 0 r _ rfl (by simp) rfl
  · congr 1
    refine Finset.sum_congr rfl fun d _ => ?_
    congr 1
    · exact ldU3_apply x3 _ _ 0 r d 0 r _ rfl (by simp) rfl
    · exact ldU3_apply x7 _ _ 0 _ d 0 j _ rfl (by simp; omega) (by simp)

theorem ofBool_ite (p : Prop) [Decidable p] : BitVec.ofBool (decide p) = if p then 1#1 else 0#1 := by
  by_cases e : p <;> simp [e]

/-- The logit of key `j` for query `r` and head `hd`, before its bias. -/
def dotR (x2 : S1x256x1024.Idx → EReal) (x5 : S1x2048x1024.Idx → EReal) (r : Fin 256) (hd : Fin 8) (j : Fin 2048) : EReal :=
  ∑ d : Fin 128, x2 (ix3 0 r ⟨128 * hd.val + d.val, by omega⟩) * x5 (ix3 0 j ⟨128 * hd.val + d.val, by omega⟩)

variable {N : ℕ} (h : Fit N) (hN : N ≤ 2048)

theorem pay1_apply (i : grid0.Coords) (r : Fin 256) : k0_pay1 i (ix2 r 0) = BitVec.ofNat 32 (256 * (i 1).val + r.val) := by
  show BitVec.ofNat 32 (i 1).val * 256#32 + BitVec.ofNat 32 (0 * 256 + r.val) = _
  apply BitVec.eq_of_toNat_eq
  simp [BitVec.toNat_add, BitVec.toNat_mul, BitVec.toNat_ofNat]
  rw [mul_comm]

theorem causal_apply (i : grid0.Coords) (r : Fin 256) (j : Fin N) (hN : N ≤ 2048) :
    causalG h (k0_pay1 i) (ix2 r j) = if j.val ≤ 256 * (i 1).val + r.val then 1#1 else 0#1 := by
  have h1 : (i 1).val < 8 := (i 1).isLt
  rw [causalG_apply, pay1_apply, WordCmp.cmpi_sle_ofNat (by omega) (by omega), ofBool_ite]

theorem few_apply (i : grid0.Coords) (r : Fin 256) :
    k0_pay3 i (ix2 r 0) = if 256 * (i 1).val + r.val < 256 then 1#1 else 0#1 := by
  have h1 : (i 1).val < 8 := (i 1).isLt
  show IntOp.cmpi .sle (k0_pay1 i (ix2 r 0) + 1#32) 256#32 = _
  rw [pay1_apply]
  have e : BitVec.ofNat 32 (256 * (i 1).val + r.val) + 1#32 = BitVec.ofNat 32 (256 * (i 1).val + r.val + 1) := by
    apply BitVec.eq_of_toNat_eq; simp [BitVec.toNat_add]
  rw [e]
  show IntOp.cmpi .sle _ (BitVec.ofNat 32 256) = _
  rw [WordCmp.cmpi_sle_ofNat (by omega) (by omega), ofBool_ite]
  exact if_congr (by omega) rfl rfl

theorem ldU2_apply {b c b' c' : ℕ} {e : EltTy} (x : (⟨2, ![b, c]⟩ : Shape).Idx → Elt Ideal e)
    (hin : ∀ k, (![0, 0] : Fin 2 → ℕ) k + (![b', c'] : Fin 2 → ℕ) k ≤ (![b, c] : Fin 2 → ℕ) k) (j : Fin b') (k : Fin c')
    (j' : Fin b) (k' : Fin c) (hj : j'.val = j.val) (hk : k'.val = k.val) :
    ldU (s := ⟨2, ![b, c]⟩) x ![0, 0] ![b', c'] hin (ix2 j k) = x (ix2 j' k') := by
  refine congrArg x (funext fun ax => Fin.ext ?_)
  match ax with
  | ⟨0, _⟩ => show 0 + 1 * j.val = j'.val; omega
  | ⟨1, _⟩ => show 0 + 1 * k.val = k'.val; omega

/-- The masked score of key `j` for query `r` of query tile `qt`. -/
def maskedR (x3 : S1x256x1024.Idx → EReal) (x4 : S1x256x128.Idx → EReal) (x7 : S1x2048x128.Idx → EReal) (p : ℕ) (r : Fin 256)
    (j : Fin 2048) : EReal := if j.val ≤ p then scoreR x3 x4 x7 r j else ⊥

theorem keysN_apply (i : grid0.Coords) (x3 : S1x256x1024.Idx → Elt Ideal .bf16) (x4 : S1x256x128.Idx → Elt Ideal .f32)
    (x7 : S1x2048x128.Idx → Elt Ideal .bf16) (r : Fin 256) (j : Fin N) :
    (keysN h hN i x3 x4 x7 (ix2 r j) : EReal) = maskedR x3 x4 x7 (256 * (i 1).val + r.val) r (j.castLE hN) := by
  unfold keysN
  rw [maskG_apply, causal_apply h i r j hN, select_ite]
  unfold maskedR
  refine if_congr Iff.rfl ?_ rfl
  rw [← scoreAll_apply]
  exact ldU2_apply _ _ r j r (j.castLE hN) rfl rfl

/-- The threshold of query `r`. -/
def thrR (i : grid0.Coords) (x3 : S1x256x1024.Idx → Elt Ideal .bf16) (x4 : S1x256x128.Idx → Elt Ideal .f32)
    (x7 : S1x2048x128.Idx → Elt Ideal .bf16) (r : Fin 256) : EReal :=
  if 256 * (i 1).val + r.val < 256 then ⊥ else thrG h (causalG h (k0_pay1 i)) (k0_pay3 i) (keysN h hN i x3 x4 x7) (ix2 r 0)

theorem biasG_apply (ca : IVec (SK N) 1) (few : IVec S256x1 1) (k : FVec Ideal (SK N) .f32) (r : Fin 256) (j : Fin N) :
    (biasG (F := Ideal) h ca few k (ix2 r j) : EReal)
      = Scalar.select (IntOp.andi (Ideal.cmp .oge (k (ix2 r j)) (Scalar.select (few (ix2 r 0)) (⊥ : EReal) (thrG (F := Ideal) h ca few k (ix2 r 0))))
          (ca (ix2 r j))) (0 : EReal) ⊥ := by
  unfold biasG
  generalize thrG (F := Ideal) h ca few k = t
  rw [select_apply]
  have z : (splat (SK N) 0x00000000#32 : FVec Ideal (SK N) .f32) (ix2 r j) = (0 : EReal) := Ideal.ofBits_zero_f32
  have b : (splat (SK N) 0xFF800000#32 : FVec Ideal (SK N) .f32) (ix2 r j) = (⊥ : EReal) := word_bot
  have b1 : (splat S256x1 0xFF800000#32 : FVec Ideal S256x1 .f32) (ix2 r 0) = (⊥ : EReal) := word_bot
  rw [z, b, ← b1]
  generalize (splat S256x1 0xFF800000#32 : FVec Ideal S256x1 .f32) = bb
  congr 1
  show IntOp.andi (Ideal.cmp .oge (k (ix2 r j)) (broadcastTo (SK N) (select few bb t) h.wide (ix2 r j))) (ca (ix2 r j)) = _
  rw [wide_apply, select_apply]

theorem biasN_apply (i : grid0.Coords) (x3 : S1x256x1024.Idx → Elt Ideal .bf16) (x4 : S1x256x128.Idx → Elt Ideal .f32)
    (x7 : S1x2048x128.Idx → Elt Ideal .bf16) (r : Fin 256) (j : Fin N) :
    (biasN h hN i x3 x4 x7 (ix2 r j) : EReal)
      = if thrR h hN i x3 x4 x7 r ≤ maskedR x3 x4 x7 (256 * (i 1).val + r.val) r (j.castLE hN) ∧ j.val ≤ 256 * (i 1).val + r.val
        then 0 else ⊥ := by
  unfold biasN
  rw [biasG_apply, few_apply, select_ite, keysN_apply, causal_apply h i r j hN]
  unfold thrR
  generalize thrG h (causalG h (k0_pay1 i)) (k0_pay3 i) (keysN h hN i x3 x4 x7) (ix2 r 0) = t
  rw [cmp_oge]
  by_cases h1 : (if 256 * (i 1).val + r.val < 256 then ⊥ else (t : EReal)) ≤ maskedR x3 x4 x7 (256 * (i 1).val + r.val) r (j.castLE hN) <;>
    by_cases h2 : j.val ≤ 256 * (i 1).val + r.val
  · rw [if_pos h1, if_pos h2, if_pos ⟨h1, h2⟩]; rfl
  · rw [if_pos h1, if_neg h2, if_neg (fun e => h2 e.2)]; rfl
  · rw [if_neg h1, if_pos h2, if_neg (fun e => h1 e.1)]; rfl
  · rw [if_neg h1, if_neg h2, if_neg (fun e => h1 e.1)]; rfl

/-- The softmax over a row's logits applied to a lane of the values. -/
def attR (s : Fin N → EReal) (v : Fin N → EReal) : EReal :=
  Ideal.div (∑ j, Ideal.exp (s j - Finset.univ.sup s) * v j) (∑ j, Ideal.exp (s j - Finset.univ.sup s))

theorem expG_apply (s : FVec Ideal (SK N) .f32) (r : Fin 256) (j : Fin N) :
    (expG h s (ix2 r j) : EReal) = Ideal.exp (s (ix2 r j) - Finset.univ.sup fun j : Fin N => (s (ix2 r j) : EReal)) := by
  unfold expG
  show Ideal.exp ((s (ix2 r j) : EReal) - broadcastTo (SK N) (hiG h s) h.wide (ix2 r j)) = _
  rw [wide_apply, hiG_apply]

theorem headG_apply (q : Vec Ideal S1x256x128 .bf16) (k : Vec Ideal (SR N) .bf16) (b : Vec Ideal (SK N) .f32) (v : Vec Ideal (SR N) .bf16)
    (r : Fin 256) (d : Fin 128) :
    (headG h q k b v (ix3 0 r d) : EReal)
      = attR (fun j => (logitG h q k b (ix2 r j) : EReal)) (fun j => (v (ix3 0 j d) : EReal)) := by
  unfold headG
  rw [shapeCast_ab_1ab_apply]
  generalize logitG h q k b = s
  show Ideal.div (FloatOps.matmul (DotDims.plain 256 N 128) none (expG h s : FVec Ideal (SK N) .bf16) _ _ (ix2 r d))
    (broadcastTo S256x128 _ broadcasts_S256x1_S256x128 (ix2 r d)) = _
  rw [wide_apply, Ideal.matmul_plain_apply]
  unfold attR
  congr 1
  · have z : (constant S256x128 .f32 0x00000000#32 : FVec Ideal S256x128 .f32) (ix2 r d) = (0 : EReal) := Ideal.ofBits_zero_f32
    rw [z, zero_add]
    refine Finset.sum_congr rfl fun j _ => ?_
    congr 1
    · exact expG_apply h s r j
    · exact shapeCast_1ab_ab_apply v h.rows j d
  · refine (rowSum_apply h _ _ r).trans ?_
    exact Finset.sum_congr rfl fun j _ => expG_apply h s r j

theorem logitG_apply (q : Vec Ideal S1x256x128 .bf16) (k : Vec Ideal (SR N) .bf16) (b : Vec Ideal (SK N) .f32) (r : Fin 256) (j : Fin N) :
    (logitG h q k b (ix2 r j) : EReal)
      = (∑ d : Fin 128, (q (ix3 0 r d) : EReal) * k (ix3 0 j d)) * (scale : EReal) + b (ix2 r j) := by
  unfold logitG
  show (FloatOps.matmul (F := Ideal) (DotDims.transposedRhs 256 128 N) none _ _ _ (ix2 r j) : EReal) * Ideal.ofBits .f32 0x3DB504F3#32 + b (ix2 r j) = _
  rw [Ideal.matmul_transposedRhs_apply, word_scale]
  have z : (constant (SK N) .f32 0x00000000#32 : FVec Ideal (SK N) .f32) (ix2 r j) = (0 : EReal) := Ideal.ofBits_zero_f32
  rw [z, zero_add]
  congr 2
  refine Finset.sum_congr rfl fun d _ => ?_
  congr 1
  · exact shapeCast_1ab_ab_apply q _ r d
  · exact shapeCast_1ab_ab_apply k h.rows j d

theorem outN_apply (i : grid0.Coords) (x2 x3 : S1x256x1024.Idx → Elt Ideal .bf16)
    (x4 : S1x256x128.Idx → Elt Ideal .f32) (x5 x6 : S1x2048x1024.Idx → Elt Ideal .bf16) (x7 : S1x2048x128.Idx → Elt Ideal .bf16)
    (r : Fin 256) (hd : Fin 8) (d : Fin 128) (y : Fin 1024) (hy : y.val = 128 * hd.val + d.val) :
    (outN h hN i x2 x3 x4 x5 x6 x7 (ix3 0 r y) : EReal)
      = attR (fun j : Fin N => dotR x2 x5 r hd (j.castLE hN) * (scale : EReal)
            + if thrR h hN i x3 x4 x7 r ≤ maskedR x3 x4 x7 (256 * (i 1).val + r.val) r (j.castLE hN) ∧ j.val ≤ 256 * (i 1).val + r.val
              then 0 else ⊥)
          (fun j : Fin N => (x6 (ix3 0 (j.castLE hN) y) : EReal)) := by
  have e1 : (⟨y.val / 128, Nat.div_lt_of_lt_mul y.isLt⟩ : Fin 8) = hd := Fin.ext (by simp only; omega)
  have e2 : (⟨y.val % 128, Nat.mod_lt _ (by decide)⟩ : Fin 128) = d := Fin.ext (by simp only; omega)
  show (headN h hN i x2 x3 x4 x5 x6 x7 ⟨y.val / 128, _⟩ (ix3 0 r ⟨y.val % 128, _⟩) : EReal) = _
  rw [e1, e2]
  unfold headN
  rw [headG_apply]
  congr 1
  · funext j
    rw [logitG_apply, biasN_apply]
    congr 2
    unfold dotR
    refine Finset.sum_congr rfl fun d _ => ?_
    congr 1
    · exact ldU3_apply x2 _ _ 0 r d 0 r _ rfl (by simp) rfl
    · exact ldU3_apply x5 _ _ 0 j d 0 (j.castLE hN) _ rfl (by simp) rfl
  · funext j
    exact ldU3_apply x6 _ _ 0 j d 0 (j.castLE hN) y rfl (by simp) hy

end Cert.KernelIdeal.Hand
-- ==== Proof.Inputs.lean ====
module

public import proofs.«01_k».proof.Proof.Launch
public import proofs.«01_k».proof.Proof.Body
public import Idealize.ShloMosaic.Lib.Pipeline.ValueKit.Geometry

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx

/-- The six pieces the host lays side by side, of the projection `x`. -/
def pieces (x : Vec Ideal S4x2048x7264 .f32) : List ((s : Shape) × (s.Idx → Ideal .f32)) :=
  [⟨S4x2048x3072, extractStridedSlice S4x2048x3072 ![0, 0, 0] x slices_S4x2048x7264_S4x2048x3072_0_0_0⟩,
   ⟨S4x2048x4096, extractStridedSlice S4x2048x4096 ![0, 0, 3088] x slices_S4x2048x7264_S4x2048x4096_0_0_3088⟩,
   ⟨S4x2048x64, extractStridedSlice S4x2048x64 ![0, 0, 7184] x slices_S4x2048x7264_S4x2048x64_0_0_7184⟩,
   ⟨S4x2048x16, extractStridedSlice S4x2048x16 ![0, 0, 3072] x slices_S4x2048x7264_S4x2048x16_0_0_3072⟩,
   ⟨S4x2048x16, extractStridedSlice S4x2048x16 ![0, 0, 7248] x slices_S4x2048x7264_S4x2048x16_0_0_7248⟩,
   ⟨S4x2048x32, broadcastInDim S4x2048x32 ![] bcast_S_S4x2048x32 (constant S_ .f32 0x00000000#32)⟩]

variable (m : (ℓ : Loc nD τ sig) → Buf (Elt Ideal) ℓ)

theorem V_v6 (c : Dev nD) : V m c main_v6 = concatenate S4x2048x7296 2 (pieces (m ((c : Thread nD τ).loc main_arg0)))
    concatenates_S4x2048x3072_S4x2048x4096_S4x2048x64_S4x2048x16_S4x2048x16_S4x2048x32_S4x2048x7296_d2 := by
  unfold V hostOps0
  after_results_simp
  rfl

theorem V_v7 (c : Dev nD) : V m c main_v7 = V m c main_v6 := by
  unfold V hostOps0
  after_results_simp
  rfl

/-- The laid-out array in its second piece: the query, key, value and indexer-query columns. -/
theorem cat_wide (x : Vec Ideal S4x2048x7264 .f32) (b : Fin 4) (p : Fin 2048) (y : Fin 7296) (z : Fin 7264)
    (h1 : 3072 ≤ y.val) (h2 : y.val < 7168) (hz : z.val = y.val + 16) :
    concatenate S4x2048x7296 2 (pieces x)
      concatenates_S4x2048x3072_S4x2048x4096_S4x2048x64_S4x2048x16_S4x2048x16_S4x2048x32_S4x2048x7296_d2 (ix3 b p y) = x (ix3 b p z) := by
  refine (concatenate_apply_piece (t := S4x2048x7296) 2 (pieces x) _ (ix3 b p y) 1 (Nat.lt_of_sub_pos (by exact Nat.succ_pos _)) S4x2048x4096 _ rfl rfl 3072 rfl
    (ix3 b p ⟨y.val - 3072, by omega⟩) ?_ ?_).trans ?_
  · intro a ha
    match a with
    | ⟨0, _⟩ => rfl
    | ⟨1, _⟩ => rfl
    | ⟨2, _⟩ => exact absurd rfl ha
  · show 3072 + (y.val - 3072) = y.val
    omega
  · unfold extractStridedSlice
    congr 1
    funext a
    apply Fin.ext
    match a with
    | ⟨0, _⟩ => show 0 + b.val = b.val; omega
    | ⟨1, _⟩ => show 0 + p.val = p.val; omega
    | ⟨2, _⟩ => show 3088 + (y.val - 3072) = z.val; omega

/-- … in its third: the indexer's keys. -/
theorem cat_key (x : Vec Ideal S4x2048x7264 .f32) (b : Fin 4) (p : Fin 2048) (y : Fin 7296) (z : Fin 7264)
    (h1 : 7168 ≤ y.val) (h2 : y.val < 7232) (hz : z.val = y.val + 16) :
    concatenate S4x2048x7296 2 (pieces x)
      concatenates_S4x2048x3072_S4x2048x4096_S4x2048x64_S4x2048x16_S4x2048x16_S4x2048x32_S4x2048x7296_d2 (ix3 b p y) = x (ix3 b p z) := by
  refine (concatenate_apply_piece (t := S4x2048x7296) 2 (pieces x) _ (ix3 b p y) 2 (Nat.lt_of_sub_pos (by exact Nat.succ_pos _)) S4x2048x64 _ rfl rfl 7168 rfl
    (ix3 b p ⟨y.val - 7168, by omega⟩) ?_ ?_).trans ?_
  · intro a ha
    match a with
    | ⟨0, _⟩ => rfl
    | ⟨1, _⟩ => rfl
    | ⟨2, _⟩ => exact absurd rfl ha
  · show 7168 + (y.val - 7168) = y.val
    omega
  · unfold extractStridedSlice
    congr 1
    funext a
    apply Fin.ext
    match a with
    | ⟨0, _⟩ => show 0 + b.val = b.val; omega
    | ⟨1, _⟩ => show 0 + p.val = p.val; omega
    | ⟨2, _⟩ => show 7184 + (y.val - 7168) = z.val; omega

/-- … and in its fifth: the indexer's head weights. -/
theorem cat_weight (x : Vec Ideal S4x2048x7264 .f32) (b : Fin 4) (p : Fin 2048) (y : Fin 7296) (z : Fin 7264)
    (h1 : 7248 ≤ y.val) (h2 : y.val < 7264) (hz : z.val = y.val) :
    concatenate S4x2048x7296 2 (pieces x)
      concatenates_S4x2048x3072_S4x2048x4096_S4x2048x64_S4x2048x16_S4x2048x16_S4x2048x32_S4x2048x7296_d2 (ix3 b p y) = x (ix3 b p z) := by
  refine (concatenate_apply_piece (t := S4x2048x7296) 2 (pieces x) _ (ix3 b p y) 4 (Nat.lt_of_sub_pos (by exact Nat.succ_pos _)) S4x2048x16 _ rfl rfl 7248 rfl
    (ix3 b p ⟨y.val - 7248, by omega⟩) ?_ ?_).trans ?_
  · intro a ha
    match a with
    | ⟨0, _⟩ => rfl
    | ⟨1, _⟩ => rfl
    | ⟨2, _⟩ => exact absurd rfl ha
  · show 7248 + (y.val - 7248) = y.val
    omega
  · unfold extractStridedSlice
    congr 1
    funext a
    apply Fin.ext
    match a with
    | ⟨0, _⟩ => show 0 + b.val = b.val; omega
    | ⟨1, _⟩ => show 0 + p.val = p.val; omega
    | ⟨2, _⟩ => show 7248 + (y.val - 7248) = z.val; omega

/-- Every window's block index at every point. -/
theorem index_at : ∀ t : Fin cfg0.N,
    win0_0.index t = ![(grid0.coords t 0).val, (grid0.coords t 1).val, 3] ∧ win0_1.index t = ![(grid0.coords t 0).val, (grid0.coords t 1).val, 6]
    ∧ win0_2.index t = ![(grid0.coords t 0).val, (grid0.coords t 1).val, 56] ∧ win0_3.index t = ![(grid0.coords t 0).val, 0, 4]
    ∧ win0_4.index t = ![(grid0.coords t 0).val, 0, 5] ∧ win0_5.index t = ![(grid0.coords t 0).val, 0, 56]
    ∧ win0_6.index t = ![(grid0.coords t 0).val, (grid0.coords t 1).val, 0] :=
  (by decide +kernel : ∀ t : Fin grid0.N, _)

/-- The query block at a point: the tile's rows, in the query columns. -/
theorem xb2_at (c : Dev nD) (t : Fin cfg0.N) (b : Fin 4) (P : Fin 2048) (r : Fin 256) (y : Fin 1024) (z : Fin 7264)  (hz : z.val = 3088 + y.val) (hb : b.val = (grid0.coords t 0).val)
    (hP : P.val = 256 * (grid0.coords t 1).val + r.val) :
    xb2 m c t (ix3 0 r y) = m ((c : Thread nD τ).loc main_arg0) (ix3 b P z) := by
  have e : xb2 m c t (ix3 0 r y) = V m c main_v7 (ix3 b P ⟨3072 + y.val, by omega⟩) := by
    unfold xb2 X0_0 Pipeline.Window.fill
    rw [dif_pos (moved0_0 t _)]
    unfold iblk
    blk_simp
    congr 1
    funext a
    apply Fin.ext
    obtain ⟨h0, h1, h2, h3, h4, h5, h6⟩ := index_at t
    blk_simp [h0]
    match a with
    | ⟨0, _⟩ => show (grid0.coords t 0).val * 1 + 0 = b.val; omega
    | ⟨1, _⟩ => show (grid0.coords t 1).val * 256 + r.val = P.val; omega
    | ⟨2, _⟩ => rfl
  rw [e, V_v7, V_v6]
  exact cat_wide _ b P _ z (by show _ ≤ 3072 + y.val; omega) (by show 3072 + y.val < _; omega) (by show z.val = 3072 + y.val + 16; omega)

/-- The indexer query block: the tile's rows, in the indexer query columns. -/
theorem xb3_at (c : Dev nD) (t : Fin cfg0.N) (b : Fin 4) (P : Fin 2048) (r : Fin 256) (y : Fin 1024) (z : Fin 7264)  (hz : z.val = 6160 + y.val) (hb : b.val = (grid0.coords t 0).val)
    (hP : P.val = 256 * (grid0.coords t 1).val + r.val) :
    xb3 m c t (ix3 0 r y) = m ((c : Thread nD τ).loc main_arg0) (ix3 b P z) := by
  have e : xb3 m c t (ix3 0 r y) = V m c main_v7 (ix3 b P ⟨6144 + y.val, by omega⟩) := by
    unfold xb3 X0_1 Pipeline.Window.fill
    rw [dif_pos (moved0_1 t _)]
    unfold iblk
    blk_simp
    congr 1
    funext a
    apply Fin.ext
    obtain ⟨h0, h1, h2, h3, h4, h5, h6⟩ := index_at t
    blk_simp [h1]
    match a with
    | ⟨0, _⟩ => show (grid0.coords t 0).val * 1 + 0 = b.val; omega
    | ⟨1, _⟩ => show (grid0.coords t 1).val * 256 + r.val = P.val; omega
    | ⟨2, _⟩ => rfl
  rw [e, V_v7, V_v6]
  exact cat_wide _ b P _ z (by show _ ≤ 6144 + y.val; omega) (by show 6144 + y.val < _; omega) (by show z.val = 6144 + y.val + 16; omega)

/-- The weight block, in the indexer's weight columns. -/
theorem xb4_at (c : Dev nD) (t : Fin cfg0.N) (b : Fin 4) (P : Fin 2048) (r : Fin 256) (y : Fin 128) (z : Fin 7264) (h80 : 80 ≤ y.val) (h96 : y.val < 96) (hz : z.val = 7168 + y.val) (hb : b.val = (grid0.coords t 0).val)
    (hP : P.val = 256 * (grid0.coords t 1).val + r.val) :
    xb4 m c t (ix3 0 r y) = m ((c : Thread nD τ).loc main_arg0) (ix3 b P z) := by
  have e : xb4 m c t (ix3 0 r y) = V m c main_v6 (ix3 b P ⟨7168 + y.val, by omega⟩) := by
    unfold xb4 iblk
    blk_simp
    congr 1
    funext a
    apply Fin.ext
    obtain ⟨h0, h1, h2, h3, h4, h5, h6⟩ := index_at t
    blk_simp [h2]
    match a with
    | ⟨0, _⟩ => show (grid0.coords t 0).val * 1 + 0 = b.val; omega
    | ⟨1, _⟩ => show (grid0.coords t 1).val * 256 + r.val = P.val; omega
    | ⟨2, _⟩ => rfl
  rw [e, V_v6]
  exact cat_weight _ b P _ z (by show _ ≤ 7168 + y.val; omega) (by show 7168 + y.val < _; omega) (by show z.val = 7168 + y.val; omega)

/-- The key block: every position, in the key columns. -/
theorem xb5_at (c : Dev nD) (t : Fin cfg0.N) (b : Fin 4) (P : Fin 2048) (y : Fin 1024) (z : Fin 7264)  (hz : z.val = 4112 + y.val) (hb : b.val = (grid0.coords t 0).val) :
    xb5 m c t (ix3 0 P y) = m ((c : Thread nD τ).loc main_arg0) (ix3 b P z) := by
  have e : xb5 m c t (ix3 0 P y) = V m c main_v7 (ix3 b P ⟨4096 + y.val, by omega⟩) := by
    unfold xb5 X0_3 Pipeline.Window.fill
    rw [dif_pos (moved0_3 t _)]
    unfold iblk
    blk_simp
    congr 1
    funext a
    apply Fin.ext
    obtain ⟨h0, h1, h2, h3, h4, h5, h6⟩ := index_at t
    blk_simp [h3]
    match a with
    | ⟨0, _⟩ => show (grid0.coords t 0).val * 1 + 0 = b.val; omega
    | ⟨1, _⟩ => show 0 * 2048 + P.val = P.val; omega
    | ⟨2, _⟩ => rfl
  rw [e, V_v7, V_v6]
  exact cat_wide _ b P _ z (by show _ ≤ 4096 + y.val; omega) (by show 4096 + y.val < _; omega) (by show z.val = 4096 + y.val + 16; omega)

/-- The value block, in the value columns. -/
theorem xb6_at (c : Dev nD) (t : Fin cfg0.N) (b : Fin 4) (P : Fin 2048) (y : Fin 1024) (z : Fin 7264)  (hz : z.val = 5136 + y.val) (hb : b.val = (grid0.coords t 0).val) :
    xb6 m c t (ix3 0 P y) = m ((c : Thread nD τ).loc main_arg0) (ix3 b P z) := by
  have e : xb6 m c t (ix3 0 P y) = V m c main_v7 (ix3 b P ⟨5120 + y.val, by omega⟩) := by
    unfold xb6 X0_4 Pipeline.Window.fill
    rw [dif_pos (moved0_4 t _)]
    unfold iblk
    blk_simp
    congr 1
    funext a
    apply Fin.ext
    obtain ⟨h0, h1, h2, h3, h4, h5, h6⟩ := index_at t
    blk_simp [h4]
    match a with
    | ⟨0, _⟩ => show (grid0.coords t 0).val * 1 + 0 = b.val; omega
    | ⟨1, _⟩ => show 0 * 2048 + P.val = P.val; omega
    | ⟨2, _⟩ => rfl
  rw [e, V_v7, V_v6]
  exact cat_wide _ b P _ z (by show _ ≤ 5120 + y.val; omega) (by show 5120 + y.val < _; omega) (by show z.val = 5120 + y.val + 16; omega)

/-- The indexer key block, in the indexer key columns. -/
theorem xb7_at (c : Dev nD) (t : Fin cfg0.N) (b : Fin 4) (P : Fin 2048) (y : Fin 128) (z : Fin 7264) (h64 : y.val < 64) (hz : z.val = 7184 + y.val) (hb : b.val = (grid0.coords t 0).val) :
    xb7 m c t (ix3 0 P y) = m ((c : Thread nD τ).loc main_arg0) (ix3 b P z) := by
  have e : xb7 m c t (ix3 0 P y) = V m c main_v7 (ix3 b P ⟨7168 + y.val, by omega⟩) := by
    unfold xb7 iblk
    blk_simp
    congr 1
    funext a
    apply Fin.ext
    obtain ⟨h0, h1, h2, h3, h4, h5, h6⟩ := index_at t
    blk_simp [h5]
    match a with
    | ⟨0, _⟩ => show (grid0.coords t 0).val * 1 + 0 = b.val; omega
    | ⟨1, _⟩ => show 0 * 2048 + P.val = P.val; omega
    | ⟨2, _⟩ => rfl
  rw [e, V_v7, V_v6]
  exact cat_key _ b P _ z (by show _ ≤ 7168 + y.val; omega) (by show 7168 + y.val < _; omega) (by show z.val = 7168 + y.val + 16; omega)

end Cert.KernelIdeal.Hand

end
-- ==== Proof.Agree.lean ====
module

public import proofs.«01_k».proof.Proof.Spec
public import proofs.«01_k».proof.Proof.Inputs
public import proofs.«01_k».proof.Proof.Bisect

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Cert.Attend

/-- Scaling the weights once by 1/32, or the weights by 1/4 and the products by 1/8, is the same. -/
theorem scale_split (w X : EReal) :
    (w * ((1 / 32 : ℝ) : EReal)) * max X 0 = (w * ((1 / 4 : ℝ) : EReal)) * max (X * ((1 / 8 : ℝ) : EReal)) 0 := by
  have hm : max (X * ((1 / 8 : ℝ) : EReal)) 0 = max X 0 * ((1 / 8 : ℝ) : EReal) := by
    have mono : Monotone fun z : EReal => z * ((1 / 8 : ℝ) : EReal) := fun a b h =>
      mul_le_mul_of_nonneg_right h (by exact_mod_cast (by norm_num : (0 : ℝ) ≤ 1 / 8))
    rw [mono.map_max (a := X) (b := 0)]
    simp
  rw [hm, mul_mul_mul_comm, mul_right_comm, mul_assoc w, mul_comm (max X 0), ← EReal.coe_mul, mul_assoc w (max X 0), mul_comm (max X 0)]
  norm_num

variable {N : ℕ} (h : Fit N) (hN : N ≤ 2048) (x : Proj) (b : Fin 4) (P : Fin 2048)
  (i : grid0.Coords) (x2 x3 : S1x256x1024.Idx → Elt Ideal .bf16) (x4 : S1x256x128.Idx → Elt Ideal .f32)
  (x5 x6 : S1x2048x1024.Idx → Elt Ideal .bf16) (x7 : S1x2048x128.Idx → Elt Ideal .bf16) (r : Fin 256)

theorem scoreR_eq
    (h3 : ∀ (y : Fin 1024) (z : Fin 7264), z.val = 6160 + y.val → (x3 (ix3 0 r y) : EReal) = x (ix3 b P z))
    (h4 : ∀ (y : Fin 128) (z : Fin 7264), 80 ≤ y.val → y.val < 96 → z.val = 7168 + y.val → (x4 (ix3 0 r y) : EReal) = x (ix3 b P z))
    (h7 : ∀ (j : Fin 2048) (y : Fin 128) (z : Fin 7264), y.val < 64 → z.val = 7184 + y.val → (x7 (ix3 0 j y) : EReal) = x (ix3 b j z))
    (j : Fin 2048) : scoreR x3 x4 x7 r j = scoreX x b P j := by
  unfold scoreR scoreX
  refine Finset.sum_congr rfl fun g _ => ?_
  rw [scale_split, h4 _ ⟨7248 + g.val, by omega⟩ (by simp only; omega) (by simp only; omega) (by simp only; omega)]
  congr 3
  refine Finset.sum_congr rfl fun d _ => ?_
  rw [h3 _ ⟨6160 + (64 * g.val + d.val), by omega⟩ rfl, h7 j _ ⟨7184 + d.val, by omega⟩ (by simp only; omega) rfl]

/-- A tile's row is the layer's attention at its query. -/
theorem outN_eq (hP : P.val = 256 * (i 1).val + r.val) (hPN : P.val < N)
    (h2 : ∀ (y : Fin 1024) (z : Fin 7264), z.val = 3088 + y.val → (x2 (ix3 0 r y) : EReal) = x (ix3 b P z))
    (h3 : ∀ (y : Fin 1024) (z : Fin 7264), z.val = 6160 + y.val → (x3 (ix3 0 r y) : EReal) = x (ix3 b P z))
    (h4 : ∀ (y : Fin 128) (z : Fin 7264), 80 ≤ y.val → y.val < 96 → z.val = 7168 + y.val → (x4 (ix3 0 r y) : EReal) = x (ix3 b P z))
    (h5 : ∀ (j : Fin 2048) (y : Fin 1024) (z : Fin 7264), z.val = 4112 + y.val → (x5 (ix3 0 j y) : EReal) = x (ix3 b j z))
    (h6 : ∀ (j : Fin 2048) (y : Fin 1024) (z : Fin 7264), z.val = 5136 + y.val → (x6 (ix3 0 j y) : EReal) = x (ix3 b j z))
    (h7 : ∀ (j : Fin 2048) (y : Fin 128) (z : Fin 7264), y.val < 64 → z.val = 7184 + y.val → (x7 (ix3 0 j y) : EReal) = x (ix3 b j z))
    (pre : ∀ P, PreX x b P) (hd : Fin 8) (d : Fin 128) (y : Fin 1024) (hy : y.val = 128 * hd.val + d.val) :
    (outN h hN i x2 x3 x4 x5 x6 x7 (ix3 0 r y) : EReal) = outX x b P hd y := by
  have em : ∀ j : Fin 2048, maskedR x3 x4 x7 (256 * (i 1).val + r.val) r j = rowX x b P j := fun j => by
    unfold maskedR rowX
    rw [scoreR_eq x b P x3 x4 x7 r h3 h4 h7 j, ← hP]
  have ek : ∀ j : Fin N, (keysN h hN i x3 x4 x7 (ix2 r j) : EReal) = rowX x b P (j.castLE hN) := fun j => by
    rw [keysN_apply, em]
  -- the threshold lies around the cut
  have hT : (P.val < 256 ∧ thrR h hN i x3 x4 x7 r = ⊥)
      ∨ (rowX x b P (ordX x b P 256) < thrR h hN i x3 x4 x7 r ∧ thrR h hN i x3 x4 x7 r ≤ rowX x b P (ordX x b P 255)) := by
    by_cases hf : P.val < 256
    · exact Or.inl ⟨hf, by unfold thrR; rw [if_pos (by omega)]⟩
    · refine Or.inr ?_
      obtain ⟨-, -, hc | hc⟩ := pre P
      swap
      · exact absurd hc hf
      obtain ⟨a, t, l, ea, et, el, hla, hat, hg⟩ := clear_cut x b P (by omega) hc
      have S := ordX_sorted x b P
      have eC : ∀ z : ℝ, Select.count (fun j : Fin N => (keysN h hN i x3 x4 x7 (ix2 r j) : EReal)) z = Select.count (rowX x b P) z := fun z => by
        rw [show (fun j : Fin N => (keysN h hN i x3 x4 x7 (ix2 r j) : EReal)) = fun j => rowX x b P (j.castLE hN) from funext ek]
        exact Select.count_castLE hN (rowX x b P) (fun j hj => rowX_after x b P j (by omega)) _ (EReal.coe_ne_bot z)
      unfold thrR
      rw [if_neg (by omega), ea]
      refine thrG_between h _ _ _ r (a : EReal) (rowX x b P (ordX x b P 256)) t l (fun z => ?_) (fun z hz => ?_) ?_ ?_ hla hat ?_ (fun z hz => ?_)
      · rw [eC, ← ea]; exact S.le_iff_count 255 z
      · rw [eC] at hz
        refine not_le.1 fun hle => ?_
        have := (S.le_iff_count 256 z).2 hle
        have h256 : (256 : Fin 2048).val = 256 := rfl
        omega
      · rw [loG_apply, ← el, ← inf_row x b P hN hPN]
        refine congrArg (Finset.inf Finset.univ) (funext fun j => ?_)
        rw [causal_apply h i r j hN, select_ite, ek, ← hP]
      · rw [hiG_apply, ← et, ← sup_row x b P hN hPN]
        exact congrArg (Finset.sup Finset.univ) (funext ek)
      · rw [few_apply, if_neg (by omega)]
      · refine hg z ?_
        exact_mod_cast hz
  have hq : ∀ j, ∃ e : ℝ, logitX x b P hd j = e := logitX_real x b P (pre P).1 (fun j => (pre j).2.1) hd
  choose E hE using hq
  rw [outN_apply h hN i x2 x3 x4 x5 x6 x7 r hd d y hy]
  generalize thrR h hN i x3 x4 x7 r = T at hT ⊢
  have ed : ∀ j : Fin 2048, dotR x2 x5 r hd j * (scale : EReal) = logitX x b P hd j := fun j => by
    unfold dotR logitX
    refine congrArg₂ (· * ·) (Finset.sum_congr rfl fun d _ => ?_) rfl
    rw [h2 _ ⟨3088 + (128 * hd.val + d.val), by omega⟩ rfl, h5 j _ ⟨4112 + (128 * hd.val + d.val), by omega⟩ rfl]
  classical
  unfold attR
  have key := attend hN (fun j : Fin 2048 => T ≤ rowX x b P j ∧ j.val ≤ P.val) (fun j hj => by have := hj.2; omega)
    (fun i : Fin 256 => ordX x b P (i.castLE (by decide)))
    (fun a a' e => Fin.castLE_injective _ ((ordX_sorted x b P).inj e))
    (fun i : Fin 256 => (ordX x b P (i.castLE (by decide))).val ≤ P.val) (fun j => kept x b P T hT j) (kept_some x b P T hT)
    E (fun j => x (ix3 b j ⟨5136 + y.val, by omega⟩))
    (fun j : Fin N => dotR x2 x5 r hd (j.castLE hN) * (scale : EReal)
      + if T ≤ maskedR x3 x4 x7 (256 * (i 1).val + r.val) r (j.castLE hN) ∧ j.val ≤ 256 * (i 1).val + r.val then 0 else ⊥)
    (fun j => by
      rw [ed, hE, em, ← hP]
      rfl)
    (selX x b P hd) (fun i => by
      unfold selX
      rw [hE])
  have ev : (fun j : Fin N => (x6 (ix3 0 (j.castLE hN) y) : EReal)) = fun j => x (ix3 b (j.castLE hN) ⟨5136 + y.val, by omega⟩) :=
    funext fun j => h6 (j.castLE hN) y ⟨5136 + y.val, by omega⟩ rfl
  refine Eq.trans ?_ (key.trans rfl)
  rw [ev]

end Cert.KernelIdeal.Hand

end
-- ==== Proof.Output.lean ====
module

public import proofs.«01_k».proof.Proof.Agree

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Cert.Attend

/-- The whole layer's attention. -/
def attended (x : Proj) : S4x2048x1024.Idx → EReal := fun j =>
  outX x (j 0) (j 1) ⟨(j 2).val / 128, Nat.div_lt_of_lt_mul (j 2).isLt⟩ (j 2)

/-- Which branch a tile takes. -/
theorem branch_at : ∀ t : Fin cfg0.N,
    ((k0_cond1 (grid0.coords t) = 1#1) ↔ 2 ≤ (grid0.coords t 1).val) ∧ (2 ≤ (grid0.coords t 1).val → ((k0_cond2 (grid0.coords t) = 1#1) ↔ 4 ≤ (grid0.coords t 1).val))
      ∧ (4 ≤ (grid0.coords t 1).val → ((k0_cond3 (grid0.coords t) = 1#1) ↔ 6 ≤ (grid0.coords t 1).val)) :=
  (by decide +kernel : ∀ t : Fin grid0.N, _)

variable (m : (ℓ : Loc nD τ sig) → Buf (Elt Ideal) ℓ)

/-- What the body leaves at point `t`: the attention of the tile's queries. -/
theorem outAt_eq (c : Dev nD) (t : Fin cfg0.N) (b : Fin 4) (P : Fin 2048) (r : Fin 256) (y : Fin 1024) (hb : b.val = (grid0.coords t 0).val)
    (hP : P.val = 256 * (grid0.coords t 1).val + r.val)
    (pre : ∀ P, PreX (m ((c : Thread nD τ).loc main_arg0)) b P) :
    (outAt (grid0.coords t) (xb2 m c t) (xb3 m c t) (xb4 m c t) (xb5 m c t) (xb6 m c t) (xb7 m c t) (ix3 0 r y) : EReal)
      = outX (m ((c : Thread nD τ).loc main_arg0)) b P ⟨y.val / 128, Nat.div_lt_of_lt_mul y.isLt⟩ y := by
  have key : ∀ {N : ℕ} (h : Fit N) (hN : N ≤ 2048) (hPN : P.val < N),
      (outN h hN (grid0.coords t) (xb2 m c t) (xb3 m c t) (xb4 m c t) (xb5 m c t) (xb6 m c t) (xb7 m c t) (ix3 0 r y) : EReal)
        = outX (m ((c : Thread nD τ).loc main_arg0)) b P ⟨y.val / 128, Nat.div_lt_of_lt_mul y.isLt⟩ y := fun h hN hPN =>
    outN_eq h hN (m ((c : Thread nD τ).loc main_arg0)) b P (grid0.coords t) _ _ _ _ _ _ r hP hPN
      (fun y z hz => xb2_at m c t b P r y z hz hb hP) (fun y z hz => xb3_at m c t b P r y z hz hb hP)
      (fun y z h1 h2 hz => xb4_at m c t b P r y z h1 h2 hz hb hP) (fun j y z hz => xb5_at m c t b j y z hz hb)
      (fun j y z hz => xb6_at m c t b j y z hz hb) (fun j y z h1 hz => xb7_at m c t b j y z h1 hz hb)
      pre _ ⟨y.val % 128, Nat.mod_lt _ (by decide)⟩ y (Nat.div_add_mod _ _).symm
  obtain ⟨h1, h2, h3⟩ := branch_at t
  have hr := r.isLt
  unfold outAt
  by_cases c1 : k0_cond1 (grid0.coords t) = 1#1
  · have q1 := h1.1 c1
    rw [if_pos c1]
    by_cases c2 : k0_cond2 (grid0.coords t) = 1#1
    · have q2 := (h2 q1).1 c2
      rw [if_pos c2]
      by_cases c3 : k0_cond3 (grid0.coords t) = 1#1
      · rw [if_pos c3]; exact key _ _ P.isLt
      · rw [if_neg c3]; exact key _ _ (by have := mt (h3 q2).2 c3; omega)
    · rw [if_neg c2]; exact key _ _ (by have := mt (h2 q1).2 c2; omega)
  · rw [if_neg c1]; exact key _ _ (by have := mt h1.2 c1; omega)

/-- The array the run leaves. -/
theorem left_out (c : Dev nD) (pre : ∀ b P, PreX (m ((c : Thread nD τ).loc main_arg0)) b P) :
    (dats m 0 c).arrAt 6 cfg0.N = attended (m ((c : Thread nD τ).loc main_arg0)) := by
  refine (dats m 0 c).arrAt_eq_of_covers 6 _ (by decide +kernel) fun t hf y => ?_
  blk_simp
  rw [left_6]
  have e := outAt_eq m c t ⟨(grid0.coords t 0).val, (grid0.coords t 0).isLt⟩
    ⟨256 * (grid0.coords t 1).val + (y 1).val, by have := (grid0.coords t 1).isLt; have : (y 1).val < 256 := (y 1).isLt; have : (grid0.coords t 1).val < 8 := (grid0.coords t 1).isLt; omega⟩ (y 1) (y 2) rfl rfl (pre _)
  obtain ⟨-, -, -, -, -, -, h6⟩ := index_at t
  have ey : y = (ix3 0 (y 1) (y 2) : S1x256x1024.Idx) := funext fun a => match a with
    | ⟨0, _⟩ => Subsingleton.elim (α := Fin 1) _ _
    | ⟨1, _⟩ => rfl
    | ⟨2, _⟩ => rfl
  have ee : (win0_6.blk t).view.emb y = (ix3 ⟨(grid0.coords t 0).val, (grid0.coords t 0).isLt⟩
      ⟨256 * (grid0.coords t 1).val + (y 1).val, by have : (y 1).val < 256 := (y 1).isLt; have : (grid0.coords t 1).val < 8 := (grid0.coords t 1).isLt; omega⟩
      (y 2) : S4x2048x1024.Idx) := by
    funext a
    apply Fin.ext
    blk_simp [h6]
    match a with
    | ⟨0, _⟩ => show (grid0.coords t 0).val * 1 + (y 0).val = (grid0.coords t 0).val; have : (y 0).val < 1 := (y 0).isLt; omega
    | ⟨1, _⟩ => show (grid0.coords t 1).val * 256 + (y 1).val = 256 * (grid0.coords t 1).val + (y 1).val; omega
    | ⟨2, _⟩ => show 0 * 1024 + (y 2).val = (y 2).val; omega
  rw [ee]
  refine Eq.trans ?_ e
  exact congrArg _ ey

end Cert.KernelIdeal.Hand

end
-- ==== Proof.TopK.lean ====
module

public import proofs.«01_k».proof.Proof.Spec
public import proofs.«01_k».proof.Proof.Bisect
public import proofs.«01_k».proof.Proof.Gen.ReferenceIdeal.Read

@[expose] public section

set_option maxRecDepth 16384

noncomputable section

namespace Cert.Attend

open Idealize.ShloMosaic Idealize.ShloMosaic.ValueIdx

/-- The keys of a row, best first. -/
def ordOf (s : Fin 2048 → EReal) : Fin 2048 → Fin 2048 := sortedFrom fun k k' => decide (s k' < s k)

theorem ordOf_row (x : Proj) (b : Fin 4) (P : Fin 2048) : ordOf (rowX x b P) = ordX x b P := by
  unfold ordOf ordX; rfl

attribute [irreducible] ordOf

variable {K : ℕ} (hK : K ≤ 2048) (x : (⟨3, ![4, 2048, 2048]⟩ : Shape).Idx → Ideal .f32)
  (h : (⟨3, ![4, 2048, 2048]⟩ : Shape).Slices (fun _ => 0) ⟨3, ![4, 2048, K]⟩) (b : Fin 4) (P : Fin 2048) (i : Fin K)

theorem along_last (j : Fin 2048) (hd : 2 < (⟨3, ![4, 2048, 2048]⟩ : Shape).rank) (k : Fin ((⟨3, ![4, 2048, 2048]⟩ : Shape).size ⟨2, hd⟩)) :
    Shape.Idx.along (s := ⟨3, ![4, 2048, 2048]⟩) (ix3 b P j) ⟨2, hd⟩ k = ix3 b P (k : Fin 2048) := by
  unfold Shape.Idx.along
  funext a
  match a with
  | ⟨0, _⟩ => rfl
  | ⟨1, _⟩ => rfl
  | ⟨2, _⟩ => rfl

theorem order_eq : (fun k k' : Fin 2048 => Ideal.cmp .ogt (x (ix3 b P k)) (x (ix3 b P k')) == 1#1)
      = fun k k' => decide ((fun k => x (ix3 b P k)) k' < (fun k => x (ix3 b P k)) k) := by
  funext k k'
  rw [KernelIdeal.Hand.cmp_ogt]
  by_cases e : x (ix3 b P k') < x (ix3 b P k) <;> simp [e]

/-- A slice that only shortens the last axis. -/
theorem shorten_at {α : Type} (v : (⟨3, ![4, 2048, 2048]⟩ : Shape).Idx → α) :
    extractStridedSlice ⟨3, ![4, 2048, K]⟩ (fun _ => 0) v h (ix3 b P i) = v (ix3 b P (i.castLE hK)) := by
  refine extractStridedSlice_apply _ _ _ _ _ fun a => ?_
  match a with
  | ⟨0, _⟩ => exact (Nat.zero_add _).symm
  | ⟨1, _⟩ => exact (Nat.zero_add _).symm
  | ⟨2, _⟩ => exact (Nat.zero_add _).symm

theorem sort_at (y : IVec ⟨3, ![4, 2048, 2048]⟩ 32) (j : Fin 2048) :
    (Host.sort2 ⟨3, ![4, 2048, 2048]⟩ 2 (fun l r : Ideal .f32 × BitVec 32 => FloatOps.cmpfTotal .gt l.1 r.1) x y).1 (ix3 b P j)
      = x (ix3 b P (ordOf (fun k => x (ix3 b P k)) j))
    ∧ (Host.sort2 ⟨3, ![4, 2048, 2048]⟩ 2 (fun l r : Ideal .f32 × BitVec 32 => FloatOps.cmpfTotal .gt l.1 r.1) x y).2 (ix3 b P j)
      = y (ix3 b P (ordOf (fun k => x (ix3 b P k)) j)) := by
  unfold Host.sort2
  rw [dif_pos (show 2 < (⟨3, ![4, 2048, 2048]⟩ : Shape).rank by decide)]
  simp only [along_last]
  unfold ordOf
  rw [← order_eq]
  exact ⟨rfl, rfl⟩

/-- Each key's own position. -/
def places : IVec ⟨3, ![4, 2048, 2048]⟩ 32 := fun i =>
  if hd : 2 < (⟨3, ![4, 2048, 2048]⟩ : Shape).rank then iotaInDim ⟨3, ![4, 2048, 2048]⟩ 32 ⟨2, hd⟩ i else 0#32

theorem places_at (j : Fin 2048) : places (ix3 b P j) = BitVec.ofNat 32 j.val := by
  unfold places
  rw [dif_pos (show 2 < (⟨3, ![4, 2048, 2048]⟩ : Shape).rank by decide)]
  rfl

theorem topK_val :
    (Host.topK ⟨3, ![4, 2048, K]⟩ 2 (FloatOps.cmpfTotal .gt) x h).1 (ix3 b P i) = x (ix3 b P (ordOf (fun k => x (ix3 b P k)) (i.castLE hK))) :=
  (shorten_at hK h b P i (Host.sort2 _ 2 (fun l r => FloatOps.cmpfTotal .gt l.1 r.1) x places).1).trans (sort_at x b P places _).1

theorem topK_pos :
    (Host.topK ⟨3, ![4, 2048, K]⟩ 2 (FloatOps.cmpfTotal .gt) x h).2 (ix3 b P i)
        = BitVec.ofNat 32 (ordOf (fun k => x (ix3 b P k)) (i.castLE hK)).val :=
  (shorten_at hK h b P i (Host.sort2 _ 2 (fun l r => FloatOps.cmpfTotal .gt l.1 r.1) x places).2).trans
    ((sort_at x b P places _).2.trans (places_at b P _))

end Cert.Attend

end
-- ==== Proof.Scores.lean ====
module

public import proofs.«01_k».proof.Proof.TopK
public import proofs.«01_k».proof.Proof.Rows
public import Idealize.ShloMosaic.Lib.WordCmp

@[expose] public section

set_option maxRecDepth 16384

noncomputable section

namespace Cert.ReferenceIdeal.Hand

open Cert.ReferenceIdeal Cert.ReferenceIdeal.Gen Cert.ReferenceIdeal.Read Cert.Attend Idealize.ShloMosaic Idealize.ShloMosaic.ValueIdx

variable (x : Proj) (b : Fin 4) (p : Fin 2048)

/-! ## The projection's pieces, head by head -/

theorem q_at (h : Fin 8) (d : Fin 128) :
    val_main_v11 (F := Ideal) x (ix4 b p h d) = x (ix3 b p ⟨3088 + (128 * h.val + d.val), by omega⟩) := by
  rw [val_main_v11_apply, val_main_v5_apply]
  refine congrArg x (funext fun a => ?_)
  match a with
  | ⟨0, _⟩ => refine Fin.ext ?_; show (((b.val * 2048 + p.val) * 8 + h.val) * 128 + d.val) / 2097152 = b.val; omega
  | ⟨1, _⟩ => refine Fin.ext ?_; show (((b.val * 2048 + p.val) * 8 + h.val) * 128 + d.val) / 1024 % 2048 = p.val; omega
  | ⟨2, _⟩ => refine Fin.ext ?_; show 3088 + (((b.val * 2048 + p.val) * 8 + h.val) * 128 + d.val) % 1024 = 3088 + (128 * h.val + d.val); omega

theorem k_at (h : Fin 8) (d : Fin 128) :
    val_main_v12 (F := Ideal) x (ix4 b p h d) = x (ix3 b p ⟨4112 + (128 * h.val + d.val), by omega⟩) := by
  rw [val_main_v12_apply, val_main_v6_apply]
  refine congrArg x (funext fun a => ?_)
  match a with
  | ⟨0, _⟩ => refine Fin.ext ?_; show (((b.val * 2048 + p.val) * 8 + h.val) * 128 + d.val) / 2097152 = b.val; omega
  | ⟨1, _⟩ => refine Fin.ext ?_; show (((b.val * 2048 + p.val) * 8 + h.val) * 128 + d.val) / 1024 % 2048 = p.val; omega
  | ⟨2, _⟩ => refine Fin.ext ?_; show 4112 + (((b.val * 2048 + p.val) * 8 + h.val) * 128 + d.val) % 1024 = 4112 + (128 * h.val + d.val); omega

theorem v_at (h : Fin 8) (d : Fin 128) :
    val_main_v13 (F := Ideal) x (ix4 b p h d) = x (ix3 b p ⟨5136 + (128 * h.val + d.val), by omega⟩) := by
  rw [val_main_v13_apply, val_main_v7_apply]
  refine congrArg x (funext fun a => ?_)
  match a with
  | ⟨0, _⟩ => refine Fin.ext ?_; show (((b.val * 2048 + p.val) * 8 + h.val) * 128 + d.val) / 2097152 = b.val; omega
  | ⟨1, _⟩ => refine Fin.ext ?_; show (((b.val * 2048 + p.val) * 8 + h.val) * 128 + d.val) / 1024 % 2048 = p.val; omega
  | ⟨2, _⟩ => refine Fin.ext ?_; show 5136 + (((b.val * 2048 + p.val) * 8 + h.val) * 128 + d.val) % 1024 = 5136 + (128 * h.val + d.val); omega

theorem qi_at (h : Fin 16) (d : Fin 64) :
    val_main_v15 (F := Ideal) x (ix4 b p h d) = x (ix3 b p ⟨6160 + (64 * h.val + d.val), by omega⟩) := by
  rw [val_main_v15_apply, val_main_v8_apply]
  refine congrArg x (funext fun a => ?_)
  match a with
  | ⟨0, _⟩ => refine Fin.ext ?_; show (((b.val * 2048 + p.val) * 16 + h.val) * 64 + d.val) / 2097152 = b.val; omega
  | ⟨1, _⟩ => refine Fin.ext ?_; show (((b.val * 2048 + p.val) * 16 + h.val) * 64 + d.val) / 1024 % 2048 = p.val; omega
  | ⟨2, _⟩ => refine Fin.ext ?_; show 6160 + (((b.val * 2048 + p.val) * 16 + h.val) * 64 + d.val) % 1024 = 6160 + (64 * h.val + d.val); omega

theorem ki_at (d : Fin 64) : val_main_v9 (F := Ideal) x (ix3 b p d) = x (ix3 b p ⟨7184 + d.val, by omega⟩) := by
  rw [val_main_v9_apply]
  refine congrArg x (funext fun a => ?_)
  match a with
  | ⟨0, _⟩ => rfl
  | ⟨1, _⟩ => rfl
  | ⟨2, _⟩ => rfl

theorem w_at (h : Fin 16) : val_main_v10 (F := Ideal) x (ix3 b p h) = x (ix3 b p ⟨7248 + h.val, by omega⟩) := by
  rw [val_main_v10_apply]
  refine congrArg x (funext fun a => ?_)
  match a with
  | ⟨0, _⟩ => rfl
  | ⟨1, _⟩ => rfl
  | ⟨2, _⟩ => rfl

/-! ## The scores -/

theorem weight_at (h : Fin 16) :
    val_main_v17 (F := Ideal) x (ix3 b p h) = x (ix3 b p ⟨7248 + h.val, by omega⟩) * ((1 / 4 : ℝ) : EReal) := by
  rw [val_main_v17_apply, w_at, val_main_v16_apply, val_main_cst_apply]
  exact congrArg _ KernelIdeal.Hand.word_quarter

theorem sim_at (h : Fin 16) (j : Fin 2048) :
    val_main_v22 (F := Ideal) x (ix4 b p h j)
      = max ((∑ d : Fin 64, x (ix3 b p ⟨6160 + (64 * h.val + d.val), by omega⟩) * x (ix3 b j ⟨7184 + d.val, by omega⟩)) * ((1 / 8 : ℝ) : EReal)) 0 := by
  have e : val_main_v19 (F := Ideal) x (ix4 b p h j)
      = ∑ d : Fin 64, x (ix3 b p ⟨6160 + (64 * h.val + d.val), by omega⟩) * x (ix3 b j ⟨7184 + d.val, by omega⟩) := by
    rw [val_main_v19_apply]
    refine Finset.sum_congr rfl fun d _ => ?_
    have l : lidx_main_v19 (ix4 b p h j) d = ix4 b p h d := by
      funext a
      match a with
      | ⟨0, _⟩ => rfl
      | ⟨1, _⟩ => rfl
      | ⟨2, _⟩ => rfl
      | ⟨3, _⟩ => rfl
    have r : ridx_main_v19 (ix4 b p h j) d = ix3 b j d := by
      funext a
      match a with
      | ⟨0, _⟩ => rfl
      | ⟨1, _⟩ => rfl
      | ⟨2, _⟩ => rfl
    rw [l, r, qi_at, ki_at]
  rw [val_main_v22_apply, val_main_v21_apply, e, val_main_v20_apply, val_main_cst_0_apply, val_main_call0_v0_apply, val_main_call0_cst_apply]
  show max (_ * Ideal.ofBits .f32 0x3E000000#32) (Ideal.ofBits .f32 0x00000000#32) = _
  rw [KernelIdeal.Hand.word_eighth, show Ideal.ofBits .f32 0x00000000#32 = 0 by simp [Ideal.ofBits, Ideal.ieee]]

theorem score_at (j : Fin 2048) : val_main_v23 (F := Ideal) x (ix3 b p j) = scoreX x b p j := by
  rw [val_main_v23_apply]
  unfold scoreX
  refine Finset.sum_congr rfl fun h _ => ?_
  have l : lidx_main_v23 (ix3 b p j) h = ix3 b p h := by
    funext a
    match a with
    | ⟨0, _⟩ => rfl
    | ⟨1, _⟩ => rfl
    | ⟨2, _⟩ => rfl
  have r : ridx_main_v23 (ix3 b p j) h = ix4 b p h j := by
    funext a
    match a with
    | ⟨0, _⟩ => rfl
    | ⟨1, _⟩ => rfl
    | ⟨2, _⟩ => rfl
    | ⟨3, _⟩ => rfl
  rw [l, r, weight_at, sim_at]

/-- Comparing two positions read as words. -/
theorem before (j p : ℕ) (hj : j < 2048) (hp : p < 2048) :
    IntOp.cmpi .sle (BitVec.ofNat 32 j) (BitVec.ofNat 32 p) = if j ≤ p then 1#1 else 0#1 := by
  rw [WordCmp.cmpi_sle_ofNat (by omega) (by omega)]
  by_cases e : j ≤ p <;> simp [e]

theorem causal_at (j : Fin 2048) : val_main_call1_v1 (F := Ideal) (ix3 b p j) = if j.val ≤ p.val then 1#1 else 0#1 := by
  rw [val_main_call1_v1_apply, val_main_v29_apply, val_main_v27_apply, val_main_v28_apply, val_main_v25_apply, val_main_v26_apply,
    val_main_v24_apply, val_main_v18_apply]
  exact before j.val p.val j.isLt p.isLt

theorem row_at (j : Fin 2048) : val_main_v30 (F := Ideal) x (ix3 b p j) = rowX x b p j := by
  rw [val_main_v30_apply, causal_at, score_at, val_main_call1_v2_apply, val_main_call1_v0_apply, val_main_cst_1_apply]
  rw [KernelIdeal.Hand.select_ite]
  show (if _ then _ else Ideal.ofBits .f32 0xFF800000#32) = _
  rw [KernelIdeal.Hand.word_bot]
  rfl

theorem row_fn : (fun j => val_main_v30 (F := Ideal) x (ix3 b p j)) = rowX x b p := funext fun j => row_at x b p j

/-- The selected keys' positions. -/
theorem indices_at (i : Fin 256) :
    val_main_indices (F := Ideal) x (ix3 b p i) = BitVec.ofNat 32 (ordX x b p (i.castLE (by decide))).val := by
  unfold val_main_indices
  have e := topK_pos (K := 256) (by decide) (val_main_v30 (F := Ideal) x) sliceFits_S4x2048x2048_S4x2048x256 b p i
  rw [row_fn, ordOf_row] at e
  exact e

end Cert.ReferenceIdeal.Hand

end
-- ==== Proof.Attention.lean ====
module

public import proofs.«01_k».proof.Proof.Scores
public import Idealize.ShloMosaic.Lib.KernelVsHost

@[expose] public section

set_option maxRecDepth 16384

noncomputable section

namespace Cert.ReferenceIdeal.Hand

open Cert.ReferenceIdeal Cert.ReferenceIdeal.Gen Cert.ReferenceIdeal.Read Cert.Attend Idealize.ShloMosaic Idealize.ShloMosaic.ValueIdx

/-! ## Keys and values at the selected positions -/

/-- One index column per query. -/
abbrev col (b : Fin 4) (p : Fin 2048) (i : Fin 256) : S4x2048x256x1.Idx := ix4 b p i 0

/-- How the reference picks rows. -/
abbrev gd : GatherDims S4x2048x8x128 S4x2048x256x1 S4x2048x256x8x128 := gather_S4x2048x8x128_S4x2048x256x1_S4x2048x256x8x128_34_1_0_0_1_3_118128

theorem word_int (k : ℕ) (hk : k < 2048) : (BitVec.ofNat 32 k).toInt = k := by
  have e : (BitVec.ofNat 32 k).toNat = k := by rw [BitVec.toNat_ofNat]; omega
  rw [WordCmp.toInt_eq_toNat_of_lt_half (by rw [e]; omega), e]

theorem gather_at (u : S4x2048x8x128.Idx → EReal) (idx : IVec S4x2048x256x1 32) (b : Fin 4) (p : Fin 2048) (i : Fin 256) (h : Fin 8) (d : Fin 128)
    (k : Fin 2048) (e : idx (col b p i) = BitVec.ofNat 32 k.val) :
    Host.gather gd u idx (ix5 b p i h d) = u (ix4 b k h d) := by
  unfold Host.gather
  refine congrArg u (funext fun a => Fin.ext ?_)
  show gd.start (ix5 b p i h d) idx a + gd.batchCoord (ix5 b p i h d) a + gd.offCoord (ix5 b p i h d) a = _
  match a with
  | ⟨0, _⟩ =>
    rw [GatherDims.start_batching _ _ _ _ (by show (0 : Fin 4) ∈ [0]; decide),
      GatherDims.offCoord_eq_zero _ _ _ (fun h => ((GatherDims.mem_sKept _ _).mp h).2 (by show (0 : Fin 4) ∈ [0]; decide))]
    unfold GatherDims.batchCoord
    rw [dif_pos (by show (0 : Fin 4) ∈ [0]; decide)]
    simp only [Nat.zero_add, Nat.add_zero]
    rfl
  | ⟨1, _⟩ =>
    rw [GatherDims.batchCoord_eq_zero _ _ _ (by show ¬ (1 : Fin 4) ∈ [0]; decide),
      GatherDims.offCoord_eq_zero _ _ _ (fun h => ((GatherDims.mem_sKept _ _).mp h).1 (by show (1 : Fin 4) ∈ [1]; decide))]
    unfold GatherDims.start
    rw [dif_pos (by show (1 : Fin 4) ∈ [1]; decide)]
    have s : ∀ q, gd.siIdx (ix5 b p i h d) q = col b p i := by
      intro q
      funext c; refine Fin.ext ?_
      match c with
      | ⟨0, _⟩ => rfl
      | ⟨1, _⟩ => rfl
      | ⟨2, _⟩ => rfl
      | ⟨3, _⟩ => exact Nat.lt_one_iff.mp q.isLt
    rw [s, e]
    rw [word_int k.val k.isLt, Int.toNat_natCast]
    show min k.val 2047 + 0 + 0 = k.val
    omega
  | ⟨2, _⟩ =>
    rw [GatherDims.batchCoord_eq_zero _ _ _ (by show ¬ (2 : Fin 4) ∈ [0]; decide)]
    unfold GatherDims.start
    rw [dif_neg (by show ¬ (2 : Fin 4) ∈ [1]; decide)]
    unfold GatherDims.offCoord
    rw [dif_pos (by rw [GatherDims.mem_sKept]; exact ⟨by show ¬ (2 : Fin 4) ∈ [1]; decide, by show ¬ (2 : Fin 4) ∈ [0]; decide⟩)]
    simp only [Nat.zero_add, Nat.add_zero]
    rfl
  | ⟨3, _⟩ =>
    rw [GatherDims.batchCoord_eq_zero _ _ _ (by show ¬ (3 : Fin 4) ∈ [0]; decide)]
    unfold GatherDims.start
    rw [dif_neg (by show ¬ (3 : Fin 4) ∈ [1]; decide)]
    unfold GatherDims.offCoord
    rw [dif_pos (by rw [GatherDims.mem_sKept]; exact ⟨by show ¬ (3 : Fin 4) ∈ [1]; decide, by show ¬ (3 : Fin 4) ∈ [0]; decide⟩)]
    simp only [Nat.zero_add, Nat.add_zero]
    rfl

variable (x : Proj) (b : Fin 4) (p : Fin 2048)

/-- The key in the `i`-th selected place. -/
abbrev picked (i : Fin 256) : Fin 2048 := ordX x b p (i.castLE (by decide))

theorem not_negative (k : ℕ) (hk : k < 2048) : IntOp.cmpi .slt (BitVec.ofNat 32 k) 0#32 = 0#1 := by
  rw [WordCmp.cmpi_slt_eq, word_int k hk, BitVec.toInt_zero, decide_eq_false (by omega)]
  rfl

theorem place_k (i : Fin 256) : val_main_v39 (F := Ideal) x (col b p i) = BitVec.ofNat 32 (picked x b p i).val := by
  have l : idx_main_v39 (col b p i) = ix3 b p i := by
    funext a
    match a with
    | ⟨0, _⟩ => rfl
    | ⟨1, _⟩ => rfl
    | ⟨2, _⟩ => rfl
  rw [val_main_v39_apply, l, val_main_v38_apply, val_main_v35_apply, val_main_v34_apply, val_main_c_apply, indices_at,
    not_negative _ (Fin.isLt _)]
  exact if_neg (by decide)

theorem place_v (i : Fin 256) : val_main_v46 (F := Ideal) x (col b p i) = BitVec.ofNat 32 (picked x b p i).val := by
  have l : idx_main_v46 (col b p i) = ix3 b p i := by
    funext a
    match a with
    | ⟨0, _⟩ => rfl
    | ⟨1, _⟩ => rfl
    | ⟨2, _⟩ => rfl
  rw [val_main_v46_apply, l, val_main_v45_apply, val_main_v42_apply, val_main_v41_apply, val_main_c_3_apply, indices_at,
    not_negative _ (Fin.isLt _)]
  exact if_neg (by decide)

theorem key_at (i : Fin 256) (h : Fin 8) (d : Fin 128) :
    val_main_v40 (F := Ideal) x (ix5 b p i h d) = x (ix3 b (picked x b p i) ⟨4112 + (128 * h.val + d.val), by omega⟩) :=
  (gather_at (val_main_v12 (F := Ideal) x) (val_main_v39 (F := Ideal) x) b p i h d _ (place_k x b p i)).trans (k_at x b _ h d)

theorem value_at (i : Fin 256) (h : Fin 8) (d : Fin 128) :
    val_main_v47 (F := Ideal) x (ix5 b p i h d) = x (ix3 b (picked x b p i) ⟨5136 + (128 * h.val + d.val), by omega⟩) :=
  (gather_at (val_main_v13 (F := Ideal) x) (val_main_v46 (F := Ideal) x) b p i h d _ (place_v x b p i)).trans (v_at x b _ h d)

/-! ## The softmax over the selected keys -/

theorem logit_at (h : Fin 8) (i : Fin 256) : val_main_v50 (F := Ideal) x (ix4 b p h i) = logitX x b p h (picked x b p i) := by
  have e : val_main_v48 (F := Ideal) x (ix4 b p h i)
      = ∑ d : Fin 128, x (ix3 b p ⟨3088 + (128 * h.val + d.val), by omega⟩) * x (ix3 b (picked x b p i) ⟨4112 + (128 * h.val + d.val), by omega⟩) := by
    rw [val_main_v48_apply]
    refine Finset.sum_congr rfl fun d _ => ?_
    have l : lidx_main_v48 (ix4 b p h i) d = ix4 b p h d := by
      funext a
      match a with
      | ⟨0, _⟩ => rfl
      | ⟨1, _⟩ => rfl
      | ⟨2, _⟩ => rfl
      | ⟨3, _⟩ => rfl
    have r : ridx_main_v48 (ix4 b p h i) d = ix5 b p i h d := by
      funext a
      match a with
      | ⟨0, _⟩ => rfl
      | ⟨1, _⟩ => rfl
      | ⟨2, _⟩ => rfl
      | ⟨3, _⟩ => rfl
      | ⟨4, _⟩ => rfl
    rw [l, r, q_at, key_at]
  rw [val_main_v50_apply, e, val_main_v49_apply, val_main_cst_5_apply]
  exact congrArg _ KernelIdeal.Hand.word_scale

theorem seen_at (h : Fin 8) (i : Fin 256) :
    val_main_call2_v1 (F := Ideal) x (ix4 b p h i) = if (picked x b p i).val ≤ p.val then 1#1 else 0#1 := by
  have l : idx_main_v51 (idx_main_call2_v1 (ix4 b p h i)) = ix3 b p i := by
    funext a
    match a with
    | ⟨0, _⟩ => rfl
    | ⟨1, _⟩ => rfl
    | ⟨2, _⟩ => rfl
  rw [val_main_call2_v1_apply, val_main_v51_apply, l, val_main_v33_apply, indices_at, val_main_v32_apply, val_main_v31_apply, val_main_v14_apply]
  exact before _ p.val (Fin.isLt _) p.isLt

theorem sel_at (h : Fin 8) (i : Fin 256) : val_main_v52 (F := Ideal) x (ix4 b p h i) = selX x b p h i := by
  rw [val_main_v52_apply, seen_at, logit_at, val_main_call2_v2_apply, val_main_call2_v0_apply, val_main_cst_6_apply]
  rw [KernelIdeal.Hand.select_ite]
  show (if _ then _ else Ideal.ofBits .f32 0xFF800000#32) = _
  rw [KernelIdeal.Hand.word_bot]
  rfl

theorem top_at (h : Fin 8) : val_main_v53 (F := Ideal) x (ix3 b p h) = Finset.univ.sup (selX x b p h) := by
  unfold val_main_v53 val_main_cst_7
  have r : S4x2048x8x256.Reduces [3] S4x2048x8 := by decide
  have e := hostReduce_maximumf_eq_multiReduction (F := Ideal) (val_main_v52 (F := Ideal) x) 0xFF800000#32
    reducesTo_S4x2048x8x256_S4x2048x8_d3 h_S_ r (show FKind.Formats .f32 by decide) rfl
  refine (congrFun e _).trans ?_
  refine (Ideal.multiReduction_maximumf_single _ _ _ _ _ _).trans ?_
  show Finset.univ.fold max (Ideal.ofBits .f32 0xFF800000#32) _ = _
  rw [KernelIdeal.Hand.word_bot, KernelIdeal.Hand.fold_max_bot]
  refine congrArg _ (funext fun i => ?_)
  show val_main_v52 (F := Ideal) x (r.lift (ix3 b p h) i) = _
  have l : r.lift (ix3 b p h) i = ix4 b p h i := by
    funext a
    match a with
    | ⟨0, _⟩ => rfl
    | ⟨1, _⟩ => rfl
    | ⟨2, _⟩ => rfl
    | ⟨3, _⟩ => rfl
  exact (congrArg (val_main_v52 (F := Ideal) x) l).trans (sel_at x b p h i)

theorem peak_at (h : Fin 8) : val_main_v55 (F := Ideal) x (ix3 b p h) = max ⊥ (Finset.univ.sup (selX x b p h)) := by
  rw [val_main_v55_apply, top_at, val_main_v54_apply, val_main_cst_8_apply]
  show max (Ideal.ofBits .f32 0xFF800000#32) _ = _
  rw [KernelIdeal.Hand.word_bot]

theorem exp_at (h : Fin 8) (i : Fin 256) :
    val_main_v59 (F := Ideal) x (ix4 b p h i) = Ideal.exp (selX x b p h i - max ⊥ (Finset.univ.sup (selX x b p h))) := by
  have l : idx_main_v56 (idx_main_v57 (ix4 b p h i)) = ix3 b p h := by
    funext a
    match a with
    | ⟨0, _⟩ => rfl
    | ⟨1, _⟩ => rfl
    | ⟨2, _⟩ => rfl
  rw [val_main_v59_apply, val_main_v58_apply, sel_at, val_main_v57_apply, val_main_v56_apply, l, peak_at]
  rfl

theorem total_at (h : Fin 8) :
    val_main_v60 (F := Ideal) x (ix3 b p h) = 0 + ∑ i : Fin 256, Ideal.exp (selX x b p h i - max ⊥ (Finset.univ.sup (selX x b p h))) := by
  rw [val_main_v60_apply, val_main_cst_9_apply]
  refine congrArg₂ (fun s t : EReal => s + t) (show Ideal.ofBits .f32 0x00000000#32 = 0 by simp [Ideal.ofBits, Ideal.ieee])
    (Finset.sum_congr rfl fun i _ => ?_)
  have l : idx_main_v60 (ix3 b p h) i = ix4 b p h i := by
    funext a
    match a with
    | ⟨0, _⟩ => rfl
    | ⟨1, _⟩ => rfl
    | ⟨2, _⟩ => rfl
    | ⟨3, _⟩ => rfl
  rw [l, exp_at]

theorem weights_at (h : Fin 8) (i : Fin 256) :
    val_main_v63 (F := Ideal) x (ix4 b p h i) = Ideal.div (Ideal.exp (selX x b p h i - max ⊥ (Finset.univ.sup (selX x b p h))))
      (0 + ∑ i : Fin 256, Ideal.exp (selX x b p h i - max ⊥ (Finset.univ.sup (selX x b p h)))) := by
  have l : idx_main_v61 (idx_main_v62 (ix4 b p h i)) = ix3 b p h := by
    funext a
    match a with
    | ⟨0, _⟩ => rfl
    | ⟨1, _⟩ => rfl
    | ⟨2, _⟩ => rfl
  rw [val_main_v63_apply, exp_at, val_main_v62_apply, val_main_v61_apply, l, total_at]
  rfl

/-- The reference's result, one element at a time. -/
theorem out_at (h : Fin 8) (d : Fin 128) :
    val_main_v64 (F := Ideal) x (ix4 b p h d) = outX x b p h ⟨128 * h.val + d.val, by omega⟩ := by
  rw [val_main_v64_apply]
  unfold outX
  refine Finset.sum_congr rfl fun i _ => ?_
  have l : lidx_main_v64 (ix4 b p h d) i = ix4 b p h i := by
    funext a
    match a with
    | ⟨0, _⟩ => rfl
    | ⟨1, _⟩ => rfl
    | ⟨2, _⟩ => rfl
    | ⟨3, _⟩ => rfl
  have r : ridx_main_v64 (ix4 b p h d) i = ix5 b p i h d := by
    funext a
    match a with
    | ⟨0, _⟩ => rfl
    | ⟨1, _⟩ => rfl
    | ⟨2, _⟩ => rfl
    | ⟨3, _⟩ => rfl
    | ⟨4, _⟩ => rfl
  rw [l, r, weights_at, value_at]

theorem result_at (y : Fin 1024) : val_main_v65 (F := Ideal) x (ix3 b p y) = outX x b p ⟨y.val / 128, by omega⟩ y := by
  have l : idx_main_v65 (ix3 b p y) = ix4 b p ⟨y.val / 128, by omega⟩ ⟨y.val % 128, by omega⟩ := by
    funext a
    match a with
    | ⟨0, _⟩ => refine Fin.ext ?_; show ((b.val * 2048 + p.val) * 1024 + y.val) / 2097152 = b.val; omega
    | ⟨1, _⟩ => refine Fin.ext ?_; show ((b.val * 2048 + p.val) * 1024 + y.val) / 1024 % 2048 = p.val; omega
    | ⟨2, _⟩ => refine Fin.ext ?_; show ((b.val * 2048 + p.val) * 1024 + y.val) / 128 % 8 = y.val / 128; omega
    | ⟨3, _⟩ => refine Fin.ext ?_; show ((b.val * 2048 + p.val) * 1024 + y.val) % 128 = y.val % 128; omega
  rw [val_main_v65_apply, l, out_at]
  exact congrArg _ (Fin.ext (by show 128 * (y.val / 128) + y.val % 128 = y.val; omega))

end Cert.ReferenceIdeal.Hand

end
-- ==== Proof.Apart.lean ====
module

public import proofs.«01_k».proof.Proof.Scores
public import proofs.«01_k».proof.Proof.Gen.Pre_scores_apart
public import Idealize.ShloMosaic.Lib.KernelVsHost
public import Idealize.ShloMosaic.Lib.ReduceAll

@[expose] public section

set_option maxRecDepth 16384

noncomputable section

namespace Cert.Pre_scores_apart.Hand

open Cert.Pre_scores_apart Cert.Attend Idealize.ShloMosaic Idealize.ShloMosaic.ValueIdx

attribute [local instance] Cert.Pre_scores_apart.Gen.facts

variable (x : Proj)

/-- The precondition's query rows. -/
def qs : FVec Ideal S4x2048x1024 .f32 :=
  extractStridedSlice S4x2048x1024 ![0, 0, 3088] (x : FVec Ideal S4x2048x7264 .f32) Facts.slices_S4x2048x7264_S4x2048x1024_0_0_3088

/-- The precondition's key rows. -/
def ks : FVec Ideal S4x2048x1024 .f32 :=
  extractStridedSlice S4x2048x1024 ![0, 0, 4112] (x : FVec Ideal S4x2048x7264 .f32) Facts.slices_S4x2048x7264_S4x2048x1024_0_0_4112

/-- The precondition reads the reference's scores. -/
theorem fn_eq : fn (F := Ideal) x = fn_part1 (F := Ideal) (qs x) (ks x) (iotaInDim S2048 32 0)
    (ReferenceIdeal.Read.val_main_v23 (F := Ideal) x) (ReferenceIdeal.Read.val_main_v29 (F := Ideal)) (constant S_ .f32 0xFF800000#32) := by
  rfl

theorem where_eq : fn_where (F := Ideal) (ReferenceIdeal.Read.val_main_v29 (F := Ideal)) (ReferenceIdeal.Read.val_main_v23 (F := Ideal) x)
    (constant S_ .f32 0xFF800000#32) = ReferenceIdeal.Read.val_main_v30 (F := Ideal) x := by
  rfl

/-- The 257 best scores of every row. -/
def best : FVec Ideal S4x2048x257 .f32 :=
  (Host.topK S4x2048x257 2 (FloatOps.cmpfTotal .gt) (ReferenceIdeal.Read.val_main_v30 (F := Ideal) x) Facts.sliceFits_S4x2048x2048_S4x2048x257).1

/-- The scores with +∞ at the keys after the query. -/
def capped : FVec Ideal S4x2048x2048 .f32 :=
  fn_where (F := Ideal) (ReferenceIdeal.Read.val_main_v29 (F := Ideal)) (ReferenceIdeal.Read.val_main_v30 (F := Ideal) x) (constant S_ .f32 0x7F800000#32)

/-- The worst score of every row. -/
def worst : FVec Ideal S4x2048 .f32 :=
  Host.reduce FloatOps.minimumf (capped x) (constant S_ .f32 0x7F800000#32) Facts.reducesTo_S4x2048x2048_S4x2048_d2 Facts.h_S_

/-- The 256th, the 257th and the first score of every row. -/
def s255 : FVec Ideal S4x2048 .f32 := shapeCast S4x2048 (extractStridedSlice S4x2048x1 ![0, 0, 255] (best x) Facts.slices_S4x2048x257_S4x2048x1_0_0_255) Facts.shapeCasts_S4x2048x1_S4x2048
def s256 : FVec Ideal S4x2048 .f32 := shapeCast S4x2048 (extractStridedSlice S4x2048x1 ![0, 0, 256] (best x) Facts.slices_S4x2048x257_S4x2048x1_0_0_256) Facts.shapeCasts_S4x2048x1_S4x2048
def s0 : FVec Ideal S4x2048 .f32 := shapeCast S4x2048 (extractStridedSlice S4x2048x1 ![0, 0, 0] (best x) Facts.slices_S4x2048x257_S4x2048x1_0_0_0) Facts.shapeCasts_S4x2048x1_S4x2048

/-- Whether the 256th and 257th scores lie apart. -/
def apart : IVec S4x2048 1 := cmpf .ogt (subf (s255 x) (s256 x))
  (mulf (subf (s0 x) (worst x)) (broadcastInDim S4x2048 ![] Facts.bcast_S_S4x2048 (constant S_ .f32 0x2F800000#32)))

theorem fn_two : fn (F := Ideal) x = fn_part2 (F := Ideal) (qs x) (ks x) (iotaInDim S2048 32 0) (apart x) := by
  rw [fn_eq]
  unfold fn_part1
  rw [where_eq]
  rfl

/-- Whether every element of a row is finite. -/
def finite (v : FVec Ideal S4x2048x1024 .f32) : IVec S4x2048 1 :=
  Host.reduce IntOp.andi (cmpf .olt (Host.absf v) (broadcastInDim S4x2048x1024 ![] Facts.bcast_S_S4x2048x1024 (constant S_ .f32 0x7F800000#32)))
    (constantI S_ 1 1#1) Facts.reducesTo_S4x2048x1024_S4x2048_d2 Facts.h_S_

/-- Whether the query comes before the 256th position. -/
def early : IVec S4x2048 1 := broadcastInDim S4x2048 ![0, 1] Facts.bcast_S1x2048_S4x2048_0_1
  (cmpi .slt (broadcastInDim S1x2048 ![1] Facts.bcast_S2048_S1x2048_1 (iotaInDim S2048 32 0)) (broadcastInDim S1x2048 ![] Facts.bcast_S_S1x2048 (constantI S_ 32 256#32)))

theorem fn_at (j : S4x2048.Idx) : fn (F := Ideal) x j
    = IntOp.andi (IntOp.andi (finite (qs x) j) (finite (ks x) j)) (IntOp.ori (apart x j) (early j)) := by
  rw [fn_two]
  rfl

variable (b : Fin 4) (P : Fin 2048)

theorem real_of_finite (v : FVec Ideal S4x2048x1024 .f32) (h : finite v (ix2 b P) = 1#1) (y : Fin 1024) : ∃ r : ℝ, v (ix3 b P y) = (r : EReal) := by
  have e := Host.reduce_andi_eq_one _ _ _ _ _ h (ix3 b P y) (by
    funext a
    match a with
    | ⟨0, _⟩ => rfl
    | ⟨1, _⟩ => rfl)
  have e' : Ideal.cmp .olt (max (v (ix3 b P y)) (-(v (ix3 b P y) : EReal))) (Ideal.ofBits .f32 0x7F800000#32) = 1#1 := e
  rw [KernelIdeal.Hand.word_top] at e'
  generalize (v (ix3 b P y) : EReal) = z at e' ⊢
  induction z using EReal.rec with
  | bot => simp [Ideal.cmp] at e'
  | coe r => exact ⟨r, rfl⟩
  | top => simp [Ideal.cmp] at e'

theorem early_at (h : early (ix2 b P) = 1#1) : P.val < 256 := by
  have e : IntOp.cmpi .slt (BitVec.ofNat 32 P.val) (BitVec.ofNat 32 256) = 1#1 := by
    refine Eq.trans ?_ h
    unfold early
    refine ((broadcastInDim_apply _ Facts.bcast_S1x2048_S4x2048_0_1 _ (ix2 b P) (ix2 0 P) fun a => ?_).trans ?_).symm
    · match a with
      | ⟨0, _⟩ => rfl
      | ⟨1, _⟩ => rfl
    · show IntOp.cmpi .slt (broadcastInDim S1x2048 ![1] Facts.bcast_S2048_S1x2048_1 (iotaInDim S2048 32 0) (ix2 0 P))
        (broadcastInDim S1x2048 ![] Facts.bcast_S_S1x2048 (constantI S_ 32 256#32) (ix2 0 P)) = _
      refine congrArg₂ (IntOp.cmpi .slt) ?_ ?_
      · refine (broadcastInDim_apply _ Facts.bcast_S2048_S1x2048_1 _ (ix2 0 P) (ix1 P) fun a => ?_).trans rfl
        match a with
        | ⟨0, _⟩ => rfl
      · refine (broadcastInDim_apply _ Facts.bcast_S_S1x2048 _ (ix2 0 P) (fun a => a.elim0) fun a => a.elim0).trans rfl
  rw [WordCmp.cmpi_slt_ofNat (by omega) (by omega)] at e
  by_contra n
  rw [decide_eq_false n] at e
  exact absurd e (by decide)

theorem best_at (i : Fin 257) : best x (ix3 b P i) = rowX x b P (ordX x b P (i.castLE (by decide))) := by
  unfold best
  have e := topK_val (K := 257) (by decide) (ReferenceIdeal.Read.val_main_v30 (F := Ideal) x) Facts.sliceFits_S4x2048x2048_S4x2048x257 b P i
  rw [ReferenceIdeal.Hand.row_fn, ordOf_row, ReferenceIdeal.Hand.row_at] at e
  exact e

theorem place_at (v : FVec Ideal S4x2048x257 .f32) (n : ℕ) (hn : n < 257) (h : S4x2048x257.Slices ![0, 0, n] S4x2048x1) :
    shapeCast S4x2048 (extractStridedSlice S4x2048x1 ![0, 0, n] v h) Facts.shapeCasts_S4x2048x1_S4x2048 (ix2 b P) = v (ix3 b P ⟨n, hn⟩) := by
  refine (shapeCast_apply _ _ (ix2 b P) (ix3 b P 0) ?_).trans (extractStridedSlice_apply _ _ _ _ _ fun a => ?_)
  · rewrite [Shape.rowMajor_val_three, Shape.rowMajor_val_two]
    show (b.val * 2048 + P.val) * 1 + 0 = b.val * 2048 + P.val
    omega
  · match a with
    | ⟨0, _⟩ => exact (Nat.zero_add _).symm
    | ⟨1, _⟩ => exact (Nat.zero_add _).symm
    | ⟨2, _⟩ => rfl

theorem capped_at (j : Fin 2048) : capped x (ix3 b P j) = if j.val ≤ P.val then rowX x b P j else ⊤ := by
  have e : capped x (ix3 b P j) = Scalar.select (ReferenceIdeal.Read.val_main_call1_v1 (F := Ideal) (ix3 b P j))
      (ReferenceIdeal.Read.val_main_v30 (F := Ideal) x (ix3 b P j)) (Ideal.ofBits .f32 0x7F800000#32) := by
    refine congrArg (Scalar.select _ _) ?_
    exact broadcastInDim_apply _ Facts.bcast_S_S4x2048x2048 _ (ix3 b P j) (fun a => a.elim0) fun a => a.elim0
  rw [e, ReferenceIdeal.Hand.causal_at, ReferenceIdeal.Hand.row_at, KernelIdeal.Hand.word_top]
  exact KernelIdeal.Hand.select_ite _ _ _

theorem worst_at : worst x (ix2 b P) = leastX x b P := by
  unfold worst
  have r : S4x2048x2048.Reduces [2] S4x2048 := by decide
  have e := hostReduce_minimumf_eq_multiReduction (F := Ideal) (capped x) 0x7F800000#32
    Facts.reducesTo_S4x2048x2048_S4x2048_d2 Facts.h_S_ r (show FKind.Formats .f32 by decide) rfl
  refine (congrFun e _).trans ?_
  refine (multiReduction_minimumf_eq_fold _ _ r _ _ (ix2 b P)).trans ?_
  refine (r.fold_filter_drop_single _ _ _ (ix2 b P)).trans ?_
  refine Eq.trans (b := Finset.univ.fold min ⊤ _) (by rw [← KernelIdeal.Hand.word_top]; rfl) ((KernelIdeal.Hand.fold_min_top _).trans ?_)
  unfold leastX
  refine congrArg _ (funext fun j => ?_)
  show capped x (r.lift (ix2 b P) j) = _
  have l : r.lift (ix2 b P) j = ix3 b P j := by
    funext a
    match a with
    | ⟨0, _⟩ => rfl
    | ⟨1, _⟩ => rfl
    | ⟨2, _⟩ => rfl
  exact (congrArg (capped x) l).trans (capped_at x b P j)

theorem apart_at (h : apart x (ix2 b P) = 1#1) :
    (rowX x b P (ordX x b P 0) - leastX x b P) * (((1 / 2) ^ 32 : ℝ) : EReal) < rowX x b P (ordX x b P 255) - rowX x b P (ordX x b P 256) := by
  have e : Ideal.cmp .ogt ((s255 x (ix2 b P) : EReal) - s256 x (ix2 b P)) (((s0 x (ix2 b P) : EReal) - worst x (ix2 b P)) * Ideal.ofBits .f32 0x2F800000#32) = 1#1 := by
    refine Eq.trans ?_ h
    refine congrArg (fun z : EReal => Ideal.cmp .ogt ((s255 x (ix2 b P) : EReal) - s256 x (ix2 b P)) (((s0 x (ix2 b P) : EReal) - worst x (ix2 b P)) * z)) ?_
    exact (broadcastInDim_apply _ Facts.bcast_S_S4x2048 (constant (F := Ideal) S_ .f32 0x2F800000#32) (ix2 b P) (fun a => a.elim0) fun a => a.elim0).symm
  unfold s255 s256 s0 at e
  rw [place_at b P _ 255 (by decide), place_at b P _ 256 (by decide), place_at b P _ 0 (by decide), best_at, best_at, best_at, worst_at,
    KernelIdeal.Hand.word_ulp, KernelIdeal.Hand.cmp_ogt] at e
  by_contra n
  exact absurd ((if_neg n).symm.trans e) (by decide)

/-- What the precondition gives of every query. -/
theorem pre_of (h : fn (F := Ideal) x = fun _ => 1#1) : PreX x b P := by
  have e := congrFun h (ix2 b P)
  rw [fn_at] at e
  obtain ⟨u, v⟩ := IntOp.andi_eq_one.mp e
  obtain ⟨q, k⟩ := IntOp.andi_eq_one.mp u
  refine ⟨fun y => ?_, fun y => ?_, ?_⟩
  · obtain ⟨r, hr⟩ := real_of_finite b P _ q y
    refine ⟨r, Eq.trans (congrArg x ?_) hr⟩
    funext a
    match a with
    | ⟨0, _⟩ => exact Fin.ext (Nat.zero_add _).symm
    | ⟨1, _⟩ => exact Fin.ext (Nat.zero_add _).symm
    | ⟨2, _⟩ => rfl
  · obtain ⟨r, hr⟩ := real_of_finite b P _ k y
    refine ⟨r, Eq.trans (congrArg x ?_) hr⟩
    funext a
    match a with
    | ⟨0, _⟩ => exact Fin.ext (Nat.zero_add _).symm
    | ⟨1, _⟩ => exact Fin.ext (Nat.zero_add _).symm
    | ⟨2, _⟩ => rfl
  · rcases IntOp.ori_eq_one.mp v with g | g
    · exact Or.inl (apart_at x b P g)
    · exact Or.inr (early_at b P g)

end Cert.Pre_scores_apart.Hand

end
-- ==== Proof.Norm.lean ====
/- The modulated normalization of a row: what the kernels' tiles hold and what the references compute, one function of the row. -/
module

public import proofs.«01_k».proof.Proof.Gen.Kernel4Ideal.Skeleton
public import proofs.«01_k».proof.Proof.Gen.Kernel2Ideal.Skeleton
public import proofs.«01_k».proof.Proof.Gen.Reference2Ideal.Read
public import proofs.«01_k».proof.Proof.Gen.Reference4Ideal.Read
public import Idealize.ShloMosaic.Lib.ValueLayout
public import Idealize.ShloMosaic.Lib.Pipeline.Value
public import Idealize.ShloMosaic.Lib.MatmulPlain

@[expose] public section

set_option maxRecDepth 16384

noncomputable section

namespace Cert.Norm

open Idealize.ShloMosaic Idealize.ShloMosaic.TcCoe Idealize.ShloMosaic.ValueIdx

abbrev Act := (⟨3, ![4, 2048, 2048]⟩ : Shape).Idx → EReal
abbrev Mod := (⟨2, ![384, 12288]⟩ : Shape).Idx → EReal
abbrev Gain := (⟨2, ![2, 2048]⟩ : Shape).Idx → EReal

/-- One over the root mean square of a row. -/
def rms (x : Fin 2048 → EReal) : EReal :=
  FloatOps.rsqrt (F := Ideal) (φ := .f32) (FloatOps.divf (F := Ideal) (φ := .f32) (∑ j, x j * x j) (Ideal.ofBits .f32 0x45000000#32) + Ideal.ofBits .f32 0x358637BD#32)

/-- Entry `k` of the normalized row, with its gain `g`, scale `s` and shift `h`. -/
def normRow (x : Fin 2048 → EReal) (g s h : EReal) (k : Fin 2048) : EReal :=
  x k * rms x * g * (Ideal.ofBits .f32 0x3F800000#32 + s) + h

/-- The layer's normalized activations: prompt `b`'s modulation is row `128 + b`, its shift the columns from `sh` and its
    scale those from `sc`. -/
def normed (sc sh : ℕ) (hsc : sc ≤ 10240) (hsh : sh ≤ 10240) (x : Act) (mod : Mod) (g : Gain) (b : Fin 4) (p k : Fin 2048) : EReal :=
  normRow (fun j => x (ix3 b p j)) (g (ix2 0 k))
    (mod (ix2 ⟨128 + b.val, by omega⟩ ⟨sc + k.val, by omega⟩)) (mod (ix2 ⟨128 + b.val, by omega⟩ ⟨sh + k.val, by omega⟩)) k

section tile
open Cert.Kernel4Ideal Cert.Kernel4Ideal.Gen

/-- A row of numbers spread along a tile's rows. -/
theorem spread_apply (v : Vec Ideal S1x1x2048 .f32) (r : Fin 512) (k : Fin 2048) :
    broadcastTo S1x512x2048 v broadcasts_S1x1x2048_S1x512x2048 (ix3 0 r k) = v (ix3 0 0 k) :=
  broadcastTo_apply v _ (ix3 0 r k) (ix3 0 0 k) fun a => match a with
    | ⟨0, _⟩ => rfl
    | ⟨1, _⟩ => rfl
    | ⟨2, _⟩ => rfl

/-- A column of numbers spread along a tile's columns. -/
theorem across_apply (v : Vec Ideal S1x512x1 .f32) (r : Fin 512) (k : Fin 2048) :
    broadcastTo S1x512x2048 v broadcasts_S1x512x1_S1x512x2048 (ix3 0 r k) = v (ix3 0 r 0) :=
  broadcastTo_apply v _ (ix3 0 r k) (ix3 0 r 0) fun a => match a with
    | ⟨0, _⟩ => rfl
    | ⟨1, _⟩ => rfl
    | ⟨2, _⟩ => rfl

theorem sumsq_apply (v : Vec Ideal S1x512x2048 .f32) (r : Fin 512) :
    shapeCast S1x512x1 (multiReduction (F := Ideal) (φ := .f32) .add [2] S1x512 v 0x00000000#32 reduces_S1x512x2048_S1x512 (.inl rfl) rfl) shapeCasts_S1x512_S1x512x1 (ix3 0 r 0)
      = ∑ j : Fin 2048, (v (ix3 0 r j) : EReal) := by
  refine (shapeCast_apply _ shapeCasts_S1x512_S1x512x1 (ix3 0 r 0) (ix2 0 r) ?_).trans ?_
  · rw [Shape.rowMajor_val_two, Shape.rowMajor_val_three]
    show 0 * 512 + r.val = (0 * 512 + r.val) * 1 + 0
    omega
  · refine (Ideal.multiReduction_add_single _ _ reduces_S1x512x2048_S1x512 _ _ (ix2 0 r)).trans ?_
    refine Finset.sum_congr rfl fun j _ => congrArg v (funext fun a => ?_)
    match a with
    | ⟨0, _⟩ => exact Fin.ext rfl
    | ⟨1, _⟩ => exact Fin.ext rfl
    | ⟨2, _⟩ => exact Fin.ext rfl

theorem narrow_apply (v : FVec Ideal S512x2048 .f32) (h : FTy.bf16.bits < FTy.f32.bits) (i : S512x2048.Idx) : (truncf (F := Ideal) .bf16 v h i : EReal) = v i := rfl

/-- The tile a body normalizes, entry by entry. -/
theorem tile_apply (x : Vec Ideal S1x512x2048 .f32) (g s h : Vec Ideal S1x1x2048 .f32) (r : Fin 512) (k : Fin 2048) :
    (k0_pay1 (F := Ideal) x g s h (ix2 r k) : EReal)
      = normRow (fun j => x (ix3 0 r j)) (g (ix3 0 0 k)) (s (ix3 0 0 k)) (h (ix3 0 0 k)) k := by
  unfold k0_pay1
  simp only [shapeCast_self]
  rw [narrow_apply]
  refine (shapeCast_1ab_ab_apply _ shapeCasts_S1x512x2048_S512x2048 r k).trans ?_
  have e : ∀ (q : Vec Ideal S1x512x1 .f32), q (ix3 0 r 0) = rms (fun j => x (ix3 0 r j)) →
      addf (mulf (mulf (mulf x (broadcastTo S1x512x2048 q broadcasts_S1x512x1_S1x512x2048)) (broadcastTo S1x512x2048 g broadcasts_S1x1x2048_S1x512x2048))
        (broadcastTo S1x512x2048 (addf (F := Ideal) (φ := .f32) (broadcast S1x1x2048 (Scalar.ofBits .f32 0x3F800000#32)) s) broadcasts_S1x1x2048_S1x512x2048))
        (broadcastTo S1x512x2048 h broadcasts_S1x1x2048_S1x512x2048) (ix3 0 r k)
      = normRow (fun j => x (ix3 0 r j)) (g (ix3 0 0 k)) (s (ix3 0 0 k)) (h (ix3 0 0 k)) k := by
    intro q hq
    show x (ix3 0 r k) * broadcastTo S1x512x2048 q broadcasts_S1x512x1_S1x512x2048 (ix3 0 r k) * broadcastTo S1x512x2048 g broadcasts_S1x1x2048_S1x512x2048 (ix3 0 r k)
      * broadcastTo S1x512x2048 (addf (F := Ideal) (φ := .f32) (broadcast S1x1x2048 (Scalar.ofBits .f32 0x3F800000#32)) s) broadcasts_S1x1x2048_S1x512x2048 (ix3 0 r k)
      + broadcastTo S1x512x2048 h broadcasts_S1x1x2048_S1x512x2048 (ix3 0 r k) = _
    rw [across_apply, spread_apply, spread_apply, spread_apply, hq]
    rfl
  refine e _ ?_
  exact congrArg (fun q => FloatOps.rsqrt (F := Ideal) (φ := .f32) (FloatOps.divf (F := Ideal) (φ := .f32) q (Ideal.ofBits .f32 0x45000000#32) + Ideal.ofBits .f32 0x358637BD#32))
    (sumsq_apply (mulf (F := Ideal) (φ := .f32) x x) r)
end tile

section ref2
open Cert.Reference2Ideal Cert.Reference2Ideal.Gen Cert.Reference2Ideal.Read

/-- The reference's one over root mean square. -/
theorem ref_rms2 (x0 : Act) (b : Fin 4) (p : Fin 2048) :
    (val_main_v17 (F := Ideal) x0 (ix3 b p 0) : EReal) = rms fun j => x0 (ix3 b p j) := by
  rw [val_main_v17_apply, val_main_v16_apply, val_main_v14_apply, val_main_v12_apply, val_main_v11_apply, val_main_cst_apply, val_main_v13_apply,
    val_main_cst_0_apply, val_main_v15_apply, val_main_cst_1_apply]
  refine congrArg (fun q => FloatOps.rsqrt (F := Ideal) (φ := .f32) (FloatOps.divf (F := Ideal) (φ := .f32) q (Ideal.ofBits .f32 0x45000000#32) + Ideal.ofBits .f32 0x358637BD#32)) ?_
  refine (congrArg (· + _) Ideal.ofBits_zero_f32).trans ((zero_add _).trans (Finset.sum_congr rfl fun j _ => ?_))
  have e : idx_main_v11 (idx_main_v12 (ix3 b p 0)) j = ix3 b p j := funext fun a => match a with
    | ⟨0, _⟩ => rfl
    | ⟨1, _⟩ => rfl
    | ⟨2, _⟩ => rfl
  rw [val_main_v10_apply, e]
  rfl

/-- The reference's normalized activations. -/
theorem ref_normed2 (x0 : Act) (x1 : Mod) (x2 : Gain) (b : Fin 4) (p k : Fin 2048) :
    (val_main_v28 (F := Ideal) x0 x1 x2 (ix3 b p k) : EReal) = normed 2048 0 (by decide) (by decide) x0 x1 x2 b p k := by
  rw [val_main_v28_apply, val_main_v26_apply, val_main_v22_apply, val_main_v19_apply, val_main_v18_apply, val_main_v21_apply, val_main_v20_apply,
    val_main_v9_apply, val_main_v8_apply, val_main_v25_apply, val_main_v24_apply, val_main_v23_apply, val_main_cst_2_apply, val_main_v3_apply,
    val_main_v1_apply, val_main_v0_apply, val_main_v27_apply, val_main_v2_apply, val_main_v1_apply, val_main_v0_apply]
  have e1 : idx_main_v18 (ix3 b p k) = ix3 b p 0 := funext fun a => match a with
    | ⟨0, _⟩ => rfl
    | ⟨1, _⟩ => rfl
    | ⟨2, _⟩ => rfl
  have e2 : idx_main_v8 (idx_main_v9 (idx_main_v20 (idx_main_v21 (ix3 b p k)))) = ix2 0 k := funext fun a => match a with
    | ⟨0, _⟩ => rfl
    | ⟨1, _⟩ => Fin.ext (Nat.mod_eq_of_lt k.isLt)
  have e3 : idx_main_v0 (idx_main_v1 (idx_main_v3 (idx_main_v25 (ix3 b p k)))) = ix2 ⟨128 + b.val, by omega⟩ ⟨2048 + k.val, by omega⟩ := funext fun a => match a with
    | ⟨0, _⟩ => rfl
    | ⟨1, _⟩ => Fin.ext (by rfl)
  have e4 : idx_main_v0 (idx_main_v1 (idx_main_v2 (idx_main_v27 (ix3 b p k)))) = ix2 ⟨128 + b.val, by omega⟩ ⟨0 + k.val, by omega⟩ := funext fun a => match a with
    | ⟨0, _⟩ => rfl
    | ⟨1, _⟩ => Fin.ext (by show k.val = 0 + k.val; omega)
  rw [e1, e2, e3, e4, ref_rms2]
  rfl
end ref2

section ref4
open Cert.Reference4Ideal Cert.Reference4Ideal.Gen Cert.Reference4Ideal.Read

/-- The reference's one over root mean square. -/
theorem ref_rms4 (x0 : Act) (b : Fin 4) (p : Fin 2048) :
    (val_main_v17 (F := Ideal) x0 (ix3 b p 0) : EReal) = rms fun j => x0 (ix3 b p j) := by
  rw [val_main_v17_apply, val_main_v16_apply, val_main_v14_apply, val_main_v12_apply, val_main_v11_apply, val_main_cst_apply, val_main_v13_apply,
    val_main_cst_0_apply, val_main_v15_apply, val_main_cst_1_apply]
  refine congrArg (fun q => FloatOps.rsqrt (F := Ideal) (φ := .f32) (FloatOps.divf (F := Ideal) (φ := .f32) q (Ideal.ofBits .f32 0x45000000#32) + Ideal.ofBits .f32 0x358637BD#32)) ?_
  refine (congrArg (· + _) Ideal.ofBits_zero_f32).trans ((zero_add _).trans (Finset.sum_congr rfl fun j _ => ?_))
  have e : idx_main_v11 (idx_main_v12 (ix3 b p 0)) j = ix3 b p j := funext fun a => match a with
    | ⟨0, _⟩ => rfl
    | ⟨1, _⟩ => rfl
    | ⟨2, _⟩ => rfl
  rw [val_main_v10_apply, e]
  rfl

/-- The reference's normalized activations. -/
theorem ref_normed4 (x0 : Act) (x1 : Mod) (x2 : Gain) (b : Fin 4) (p k : Fin 2048) :
    (val_main_v28 (F := Ideal) x0 x1 x2 (ix3 b p k) : EReal) = normed 8192 6144 (by decide) (by decide) x0 x1 x2 b p k := by
  rw [val_main_v28_apply, val_main_v26_apply, val_main_v22_apply, val_main_v19_apply, val_main_v18_apply, val_main_v21_apply, val_main_v20_apply,
    val_main_v9_apply, val_main_v8_apply, val_main_v25_apply, val_main_v24_apply, val_main_v23_apply, val_main_cst_2_apply, val_main_v6_apply,
    val_main_v1_apply, val_main_v0_apply, val_main_v27_apply, val_main_v5_apply, val_main_v1_apply, val_main_v0_apply]
  have e1 : idx_main_v18 (ix3 b p k) = ix3 b p 0 := funext fun a => match a with
    | ⟨0, _⟩ => rfl
    | ⟨1, _⟩ => rfl
    | ⟨2, _⟩ => rfl
  have e2 : idx_main_v8 (idx_main_v9 (idx_main_v20 (idx_main_v21 (ix3 b p k)))) = ix2 0 k := funext fun a => match a with
    | ⟨0, _⟩ => rfl
    | ⟨1, _⟩ => Fin.ext (Nat.mod_eq_of_lt k.isLt)
  have e3 : idx_main_v0 (idx_main_v1 (idx_main_v6 (idx_main_v25 (ix3 b p k)))) = ix2 ⟨128 + b.val, by omega⟩ ⟨8192 + k.val, by omega⟩ := funext fun a => match a with
    | ⟨0, _⟩ => rfl
    | ⟨1, _⟩ => Fin.ext (by rfl)
  have e4 : idx_main_v0 (idx_main_v1 (idx_main_v5 (idx_main_v27 (ix3 b p k)))) = ix2 ⟨128 + b.val, by omega⟩ ⟨6144 + k.val, by omega⟩ := funext fun a => match a with
    | ⟨0, _⟩ => rfl
    | ⟨1, _⟩ => Fin.ext (by rfl)
  rw [e1, e2, e3, e4, ref_rms4]
  rfl
end ref4

end Cert.Norm

end
-- ==== Proof.Project.lean ====
/- The input projection: the array its run leaves, the host's rearrangement of it, and the reference's. -/
module

public import proofs.«01_k».proof.Proof.Norm
public import proofs.«01_k».proof.Proof.Gen.Kernel2Ideal.Frame
public import proofs.«01_k».proof.Proof.Gen.Reference2Ideal.Run
public import Idealize.ShloMosaic.Lib.Pipeline.ValueKit.Geometry
public import Idealize.ShloMosaic.Lib.Pipeline.ValueKit.Acc

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic Idealize.ShloMosaic.ValueIdx
open Cert.Norm

/-- The projection, in the weights' own column order. -/
def proj (x : Act) (mod : Mod) (g : Gain) (w : S2x2048x7264.Idx → EReal) : S4x2048x7264.Idx → EReal := fun j =>
  ∑ k : Fin 2048, normed 2048 0 (by decide) (by decide) x mod g (j 0) (j 1) k * w (ix3 0 k (j 2))

/-- The projection by rows of the four prompts end to end, with weights `w` in whatever column order. -/
def rows (x : Act) (mod : Mod) (g : Gain) (w : S2x2048x7296.Idx → EReal) : S8192x7296.Idx → EReal := fun i =>
  ∑ k : Fin 2048, normed 2048 0 (by decide) (by decide) x mod g ⟨(i 0).val / 2048, Nat.div_lt_of_lt_mul (i 0).isLt⟩
    ⟨(i 0).val % 2048, Nat.mod_lt _ (by decide)⟩ k * w (ix3 0 k (i 1))

/-- The body's product, entry by entry. -/
theorem pay_apply (x : Vec Ideal S1x512x2048 .f32) (g s h : Vec Ideal S1x1x2048 .f32) (w : Vec Ideal S1x2048x2432 .bf16) (r : Fin 512) (y : Fin 2432) :
    (k0_pay1 (F := Ideal) x g s h w (ix2 r y) : EReal)
      = ∑ k : Fin 2048, normRow (fun j => x (ix3 0 r j)) (g (ix3 0 0 k)) (s (ix3 0 0 k)) (h (ix3 0 0 k)) k * w (ix3 0 k y) := by
  refine (Ideal.matmul_plain_apply (φ₁ := .bf16) (φ₂ := .bf16) none (Cert.Kernel4Ideal.Gen.k0_pay1 (F := Ideal) x g s h)
    (shapeCast S2048x2432 w shapeCasts_S1x2048x2432_S2048x2432) (constant S512x2432 .f32 0x00000000#32) r y).trans ?_
  refine (congrArg (· + _) Ideal.ofBits_zero_f32).trans ((zero_add _).trans (Finset.sum_congr rfl fun k _ => ?_))
  exact congrArg₂ (· * ·) (tile_apply x g s h r k) (shapeCast_1ab_ab_apply w shapeCasts_S1x2048x2432_S2048x2432 k y)

/-- Every window's block index at every point. -/
theorem index_at : ∀ t : Fin cfg0.N,
    win0_0.index t = ![(grid0.coords t 1).val / 4, (grid0.coords t 1).val % 4, 0] ∧ win0_1.index t = ![0, 0, 0]
    ∧ win0_2.index t = ![128 + (grid0.coords t 1).val / 4, 0, 1] ∧ win0_3.index t = ![128 + (grid0.coords t 1).val / 4, 0, 0]
    ∧ win0_4.index t = ![0, 0, (grid0.coords t 0).val] ∧ win0_5.index t = ![(grid0.coords t 1).val, (grid0.coords t 0).val]
    ∧ win0_6.index t = ![(grid0.coords t 1).val, (grid0.coords t 0).val] :=
  (by decide +kernel : ∀ t : Fin grid0.N, _)

variable (m : (ℓ : Loc nD τ sig) → Buf (Elt Ideal) ℓ)

/-- The six pieces the host lays side by side, of the weights. -/
def pieces (w : Vec Ideal S2x2048x7264 .f32) : List ((s : Shape) × (s.Idx → Ideal .f32)) :=
  [⟨S2x2048x3072, extractStridedSlice S2x2048x3072 ![0, 0, 0] w slices_S2x2048x7264_S2x2048x3072_0_0_0⟩,
   ⟨S2x2048x4096, extractStridedSlice S2x2048x4096 ![0, 0, 3088] w slices_S2x2048x7264_S2x2048x4096_0_0_3088⟩,
   ⟨S2x2048x64, extractStridedSlice S2x2048x64 ![0, 0, 7184] w slices_S2x2048x7264_S2x2048x64_0_0_7184⟩,
   ⟨S2x2048x16, extractStridedSlice S2x2048x16 ![0, 0, 3072] w slices_S2x2048x7264_S2x2048x16_0_0_3072⟩,
   ⟨S2x2048x16, extractStridedSlice S2x2048x16 ![0, 0, 7248] w slices_S2x2048x7264_S2x2048x16_0_0_7248⟩,
   ⟨S2x2048x32, broadcastInDim S2x2048x32 ![] bcast_S_S2x2048x32 (constant S_ .f32 0x00000000#32)⟩]

/-- The weights laid out for the kernel. -/
def laid (w : Vec Ideal S2x2048x7264 .f32) : S2x2048x7296.Idx → EReal := concatenate S2x2048x7296 2 (pieces w)
  concatenates_S2x2048x3072_S2x2048x4096_S2x2048x64_S2x2048x16_S2x2048x16_S2x2048x32_S2x2048x7296_d2

theorem V_v9 (c : Dev nD) : V m c main_v9 = laid (m ((c : Thread nD τ).loc main_arg3)) := by
  unfold V V0 hostOps0
  after_results_simp
  rfl

theorem V_v0 (c : Dev nD) : V m c main_v0 = shapeCast S2x1x2048 (m ((c : Thread nD τ).loc main_arg2)) shapeCasts_S2x2048_S2x1x2048 := by
  unfold V V0 hostOps0
  after_results_simp
  rfl

theorem V_v1 (c : Dev nD) : V m c main_v1 = shapeCast S384x1x12288 (m ((c : Thread nD τ).loc main_arg1)) shapeCasts_S384x12288_S384x1x12288 := by
  unfold V V0 hostOps0
  after_results_simp
  rfl

theorem gain_at (g : Vec Ideal S2x2048 .f32) (l : Fin 2) (k : Fin 2048) : shapeCast S2x1x2048 g shapeCasts_S2x2048_S2x1x2048 (ix3 l 0 k) = g (ix2 l k) :=
  shapeCast_apply g _ _ _ (by rw [Shape.rowMajor_val_two, Shape.rowMajor_val_three]; show l.val * 2048 + k.val = (l.val * 1 + 0) * 2048 + k.val; omega)

theorem mod_at (g : Vec Ideal S384x12288 .f32) (l : Fin 384) (k : Fin 12288) :
    shapeCast S384x1x12288 g shapeCasts_S384x12288_S384x1x12288 (ix3 l 0 k) = g (ix2 l k) :=
  shapeCast_apply g _ _ _ (by rw [Shape.rowMajor_val_two, Shape.rowMajor_val_three]; show l.val * 12288 + k.val = (l.val * 1 + 0) * 12288 + k.val; omega)

section blocks
variable (c : Dev nD) (t : Fin cfg0.N)

theorem x_at (b : Fin 4) (p : Fin 2048) (r : Fin 512) (k : Fin 2048) (hb : b.val = (grid0.coords t 1).val / 4)
    (hp : p.val = 512 * ((grid0.coords t 1).val % 4) + r.val) :
    iblk m c 0 t (ix3 0 r k) = m ((c : Thread nD τ).loc main_arg0) (ix3 b p k) := by
  rw [← V_main_arg0 m c]
  unfold iblk
  blk_simp
  congr 1
  funext a
  apply Fin.ext
  obtain ⟨h0, h1, h2, h3, h4, h5, h6⟩ := index_at t
  blk_simp [h0]
  match a with
  | ⟨0, _⟩ => show (grid0.coords t 1).val / 4 * 1 + 0 = b.val; omega
  | ⟨1, _⟩ => show (grid0.coords t 1).val % 4 * 512 + r.val = p.val; omega
  | ⟨2, _⟩ => show 0 * 2048 + k.val = k.val; omega

theorem g_at (k : Fin 2048) : iblk m c 1 t (ix3 0 0 k) = m ((c : Thread nD τ).loc main_arg2) (ix2 0 k) := by
  refine Eq.trans ?_ (gain_at _ 0 k)
  rw [← V_v0 m c]
  unfold iblk
  blk_simp
  congr 1
  funext a
  apply Fin.ext
  obtain ⟨h0, h1, h2, h3, h4, h5, h6⟩ := index_at t
  blk_simp [h1]
  match a with
  | ⟨0, _⟩ => rfl
  | ⟨1, _⟩ => rfl
  | ⟨2, _⟩ => show 0 * 2048 + k.val = k.val; omega

theorem s_at (b : Fin 4) (k : Fin 2048) (hb : b.val = (grid0.coords t 1).val / 4) :
    iblk m c 2 t (ix3 0 0 k) = m ((c : Thread nD τ).loc main_arg1) (ix2 ⟨128 + b.val, by omega⟩ ⟨2048 + k.val, by omega⟩) := by
  refine Eq.trans ?_ (mod_at _ _ _)
  rw [← V_v1 m c]
  unfold iblk
  blk_simp
  congr 1
  funext a
  apply Fin.ext
  obtain ⟨h0, h1, h2, h3, h4, h5, h6⟩ := index_at t
  blk_simp [h2]
  match a with
  | ⟨0, _⟩ => show (128 + (grid0.coords t 1).val / 4) * 1 + 0 = 128 + b.val; omega
  | ⟨1, _⟩ => rfl
  | ⟨2, _⟩ => show 1 * 2048 + k.val = 2048 + k.val; omega

theorem h_at (b : Fin 4) (k : Fin 2048) (hb : b.val = (grid0.coords t 1).val / 4) :
    iblk m c 3 t (ix3 0 0 k) = m ((c : Thread nD τ).loc main_arg1) (ix2 ⟨128 + b.val, by omega⟩ ⟨0 + k.val, by omega⟩) := by
  refine Eq.trans ?_ (mod_at _ _ _)
  rw [← V_v1 m c]
  unfold iblk
  blk_simp
  congr 1
  funext a
  apply Fin.ext
  obtain ⟨h0, h1, h2, h3, h4, h5, h6⟩ := index_at t
  blk_simp [h3]
  match a with
  | ⟨0, _⟩ => show (128 + (grid0.coords t 1).val / 4) * 1 + 0 = 128 + b.val; omega
  | ⟨1, _⟩ => rfl
  | ⟨2, _⟩ => show 0 * 2048 + k.val = k.val; omega

theorem w_at (k : Fin 2048) (y : Fin 2432) (z : Fin 7296) (hz : z.val = 2432 * (grid0.coords t 0).val + y.val) :
    iblk m c 4 t (ix3 0 k y) = laid (m ((c : Thread nD τ).loc main_arg3)) (ix3 0 k z) := by
  rw [← V_v9 m c]
  unfold iblk
  blk_simp
  congr 1
  funext a
  apply Fin.ext
  obtain ⟨h0, h1, h2, h3, h4, h5, h6⟩ := index_at t
  blk_simp [h4]
  match a with
  | ⟨0, _⟩ => rfl
  | ⟨1, _⟩ => show 0 * 2048 + k.val = k.val; omega
  | ⟨2, _⟩ => show (grid0.coords t 0).val * 2432 + y.val = z.val; omega

/-- The product at a point: its rows and columns of the projection. -/
theorem point (r : Fin 512) (y : Fin 2432) (i : S8192x7296.Idx) (hi : (i 0).val = 512 * (grid0.coords t 1).val + r.val)
    (hz : (i 1).val = 2432 * (grid0.coords t 0).val + y.val) :
    (k0_pay1 (F := Ideal) (iblk m c 0 t) (iblk m c 1 t) (iblk m c 2 t) (iblk m c 3 t) (iblk m c 4 t) (ix2 r y) : EReal)
      = rows (m ((c : Thread nD τ).loc main_arg0)) (m ((c : Thread nD τ).loc main_arg1)) (m ((c : Thread nD τ).loc main_arg2))
          (laid (m ((c : Thread nD τ).loc main_arg3))) i := by
  rw [pay_apply]
  unfold rows normed
  refine Finset.sum_congr rfl fun k _ => ?_
  have hb : (⟨(i 0).val / 2048, Nat.div_lt_of_lt_mul (i 0).isLt⟩ : Fin 4).val = (grid0.coords t 1).val / 4 := by
    show (i 0).val / 2048 = _; omega
  have hp : (⟨(i 0).val % 2048, Nat.mod_lt _ (by decide)⟩ : Fin 2048).val = 512 * ((grid0.coords t 1).val % 4) + r.val := by
    show (i 0).val % 2048 = _; omega
  rw [funext fun j => x_at m c t _ _ r j hb hp, g_at, s_at m c t _ k hb, h_at m c t _ k hb, w_at m c t k y (i 1) hz]
end blocks

/-- The array the run leaves, in 32 bits. -/
theorem left_5 (c : Dev nD) : (dats m 0 c).arrAt 5 cfg0.N
    = rows (m ((c : Thread nD τ).loc main_arg0)) (m ((c : Thread nD τ).loc main_arg1)) (m ((c : Thread nD τ).loc main_arg2))
        (laid (m ((c : Thread nD τ).loc main_arg3))) := by
  refine (dats m 0 c).arrAt_eq_of_covers 5 _ (by decide +kernel) fun t hf y => ?_
  blk_simp
  rw [after0_5]
  unfold out0_5
  obtain ⟨-, -, -, -, -, h5, -⟩ := index_at t
  rw [View.canon_unit_zero (by decide), View.ld_unit_zero (by decide), View.ld_unit_zero (by decide), View.ld_unit_zero (by decide), View.ld_unit_zero (by decide),
    View.ld_unit_zero (by decide)]
  refine Eq.trans (congrArg _ (eq_ix2 y)) (point m c t (y 0) (y 1) _ ?_ ?_)
  · blk_simp [h5]; show (grid0.coords t 1).val * 512 + (y 0).val = _; omega
  · blk_simp [h5]; show (grid0.coords t 0).val * 2432 + (y 1).val = _; omega

/-- … and in 16. -/
theorem left_6 (c : Dev nD) : (dats m 0 c).arrAt 6 cfg0.N
    = rows (m ((c : Thread nD τ).loc main_arg0)) (m ((c : Thread nD τ).loc main_arg1)) (m ((c : Thread nD τ).loc main_arg2))
        (laid (m ((c : Thread nD τ).loc main_arg3))) := by
  refine (dats m 0 c).arrAt_eq_of_covers 6 _ (by decide +kernel) fun t hf y => ?_
  blk_simp
  rw [after0_6]
  unfold out0_6
  obtain ⟨-, -, -, -, -, -, h6⟩ := index_at t
  rw [View.canon_unit_zero (by decide), View.ld_unit_zero (by decide), View.ld_unit_zero (by decide), View.ld_unit_zero (by decide), View.ld_unit_zero (by decide),
    View.ld_unit_zero (by decide)]
  refine Eq.trans (congrArg _ (eq_ix2 y)) (point m c t (y 0) (y 1) _ ?_ ?_)
  · blk_simp [h6]; show (grid0.coords t 1).val * 512 + (y 0).val = _; omega
  · blk_simp [h6]; show (grid0.coords t 0).val * 2432 + (y 1).val = _; omega

/-! ## The weights' columns, where the host lays them -/

theorem laid_0 (w : Vec Ideal S2x2048x7264 .f32) (l : Fin 2) (k : Fin 2048) (y : Fin 7296) (z : Fin 7264)
    (h1 : 0 ≤ y.val) (h2 : y.val < 3072) (hz : z.val = 0 + (y.val - 0)) : laid w (ix3 l k y) = w (ix3 l k z) := by
  refine (concatenate_apply_piece (t := S2x2048x7296) 2 (pieces w) _ (ix3 l k y) 0 (Nat.lt_of_sub_pos (by exact Nat.succ_pos _)) S2x2048x3072 _ rfl rfl 0 rfl
    (ix3 l k ⟨y.val - 0, by omega⟩) ?_ ?_).trans ?_
  · intro a ha
    match a with
    | ⟨0, _⟩ => rfl
    | ⟨1, _⟩ => rfl
    | ⟨2, _⟩ => exact absurd rfl ha
  · show 0 + (y.val - 0) = y.val
    omega
  · unfold extractStridedSlice
    congr 1
    funext a
    apply Fin.ext
    match a with
    | ⟨0, _⟩ => show 0 + l.val = l.val; omega
    | ⟨1, _⟩ => show 0 + k.val = k.val; omega
    | ⟨2, _⟩ => show 0 + (y.val - 0) = z.val; omega

theorem laid_1 (w : Vec Ideal S2x2048x7264 .f32) (l : Fin 2) (k : Fin 2048) (y : Fin 7296) (z : Fin 7264)
    (h1 : 3072 ≤ y.val) (h2 : y.val < 7168) (hz : z.val = 3088 + (y.val - 3072)) : laid w (ix3 l k y) = w (ix3 l k z) := by
  refine (concatenate_apply_piece (t := S2x2048x7296) 2 (pieces w) _ (ix3 l k y) 1 (Nat.lt_of_sub_pos (by exact Nat.succ_pos _)) S2x2048x4096 _ rfl rfl 3072 rfl
    (ix3 l k ⟨y.val - 3072, by omega⟩) ?_ ?_).trans ?_
  · intro a ha
    match a with
    | ⟨0, _⟩ => rfl
    | ⟨1, _⟩ => rfl
    | ⟨2, _⟩ => exact absurd rfl ha
  · show 3072 + (y.val - 3072) = y.val
    omega
  · unfold extractStridedSlice
    congr 1
    funext a
    apply Fin.ext
    match a with
    | ⟨0, _⟩ => show 0 + l.val = l.val; omega
    | ⟨1, _⟩ => show 0 + k.val = k.val; omega
    | ⟨2, _⟩ => show 3088 + (y.val - 3072) = z.val; omega

theorem laid_2 (w : Vec Ideal S2x2048x7264 .f32) (l : Fin 2) (k : Fin 2048) (y : Fin 7296) (z : Fin 7264)
    (h1 : 7168 ≤ y.val) (h2 : y.val < 7232) (hz : z.val = 7184 + (y.val - 7168)) : laid w (ix3 l k y) = w (ix3 l k z) := by
  refine (concatenate_apply_piece (t := S2x2048x7296) 2 (pieces w) _ (ix3 l k y) 2 (Nat.lt_of_sub_pos (by exact Nat.succ_pos _)) S2x2048x64 _ rfl rfl 7168 rfl
    (ix3 l k ⟨y.val - 7168, by omega⟩) ?_ ?_).trans ?_
  · intro a ha
    match a with
    | ⟨0, _⟩ => rfl
    | ⟨1, _⟩ => rfl
    | ⟨2, _⟩ => exact absurd rfl ha
  · show 7168 + (y.val - 7168) = y.val
    omega
  · unfold extractStridedSlice
    congr 1
    funext a
    apply Fin.ext
    match a with
    | ⟨0, _⟩ => show 0 + l.val = l.val; omega
    | ⟨1, _⟩ => show 0 + k.val = k.val; omega
    | ⟨2, _⟩ => show 7184 + (y.val - 7168) = z.val; omega

theorem laid_3 (w : Vec Ideal S2x2048x7264 .f32) (l : Fin 2) (k : Fin 2048) (y : Fin 7296) (z : Fin 7264)
    (h1 : 7232 ≤ y.val) (h2 : y.val < 7248) (hz : z.val = 3072 + (y.val - 7232)) : laid w (ix3 l k y) = w (ix3 l k z) := by
  refine (concatenate_apply_piece (t := S2x2048x7296) 2 (pieces w) _ (ix3 l k y) 3 (Nat.lt_of_sub_pos (by exact Nat.succ_pos _)) S2x2048x16 _ rfl rfl 7232 rfl
    (ix3 l k ⟨y.val - 7232, by omega⟩) ?_ ?_).trans ?_
  · intro a ha
    match a with
    | ⟨0, _⟩ => rfl
    | ⟨1, _⟩ => rfl
    | ⟨2, _⟩ => exact absurd rfl ha
  · show 7232 + (y.val - 7232) = y.val
    omega
  · unfold extractStridedSlice
    congr 1
    funext a
    apply Fin.ext
    match a with
    | ⟨0, _⟩ => show 0 + l.val = l.val; omega
    | ⟨1, _⟩ => show 0 + k.val = k.val; omega
    | ⟨2, _⟩ => show 3072 + (y.val - 7232) = z.val; omega

theorem laid_4 (w : Vec Ideal S2x2048x7264 .f32) (l : Fin 2) (k : Fin 2048) (y : Fin 7296) (z : Fin 7264)
    (h1 : 7248 ≤ y.val) (h2 : y.val < 7264) (hz : z.val = 7248 + (y.val - 7248)) : laid w (ix3 l k y) = w (ix3 l k z) := by
  refine (concatenate_apply_piece (t := S2x2048x7296) 2 (pieces w) _ (ix3 l k y) 4 (Nat.lt_of_sub_pos (by exact Nat.succ_pos _)) S2x2048x16 _ rfl rfl 7248 rfl
    (ix3 l k ⟨y.val - 7248, by omega⟩) ?_ ?_).trans ?_
  · intro a ha
    match a with
    | ⟨0, _⟩ => rfl
    | ⟨1, _⟩ => rfl
    | ⟨2, _⟩ => exact absurd rfl ha
  · show 7248 + (y.val - 7248) = y.val
    omega
  · unfold extractStridedSlice
    congr 1
    funext a
    apply Fin.ext
    match a with
    | ⟨0, _⟩ => show 0 + l.val = l.val; omega
    | ⟨1, _⟩ => show 0 + k.val = k.val; omega
    | ⟨2, _⟩ => show 7248 + (y.val - 7248) = z.val; omega

/-! ## The results' columns, as the host puts them back -/

/-- The five pieces the host takes of the kernel's array, in the weights' order. -/
def parts (a : S4x2048x7296.Idx → EReal) : List ((s : Shape) × (s.Idx → EReal)) :=
  [⟨S4x2048x3072, extractStridedSlice S4x2048x3072 ![0, 0, 0] a slices_S4x2048x7296_S4x2048x3072_0_0_0⟩,
   ⟨S4x2048x16, extractStridedSlice S4x2048x16 ![0, 0, 7232] a slices_S4x2048x7296_S4x2048x16_0_0_7232⟩,
   ⟨S4x2048x4096, extractStridedSlice S4x2048x4096 ![0, 0, 3072] a slices_S4x2048x7296_S4x2048x4096_0_0_3072⟩,
   ⟨S4x2048x64, extractStridedSlice S4x2048x64 ![0, 0, 7168] a slices_S4x2048x7296_S4x2048x64_0_0_7168⟩,
   ⟨S4x2048x16, extractStridedSlice S4x2048x16 ![0, 0, 7248] a slices_S4x2048x7296_S4x2048x16_0_0_7248⟩]

/-- The kernel's array put back in the weights' order. -/
def back (a : S8192x7296.Idx → EReal) : S4x2048x7264.Idx → EReal :=
  concatenate S4x2048x7264 2 (parts (shapeCast S4x2048x7296 a shapeCasts_S8192x7296_S4x2048x7296))
    concatenates_S4x2048x3072_S4x2048x16_S4x2048x4096_S4x2048x64_S4x2048x16_S4x2048x7264_d2

theorem row_at (a : S8192x7296.Idx → EReal) (b : Fin 4) (p : Fin 2048) (y : Fin 7296) :
    shapeCast S4x2048x7296 a shapeCasts_S8192x7296_S4x2048x7296 (ix3 b p y) = a (ix2 ⟨2048 * b.val + p.val, by omega⟩ y) :=
  shapeCast_apply a _ _ _ (by rw [Shape.rowMajor_val_two, Shape.rowMajor_val_three]; show (2048 * b.val + p.val) * 7296 + y.val = (b.val * 2048 + p.val) * 7296 + y.val; omega)

theorem back_0 (a : S8192x7296.Idx → EReal) (b : Fin 4) (p : Fin 2048) (z : Fin 7264) (y : Fin 7296)
    (h1 : 0 ≤ z.val) (h2 : z.val < 3072) (hy : y.val = 0 + (z.val - 0)) :
    back a (ix3 b p z) = a (ix2 ⟨2048 * b.val + p.val, by omega⟩ y) := by
  refine Eq.trans ?_ (row_at a b p y)
  refine (concatenate_apply_piece (t := S4x2048x7264) 2 (parts (shapeCast S4x2048x7296 a shapeCasts_S8192x7296_S4x2048x7296)) _ (ix3 b p z) 0
    (Nat.lt_of_sub_pos (by exact Nat.succ_pos _)) S4x2048x3072 _ rfl rfl 0 rfl (ix3 b p ⟨z.val - 0, by omega⟩) ?_ ?_).trans ?_
  · intro d hd
    match d with
    | ⟨0, _⟩ => rfl
    | ⟨1, _⟩ => rfl
    | ⟨2, _⟩ => exact absurd rfl hd
  · show 0 + (z.val - 0) = z.val
    omega
  · unfold extractStridedSlice
    congr 1
    funext d
    apply Fin.ext
    match d with
    | ⟨0, _⟩ => show 0 + b.val = b.val; omega
    | ⟨1, _⟩ => show 0 + p.val = p.val; omega
    | ⟨2, _⟩ => show 0 + (z.val - 0) = y.val; omega

theorem back_1 (a : S8192x7296.Idx → EReal) (b : Fin 4) (p : Fin 2048) (z : Fin 7264) (y : Fin 7296)
    (h1 : 3072 ≤ z.val) (h2 : z.val < 3088) (hy : y.val = 7232 + (z.val - 3072)) :
    back a (ix3 b p z) = a (ix2 ⟨2048 * b.val + p.val, by omega⟩ y) := by
  refine Eq.trans ?_ (row_at a b p y)
  refine (concatenate_apply_piece (t := S4x2048x7264) 2 (parts (shapeCast S4x2048x7296 a shapeCasts_S8192x7296_S4x2048x7296)) _ (ix3 b p z) 1
    (Nat.lt_of_sub_pos (by exact Nat.succ_pos _)) S4x2048x16 _ rfl rfl 3072 rfl (ix3 b p ⟨z.val - 3072, by omega⟩) ?_ ?_).trans ?_
  · intro d hd
    match d with
    | ⟨0, _⟩ => rfl
    | ⟨1, _⟩ => rfl
    | ⟨2, _⟩ => exact absurd rfl hd
  · show 3072 + (z.val - 3072) = z.val
    omega
  · unfold extractStridedSlice
    congr 1
    funext d
    apply Fin.ext
    match d with
    | ⟨0, _⟩ => show 0 + b.val = b.val; omega
    | ⟨1, _⟩ => show 0 + p.val = p.val; omega
    | ⟨2, _⟩ => show 7232 + (z.val - 3072) = y.val; omega

theorem back_2 (a : S8192x7296.Idx → EReal) (b : Fin 4) (p : Fin 2048) (z : Fin 7264) (y : Fin 7296)
    (h1 : 3088 ≤ z.val) (h2 : z.val < 7184) (hy : y.val = 3072 + (z.val - 3088)) :
    back a (ix3 b p z) = a (ix2 ⟨2048 * b.val + p.val, by omega⟩ y) := by
  refine Eq.trans ?_ (row_at a b p y)
  refine (concatenate_apply_piece (t := S4x2048x7264) 2 (parts (shapeCast S4x2048x7296 a shapeCasts_S8192x7296_S4x2048x7296)) _ (ix3 b p z) 2
    (Nat.lt_of_sub_pos (by exact Nat.succ_pos _)) S4x2048x4096 _ rfl rfl 3088 rfl (ix3 b p ⟨z.val - 3088, by omega⟩) ?_ ?_).trans ?_
  · intro d hd
    match d with
    | ⟨0, _⟩ => rfl
    | ⟨1, _⟩ => rfl
    | ⟨2, _⟩ => exact absurd rfl hd
  · show 3088 + (z.val - 3088) = z.val
    omega
  · unfold extractStridedSlice
    congr 1
    funext d
    apply Fin.ext
    match d with
    | ⟨0, _⟩ => show 0 + b.val = b.val; omega
    | ⟨1, _⟩ => show 0 + p.val = p.val; omega
    | ⟨2, _⟩ => show 3072 + (z.val - 3088) = y.val; omega

theorem back_3 (a : S8192x7296.Idx → EReal) (b : Fin 4) (p : Fin 2048) (z : Fin 7264) (y : Fin 7296)
    (h1 : 7184 ≤ z.val) (h2 : z.val < 7248) (hy : y.val = 7168 + (z.val - 7184)) :
    back a (ix3 b p z) = a (ix2 ⟨2048 * b.val + p.val, by omega⟩ y) := by
  refine Eq.trans ?_ (row_at a b p y)
  refine (concatenate_apply_piece (t := S4x2048x7264) 2 (parts (shapeCast S4x2048x7296 a shapeCasts_S8192x7296_S4x2048x7296)) _ (ix3 b p z) 3
    (Nat.lt_of_sub_pos (by exact Nat.succ_pos _)) S4x2048x64 _ rfl rfl 7184 rfl (ix3 b p ⟨z.val - 7184, by omega⟩) ?_ ?_).trans ?_
  · intro d hd
    match d with
    | ⟨0, _⟩ => rfl
    | ⟨1, _⟩ => rfl
    | ⟨2, _⟩ => exact absurd rfl hd
  · show 7184 + (z.val - 7184) = z.val
    omega
  · unfold extractStridedSlice
    congr 1
    funext d
    apply Fin.ext
    match d with
    | ⟨0, _⟩ => show 0 + b.val = b.val; omega
    | ⟨1, _⟩ => show 0 + p.val = p.val; omega
    | ⟨2, _⟩ => show 7168 + (z.val - 7184) = y.val; omega

theorem back_4 (a : S8192x7296.Idx → EReal) (b : Fin 4) (p : Fin 2048) (z : Fin 7264) (y : Fin 7296)
    (h1 : 7248 ≤ z.val) (h2 : z.val < 7264) (hy : y.val = 7248 + (z.val - 7248)) :
    back a (ix3 b p z) = a (ix2 ⟨2048 * b.val + p.val, by omega⟩ y) := by
  refine Eq.trans ?_ (row_at a b p y)
  refine (concatenate_apply_piece (t := S4x2048x7264) 2 (parts (shapeCast S4x2048x7296 a shapeCasts_S8192x7296_S4x2048x7296)) _ (ix3 b p z) 4
    (Nat.lt_of_sub_pos (by exact Nat.succ_pos _)) S4x2048x16 _ rfl rfl 7248 rfl (ix3 b p ⟨z.val - 7248, by omega⟩) ?_ ?_).trans ?_
  · intro d hd
    match d with
    | ⟨0, _⟩ => rfl
    | ⟨1, _⟩ => rfl
    | ⟨2, _⟩ => exact absurd rfl hd
  · show 7248 + (z.val - 7248) = z.val
    omega
  · unfold extractStridedSlice
    congr 1
    funext d
    apply Fin.ext
    match d with
    | ⟨0, _⟩ => show 0 + b.val = b.val; omega
    | ⟨1, _⟩ => show 0 + p.val = p.val; omega
    | ⟨2, _⟩ => show 7248 + (z.val - 7248) = y.val; omega

/-- One row of the projection, whichever way its columns are named. -/
theorem rows_at (x : Act) (mod : Mod) (g : Gain) (w : Vec Ideal S2x2048x7264 .f32) (b : Fin 4) (p : Fin 2048) (z : Fin 7264) (y : Fin 7296)
    (h : ∀ k : Fin 2048, laid w (ix3 0 k y) = w (ix3 0 k z)) :
    rows x mod g (laid w) (ix2 ⟨2048 * b.val + p.val, by omega⟩ y) = proj x mod g w (ix3 b p z) := by
  unfold rows proj
  have hb : (⟨(2048 * b.val + p.val) / 2048, Nat.div_lt_of_lt_mul (by omega)⟩ : Fin 4) = b := Fin.ext (by show (2048 * b.val + p.val) / 2048 = b.val; omega)
  have hp : (⟨(2048 * b.val + p.val) % 2048, Nat.mod_lt _ (by decide)⟩ : Fin 2048) = p := Fin.ext (by show (2048 * b.val + p.val) % 2048 = p.val; omega)
  refine Finset.sum_congr rfl fun k _ => ?_
  exact congrArg₂ (· * ·) (congrArg₂ (fun b p => normed 2048 0 (by decide) (by decide) x mod g b p k) hb hp) (h k)

/-- Put back, the kernel's array is the projection. -/
theorem back_rows (x : Act) (mod : Mod) (g : Gain) (w : Vec Ideal S2x2048x7264 .f32) :
    back (rows x mod g (laid w)) = proj x mod g w := by
  funext j
  obtain ⟨b, p, z, rfl⟩ : ∃ (b : Fin 4) (p : Fin 2048) (z : Fin 7264), j = ix3 b p z := ⟨j 0, j 1, j 2, eq_ix3 j⟩

  by_cases c0 : z.val < 3072

  · exact (back_0 (rows x mod g (laid w)) b p z ⟨0 + (z.val - 0), by omega⟩ (by omega) (by omega) rfl).trans
      (rows_at x mod g w b p z _ fun k => laid_0 w 0 k _ z (by show 0 ≤ 0 + (z.val - 0); omega)
        (by show 0 + (z.val - 0) < 3072; omega) (by show z.val = 0 + (0 + (z.val - 0) - 0); omega))

  by_cases c1 : z.val < 3088

  · exact (back_1 (rows x mod g (laid w)) b p z ⟨7232 + (z.val - 3072), by omega⟩ (by omega) (by omega) rfl).trans
      (rows_at x mod g w b p z _ fun k => laid_3 w 0 k _ z (by show 7232 ≤ 7232 + (z.val - 3072); omega)
        (by show 7232 + (z.val - 3072) < 7248; omega) (by show z.val = 3072 + (7232 + (z.val - 3072) - 7232); omega))

  by_cases c2 : z.val < 7184

  · exact (back_2 (rows x mod g (laid w)) b p z ⟨3072 + (z.val - 3088), by omega⟩ (by omega) (by omega) rfl).trans
      (rows_at x mod g w b p z _ fun k => laid_1 w 0 k _ z (by show 3072 ≤ 3072 + (z.val - 3088); omega)
        (by show 3072 + (z.val - 3088) < 7168; omega) (by show z.val = 3088 + (3072 + (z.val - 3088) - 3072); omega))

  by_cases c3 : z.val < 7248

  · exact (back_3 (rows x mod g (laid w)) b p z ⟨7168 + (z.val - 7184), by omega⟩ (by omega) (by omega) rfl).trans
      (rows_at x mod g w b p z _ fun k => laid_2 w 0 k _ z (by show 7168 ≤ 7168 + (z.val - 7184); omega)
        (by show 7168 + (z.val - 7184) < 7232; omega) (by show z.val = 7184 + (7168 + (z.val - 7184) - 7168); omega))

  exact (back_4 (rows x mod g (laid w)) b p z ⟨7248 + (z.val - 7248), by omega⟩ (by omega) (by omega) rfl).trans
      (rows_at x mod g w b p z _ fun k => laid_4 w 0 k _ z (by show 7248 ≤ 7248 + (z.val - 7248); omega)
        (by show 7248 + (z.val - 7248) < 7264; omega) (by show z.val = 7248 + (7248 + (z.val - 7248) - 7248); omega))

/-! ## The two results -/

theorem result_17 (c : Dev nD) : Pipeline.afterTail₀ cfgs (dats m) 0 (V0 m) [hostOps1] c main_v17
    = proj (m ((c : Thread nD τ).loc main_arg0)) (m ((c : Thread nD τ).loc main_arg1)) (m ((c : Thread nD τ).loc main_arg2)) (m ((c : Thread nD τ).loc main_arg3)) := by
  unfold Pipeline.afterTail₀ hostOps1
  after_results_simp
  have e := Pipeline.Dat.withArrays_arrAt (dats m 0 c) sharedIn0 (V0 m c) (A_eq m c) 5
  refine (congrArg (fun a => back a) (e.trans (left_5 m c))).trans ?_
  exact back_rows _ _ _ _

theorem result_24 (c : Dev nD) : Pipeline.afterTail₀ cfgs (dats m) 0 (V0 m) [hostOps1] c main_v24
    = proj (m ((c : Thread nD τ).loc main_arg0)) (m ((c : Thread nD τ).loc main_arg1)) (m ((c : Thread nD τ).loc main_arg2)) (m ((c : Thread nD τ).loc main_arg3)) := by
  unfold Pipeline.afterTail₀ hostOps1
  after_results_simp
  have e := Pipeline.Dat.withArrays_arrAt (dats m 0 c) sharedIn0 (V0 m c) (A_eq m c) 6
  refine (congrArg (fun a => back a) (e.trans (left_6 m c))).trans ?_
  exact back_rows _ _ _ _

/-- The kernel's program ends with the projection in both results, and leaves its arguments. -/
theorem run_value (ρ : Dev nD → PrngReg) : θ_run (defs (F := Ideal)) (onTc (τ := τ) (main (F := Ideal))) ⟨m, fun _ => 0, ρ⟩ (fun r => ∀ c : Dev nD,
    r.2.mem ((c.tc : Thread nD τ).loc main_v17)
      = proj (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_v24)
      = proj (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono
    (fun r h c => ⟨((h.1 c).2 main_v17 (Pipeline.mem_restRefs_of main_v17 (by decide) (by decide))).trans (result_17 m c),
      ((h.1 c).2 main_v24 (Pipeline.mem_restRefs_of main_v24 (by decide) (by decide))).trans (result_24 m c), h.2 c⟩)
    (θ_run_and (run_main (F := Ideal) m ρ) (unchanged (F := Ideal) m ρ))

end Cert.Kernel2Ideal.Hand

namespace Cert.Reference2Ideal.Hand

open Cert.Reference2Ideal
open Idealize.ShloMosaic Idealize.ShloMosaic.TcCoe Idealize.ShloMosaic.Tactic Idealize.ShloMosaic.ValueIdx
open Cert.Norm

/-- The reference's product is the projection. -/
theorem ref_proj (x : Act) (mod : Mod) (g : Gain) (w : S2x2048x7264.Idx → EReal) : Read.val_main_v31 (F := Ideal) x mod g w = Cert.Kernel2Ideal.Hand.proj x mod g w := by
  funext j
  rw [Read.val_main_v31_apply]
  unfold Cert.Kernel2Ideal.Hand.proj
  refine Finset.sum_congr rfl fun k _ => congrArg₂ (· * ·) ?_ ?_
  · refine Eq.trans (congrArg _ (funext fun a => ?_)) (ref_normed2 x mod g (j 0) (j 1) k)
    match a with
    | ⟨0, _⟩ => rfl
    | ⟨1, _⟩ => rfl
    | ⟨2, _⟩ => rfl
  · have h2 : (j 2).val < 7264 := (j 2).isLt
    rw [Read.val_main_v30_apply, Read.val_main_v29_apply]
    congr 1
    funext a
    apply Fin.ext
    match a with
    | ⟨0, _⟩ => rfl
    | ⟨1, _⟩ => show (k.val * 7264 + (j 2).val) / 7264 % 2048 = k.val; omega
    | ⟨2, _⟩ => show (k.val * 7264 + (j 2).val) % 7264 = (j 2).val; omega

/-- The reference's arguments are unchanged and every counter is back at zero. -/
theorem run_main (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => (h c).2.2, sem_eq_zero_of_no_sems (by decide) r.2⟩) (Value.run m ρ)

end Cert.Reference2Ideal.Hand

end
-- ==== Proof.Residual.lean ====
/- The output projection added to its input under the gate: the array its run leaves, and the reference's. -/
module

public import proofs.«01_k».proof.Proof.Norm
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit.Geometry
public import Idealize.ShloMosaic.Lib.Pipeline.ValueKit.Acc

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic Idealize.ShloMosaic.ValueIdx
open Cert.Norm

/-- Half of the width the projection merges. -/
abbrev Half := S4x2048x1024.Idx → EReal
abbrev Out := S2x2048x2048.Idx → EReal

/-- The merged halves' product with the weights. -/
def merged (ya yb : Half) (w : Out) (b : Fin 4) (p n : Fin 2048) : EReal :=
  (∑ k : Fin 1024, ya (ix3 b p k) * w (ix3 0 ⟨k.val, by omega⟩ n)) + ∑ k : Fin 1024, yb (ix3 b p k) * w (ix3 0 ⟨1024 + k.val, by omega⟩ n)

/-- The input and the gated product. -/
def added (x : Act) (mod : Mod) (ya yb : Half) (w : Out) : S4x2048x2048.Idx → EReal := fun j =>
  x j + mod (ix2 ⟨128 + (j 0).val, by have h : (j 0).val < 4 := (j 0).isLt; omega⟩ ⟨4096 + (j 2).val, by have h : (j 2).val < 2048 := (j 2).isLt; omega⟩)
    * merged ya yb w (j 0) (j 1) (j 2)

theorem half_apply (y : Vec Ideal S512x1024 .f32) (w : Vec Ideal S1x1024x2048 .bf16) (r : Fin 512) (n : Fin 2048) :
    (matmul (F := Ideal) (φ₁ := .bf16) (φ₂ := .bf16) dot_S512x1024_S1024x2048_S512x2048_1_0_0_1_n_n none
        (truncf .bf16 (shapeCast S512x1024 y shapeCasts_S512x1024_S512x1024) bitsLt_bf16_f32 : FVec Ideal S512x1024 .bf16)
        (shapeCast S1024x2048 w shapeCasts_S1x1024x2048_S1024x2048) (constant S512x2048 .f32 0x00000000#32) (ix2 r n) : EReal)
      = ∑ k : Fin 1024, y (ix2 r k) * w (ix3 0 k n) := by
  simp only [shapeCast_self]
  refine (Ideal.matmul_plain_apply (φ₁ := .bf16) (φ₂ := .bf16) none y
    (shapeCast S1024x2048 w shapeCasts_S1x1024x2048_S1024x2048) (constant S512x2048 .f32 0x00000000#32) r n).trans ?_
  refine (congrArg (· + _) Ideal.ofBits_zero_f32).trans ((zero_add _).trans (Finset.sum_congr rfl fun k _ => ?_))
  exact congrArg (_ * ·) (shapeCast_1ab_ab_apply w shapeCasts_S1x1024x2048_S1024x2048 k n)

/-- The body's block, entry by entry. -/
theorem pay_apply (ya : Vec Ideal S512x1024 .f32) (wa : Vec Ideal S1x1024x2048 .bf16) (yb : Vec Ideal S512x1024 .f32) (wb : Vec Ideal S1x1024x2048 .bf16)
    (x : Vec Ideal S1x512x2048 .f32) (g : Vec Ideal S1x1x2048 .f32) (r : Fin 512) (n : Fin 2048) :
    (k0_pay1 (F := Ideal) ya wa yb wb x g (ix3 0 r n) : EReal)
      = x (ix3 0 r n) + g (ix3 0 0 n) * ((∑ k : Fin 1024, ya (ix2 r k) * wa (ix3 0 k n)) + ∑ k : Fin 1024, yb (ix2 r k) * wb (ix3 0 k n)) := by
  rw [← half_apply ya wa r n, ← half_apply yb wb r n]
  unfold k0_pay1
  refine congrArg (x (ix3 0 r n) + ·) (congrArg₂ (· * ·) ?_ ?_)
  · rw [shapeCast_self]
    exact broadcastTo_apply g _ (ix3 0 r n) (ix3 0 0 n) fun a => match a with
      | ⟨0, _⟩ => rfl
      | ⟨1, _⟩ => rfl
      | ⟨2, _⟩ => rfl
  · exact shapeCast_ab_1ab_apply _ shapeCasts_S512x2048_S1x512x2048 0 r n

/-- Every window's block index at every point. -/
theorem index_at : ∀ t : Fin cfg0.N,
    win0_0.index t = ![(grid0.coords t 0).val / 4, (grid0.coords t 0).val % 4, 0] ∧ win0_1.index t = ![128 + (grid0.coords t 0).val / 4, 0, 2]
    ∧ win0_2.index t = ![(grid0.coords t 0).val, 0] ∧ win0_3.index t = ![(grid0.coords t 0).val, 0]
    ∧ win0_4.index t = ![0, 0, 0] ∧ win0_5.index t = ![(grid0.coords t 0).val / 4, (grid0.coords t 0).val % 4, 0] :=
  (by decide +kernel : ∀ t : Fin grid0.N, _)

variable (m : (ℓ : Loc nD τ sig) → Buf (Elt Ideal) ℓ)

theorem V_v0 (c : Dev nD) : V m c main_v0 = shapeCast S384x1x12288 (m ((c : Thread nD τ).loc main_arg1)) shapeCasts_S384x12288_S384x1x12288 := by
  unfold V hostOps0
  after_results_simp
  rfl

theorem V_v1 (c : Dev nD) : V m c main_v1 = shapeCast S8192x1024 (m ((c : Thread nD τ).loc main_arg2)) shapeCasts_S4x2048x1024_S8192x1024 := by
  unfold V hostOps0
  after_results_simp
  rfl

theorem V_v2 (c : Dev nD) : V m c main_v2 = shapeCast S8192x1024 (m ((c : Thread nD τ).loc main_arg3)) shapeCasts_S4x2048x1024_S8192x1024 := by
  unfold V hostOps0
  after_results_simp
  rfl

theorem V_v3 (c : Dev nD) : V m c main_v3 = m ((c : Thread nD τ).loc main_arg4) := by
  unfold V hostOps0
  after_results_simp
  rfl

theorem mod_at (g : Vec Ideal S384x12288 .f32) (l : Fin 384) (k : Fin 12288) :
    shapeCast S384x1x12288 g shapeCasts_S384x12288_S384x1x12288 (ix3 l 0 k) = g (ix2 l k) :=
  shapeCast_apply g _ _ _ (by rw [Shape.rowMajor_val_two, Shape.rowMajor_val_three]; show l.val * 12288 + k.val = (l.val * 1 + 0) * 12288 + k.val; omega)

theorem end_at (y : Vec Ideal S4x2048x1024 .f32) (b : Fin 4) (p : Fin 2048) (k : Fin 1024) :
    shapeCast S8192x1024 y shapeCasts_S4x2048x1024_S8192x1024 (ix2 ⟨2048 * b.val + p.val, by omega⟩ k) = y (ix3 b p k) :=
  shapeCast_apply y _ _ _ (by rw [Shape.rowMajor_val_two, Shape.rowMajor_val_three]; show (b.val * 2048 + p.val) * 1024 + k.val = (2048 * b.val + p.val) * 1024 + k.val; omega)

section blocks
variable (c : Dev nD) (t : Fin cfg0.N)

theorem x_at (b : Fin 4) (p : Fin 2048) (r : Fin 512) (hb : b.val = (grid0.coords t 0).val / 4)
    (hp : p.val = 512 * ((grid0.coords t 0).val % 4) + r.val) (k : Fin 2048) :
    iblk m c 0 t (ix3 0 r k) = m ((c : Thread nD τ).loc main_arg0) (ix3 b p k) := by
  rw [← V_main_arg0 m c]
  unfold iblk
  blk_simp
  congr 1
  funext a
  apply Fin.ext
  obtain ⟨h0, h1, h2, h3, h4, h5⟩ := index_at t
  blk_simp [h0]
  match a with
  | ⟨0, _⟩ => show (grid0.coords t 0).val / 4 * 1 + 0 = b.val; omega
  | ⟨1, _⟩ => show (grid0.coords t 0).val % 4 * 512 + r.val = p.val; omega
  | ⟨2, _⟩ => show 0 * 2048 + k.val = k.val; omega

theorem g_at (b : Fin 4) (hb : b.val = (grid0.coords t 0).val / 4) (k : Fin 2048) :
    iblk m c 1 t (ix3 0 0 k) = m ((c : Thread nD τ).loc main_arg1) (ix2 ⟨128 + b.val, by omega⟩ ⟨4096 + k.val, by omega⟩) := by
  refine Eq.trans ?_ (mod_at _ _ _)
  rw [← V_v0 m c]
  unfold iblk
  blk_simp
  congr 1
  funext a
  apply Fin.ext
  obtain ⟨h0, h1, h2, h3, h4, h5⟩ := index_at t
  blk_simp [h1]
  match a with
  | ⟨0, _⟩ => show (128 + (grid0.coords t 0).val / 4) * 1 + 0 = 128 + b.val; omega
  | ⟨1, _⟩ => rfl
  | ⟨2, _⟩ => show 2 * 2048 + k.val = 4096 + k.val; omega

theorem ya_at (b : Fin 4) (p : Fin 2048) (r : Fin 512) (hb : b.val = (grid0.coords t 0).val / 4)
    (hp : p.val = 512 * ((grid0.coords t 0).val % 4) + r.val) (k : Fin 1024) :
    iblk m c 2 t (ix2 r k) = m ((c : Thread nD τ).loc main_arg2) (ix3 b p k) := by
  refine Eq.trans ?_ (end_at _ b p k)
  rw [← V_v1 m c]
  unfold iblk
  blk_simp
  congr 1
  funext a
  apply Fin.ext
  obtain ⟨h0, h1, h2, h3, h4, h5⟩ := index_at t
  blk_simp [h2]
  match a with
  | ⟨0, _⟩ => show (grid0.coords t 0).val * 512 + r.val = 2048 * b.val + p.val; omega
  | ⟨1, _⟩ => show 0 * 1024 + k.val = k.val; omega

theorem yb_at (b : Fin 4) (p : Fin 2048) (r : Fin 512) (hb : b.val = (grid0.coords t 0).val / 4)
    (hp : p.val = 512 * ((grid0.coords t 0).val % 4) + r.val) (k : Fin 1024) :
    iblk m c 3 t (ix2 r k) = m ((c : Thread nD τ).loc main_arg3) (ix3 b p k) := by
  refine Eq.trans ?_ (end_at _ b p k)
  rw [← V_v2 m c]
  unfold iblk
  blk_simp
  congr 1
  funext a
  apply Fin.ext
  obtain ⟨h0, h1, h2, h3, h4, h5⟩ := index_at t
  blk_simp [h3]
  match a with
  | ⟨0, _⟩ => show (grid0.coords t 0).val * 512 + r.val = 2048 * b.val + p.val; omega
  | ⟨1, _⟩ => show 0 * 1024 + k.val = k.val; omega

theorem w_at (k n : Fin 2048) : iblk m c 4 t (ix3 0 k n) = m ((c : Thread nD τ).loc main_arg4) (ix3 0 k n) := by
  rw [← V_v3 m c]
  unfold iblk
  blk_simp
  congr 1
  funext a
  apply Fin.ext
  obtain ⟨h0, h1, h2, h3, h4, h5⟩ := index_at t
  blk_simp [h4]
  match a with
  | ⟨0, _⟩ => rfl
  | ⟨1, _⟩ => show 0 * 2048 + k.val = k.val; omega
  | ⟨2, _⟩ => show 0 * 2048 + n.val = n.val; omega

/-- The weights' upper half, as the body reads it. -/
theorem upper_at (k : Fin 1024) (n : Fin 2048) :
    (View.ld (iblk m c 4 t) r0_1 (ix3 0 k n) : EReal) = m ((c : Thread nD τ).loc main_arg4) (ix3 0 ⟨k.val, by omega⟩ n) := by
  refine Eq.trans (congrArg (iblk m c 4 t) (funext fun a => Fin.ext ?_)) (w_at m c t ⟨k.val, by omega⟩ n)
  match a with
  | ⟨0, _⟩ => rfl
  | ⟨1, _⟩ => show 0 + 1 * k.val = k.val; omega
  | ⟨2, _⟩ => show 0 + 1 * n.val = n.val; omega

/-- … and the lower. -/
theorem lower_at (k : Fin 1024) (n : Fin 2048) :
    (View.ld (iblk m c 4 t) r0_2 (ix3 0 k n) : EReal) = m ((c : Thread nD τ).loc main_arg4) (ix3 0 ⟨1024 + k.val, by omega⟩ n) := by
  refine Eq.trans (congrArg (iblk m c 4 t) (funext fun a => Fin.ext ?_)) (w_at m c t ⟨1024 + k.val, by omega⟩ n)
  match a with
  | ⟨0, _⟩ => rfl
  | ⟨1, _⟩ => show 1024 + 1 * k.val = 1024 + k.val; omega
  | ⟨2, _⟩ => show 0 + 1 * n.val = n.val; omega
end blocks

/-- The array the run leaves. -/
theorem left_5 (c : Dev nD) : (dats m 0 c).arrAt 5 cfg0.N
    = added (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp
  rw [after0_5]
  unfold out0_5
  obtain ⟨u, r, n, rfl⟩ : ∃ (u : Fin 1) (r : Fin 512) (n : Fin 2048), y = ix3 u r n := ⟨y 0, y 1, y 2, eq_ix3 y⟩
  obtain rfl : u = 0 := Subsingleton.elim _ _
  have ht : (grid0.coords t 0).val < 16 := (grid0.coords t 0).isLt
  have ee : (win0_5.blk t).view.emb (ix3 0 r n) = ix3 (⟨(grid0.coords t 0).val / 4, by omega⟩ : Fin 4)
      (⟨512 * ((grid0.coords t 0).val % 4) + r.val, by omega⟩ : Fin 2048) n := by
    funext a
    apply Fin.ext
    obtain ⟨-, -, -, -, -, h5⟩ := index_at t
    blk_simp [h5]
    match a with
    | ⟨0, _⟩ => show (grid0.coords t 0).val / 4 * 1 + 0 = (grid0.coords t 0).val / 4; omega
    | ⟨1, _⟩ => show (grid0.coords t 0).val % 4 * 512 + r.val = 512 * ((grid0.coords t 0).val % 4) + r.val; omega
    | ⟨2, _⟩ => show 0 * 2048 + n.val = n.val; omega
  rw [View.canon_unit_zero (by decide), View.ld_unit_zero (by decide), View.ld_unit_zero (by decide), View.ld_unit_zero (by decide), View.ld_unit_zero (by decide)]
  refine Eq.trans ?_ (congrArg _ ee.symm)
  refine (pay_apply _ _ _ _ _ _ r n).trans ?_
  unfold added merged
  refine congrArg₂ (· + ·) (x_at m c t _ _ r rfl rfl n) (congrArg₂ (· * ·) (g_at m c t ⟨(grid0.coords t 0).val / 4, by omega⟩ rfl n)
    (congrArg₂ (· + ·) (Finset.sum_congr rfl fun k _ => congrArg₂ (· * ·) (ya_at m c t _ _ r rfl rfl k) (upper_at m c t k n))
      (Finset.sum_congr rfl fun k _ => congrArg₂ (· * ·) (yb_at m c t _ _ r rfl rfl k) (lower_at m c t k n))))

/-- The kernel's program ends with the sum, and leaves its arguments. -/
theorem run_value (ρ : Dev nD → PrngReg) : θ_run (defs (F := Ideal)) (onTc (τ := τ) (main (F := Ideal))) ⟨m, fun _ => 0, ρ⟩ (fun r => ∀ c : Dev nD,
    r.2.mem ((c.tc : Thread nD τ).loc main_v4)
      = added (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) :=
  (θ_run defs _ _).mono (fun r h c => ⟨(h c).1.trans (left_5 m c), (h c).2⟩) (Value.run_blocks (F := Ideal) m ρ)

end Cert.Kernel3Ideal.Hand

namespace Cert.Reference3Ideal.Hand

open Cert.Reference3Ideal
open Idealize.ShloMosaic Idealize.ShloMosaic.TcCoe Idealize.ShloMosaic.Tactic Idealize.ShloMosaic.ValueIdx
open Cert.Norm Cert.Kernel3Ideal.Hand

theorem cat_left (ya yb : Vec Ideal S4x2048x1024 .f32) (b : Fin 4) (p : Fin 2048) (k : Fin 1024) :
    Read.val_main_v8 (F := Ideal) ya yb (ix3 b p ⟨k.val, by omega⟩) = ya (ix3 b p k) := by
  refine concatenate_apply_piece (t := S4x2048x2048) 2 [⟨S4x2048x1024, ya⟩, ⟨S4x2048x1024, yb⟩] _ (ix3 b p ⟨k.val, by omega⟩) 0
    (Nat.lt_of_sub_pos (by exact Nat.succ_pos _)) S4x2048x1024 ya rfl rfl 0 rfl (ix3 b p k) ?_ ?_
  · intro d hd
    match d with
    | ⟨0, _⟩ => rfl
    | ⟨1, _⟩ => rfl
    | ⟨2, _⟩ => exact absurd rfl hd
  · show 0 + k.val = k.val
    omega

theorem cat_right (ya yb : Vec Ideal S4x2048x1024 .f32) (b : Fin 4) (p : Fin 2048) (k : Fin 1024) :
    Read.val_main_v8 (F := Ideal) ya yb (ix3 b p ⟨1024 + k.val, by omega⟩) = yb (ix3 b p k) := by
  refine concatenate_apply_piece (t := S4x2048x2048) 2 [⟨S4x2048x1024, ya⟩, ⟨S4x2048x1024, yb⟩] _ (ix3 b p ⟨1024 + k.val, by omega⟩) 1
    (Nat.lt_of_sub_pos (by exact Nat.succ_pos _)) S4x2048x1024 yb rfl rfl 1024 rfl (ix3 b p k) ?_ ?_
  · intro d hd
    match d with
    | ⟨0, _⟩ => rfl
    | ⟨1, _⟩ => rfl
    | ⟨2, _⟩ => exact absurd rfl hd
  · rfl

theorem weight_at (w : Out) (k n : Fin 2048) : Read.val_main_v10 (F := Ideal) w (ix2 k n) = w (ix3 0 k n) := by
  rw [Read.val_main_v10_apply, Read.val_main_v9_apply]
  congr 1
  funext a
  apply Fin.ext
  match a with
  | ⟨0, _⟩ => rfl
  | ⟨1, _⟩ => show (k.val * 2048 + n.val) / 2048 % 2048 = k.val; omega
  | ⟨2, _⟩ => show (k.val * 2048 + n.val) % 2048 = n.val; omega

/-- The reference's product over the whole width is the two halves' sum. -/
theorem ref_merged (ya yb : Half) (w : Out) (b : Fin 4) (p n : Fin 2048) : Read.val_main_v11 (F := Ideal) ya yb w (ix3 b p n) = merged ya yb w b p n := by
  rw [Read.val_main_v11_apply]
  refine (Fin.sum_univ_add (a := 1024) (b := 1024) _).trans ?_
  unfold merged
  refine congrArg₂ (· + ·) (Finset.sum_congr rfl fun k _ => congrArg₂ (· * ·) ?_ ?_) (Finset.sum_congr rfl fun k _ => congrArg₂ (· * ·) ?_ ?_)
  · refine Eq.trans (congrArg _ (funext fun a => ?_)) (cat_left ya yb b p k)
    match a with
    | ⟨0, _⟩ => rfl
    | ⟨1, _⟩ => rfl
    | ⟨2, _⟩ => rfl
  · refine Eq.trans (congrArg _ (funext fun a => ?_)) (weight_at w ⟨k.val, by omega⟩ n)
    match a with
    | ⟨0, _⟩ => rfl
    | ⟨1, _⟩ => rfl
  · refine Eq.trans (congrArg _ (funext fun a => ?_)) (cat_right ya yb b p k)
    match a with
    | ⟨0, _⟩ => rfl
    | ⟨1, _⟩ => rfl
    | ⟨2, _⟩ => rfl
  · refine Eq.trans (congrArg _ (funext fun a => ?_)) (weight_at w ⟨1024 + k.val, by omega⟩ n)
    match a with
    | ⟨0, _⟩ => rfl
    | ⟨1, _⟩ => rfl

/-- The reference's result is the sum. -/
theorem ref_added (x : Act) (mod : Mod) (ya yb : Half) (w : Out) : Read.val_main_v14 (F := Ideal) x mod ya yb w = added x mod ya yb w := by
  funext j
  obtain ⟨b, p, n, rfl⟩ : ∃ (b : Fin 4) (p n : Fin 2048), j = ix3 b p n := ⟨j 0, j 1, j 2, eq_ix3 j⟩
  unfold added
  rw [Read.val_main_v14_apply, Read.val_main_v13_apply]
  refine congrArg (x (ix3 b p n) + ·) (congrArg₂ (· * ·) ?_ (ref_merged ya yb w b p n))
  rw [Read.val_main_v12_apply, Read.val_main_v4_apply, Read.val_main_v1_apply, Read.val_main_v0_apply]
  congr 1
  funext a
  match a with
  | ⟨0, _⟩ => rfl
  | ⟨1, _⟩ => rfl

/-- The reference's arguments are unchanged and every counter is back at zero. -/
theorem run_main (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => (h c).2, sem_eq_zero_of_no_sems (by decide) r.2⟩) (Value.run m ρ)

end Cert.Reference3Ideal.Hand

end
-- ==== Proof.Query.lean ====
/- The product-key queries: the two arrays their run leaves, and the reference's. -/
module

public import proofs.«01_k».proof.Proof.Norm
public import proofs.«01_k».proof.Proof.Gen.Kernel4Ideal.Value
public import proofs.«01_k».proof.Proof.Gen.Reference4Ideal.Run
public import Idealize.ShloMosaic.Lib.Pipeline.ValueKit.Geometry
public import Idealize.ShloMosaic.Lib.Pipeline.ValueKit.Acc

@[expose] public section

set_option maxRecDepth 16384

noncomputable section

namespace Cert.Kernel4Ideal.Hand

open Cert.Kernel4Ideal Cert.Kernel4Ideal.Gen
open Idealize.ShloMosaic Idealize.ShloMosaic.TcCoe Idealize.ShloMosaic.Tactic Idealize.ShloMosaic.ValueIdx
open Cert.Norm

/-- The normed rows of the four prompts end to end. -/
def hidden (x : Act) (mod : Mod) (g : Gain) : S8192x2048.Idx → EReal := fun i =>
  normed 8192 6144 (by decide) (by decide) x mod g ⟨(i 0).val / 2048, Nat.div_lt_of_lt_mul (i 0).isLt⟩
    ⟨(i 0).val % 2048, Nat.mod_lt _ (by decide)⟩ (i 1)

/-- The queries, a column for every row of the prompts. -/
def queries (x : Act) (mod : Mod) (g : Gain) (w : S2x2048x2048.Idx → EReal) : S2048x8192.Idx → EReal := fun i =>
  ∑ k : Fin 2048, w (ix3 0 k (i 0)) * hidden x mod g (ix2 (i 1) k)

/-- The body's product, entry by entry. -/
theorem pay_apply (x : Vec Ideal S1x512x2048 .f32) (g s h : Vec Ideal S1x1x2048 .f32) (w : Vec Ideal S1x2048x2048 .bf16) (y : Fin 2048) (r : Fin 512) :
    (k0_pay2 (F := Ideal) x g s h w (ix2 y r) : EReal)
      = ∑ k : Fin 2048, w (ix3 0 y k) * normRow (fun j => x (ix3 0 r j)) (g (ix3 0 0 k)) (s (ix3 0 0 k)) (h (ix3 0 0 k)) k := by
  refine (Ideal.matmul_transposedRhs_apply (φ₁ := .bf16) (φ₂ := .bf16) none
    (shapeCast S2048x2048 w shapeCasts_S1x2048x2048_S2048x2048) (k0_pay1 (F := Ideal) x g s h) (constant S2048x512 .f32 0x00000000#32) y r).trans ?_
  refine (congrArg (· + _) Ideal.ofBits_zero_f32).trans ((zero_add _).trans (Finset.sum_congr rfl fun k _ => ?_))
  exact congrArg₂ (· * ·) (shapeCast_1ab_ab_apply w shapeCasts_S1x2048x2048_S2048x2048 y k) (tile_apply x g s h r k)

/-- Every window's block index at every point. -/
theorem index_at : ∀ t : Fin cfg0.N,
    win0_0.index t = ![(grid0.coords t 0).val / 4, (grid0.coords t 0).val % 4, 0] ∧ win0_1.index t = ![0, 0, 0]
    ∧ win0_2.index t = ![128 + (grid0.coords t 0).val / 4, 0, 4] ∧ win0_3.index t = ![128 + (grid0.coords t 0).val / 4, 0, 3]
    ∧ win0_4.index t = ![0, 0, 0] ∧ win0_5.index t = ![0, (grid0.coords t 0).val]
    ∧ win0_6.index t = ![(grid0.coords t 0).val, 0] :=
  (by decide +kernel : ∀ t : Fin grid0.N, _)

variable (m : (ℓ : Loc nD τ sig) → Buf (Elt Ideal) ℓ)

theorem V_v3 (c : Dev nD) : V m c main_v3 = transpose S2x2048x2048 [0, 2, 1] (m ((c : Thread nD τ).loc main_arg3)) transposes_S2x2048x2048_S2x2048x2048_0_2_1 := by
  unfold V hostOps0
  after_results_simp
  rfl

theorem V_v0 (c : Dev nD) : V m c main_v0 = shapeCast S2x1x2048 (m ((c : Thread nD τ).loc main_arg2)) shapeCasts_S2x2048_S2x1x2048 := by
  unfold V hostOps0
  after_results_simp
  rfl

theorem V_v1 (c : Dev nD) : V m c main_v1 = shapeCast S384x1x12288 (m ((c : Thread nD τ).loc main_arg1)) shapeCasts_S384x12288_S384x1x12288 := by
  unfold V hostOps0
  after_results_simp
  rfl

theorem gain_at (g : Vec Ideal S2x2048 .f32) (l : Fin 2) (k : Fin 2048) : shapeCast S2x1x2048 g shapeCasts_S2x2048_S2x1x2048 (ix3 l 0 k) = g (ix2 l k) :=
  shapeCast_apply g _ _ _ (by rw [Shape.rowMajor_val_two, Shape.rowMajor_val_three]; show l.val * 2048 + k.val = (l.val * 1 + 0) * 2048 + k.val; omega)

theorem mod_at (g : Vec Ideal S384x12288 .f32) (l : Fin 384) (k : Fin 12288) :
    shapeCast S384x1x12288 g shapeCasts_S384x12288_S384x1x12288 (ix3 l 0 k) = g (ix2 l k) :=
  shapeCast_apply g _ _ _ (by rw [Shape.rowMajor_val_two, Shape.rowMajor_val_three]; show l.val * 12288 + k.val = (l.val * 1 + 0) * 12288 + k.val; omega)

theorem turned_at (w : Vec Ideal S2x2048x2048 .f32) (l : Fin 2) (y k : Fin 2048) :
    transpose S2x2048x2048 [0, 2, 1] w transposes_S2x2048x2048_S2x2048x2048_0_2_1 (ix3 l y k) = w (ix3 l k y) :=
  transpose_apply [0, 2, 1] w transposes_S2x2048x2048_S2x2048x2048_0_2_1 (ix3 l y k) (ix3 l k y) (fun b => match b with
    | ⟨0, _⟩ => rfl
    | ⟨1, _⟩ => rfl
    | ⟨2, _⟩ => rfl)

section blocks
variable (c : Dev nD) (t : Fin cfg0.N)

theorem x_at (b : Fin 4) (p : Fin 2048) (r : Fin 512) (k : Fin 2048) (hb : b.val = (grid0.coords t 0).val / 4)
    (hp : p.val = 512 * ((grid0.coords t 0).val % 4) + r.val) :
    iblk m c 0 t (ix3 0 r k) = m ((c : Thread nD τ).loc main_arg0) (ix3 b p k) := by
  rw [← V_main_arg0 m c]
  unfold iblk
  blk_simp
  congr 1
  funext a
  apply Fin.ext
  obtain ⟨h0, h1, h2, h3, h4, h5, h6⟩ := index_at t
  blk_simp [h0]
  match a with
  | ⟨0, _⟩ => show (grid0.coords t 0).val / 4 * 1 + 0 = b.val; omega
  | ⟨1, _⟩ => show (grid0.coords t 0).val % 4 * 512 + r.val = p.val; omega
  | ⟨2, _⟩ => show 0 * 2048 + k.val = k.val; omega

theorem g_at (k : Fin 2048) : iblk m c 1 t (ix3 0 0 k) = m ((c : Thread nD τ).loc main_arg2) (ix2 0 k) := by
  refine Eq.trans ?_ (gain_at _ 0 k)
  rw [← V_v0 m c]
  unfold iblk
  blk_simp
  congr 1
  funext a
  apply Fin.ext
  obtain ⟨h0, h1, h2, h3, h4, h5, h6⟩ := index_at t
  blk_simp [h1]
  match a with
  | ⟨0, _⟩ => rfl
  | ⟨1, _⟩ => rfl
  | ⟨2, _⟩ => show 0 * 2048 + k.val = k.val; omega

theorem s_at (b : Fin 4) (k : Fin 2048) (hb : b.val = (grid0.coords t 0).val / 4) :
    iblk m c 2 t (ix3 0 0 k) = m ((c : Thread nD τ).loc main_arg1) (ix2 ⟨128 + b.val, by omega⟩ ⟨8192 + k.val, by omega⟩) := by
  refine Eq.trans ?_ (mod_at _ _ _)
  rw [← V_v1 m c]
  unfold iblk
  blk_simp
  congr 1
  funext a
  apply Fin.ext
  obtain ⟨h0, h1, h2, h3, h4, h5, h6⟩ := index_at t
  blk_simp [h2]
  match a with
  | ⟨0, _⟩ => show (128 + (grid0.coords t 0).val / 4) * 1 + 0 = 128 + b.val; omega
  | ⟨1, _⟩ => rfl
  | ⟨2, _⟩ => show 4 * 2048 + k.val = 8192 + k.val; omega

theorem h_at (b : Fin 4) (k : Fin 2048) (hb : b.val = (grid0.coords t 0).val / 4) :
    iblk m c 3 t (ix3 0 0 k) = m ((c : Thread nD τ).loc main_arg1) (ix2 ⟨128 + b.val, by omega⟩ ⟨6144 + k.val, by omega⟩) := by
  refine Eq.trans ?_ (mod_at _ _ _)
  rw [← V_v1 m c]
  unfold iblk
  blk_simp
  congr 1
  funext a
  apply Fin.ext
  obtain ⟨h0, h1, h2, h3, h4, h5, h6⟩ := index_at t
  blk_simp [h3]
  match a with
  | ⟨0, _⟩ => show (128 + (grid0.coords t 0).val / 4) * 1 + 0 = 128 + b.val; omega
  | ⟨1, _⟩ => rfl
  | ⟨2, _⟩ => show 3 * 2048 + k.val = 6144 + k.val; omega

theorem w_at (y k : Fin 2048) : iblk m c 4 t (ix3 0 y k) = m ((c : Thread nD τ).loc main_arg3) (ix3 0 k y) := by
  refine Eq.trans ?_ (turned_at _ 0 y k)
  rw [← V_v3 m c]
  unfold iblk
  blk_simp
  congr 1
  funext a
  apply Fin.ext
  obtain ⟨h0, h1, h2, h3, h4, h5, h6⟩ := index_at t
  blk_simp [h4]
  match a with
  | ⟨0, _⟩ => rfl
  | ⟨1, _⟩ => show 0 * 2048 + y.val = y.val; omega
  | ⟨2, _⟩ => show 0 * 2048 + k.val = k.val; omega

/-- The normed rows at a point. -/
theorem row (r : Fin 512) (k : Fin 2048) (R : Fin 8192) (hR : R.val = 512 * (grid0.coords t 0).val + r.val) :
    normRow (fun j => iblk m c 0 t (ix3 0 r j)) (iblk m c 1 t (ix3 0 0 k)) (iblk m c 2 t (ix3 0 0 k)) (iblk m c 3 t (ix3 0 0 k)) k
      = hidden (m ((c : Thread nD τ).loc main_arg0)) (m ((c : Thread nD τ).loc main_arg1)) (m ((c : Thread nD τ).loc main_arg2)) (ix2 R k) := by
  unfold hidden normed
  have hb : (⟨R.val / 2048, Nat.div_lt_of_lt_mul R.isLt⟩ : Fin 4).val = (grid0.coords t 0).val / 4 := by
    show R.val / 2048 = _; omega
  have hp : (⟨R.val % 2048, Nat.mod_lt _ (by decide)⟩ : Fin 2048).val = 512 * ((grid0.coords t 0).val % 4) + r.val := by
    show R.val % 2048 = _; omega
  rw [funext fun j => x_at m c t _ _ r j hb hp, g_at, s_at m c t _ k hb, h_at m c t _ k hb]
end blocks

/-- The queries the run leaves. -/
theorem left_5 (c : Dev nD) : (dats m 0 c).arrAt 5 cfg0.N
    = queries (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t hf y => ?_
  blk_simp
  rw [after0_5]
  unfold out0_5
  obtain ⟨-, -, -, -, -, h5, -⟩ := index_at t
  rw [View.canon_unit_zero (by decide), View.ld_unit_zero (by decide), View.ld_unit_zero (by decide), View.ld_unit_zero (by decide), View.ld_unit_zero (by decide),
    View.ld_unit_zero (by decide)]
  refine Eq.trans (congrArg _ (eq_ix2 y)) ((pay_apply _ _ _ _ _ (y 0) (y 1)).trans ?_)
  unfold queries
  refine Finset.sum_congr rfl fun k _ => congrArg₂ (· * ·) ((w_at m c t (y 0) k).trans (congrArg _ (congrArg (ix3 0 k) (Fin.ext ?_))))
    (row m c t (y 1) k _ ?_)
  · blk_simp [h5]
  · blk_simp [h5]; show (grid0.coords t 0).val * 512 + (y 1).val = _; omega

/-- The normed rows it leaves. -/
theorem left_6 (c : Dev nD) : (dats m 0 c).arrAt 6 cfg0.N
    = hidden (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6]
  unfold out0_6
  obtain ⟨-, -, -, -, -, -, h6⟩ := index_at t
  rw [View.canon_unit_zero (by decide), View.ld_unit_zero (by decide), View.ld_unit_zero (by decide), View.ld_unit_zero (by decide), View.ld_unit_zero (by decide)]
  refine Eq.trans (congrArg _ (eq_ix2 y)) ((tile_apply _ _ _ _ (y 0) (y 1)).trans ((row m c t (y 0) (y 1)
    ⟨512 * (grid0.coords t 0).val + (y 0).val, ?_⟩ rfl).trans (congrArg _ (funext fun a => Fin.ext ?_))))
  · have h0 : (y 0).val < 512 := (y 0).isLt
    have h1 : (grid0.coords t 0).val < 16 := (grid0.coords t 0).isLt
    omega
  · blk_simp [h6]
    match a with
    | ⟨0, _⟩ => show 512 * (grid0.coords t 0).val + (y 0).val = (grid0.coords t 0).val * 512 + (y 0).val; omega
    | ⟨1, _⟩ => show (y 1).val = 0 * 2048 + (y 1).val; omega

/-- The kernel's program ends with the queries and the normed rows, and leaves its arguments. -/
theorem run_value (ρ : Dev nD → PrngReg) : θ_run (defs (F := Ideal)) (onTc (τ := τ) (main (F := Ideal))) ⟨m, fun _ => 0, ρ⟩ (fun r => ∀ c : Dev nD,
    r.2.mem ((c.tc : Thread nD τ).loc main_v4_0)
      = queries (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_v4_1)
      = hidden (m ((c.tc : Thread nD τ).loc main_arg0)) (m ((c.tc : Thread nD τ).loc main_arg1)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono (fun r h c => ⟨(h c).1.trans (left_5 m c), (h c).2.1.trans (left_6 m c), (h c).2.2⟩) (Value.run_blocks (F := Ideal) m ρ)

end Cert.Kernel4Ideal.Hand

namespace Cert.Reference4Ideal.Hand

open Cert.Reference4Ideal
open Idealize.ShloMosaic Idealize.ShloMosaic.TcCoe Idealize.ShloMosaic.Tactic Idealize.ShloMosaic.ValueIdx
open Cert.Norm

/-- The reference's rows are the normed rows. -/
theorem ref_hidden (x : Act) (mod : Mod) (g : Gain) : Read.val_main_v29 (F := Ideal) x mod g = Cert.Kernel4Ideal.Hand.hidden x mod g := by
  funext i
  rw [Read.val_main_v29_apply]
  refine Eq.trans (congrArg _ (funext fun a => Fin.ext ?_)) (ref_normed4 x mod g _ _ _)
  have h0 : (i 0).val < 8192 := (i 0).isLt
  have h1 : (i 1).val < 2048 := (i 1).isLt
  match a with
  | ⟨0, _⟩ => show ((i 0).val * 2048 + (i 1).val) / 4194304 = (i 0).val / 2048; omega
  | ⟨1, _⟩ => show ((i 0).val * 2048 + (i 1).val) / 2048 % 2048 = (i 0).val % 2048; omega
  | ⟨2, _⟩ => show ((i 0).val * 2048 + (i 1).val) % 2048 = (i 1).val; omega

/-- The reference's turned product is the queries. -/
theorem ref_queries (x : Act) (mod : Mod) (g : Gain) (w : S2x2048x2048.Idx → EReal) :
    Read.val_main_v33 (F := Ideal) x mod g w = Cert.Kernel4Ideal.Hand.queries x mod g w := by
  funext j
  rw [Read.val_main_v33_apply, Read.val_main_v32_apply, ref_hidden]
  unfold Cert.Kernel4Ideal.Hand.queries
  refine Finset.sum_congr rfl fun k _ => (mul_comm _ _).trans (congrArg₂ (· * ·) ?_ (congrArg _ (funext fun a => ?_)))
  · have h2 : (j 0).val < 2048 := (j 0).isLt
    rw [Read.val_main_v31_apply, Read.val_main_v30_apply]
    congr 1
    funext a
    apply Fin.ext
    match a with
    | ⟨0, _⟩ => rfl
    | ⟨1, _⟩ => show (k.val * 2048 + (j 0).val) / 2048 % 2048 = k.val; omega
    | ⟨2, _⟩ => show (k.val * 2048 + (j 0).val) % 2048 = (j 0).val; omega
  · match a with
    | ⟨0, _⟩ => rfl
    | ⟨1, _⟩ => rfl

/-- The reference's arguments are unchanged and every counter is back at zero. -/
theorem run_main (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => (h c).2.2, sem_eq_zero_of_no_sems (by decide) r.2⟩) (Value.run m ρ)

end Cert.Reference4Ideal.Hand

end
-- ==== Proof.Final.lean ====
/- The final norm: the array its run leaves, and the reference's. -/
module

public import proofs.«01_k».proof.Proof.Norm
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit.Geometry
public import Idealize.ShloMosaic.Lib.Pipeline.ValueKit.Acc

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic Idealize.ShloMosaic.ValueIdx
open Cert.Norm

/-- Every row over its root mean square, times the gain. -/
def scaled (x : Act) (g : S2048.Idx → EReal) : S4x2048x2048.Idx → EReal := fun i =>
  x (ix3 (i 0) (i 1) (i 2)) * rms (fun j => x (ix3 (i 0) (i 1) j)) * g (ix1 (i 2))

/-- The body's tile, entry by entry. -/
theorem pay_apply (x : Vec Ideal S1x512x2048 .f32) (g : Vec Ideal S1x1x2048 .f32) (r : Fin 512) (k : Fin 2048) :
    (k0_pay1 (F := Ideal) x g (ix3 0 r k) : EReal) = x (ix3 0 r k) * rms (fun j => x (ix3 0 r j)) * g (ix3 0 0 k) := by
  unfold k0_pay1
  simp only [shapeCast_self]
  refine congrArg₂ (· * ·) (congrArg (x (ix3 0 r k) * ·) ((across_apply _ r k).trans ?_)) (spread_apply g r k)
  exact congrArg (fun q => FloatOps.rsqrt (F := Ideal) (φ := .f32) (FloatOps.divf (F := Ideal) (φ := .f32) q (Ideal.ofBits .f32 0x45000000#32) + Ideal.ofBits .f32 0x358637BD#32))
    (sumsq_apply (mulf (F := Ideal) (φ := .f32) x x) r)

/-- Every window's block index at every point. -/
theorem index_at : ∀ t : Fin cfg0.N,
    win0_0.index t = ![(grid0.coords t 0).val / 4, (grid0.coords t 0).val % 4, 0] ∧ win0_1.index t = ![0, 0, 0]
    ∧ win0_2.index t = ![(grid0.coords t 0).val / 4, (grid0.coords t 0).val % 4, 0] :=
  (by decide +kernel : ∀ t : Fin grid0.N, _)

variable (m : (ℓ : Loc nD τ sig) → Buf (Elt Ideal) ℓ)

theorem V_v0 (c : Dev nD) : V m c main_v0 = shapeCast S1x1x2048 (m ((c : Thread nD τ).loc main_arg1)) shapeCasts_S2048_S1x1x2048 := by
  unfold V hostOps0
  after_results_simp
  rfl

theorem gain_at (g : Vec Ideal S2048 .f32) (k : Fin 2048) : shapeCast S1x1x2048 g shapeCasts_S2048_S1x1x2048 (ix3 0 0 k) = g (ix1 k) :=
  shapeCast_apply g _ _ _ (by rw [Shape.rowMajor_val_one, Shape.rowMajor_val_three]; show k.val = (0 * 1 + 0) * 2048 + k.val; omega)

section blocks
variable (c : Dev nD) (t : Fin cfg0.N)

theorem x_at (b : Fin 4) (p : Fin 2048) (r : Fin 512) (k : Fin 2048) (hb : b.val = (grid0.coords t 0).val / 4)
    (hp : p.val = 512 * ((grid0.coords t 0).val % 4) + r.val) :
    iblk m c 0 t (ix3 0 r k) = m ((c : Thread nD τ).loc main_arg0) (ix3 b p k) := by
  rw [← V_main_arg0 m c]
  unfold iblk
  blk_simp
  congr 1
  funext a
  apply Fin.ext
  obtain ⟨h0, h1, h2⟩ := index_at t
  blk_simp [h0]
  match a with
  | ⟨0, _⟩ => show (grid0.coords t 0).val / 4 * 1 + 0 = b.val; omega
  | ⟨1, _⟩ => show (grid0.coords t 0).val % 4 * 512 + r.val = p.val; omega
  | ⟨2, _⟩ => show 0 * 2048 + k.val = k.val; omega

theorem g_at (k : Fin 2048) : iblk m c 1 t (ix3 0 0 k) = m ((c : Thread nD τ).loc main_arg1) (ix1 k) := by
  refine Eq.trans ?_ (gain_at _ k)
  rw [← V_v0 m c]
  unfold iblk
  blk_simp
  congr 1
  funext a
  apply Fin.ext
  obtain ⟨h0, h1, h2⟩ := index_at t
  blk_simp [h1]
  match a with
  | ⟨0, _⟩ => rfl
  | ⟨1, _⟩ => rfl
  | ⟨2, _⟩ => show 0 * 2048 + k.val = k.val; omega

/-- The tile at a point: its rows of the result. -/
theorem point (r : Fin 512) (k : Fin 2048) (i : S4x2048x2048.Idx) (h0 : (i 0).val = (grid0.coords t 0).val / 4)
    (h1 : (i 1).val = 512 * ((grid0.coords t 0).val % 4) + r.val) (h2 : (i 2).val = k.val) :
    (k0_pay1 (F := Ideal) (iblk m c 0 t) (iblk m c 1 t) (ix3 0 r k) : EReal)
      = scaled (m ((c : Thread nD τ).loc main_arg0)) (m ((c : Thread nD τ).loc main_arg1)) i := by
  obtain ⟨b, p, z, rfl⟩ : ∃ (b : Fin 4) (p z : Fin 2048), i = ix3 b p z := ⟨i 0, i 1, i 2, eq_ix3 i⟩
  obtain rfl : z = k := Fin.ext h2
  rw [pay_apply, funext fun j => x_at m c t b p r j h0 h1, x_at m c t b p r z h0 h1, g_at]
  rfl
end blocks

/-- The array the run leaves. -/
theorem left_2 (c : Dev nD) : (dats m 0 c).arrAt 2 cfg0.N
    = scaled (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  obtain ⟨-, -, h2⟩ := index_at t
  rw [View.canon_unit_zero (by decide), View.ld_unit_zero (by decide), View.ld_unit_zero (by decide)]
  have hy : (y 0).val < 1 := (y 0).isLt
  refine Eq.trans (congrArg _ ((eq_ix3 y).trans (congrArg (fun q => ix3 q (y 1) (y 2)) (Fin.ext (by show (y 0).val = 0; omega)))))
    (point m c t (y 1) (y 2) _ ?_ ?_ ?_)
  · blk_simp [h2]
  · blk_simp [h2]; show (grid0.coords t 0).val % 4 * 512 + (y 1).val = _; omega
  · blk_simp [h2]

/-- The kernel's program ends with the scaled rows, and leaves its arguments. -/
theorem run_value (ρ : Dev nD → PrngReg) : θ_run (defs (F := Ideal)) (onTc (τ := τ) (main (F := Ideal))) ⟨m, fun _ => 0, ρ⟩ (fun r => ∀ c : Dev nD,
    r.2.mem ((c.tc : Thread nD τ).loc main_v1)
      = scaled (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun r h c => ⟨(h c).1.trans (left_2 m c), (h c).2⟩) (Value.run_blocks (F := Ideal) m ρ)

end Cert.Kernel5Ideal.Hand

namespace Cert.Reference5Ideal.Hand

open Cert.Reference5Ideal Cert.Reference5Ideal.Read
open Idealize.ShloMosaic Idealize.ShloMosaic.TcCoe Idealize.ShloMosaic.Tactic Idealize.ShloMosaic.ValueIdx
open Cert.Norm

/-- The reference's one over root mean square. -/
theorem ref_rms (x0 : Act) (b : Fin 4) (p : Fin 2048) : (val_main_v7 (F := Ideal) x0 (ix3 b p 0) : EReal) = rms fun j => x0 (ix3 b p j) := by
  rw [val_main_v7_apply, val_main_v6_apply, val_main_v4_apply, val_main_v2_apply, val_main_v1_apply, val_main_cst_apply, val_main_v3_apply,
    val_main_cst_0_apply, val_main_v5_apply, val_main_cst_1_apply]
  refine congrArg (fun q => FloatOps.rsqrt (F := Ideal) (φ := .f32) (FloatOps.divf (F := Ideal) (φ := .f32) q (Ideal.ofBits .f32 0x45000000#32) + Ideal.ofBits .f32 0x358637BD#32)) ?_
  refine (congrArg (· + _) Ideal.ofBits_zero_f32).trans ((zero_add _).trans (Finset.sum_congr rfl fun j _ => ?_))
  have e : idx_main_v1 (idx_main_v2 (ix3 b p 0)) j = ix3 b p j := funext fun a => match a with
    | ⟨0, _⟩ => rfl
    | ⟨1, _⟩ => rfl
    | ⟨2, _⟩ => rfl
  rw [val_main_v0_apply, e]
  rfl

/-- The reference's result is the scaled rows. -/
theorem ref_scaled (x : Act) (g : S2048.Idx → EReal) : val_main_v12 (F := Ideal) x g = Cert.Kernel5Ideal.Hand.scaled x g := by
  funext i
  obtain ⟨b, p, k, rfl⟩ : ∃ (b : Fin 4) (p k : Fin 2048), i = ix3 b p k := ⟨i 0, i 1, i 2, eq_ix3 i⟩
  rw [val_main_v12_apply, val_main_v9_apply, val_main_v8_apply, val_main_v11_apply, val_main_v10_apply]
  have e1 : idx_main_v8 (ix3 b p k) = ix3 b p 0 := funext fun a => match a with
    | ⟨0, _⟩ => rfl
    | ⟨1, _⟩ => rfl
    | ⟨2, _⟩ => rfl
  have e2 : idx_main_v10 (idx_main_v11 (ix3 b p k)) = ix1 k := funext fun a => match a with
    | ⟨0, _⟩ => rfl
  rw [e1, e2, ref_rms]
  rfl

/-- The reference's arguments are unchanged and every counter is back at zero. -/
theorem run_main (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) r.2⟩) (Value.run m ρ)

end Cert.Reference5Ideal.Hand

end
-- ==== Proof.Modulate.lean ====
/- The modulations of both batches: the array their run leaves, the host's rows of it, and the reference's. -/
module

public import proofs.«01_k».proof.Proof.Gen.Kernel6Ideal.Frame
public import proofs.«01_k».proof.Proof.Gen.Reference6Ideal.Run
public import proofs.«01_k».proof.Proof.Gen.Reference6Ideal.Read
public import Idealize.ShloMosaic.Lib.ValueLayout
public import Idealize.ShloMosaic.Lib.MatmulPlain
public import Idealize.ShloMosaic.Lib.Pipeline.Value
public import Idealize.ShloMosaic.Lib.Pipeline.ValueKit.Geometry
public import Idealize.ShloMosaic.Lib.Pipeline.ValueKit.Acc

@[expose] public section

set_option maxRecDepth 16384

noncomputable section

namespace Cert.Kernel6Ideal.Hand

open Cert.Kernel6Ideal Cert.Kernel6Ideal.Gen
open Idealize.ShloMosaic Idealize.ShloMosaic.TcCoe Idealize.ShloMosaic.Tactic Idealize.ShloMosaic.ValueIdx

/-- Each layer's modulation of `n` conditioning rows. -/
def modulated {n : ℕ} (q : (⟨2, ![n, 2048]⟩ : Shape).Idx → EReal) (w : S2x2048x12288.Idx → EReal) (b : S2x12288.Idx → EReal) :
    (⟨3, ![2, n, 12288]⟩ : Shape).Idx → EReal := fun i =>
  (∑ k : Fin 2048, q (ix2 (i 1) k) * w (ix3 (i 0) k (i 2))) + b (ix2 (i 0) (i 2))

/-- The body's product and sum, entry by entry. -/
theorem pay_apply (q : Vec Ideal S192x2048 .f32) (w : Vec Ideal S1x2048x1024 .f32) (b : Vec Ideal S1x1x1024 .f32) (r : Fin 192) (y : Fin 1024) :
    (k0_pay1 (F := Ideal) q w b (ix3 0 r y) : EReal) = (∑ k : Fin 2048, q (ix2 r k) * w (ix3 0 k y)) + b (ix3 0 0 y) := by
  unfold k0_pay1
  simp only [shapeCast_self]
  refine (shapeCast_ab_1ab_apply _ shapeCasts_S192x1024_S1x192x1024 0 r y).trans ?_
  refine congrArg₂ (· + ·) ?_ ?_
  · refine (Ideal.matmul_plain_apply (φ₁ := .bf16) (φ₂ := .bf16) none (truncf (F := Ideal) (φ := .f32) .bf16 q bitsLt_bf16_f32)
      (truncf (F := Ideal) (φ := .f32) .bf16 (shapeCast S2048x1024 w shapeCasts_S1x2048x1024_S2048x1024) bitsLt_bf16_f32)
      (constant S192x1024 .f32 0x00000000#32) r y).trans ?_
    refine (congrArg (· + _) Ideal.ofBits_zero_f32).trans ((zero_add _).trans (Finset.sum_congr rfl fun k _ => ?_))
    exact congrArg (q (ix2 r k) * ·) (shapeCast_1ab_ab_apply w shapeCasts_S1x2048x1024_S2048x1024 k y)
  · refine (broadcastTo_apply _ broadcasts_S1x1024_S192x1024 (ix2 r y) (ix2 0 y) fun a => match a with
      | ⟨0, _⟩ => rfl
      | ⟨1, _⟩ => rfl).trans ?_
    exact shapeCast_1ab_ab_apply b shapeCasts_S1x1x1024_S1x1024 0 y

/-- Every window's block index at every point. -/
theorem index_at : ∀ t : Fin cfg0.N,
    win0_0.index t = ![0, 0] ∧ win0_1.index t = ![(grid0.coords t 0).val, 0, (grid0.coords t 1).val]
    ∧ win0_2.index t = ![(grid0.coords t 0).val, 0, (grid0.coords t 1).val]
    ∧ win0_3.index t = ![(grid0.coords t 0).val, 0, (grid0.coords t 1).val] :=
  (by decide +kernel : ∀ t : Fin grid0.N, _)

variable (m : (ℓ : Loc nD τ sig) → Buf (Elt Ideal) ℓ)

/-- The rows the host stacks: those of decoding, those of the prompts, and zeros. -/
def stack (p : Vec Ideal S4x2048 .f32) (s : Vec Ideal S128x2048 .f32) : List ((s : Shape) × (s.Idx → Ideal .f32)) :=
  [⟨S128x2048, s⟩, ⟨S4x2048, p⟩, ⟨S60x2048, broadcastInDim S60x2048 ![] bcast_S_S60x2048 (constant S_ .f32 0x00000000#32)⟩]

/-- The conditioning rows of both batches. -/
def stacked (p : Vec Ideal S4x2048 .f32) (s : Vec Ideal S128x2048 .f32) : S192x2048.Idx → EReal :=
  concatenate S192x2048 0 (stack p s) concatenates_S128x2048_S4x2048_S60x2048_S192x2048_d0

theorem V_v1 (c : Dev nD) : V m c main_v1 = stacked (m ((c : Thread nD τ).loc main_arg0)) (m ((c : Thread nD τ).loc main_arg1)) := by
  unfold V V0 hostOps0
  after_results_simp
  rfl

theorem V_v2 (c : Dev nD) : V m c main_v2 = shapeCast S2x1x12288 (m ((c : Thread nD τ).loc main_arg3)) shapeCasts_S2x12288_S2x1x12288 := by
  unfold V V0 hostOps0
  after_results_simp
  rfl

theorem bias_at (g : Vec Ideal S2x12288 .f32) (l : Fin 2) (k : Fin 12288) : shapeCast S2x1x12288 g shapeCasts_S2x12288_S2x1x12288 (ix3 l 0 k) = g (ix2 l k) :=
  shapeCast_apply g _ _ _ (by rw [Shape.rowMajor_val_two, Shape.rowMajor_val_three]; show l.val * 12288 + k.val = (l.val * 1 + 0) * 12288 + k.val; omega)

theorem stacked_sample (p : Vec Ideal S4x2048 .f32) (s : Vec Ideal S128x2048 .f32) (R : Fin 192) (r : Fin 128) (k : Fin 2048) (h : R.val = 0 + r.val) :
    stacked p s (ix2 R k) = s (ix2 r k) := by
  refine concatenate_apply_piece (t := S192x2048) 0 (stack p s) _ (ix2 R k) 0 (Nat.lt_of_sub_pos (by exact Nat.succ_pos _)) S128x2048 _ rfl rfl 0 rfl (ix2 r k) ?_ ?_
  · intro a ha
    match a with
    | ⟨0, _⟩ => exact absurd rfl ha
    | ⟨1, _⟩ => rfl
  · exact h.symm

theorem stacked_prompt (p : Vec Ideal S4x2048 .f32) (s : Vec Ideal S128x2048 .f32) (R : Fin 192) (r : Fin 4) (k : Fin 2048) (h : R.val = 128 + r.val) :
    stacked p s (ix2 R k) = p (ix2 r k) := by
  refine concatenate_apply_piece (t := S192x2048) 0 (stack p s) _ (ix2 R k) 1 (Nat.lt_of_sub_pos (by exact Nat.succ_pos _)) S4x2048 _ rfl rfl 128 rfl (ix2 r k) ?_ ?_
  · intro a ha
    match a with
    | ⟨0, _⟩ => exact absurd rfl ha
    | ⟨1, _⟩ => rfl
  · exact h.symm

section blocks
variable (c : Dev nD) (t : Fin cfg0.N)

theorem q_at (r : Fin 192) (k : Fin 2048) :
    iblk m c 0 t (ix2 r k) = stacked (m ((c : Thread nD τ).loc main_arg0)) (m ((c : Thread nD τ).loc main_arg1)) (ix2 r k) := by
  rw [← V_v1 m c]
  unfold iblk
  blk_simp
  congr 1
  funext a
  apply Fin.ext
  obtain ⟨h0, h1, h2, h3⟩ := index_at t
  blk_simp [h0]
  match a with
  | ⟨0, _⟩ => show 0 * 192 + r.val = r.val; omega
  | ⟨1, _⟩ => show 0 * 2048 + k.val = k.val; omega

theorem w_at (l : Fin 2) (k : Fin 2048) (y : Fin 1024) (z : Fin 12288) (hl : l.val = (grid0.coords t 0).val)
    (hz : z.val = 1024 * (grid0.coords t 1).val + y.val) :
    iblk m c 1 t (ix3 0 k y) = m ((c : Thread nD τ).loc main_arg2) (ix3 l k z) := by
  rw [← V_main_arg2 m c]
  unfold iblk
  blk_simp
  congr 1
  funext a
  apply Fin.ext
  obtain ⟨h0, h1, h2, h3⟩ := index_at t
  blk_simp [h1]
  match a with
  | ⟨0, _⟩ => show (grid0.coords t 0).val * 1 + 0 = l.val; omega
  | ⟨1, _⟩ => show 0 * 2048 + k.val = k.val; omega
  | ⟨2, _⟩ => show (grid0.coords t 1).val * 1024 + y.val = z.val; omega

theorem b_at (l : Fin 2) (y : Fin 1024) (z : Fin 12288) (hl : l.val = (grid0.coords t 0).val)
    (hz : z.val = 1024 * (grid0.coords t 1).val + y.val) :
    iblk m c 2 t (ix3 0 0 y) = m ((c : Thread nD τ).loc main_arg3) (ix2 l z) := by
  refine Eq.trans ?_ (bias_at _ l z)
  rw [← V_v2 m c]
  unfold iblk
  blk_simp
  congr 1
  funext a
  apply Fin.ext
  obtain ⟨h0, h1, h2, h3⟩ := index_at t
  blk_simp [h2]
  match a with
  | ⟨0, _⟩ => show (grid0.coords t 0).val * 1 + 0 = l.val; omega
  | ⟨1, _⟩ => rfl
  | ⟨2, _⟩ => show (grid0.coords t 1).val * 1024 + y.val = z.val; omega

/-- The sum at a point: its columns of one layer's modulation. -/
theorem point (r : Fin 192) (y : Fin 1024) (i : S2x192x12288.Idx) (h0 : (i 0).val = (grid0.coords t 0).val)
    (h1 : (i 1).val = r.val) (h2 : (i 2).val = 1024 * (grid0.coords t 1).val + y.val) :
    (k0_pay1 (F := Ideal) (iblk m c 0 t) (iblk m c 1 t) (iblk m c 2 t) (ix3 0 r y) : EReal)
      = modulated (n := 192) (stacked (m ((c : Thread nD τ).loc main_arg0)) (m ((c : Thread nD τ).loc main_arg1)))
          (m ((c : Thread nD τ).loc main_arg2)) (m ((c : Thread nD τ).loc main_arg3)) i := by
  obtain ⟨l, R, z, rfl⟩ : ∃ (l : Fin 2) (R : Fin 192) (z : Fin 12288), i = ix3 l R z := ⟨i 0, i 1, i 2, eq_ix3 i⟩
  obtain rfl : R = r := Fin.ext h1
  rw [pay_apply, b_at m c t l y z h0 h2]
  exact congrArg (· + _) (Finset.sum_congr rfl fun k _ => congrArg₂ (· * ·) (q_at m c t R k) (w_at m c t l k y z h0 h2))
end blocks

/-- The array the run leaves. -/
theorem left_3 (c : Dev nD) : (dats m 0 c).arrAt 3 cfg0.N
    = modulated (n := 192) (stacked (m ((c : Thread nD τ).loc main_arg0)) (m ((c : Thread nD τ).loc main_arg1)))
        (m ((c : Thread nD τ).loc main_arg2)) (m ((c : Thread nD τ).loc main_arg3)) := by
  refine (dats m 0 c).arrAt_eq_of_covers 3 _ (by decide +kernel) fun t hf y => ?_
  blk_simp
  rw [after0_3]
  unfold out0_3
  obtain ⟨-, -, -, h3⟩ := index_at t
  rw [View.canon_unit_zero (by decide), View.ld_unit_zero (by decide), View.ld_unit_zero (by decide), View.ld_unit_zero (by decide)]
  have hy : (y 0).val < 1 := (y 0).isLt
  refine Eq.trans (congrArg _ ((eq_ix3 y).trans (congrArg (fun q => ix3 q (y 1) (y 2)) (Fin.ext (by show (y 0).val = 0; omega)))))
    (point m c t (y 1) (y 2) _ ?_ ?_ ?_)
  · blk_simp [h3]
  · blk_simp [h3]
  · blk_simp [h3]; show (grid0.coords t 1).val * 1024 + (y 2).val = _; omega

/-- The prompts' rows of the array. -/
theorem prompt_rows (p : Vec Ideal S4x2048 .f32) (s : Vec Ideal S128x2048 .f32) (w : S2x2048x12288.Idx → EReal) (b : S2x12288.Idx → EReal) :
    extractStridedSlice S2x4x12288 ![0, 128, 0] (modulated (n := 192) (stacked p s) w b) slices_S2x192x12288_S2x4x12288_0_128_0 = modulated (n := 4) p w b := by
  funext i
  obtain ⟨l, r, z, rfl⟩ : ∃ (l : Fin 2) (r : Fin 4) (z : Fin 12288), i = ix3 l r z := ⟨i 0, i 1, i 2, eq_ix3 i⟩
  refine Eq.trans (b := modulated (n := 192) (stacked p s) w b (ix3 l ⟨128 + r.val, by omega⟩ z)) ?_ ?_
  · unfold extractStridedSlice
    congr 1
    funext a
    apply Fin.ext
    match a with
    | ⟨0, _⟩ => show 0 + l.val = l.val; omega
    | ⟨1, _⟩ => rfl
    | ⟨2, _⟩ => show 0 + z.val = z.val; omega
  · exact congrArg (· + _) (Finset.sum_congr rfl fun k _ => congrArg (· * _) (stacked_prompt p s _ r k rfl))

/-- The rows of decoding. -/
theorem sample_rows (p : Vec Ideal S4x2048 .f32) (s : Vec Ideal S128x2048 .f32) (w : S2x2048x12288.Idx → EReal) (b : S2x12288.Idx → EReal) :
    extractStridedSlice S2x128x12288 ![0, 0, 0] (modulated (n := 192) (stacked p s) w b) slices_S2x192x12288_S2x128x12288_0_0_0 = modulated (n := 128) s w b := by
  funext i
  obtain ⟨l, r, z, rfl⟩ : ∃ (l : Fin 2) (r : Fin 128) (z : Fin 12288), i = ix3 l r z := ⟨i 0, i 1, i 2, eq_ix3 i⟩
  refine Eq.trans (b := modulated (n := 192) (stacked p s) w b (ix3 l ⟨0 + r.val, by omega⟩ z)) ?_ ?_
  · unfold extractStridedSlice
    congr 1
    funext a
    apply Fin.ext
    match a with
    | ⟨0, _⟩ => show 0 + l.val = l.val; omega
    | ⟨1, _⟩ => rfl
    | ⟨2, _⟩ => show 0 + z.val = z.val; omega
  · exact congrArg (· + _) (Finset.sum_congr rfl fun k _ => congrArg (· * _) (stacked_sample p s _ r k rfl))

theorem shared : Pipeline.SharedIn spec0 := by decide

theorem result_4 (c : Dev nD) : Pipeline.afterTail₀ cfgs (dats m) 0 (V0 m) [hostOps1] c main_v4
    = modulated (n := 4) (m ((c : Thread nD τ).loc main_arg0)) (m ((c : Thread nD τ).loc main_arg2)) (m ((c : Thread nD τ).loc main_arg3)) := by
  unfold Pipeline.afterTail₀ hostOps1
  after_results_simp
  have e := Pipeline.Dat.withArrays_arrAt (dats m 0 c) shared (V0 m c) (A_eq m c) 3
  refine (congrArg (fun a => extractStridedSlice S2x4x12288 ![0, 128, 0] a slices_S2x192x12288_S2x4x12288_0_128_0) (e.trans (left_3 m c))).trans ?_
  exact prompt_rows _ _ _ _

theorem result_5 (c : Dev nD) : Pipeline.afterTail₀ cfgs (dats m) 0 (V0 m) [hostOps1] c main_v5
    = modulated (n := 128) (m ((c : Thread nD τ).loc main_arg1)) (m ((c : Thread nD τ).loc main_arg2)) (m ((c : Thread nD τ).loc main_arg3)) := by
  unfold Pipeline.afterTail₀ hostOps1
  after_results_simp
  have e := Pipeline.Dat.withArrays_arrAt (dats m 0 c) shared (V0 m c) (A_eq m c) 3
  refine (congrArg (fun a => extractStridedSlice S2x128x12288 ![0, 0, 0] a slices_S2x192x12288_S2x128x12288_0_0_0) (e.trans (left_3 m c))).trans ?_
  exact sample_rows _ _ _ _

/-- The kernel's program ends with both batches' modulations, and leaves its arguments. -/
theorem run_value (ρ : Dev nD → PrngReg) : θ_run (defs (F := Ideal)) (onTc (τ := τ) (main (F := Ideal))) ⟨m, fun _ => 0, ρ⟩ (fun r => ∀ c : Dev nD,
    r.2.mem ((c.tc : Thread nD τ).loc main_v4)
      = modulated (n := 4) (m ((c.tc : Thread nD τ).loc main_arg0)) (m ((c.tc : Thread nD τ).loc main_arg2)) (m ((c.tc : Thread nD τ).loc main_arg3))
    ∧ r.2.mem ((c.tc : Thread nD τ).loc main_v5)
      = modulated (n := 128) (m ((c.tc : Thread nD τ).loc main_arg1)) (m ((c.tc : Thread nD τ).loc main_arg2)) (m ((c.tc : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono
    (fun r h c => ⟨((h.1 c).2 main_v4 (Pipeline.mem_restRefs_of main_v4 (by decide) (by decide))).trans (result_4 m c),
      ((h.1 c).2 main_v5 (Pipeline.mem_restRefs_of main_v5 (by decide) (by decide))).trans (result_5 m c), h.2 c⟩)
    (θ_run_and (run_main (F := Ideal) m ρ) (unchanged (F := Ideal) m ρ))

end Cert.Kernel6Ideal.Hand

namespace Cert.Reference6Ideal.Hand

open Cert.Reference6Ideal Cert.Reference6Ideal.Read
open Idealize.ShloMosaic Idealize.ShloMosaic.TcCoe Idealize.ShloMosaic.Tactic Idealize.ShloMosaic.ValueIdx
open Cert.Kernel6Ideal.Hand (modulated)

/-- The reference's modulation of the prompts. -/
theorem ref_prompt (p : S4x2048.Idx → EReal) (w : S2x2048x12288.Idx → EReal) (b : S2x12288.Idx → EReal) :
    val_main_v4 (F := Ideal) p w b = modulated (n := 4) p w b := by
  funext i
  rw [val_main_v4_apply, val_main_v1_apply, val_main_v0_apply, val_main_v3_apply, val_main_v2_apply]
  refine congrArg₂ (· + ·) (Finset.sum_congr rfl fun k _ => (mul_comm _ _).trans (congrArg₂ (· * ·) (congrArg p (funext fun a => ?_)) (congrArg w (funext fun a => ?_))))
    (congrArg b (funext fun a => ?_))
  · match a with
    | ⟨0, _⟩ => rfl
    | ⟨1, _⟩ => rfl
  · match a with
    | ⟨0, _⟩ => rfl
    | ⟨1, _⟩ => rfl
    | ⟨2, _⟩ => rfl
  · match a with
    | ⟨0, _⟩ => rfl
    | ⟨1, _⟩ => rfl

/-- … and of decoding. -/
theorem ref_sample (s : S128x2048.Idx → EReal) (w : S2x2048x12288.Idx → EReal) (b : S2x12288.Idx → EReal) :
    val_main_v9 (F := Ideal) s w b = modulated (n := 128) s w b := by
  funext i
  rw [val_main_v9_apply, val_main_v6_apply, val_main_v5_apply, val_main_v8_apply, val_main_v7_apply]
  refine congrArg₂ (· + ·) (Finset.sum_congr rfl fun k _ => (mul_comm _ _).trans (congrArg₂ (· * ·) (congrArg s (funext fun a => ?_)) (congrArg w (funext fun a => ?_))))
    (congrArg b (funext fun a => ?_))
  · match a with
    | ⟨0, _⟩ => rfl
    | ⟨1, _⟩ => rfl
  · match a with
    | ⟨0, _⟩ => rfl
    | ⟨1, _⟩ => rfl
    | ⟨2, _⟩ => rfl
  · match a with
    | ⟨0, _⟩ => rfl
    | ⟨1, _⟩ => rfl

/-- The reference's arguments are unchanged and every counter is back at zero. -/
theorem run_main (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => (h c).2.2, sem_eq_zero_of_no_sems (by decide) r.2⟩) (Value.run m ρ)

end Cert.Reference6Ideal.Hand

end
-- ==== Proof.Sample.lean ====
/- The calls for the sample: its input projection and its final norm, a tile of 64 of its rows of 8 positions each. -/
module

public import proofs.«01_k».proof.Proof.Norm
public import proofs.«01_k».proof.Proof.Project
public import proofs.«01_k».proof.Proof.Gen.Kernel7Ideal.Frame
public import proofs.«01_k».proof.Proof.Gen.Reference7Ideal.Run
public import proofs.«01_k».proof.Proof.Gen.Reference7Ideal.Read
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit.Geometry
public import Idealize.ShloMosaic.Lib.Pipeline.ValueKit.Acc

@[expose] public section

set_option maxRecDepth 16384

noncomputable section

namespace Cert.Sample

open Idealize.ShloMosaic Idealize.ShloMosaic.TcCoe Idealize.ShloMosaic.ValueIdx
open Cert.Norm (Mod Gain rms normRow)

abbrev Act := (⟨3, ![128, 8, 2048]⟩ : Shape).Idx → EReal

/-- The layer's normalized activations: row `b`'s modulation is row `b`, its shift the first 2048 columns and its scale the next. -/
def normed (x : Act) (mod : Mod) (g : Gain) (b : Fin 128) (p : Fin 8) (k : Fin 2048) : EReal :=
  normRow (fun j => x (ix3 b p j)) (g (ix2 0 k)) (mod (ix2 ⟨b.val, by omega⟩ ⟨2048 + k.val, by omega⟩)) (mod (ix2 ⟨b.val, by omega⟩ ⟨k.val, by omega⟩)) k

section tile
open Cert.Kernel7Ideal Cert.Kernel7Ideal.Gen

/-- A row of numbers spread along a tile's rows. -/
theorem spread_apply (v : Vec Ideal S1x1x2048 .f32) (a : Fin 64) (r : Fin 8) (k : Fin 2048) :
    broadcastTo S64x8x2048 v broadcasts_S1x1x2048_S64x8x2048 (ix3 a r k) = v (ix3 0 0 k) :=
  broadcastTo_apply v _ (ix3 a r k) (ix3 0 0 k) fun d => match d with
    | ⟨0, _⟩ => rfl
    | ⟨1, _⟩ => rfl
    | ⟨2, _⟩ => rfl

/-- A row of numbers for each of the tile's 64, spread along its positions. -/
theorem along_apply (v : Vec Ideal S64x1x2048 .f32) (a : Fin 64) (r : Fin 8) (k : Fin 2048) :
    broadcastTo S64x8x2048 v broadcasts_S64x1x2048_S64x8x2048 (ix3 a r k) = v (ix3 a 0 k) :=
  broadcastTo_apply v _ (ix3 a r k) (ix3 a 0 k) fun d => match d with
    | ⟨0, _⟩ => rfl
    | ⟨1, _⟩ => rfl
    | ⟨2, _⟩ => rfl

/-- A column of numbers spread along a tile's columns. -/
theorem across_apply (v : Vec Ideal S64x8x1 .f32) (a : Fin 64) (r : Fin 8) (k : Fin 2048) :
    broadcastTo S64x8x2048 v broadcasts_S64x8x1_S64x8x2048 (ix3 a r k) = v (ix3 a r 0) :=
  broadcastTo_apply v _ (ix3 a r k) (ix3 a r 0) fun d => match d with
    | ⟨0, _⟩ => rfl
    | ⟨1, _⟩ => rfl
    | ⟨2, _⟩ => rfl

theorem sumsq_apply (v : Vec Ideal S64x8x2048 .f32) (a : Fin 64) (r : Fin 8) :
    shapeCast S64x8x1 (multiReduction (F := Ideal) (φ := .f32) .add [2] S64x8 v 0x00000000#32 reduces_S64x8x2048_S64x8 (.inl rfl) rfl) shapeCasts_S64x8_S64x8x1 (ix3 a r 0)
      = ∑ j : Fin 2048, (v (ix3 a r j) : EReal) := by
  refine (shapeCast_apply _ shapeCasts_S64x8_S64x8x1 (ix3 a r 0) (ix2 a r) ?_).trans ?_
  · rw [Shape.rowMajor_val_two, Shape.rowMajor_val_three]
    show a.val * 8 + r.val = (a.val * 8 + r.val) * 1 + 0
    omega
  · refine (Ideal.multiReduction_add_single _ _ reduces_S64x8x2048_S64x8 _ _ (ix2 a r)).trans ?_
    refine Finset.sum_congr rfl fun j _ => congrArg v (funext fun d => ?_)
    match d with
    | ⟨0, _⟩ => exact Fin.ext rfl
    | ⟨1, _⟩ => exact Fin.ext rfl
    | ⟨2, _⟩ => exact Fin.ext rfl

/-- The tile a body normalizes, its 512 positions end to end. -/
def tile (v0 : Vec Ideal S64x8x2048 .f32) (v1 : Vec Ideal S1x1x2048 .f32) (v3 v5 : Vec Ideal S64x1x2048 .f32) : FVec Ideal S512x2048 .bf16 :=
  have v2 : FVec Ideal S1x1x2048 .f32 := shapeCast S1x1x2048 v1 shapeCasts_S1x1x2048_S1x1x2048
  have v4 : FVec Ideal S64x1x2048 .f32 := shapeCast S64x1x2048 v3 shapeCasts_S64x1x2048_S64x1x2048
  have v6 : FVec Ideal S64x1x2048 .f32 := shapeCast S64x1x2048 v5 shapeCasts_S64x1x2048_S64x1x2048
  have v7 : FVec Ideal S64x8x2048 .f32 := mulf v0 v0
  have v8 : FVec Ideal S64x8 .f32 := multiReduction .add [2] S64x8 v7 0x00000000#32 reduces_S64x8x2048_S64x8 (.inl rfl) rfl
  have v9 : FVec Ideal S64x8x1 .f32 := shapeCast S64x8x1 v8 shapeCasts_S64x8_S64x8x1
  have cst_11 : Ideal .f32 := Scalar.ofBits .f32 0x45000000#32
  have v10 : FVec Ideal S64x8x1 .f32 := broadcast S64x8x1 cst_11
  have v11 : FVec Ideal S64x8x1 .f32 := divf v9 v10
  have cst_12 : Ideal .f32 := Scalar.ofBits .f32 0x358637BD#32
  have v12 : FVec Ideal S64x8x1 .f32 := broadcast S64x8x1 cst_12
  have v13 : FVec Ideal S64x8x1 .f32 := addf v11 v12
  have v14 : FVec Ideal S64x8x1 .f32 := rsqrt v13
  have v15 : FVec Ideal S64x8x2048 .f32 := broadcastTo S64x8x2048 v14 broadcasts_S64x8x1_S64x8x2048
  have v16 : FVec Ideal S64x8x2048 .f32 := mulf v0 v15
  have v17 : FVec Ideal S64x8x2048 .f32 := broadcastTo S64x8x2048 v2 broadcasts_S1x1x2048_S64x8x2048
  have v18 : FVec Ideal S64x8x2048 .f32 := mulf v16 v17
  have cst_13 : Ideal .f32 := Scalar.ofBits .f32 0x3F800000#32
  have v19 : FVec Ideal S64x1x2048 .f32 := broadcast S64x1x2048 cst_13
  have v20 : FVec Ideal S64x1x2048 .f32 := addf v19 v4
  have v21 : FVec Ideal S64x8x2048 .f32 := broadcastTo S64x8x2048 v20 broadcasts_S64x1x2048_S64x8x2048
  have v22 : FVec Ideal S64x8x2048 .f32 := mulf v18 v21
  have v23 : FVec Ideal S64x8x2048 .f32 := broadcastTo S64x8x2048 v6 broadcasts_S64x1x2048_S64x8x2048
  have v24 : FVec Ideal S64x8x2048 .f32 := addf v22 v23
  have v25 : FVec Ideal S512x2048 .f32 := shapeCast S512x2048 v24 shapeCasts_S64x8x2048_S512x2048
  have v26 : FVec Ideal S512x2048 .bf16 := truncf .bf16 v25 bitsLt_bf16_f32
  v26

theorem narrow_apply (v : FVec Ideal S512x2048 .f32) (h : FTy.bf16.bits < FTy.f32.bits) (i : S512x2048.Idx) : (truncf (F := Ideal) .bf16 v h i : EReal) = v i := rfl

theorem tile_apply (x : Vec Ideal S64x8x2048 .f32) (g : Vec Ideal S1x1x2048 .f32) (s h : Vec Ideal S64x1x2048 .f32) (q : Fin 512) (a : Fin 64) (r : Fin 8)
    (hq : q.val = 8 * a.val + r.val) (k : Fin 2048) :
    (tile x g s h (ix2 q k) : EReal) = normRow (fun j => x (ix3 a r j)) (g (ix3 0 0 k)) (s (ix3 a 0 k)) (h (ix3 a 0 k)) k := by
  unfold tile
  simp only [shapeCast_self]
  rw [narrow_apply]
  refine (shapeCast_apply _ shapeCasts_S64x8x2048_S512x2048 (ix2 q k) (ix3 a r k) ?_).trans ?_
  · rw [Shape.rowMajor_val_two, Shape.rowMajor_val_three]
    show (a.val * 8 + r.val) * 2048 + k.val = q.val * 2048 + k.val
    omega
  have e : ∀ (q : Vec Ideal S64x8x1 .f32), q (ix3 a r 0) = rms (fun j => x (ix3 a r j)) →
      addf (mulf (mulf (mulf x (broadcastTo S64x8x2048 q broadcasts_S64x8x1_S64x8x2048)) (broadcastTo S64x8x2048 g broadcasts_S1x1x2048_S64x8x2048))
        (broadcastTo S64x8x2048 (addf (F := Ideal) (φ := .f32) (broadcast S64x1x2048 (Scalar.ofBits .f32 0x3F800000#32)) s) broadcasts_S64x1x2048_S64x8x2048))
        (broadcastTo S64x8x2048 h broadcasts_S64x1x2048_S64x8x2048) (ix3 a r k)
      = normRow (fun j => x (ix3 a r j)) (g (ix3 0 0 k)) (s (ix3 a 0 k)) (h (ix3 a 0 k)) k := by
    intro q hq
    show x (ix3 a r k) * broadcastTo S64x8x2048 q broadcasts_S64x8x1_S64x8x2048 (ix3 a r k) * broadcastTo S64x8x2048 g broadcasts_S1x1x2048_S64x8x2048 (ix3 a r k)
      * broadcastTo S64x8x2048 (addf (F := Ideal) (φ := .f32) (broadcast S64x1x2048 (Scalar.ofBits .f32 0x3F800000#32)) s) broadcasts_S64x1x2048_S64x8x2048 (ix3 a r k)
      + broadcastTo S64x8x2048 h broadcasts_S64x1x2048_S64x8x2048 (ix3 a r k) = _
    rw [across_apply, spread_apply, along_apply, along_apply, hq]
    rfl
  refine e _ ?_
  exact congrArg (fun q => FloatOps.rsqrt (F := Ideal) (φ := .f32) (FloatOps.divf (F := Ideal) (φ := .f32) q (Ideal.ofBits .f32 0x45000000#32) + Ideal.ofBits .f32 0x358637BD#32))
    (sumsq_apply (mulf (F := Ideal) (φ := .f32) x x) a r)
end tile

section ref7
open Cert.Reference7Ideal Cert.Reference7Ideal.Gen Cert.Reference7Ideal.Read

/-- The reference's one over root mean square. -/
theorem ref_rms7 (x0 : Act) (b : Fin 128) (p : Fin 8) :
    (val_main_v17 (F := Ideal) x0 (ix3 b p 0) : EReal) = rms fun j => x0 (ix3 b p j) := by
  rw [val_main_v17_apply, val_main_v16_apply, val_main_v14_apply, val_main_v12_apply, val_main_v11_apply, val_main_cst_apply, val_main_v13_apply,
    val_main_cst_0_apply, val_main_v15_apply, val_main_cst_1_apply]
  refine congrArg (fun q => FloatOps.rsqrt (F := Ideal) (φ := .f32) (FloatOps.divf (F := Ideal) (φ := .f32) q (Ideal.ofBits .f32 0x45000000#32) + Ideal.ofBits .f32 0x358637BD#32)) ?_
  refine (congrArg (· + _) Ideal.ofBits_zero_f32).trans ((zero_add _).trans (Finset.sum_congr rfl fun j _ => ?_))
  have e : idx_main_v11 (idx_main_v12 (ix3 b p 0)) j = ix3 b p j := funext fun a => match a with
    | ⟨0, _⟩ => rfl
    | ⟨1, _⟩ => rfl
    | ⟨2, _⟩ => rfl
  rw [val_main_v10_apply, e]
  rfl

/-- The reference's normalized activations. -/
theorem ref_normed7 (x0 : Act) (x1 : Mod) (x2 : Gain) (b : Fin 128) (p : Fin 8) (k : Fin 2048) :
    (val_main_v28 (F := Ideal) x0 x1 x2 (ix3 b p k) : EReal) = normed x0 x1 x2 b p k := by
  rw [val_main_v28_apply, val_main_v26_apply, val_main_v22_apply, val_main_v19_apply, val_main_v18_apply, val_main_v21_apply, val_main_v20_apply,
    val_main_v9_apply, val_main_v8_apply, val_main_v25_apply, val_main_v24_apply, val_main_v23_apply, val_main_cst_2_apply, val_main_v3_apply,
    val_main_v1_apply, val_main_v0_apply, val_main_v27_apply, val_main_v2_apply, val_main_v1_apply, val_main_v0_apply]
  have e1 : idx_main_v18 (ix3 b p k) = ix3 b p 0 := funext fun a => match a with
    | ⟨0, _⟩ => rfl
    | ⟨1, _⟩ => rfl
    | ⟨2, _⟩ => rfl
  have e2 : idx_main_v8 (idx_main_v9 (idx_main_v20 (idx_main_v21 (ix3 b p k)))) = ix2 0 k := funext fun a => match a with
    | ⟨0, _⟩ => rfl
    | ⟨1, _⟩ => Fin.ext (Nat.mod_eq_of_lt k.isLt)
  have e3 : idx_main_v0 (idx_main_v1 (idx_main_v3 (idx_main_v25 (ix3 b p k)))) = ix2 ⟨b.val, by omega⟩ ⟨2048 + k.val, by omega⟩ := funext fun a => match a with
    | ⟨0, _⟩ => rfl
    | ⟨1, _⟩ => Fin.ext (by rfl)
  have e4 : idx_main_v0 (idx_main_v1 (idx_main_v2 (idx_main_v27 (ix3 b p k)))) = ix2 ⟨b.val, by omega⟩ ⟨k.val, by omega⟩ := funext fun a => match a with
    | ⟨0, _⟩ => rfl
    | ⟨1, _⟩ => rfl
  rw [e1, e2, e3, e4, ref_rms7]
  rfl
end ref7

end Cert.Sample

namespace Cert.Kernel7Ideal.Hand

open Cert.Kernel7Ideal Cert.Kernel7Ideal.Gen
open Idealize.ShloMosaic Idealize.ShloMosaic.TcCoe Idealize.ShloMosaic.Tactic Idealize.ShloMosaic.ValueIdx
open Cert.Norm (Mod Gain rms normRow)
open Cert.Sample
open Cert.Kernel2Ideal.Hand (laid laid_0 laid_1 laid_2 laid_3 laid_4)

/-- The projection, in the weights' own column order. -/
def proj (x : Act) (mod : Mod) (g : Gain) (w : S2x2048x7264.Idx → EReal) : S128x8x7264.Idx → EReal := fun j =>
  ∑ k : Fin 2048, normed x mod g (j 0) (j 1) k * w (ix3 0 k (j 2))

/-- The projection by rows end to end, with weights `w` in whatever column order. -/
def rows (x : Act) (mod : Mod) (g : Gain) (w : S2x2048x7296.Idx → EReal) : S1024x7296.Idx → EReal := fun i =>
  ∑ k : Fin 2048, normed x mod g ⟨(i 0).val / 8, Nat.div_lt_of_lt_mul (i 0).isLt⟩
    ⟨(i 0).val % 8, Nat.mod_lt _ (by decide)⟩ k * w (ix3 0 k (i 1))

/-- The body's product, entry by entry. -/
theorem pay_apply (x : Vec Ideal S64x8x2048 .f32) (g : Vec Ideal S1x1x2048 .f32) (s h : Vec Ideal S64x1x2048 .f32) (w : Vec Ideal S1x2048x2432 .bf16)
    (q : Fin 512) (a : Fin 64) (r : Fin 8) (hq : q.val = 8 * a.val + r.val) (y : Fin 2432) :
    (k0_pay1 (F := Ideal) x g s h w (ix2 q y) : EReal)
      = ∑ k : Fin 2048, normRow (fun j => x (ix3 a r j)) (g (ix3 0 0 k)) (s (ix3 a 0 k)) (h (ix3 a 0 k)) k * w (ix3 0 k y) := by
  refine (Ideal.matmul_plain_apply (φ₁ := .bf16) (φ₂ := .bf16) none (tile x g s h)
    (shapeCast S2048x2432 w shapeCasts_S1x2048x2432_S2048x2432) (constant S512x2432 .f32 0x00000000#32) q y).trans ?_
  refine (congrArg (· + _) Ideal.ofBits_zero_f32).trans ((zero_add _).trans (Finset.sum_congr rfl fun k _ => ?_))
  exact congrArg₂ (· * ·) (tile_apply x g s h q a r hq k) (shapeCast_1ab_ab_apply w shapeCasts_S1x2048x2432_S2048x2432 k y)

/-- Every window's block index at every point. -/
theorem index_at : ∀ t : Fin cfg0.N,
    win0_0.index t = ![(grid0.coords t 1).val, 0, 0] ∧ win0_1.index t = ![0, 0, 0]
    ∧ win0_2.index t = ![(grid0.coords t 1).val, 0, 1] ∧ win0_3.index t = ![(grid0.coords t 1).val, 0, 0]
    ∧ win0_4.index t = ![0, 0, (grid0.coords t 0).val] ∧ win0_5.index t = ![(grid0.coords t 1).val, (grid0.coords t 0).val] :=
  (by decide +kernel : ∀ t : Fin grid0.N, _)

variable (m : (ℓ : Loc nD τ sig) → Buf (Elt Ideal) ℓ)

theorem V_v9 (c : Dev nD) : V m c main_v9 = laid (m ((c : Thread nD τ).loc main_arg3)) := by
  unfold V V0 hostOps0
  after_results_simp
  rfl

theorem V_v0 (c : Dev nD) : V m c main_v0 = shapeCast S2x1x2048 (m ((c : Thread nD τ).loc main_arg2)) shapeCasts_S2x2048_S2x1x2048 := by
  unfold V V0 hostOps0
  after_results_simp
  rfl

theorem V_v1 (c : Dev nD) : V m c main_v1 = shapeCast S384x1x12288 (m ((c : Thread nD τ).loc main_arg1)) shapeCasts_S384x12288_S384x1x12288 := by
  unfold V V0 hostOps0
  after_results_simp
  rfl

theorem gain_at (g : Vec Ideal S2x2048 .f32) (l : Fin 2) (k : Fin 2048) : shapeCast S2x1x2048 g shapeCasts_S2x2048_S2x1x2048 (ix3 l 0 k) = g (ix2 l k) :=
  shapeCast_apply g _ _ _ (by rw [Shape.rowMajor_val_two, Shape.rowMajor_val_three]; show l.val * 2048 + k.val = (l.val * 1 + 0) * 2048 + k.val; omega)

theorem mod_at (g : Vec Ideal S384x12288 .f32) (l : Fin 384) (k : Fin 12288) :
    shapeCast S384x1x12288 g shapeCasts_S384x12288_S384x1x12288 (ix3 l 0 k) = g (ix2 l k) :=
  shapeCast_apply g _ _ _ (by rw [Shape.rowMajor_val_two, Shape.rowMajor_val_three]; show l.val * 12288 + k.val = (l.val * 1 + 0) * 12288 + k.val; omega)

section blocks
variable (c : Dev nD) (t : Fin cfg0.N)

theorem x_at (b : Fin 128) (a : Fin 64) (r : Fin 8) (k : Fin 2048) (hb : b.val = 64 * (grid0.coords t 1).val + a.val) :
    iblk m c 0 t (ix3 a r k) = m ((c : Thread nD τ).loc main_arg0) (ix3 b r k) := by
  rw [← V_main_arg0 m c]
  unfold iblk
  blk_simp
  congr 1
  funext d
  apply Fin.ext
  obtain ⟨h0, h1, h2, h3, h4, h5⟩ := index_at t
  blk_simp [h0]
  match d with
  | ⟨0, _⟩ => show (grid0.coords t 1).val * 64 + a.val = b.val; omega
  | ⟨1, _⟩ => show 0 * 8 + r.val = r.val; omega
  | ⟨2, _⟩ => show 0 * 2048 + k.val = k.val; omega

theorem g_at (k : Fin 2048) : iblk m c 1 t (ix3 0 0 k) = m ((c : Thread nD τ).loc main_arg2) (ix2 0 k) := by
  refine Eq.trans ?_ (gain_at _ 0 k)
  rw [← V_v0 m c]
  unfold iblk
  blk_simp
  congr 1
  funext a
  apply Fin.ext
  obtain ⟨h0, h1, h2, h3, h4, h5⟩ := index_at t
  blk_simp [h1]
  match a with
  | ⟨0, _⟩ => rfl
  | ⟨1, _⟩ => rfl
  | ⟨2, _⟩ => show 0 * 2048 + k.val = k.val; omega

theorem s_at (b : Fin 128) (a : Fin 64) (k : Fin 2048) (hb : b.val = 64 * (grid0.coords t 1).val + a.val) :
    iblk m c 2 t (ix3 a 0 k) = m ((c : Thread nD τ).loc main_arg1) (ix2 ⟨b.val, by omega⟩ ⟨2048 + k.val, by omega⟩) := by
  refine Eq.trans ?_ (mod_at _ _ _)
  rw [← V_v1 m c]
  unfold iblk
  blk_simp
  congr 1
  funext d
  apply Fin.ext
  obtain ⟨h0, h1, h2, h3, h4, h5⟩ := index_at t
  blk_simp [h2]
  match d with
  | ⟨0, _⟩ => show (grid0.coords t 1).val * 64 + a.val = b.val; omega
  | ⟨1, _⟩ => rfl
  | ⟨2, _⟩ => show 1 * 2048 + k.val = 2048 + k.val; omega

theorem h_at (b : Fin 128) (a : Fin 64) (k : Fin 2048) (hb : b.val = 64 * (grid0.coords t 1).val + a.val) :
    iblk m c 3 t (ix3 a 0 k) = m ((c : Thread nD τ).loc main_arg1) (ix2 ⟨b.val, by omega⟩ ⟨k.val, by omega⟩) := by
  refine Eq.trans ?_ (mod_at _ _ _)
  rw [← V_v1 m c]
  unfold iblk
  blk_simp
  congr 1
  funext d
  apply Fin.ext
  obtain ⟨h0, h1, h2, h3, h4, h5⟩ := index_at t
  blk_simp [h3]
  match d with
  | ⟨0, _⟩ => show (grid0.coords t 1).val * 64 + a.val = b.val; omega
  | ⟨1, _⟩ => rfl
  | ⟨2, _⟩ => show 0 * 2048 + k.val = k.val; omega

theorem w_at (k : Fin 2048) (y : Fin 2432) (z : Fin 7296) (hz : z.val = 2432 * (grid0.coords t 0).val + y.val) :
    iblk m c 4 t (ix3 0 k y) = laid (m ((c : Thread nD τ).loc main_arg3)) (ix3 0 k z) := by
  rw [← V_v9 m c]
  unfold iblk
  blk_simp
  congr 1
  funext a
  apply Fin.ext
  obtain ⟨h0, h1, h2, h3, h4, h5⟩ := index_at t
  blk_simp [h4]
  match a with
  | ⟨0, _⟩ => rfl
  | ⟨1, _⟩ => show 0 * 2048 + k.val = k.val; omega
  | ⟨2, _⟩ => show (grid0.coords t 0).val * 2432 + y.val = z.val; omega

/-- The product at a point: its rows and columns of the projection. -/
theorem point (r : Fin 512) (y : Fin 2432) (i : S1024x7296.Idx) (hi : (i 0).val = 512 * (grid0.coords t 1).val + r.val)
    (hz : (i 1).val = 2432 * (grid0.coords t 0).val + y.val) :
    (k0_pay1 (F := Ideal) (iblk m c 0 t) (iblk m c 1 t) (iblk m c 2 t) (iblk m c 3 t) (iblk m c 4 t) (ix2 r y) : EReal)
      = rows (m ((c : Thread nD τ).loc main_arg0)) (m ((c : Thread nD τ).loc main_arg1)) (m ((c : Thread nD τ).loc main_arg2))
          (laid (m ((c : Thread nD τ).loc main_arg3))) i := by
  have hr : r.val = 8 * (r.val / 8) + r.val % 8 := by omega
  rw [pay_apply _ _ _ _ _ r ⟨r.val / 8, by omega⟩ ⟨r.val % 8, by omega⟩ hr]
  unfold rows normed
  refine Finset.sum_congr rfl fun k _ => ?_
  have hb : (⟨(i 0).val / 8, Nat.div_lt_of_lt_mul (i 0).isLt⟩ : Fin 128).val = 64 * (grid0.coords t 1).val + (⟨r.val / 8, by omega⟩ : Fin 64).val := by
    show (i 0).val / 8 = 64 * (grid0.coords t 1).val + r.val / 8; omega
  have hp : (⟨r.val % 8, by omega⟩ : Fin 8) = ⟨(i 0).val % 8, Nat.mod_lt _ (by decide)⟩ := Fin.ext (by show r.val % 8 = (i 0).val % 8; omega)
  rw [funext fun j => x_at m c t _ _ _ j hb, g_at, s_at m c t _ _ k hb, h_at m c t _ _ k hb, w_at m c t k y (i 1) hz, hp]
end blocks

/-- The array the run leaves. -/
theorem left_5 (c : Dev nD) : (dats m 0 c).arrAt 5 cfg0.N
    = rows (m ((c : Thread nD τ).loc main_arg0)) (m ((c : Thread nD τ).loc main_arg1)) (m ((c : Thread nD τ).loc main_arg2))
        (laid (m ((c : Thread nD τ).loc main_arg3))) := by
  refine (dats m 0 c).arrAt_eq_of_covers 5 _ (by decide +kernel) fun t hf y => ?_
  blk_simp
  rw [after0_5]
  unfold out0_5
  obtain ⟨-, -, -, -, -, h5⟩ := index_at t
  rw [View.canon_unit_zero (by decide), View.ld_unit_zero (by decide), View.ld_unit_zero (by decide), View.ld_unit_zero (by decide), View.ld_unit_zero (by decide),
    View.ld_unit_zero (by decide)]
  refine Eq.trans (congrArg _ (eq_ix2 y)) (point m c t (y 0) (y 1) _ ?_ ?_)
  · blk_simp [h5]; show (grid0.coords t 1).val * 512 + (y 0).val = _; omega
  · blk_simp [h5]; show (grid0.coords t 0).val * 2432 + (y 1).val = _; omega

/-! ## The results' columns, as the host puts them back -/

/-- The five pieces the host takes of the kernel's array, in the weights' order. -/
def parts (a : S128x8x7296.Idx → EReal) : List ((s : Shape) × (s.Idx → EReal)) :=
  [⟨S128x8x3072, extractStridedSlice S128x8x3072 ![0, 0, 0] a slices_S128x8x7296_S128x8x3072_0_0_0⟩,
   ⟨S128x8x16, extractStridedSlice S128x8x16 ![0, 0, 7232] a slices_S128x8x7296_S128x8x16_0_0_7232⟩,
   ⟨S128x8x4096, extractStridedSlice S128x8x4096 ![0, 0, 3072] a slices_S128x8x7296_S128x8x4096_0_0_3072⟩,
   ⟨S128x8x64, extractStridedSlice S128x8x64 ![0, 0, 7168] a slices_S128x8x7296_S128x8x64_0_0_7168⟩,
   ⟨S128x8x16, extractStridedSlice S128x8x16 ![0, 0, 7248] a slices_S128x8x7296_S128x8x16_0_0_7248⟩]

/-- The kernel's array put back in the weights' order. -/
def back (a : S1024x7296.Idx → EReal) : S128x8x7264.Idx → EReal :=
  concatenate S128x8x7264 2 (parts (shapeCast S128x8x7296 a shapeCasts_S1024x7296_S128x8x7296))
    concatenates_S128x8x3072_S128x8x16_S128x8x4096_S128x8x64_S128x8x16_S128x8x7264_d2

theorem row_at (a : S1024x7296.Idx → EReal) (b : Fin 128) (p : Fin 8) (y : Fin 7296) :
    shapeCast S128x8x7296 a shapeCasts_S1024x7296_S128x8x7296 (ix3 b p y) = a (ix2 ⟨8 * b.val + p.val, by omega⟩ y) :=
  shapeCast_apply a _ _ _ (by rw [Shape.rowMajor_val_two, Shape.rowMajor_val_three]; show (8 * b.val + p.val) * 7296 + y.val = (b.val * 8 + p.val) * 7296 + y.val; omega)

theorem back_0 (a : S1024x7296.Idx → EReal) (b : Fin 128) (p : Fin 8) (z : Fin 7264) (y : Fin 7296)
    (h1 : 0 ≤ z.val) (h2 : z.val < 3072) (hy : y.val = 0 + (z.val - 0)) :
    back a (ix3 b p z) = a (ix2 ⟨8 * b.val + p.val, by omega⟩ y) := by
  refine Eq.trans ?_ (row_at a b p y)
  refine (concatenate_apply_piece (t := S128x8x7264) 2 (parts (shapeCast S128x8x7296 a shapeCasts_S1024x7296_S128x8x7296)) _ (ix3 b p z) 0
    (Nat.lt_of_sub_pos (by exact Nat.succ_pos _)) S128x8x3072 _ rfl rfl 0 rfl (ix3 b p ⟨z.val - 0, by omega⟩) ?_ ?_).trans ?_
  · intro d hd
    match d with
    | ⟨0, _⟩ => rfl
    | ⟨1, _⟩ => rfl
    | ⟨2, _⟩ => exact absurd rfl hd
  · show 0 + (z.val - 0) = z.val
    omega
  · unfold extractStridedSlice
    congr 1
    funext d
    apply Fin.ext
    match d with
    | ⟨0, _⟩ => show 0 + b.val = b.val; omega
    | ⟨1, _⟩ => show 0 + p.val = p.val; omega
    | ⟨2, _⟩ => show 0 + (z.val - 0) = y.val; omega

theorem back_1 (a : S1024x7296.Idx → EReal) (b : Fin 128) (p : Fin 8) (z : Fin 7264) (y : Fin 7296)
    (h1 : 3072 ≤ z.val) (h2 : z.val < 3088) (hy : y.val = 7232 + (z.val - 3072)) :
    back a (ix3 b p z) = a (ix2 ⟨8 * b.val + p.val, by omega⟩ y) := by
  refine Eq.trans ?_ (row_at a b p y)
  refine (concatenate_apply_piece (t := S128x8x7264) 2 (parts (shapeCast S128x8x7296 a shapeCasts_S1024x7296_S128x8x7296)) _ (ix3 b p z) 1
    (Nat.lt_of_sub_pos (by exact Nat.succ_pos _)) S128x8x16 _ rfl rfl 3072 rfl (ix3 b p ⟨z.val - 3072, by omega⟩) ?_ ?_).trans ?_
  · intro d hd
    match d with
    | ⟨0, _⟩ => rfl
    | ⟨1, _⟩ => rfl
    | ⟨2, _⟩ => exact absurd rfl hd
  · show 3072 + (z.val - 3072) = z.val
    omega
  · unfold extractStridedSlice
    congr 1
    funext d
    apply Fin.ext
    match d with
    | ⟨0, _⟩ => show 0 + b.val = b.val; omega
    | ⟨1, _⟩ => show 0 + p.val = p.val; omega
    | ⟨2, _⟩ => show 7232 + (z.val - 3072) = y.val; omega

theorem back_2 (a : S1024x7296.Idx → EReal) (b : Fin 128) (p : Fin 8) (z : Fin 7264) (y : Fin 7296)
    (h1 : 3088 ≤ z.val) (h2 : z.val < 7184) (hy : y.val = 3072 + (z.val - 3088)) :
    back a (ix3 b p z) = a (ix2 ⟨8 * b.val + p.val, by omega⟩ y) := by
  refine Eq.trans ?_ (row_at a b p y)
  refine (concatenate_apply_piece (t := S128x8x7264) 2 (parts (shapeCast S128x8x7296 a shapeCasts_S1024x7296_S128x8x7296)) _ (ix3 b p z) 2
    (Nat.lt_of_sub_pos (by exact Nat.succ_pos _)) S128x8x4096 _ rfl rfl 3088 rfl (ix3 b p ⟨z.val - 3088, by omega⟩) ?_ ?_).trans ?_
  · intro d hd
    match d with
    | ⟨0, _⟩ => rfl
    | ⟨1, _⟩ => rfl
    | ⟨2, _⟩ => exact absurd rfl hd
  · show 3088 + (z.val - 3088) = z.val
    omega
  · unfold extractStridedSlice
    congr 1
    funext d
    apply Fin.ext
    match d with
    | ⟨0, _⟩ => show 0 + b.val = b.val; omega
    | ⟨1, _⟩ => show 0 + p.val = p.val; omega
    | ⟨2, _⟩ => show 3072 + (z.val - 3088) = y.val; omega

theorem back_3 (a : S1024x7296.Idx → EReal) (b : Fin 128) (p : Fin 8) (z : Fin 7264) (y : Fin 7296)
    (h1 : 7184 ≤ z.val) (h2 : z.val < 7248) (hy : y.val = 7168 + (z.val - 7184)) :
    back a (ix3 b p z) = a (ix2 ⟨8 * b.val + p.val, by omega⟩ y) := by
  refine Eq.trans ?_ (row_at a b p y)
  refine (concatenate_apply_piece (t := S128x8x7264) 2 (parts (shapeCast S128x8x7296 a shapeCasts_S1024x7296_S128x8x7296)) _ (ix3 b p z) 3
    (Nat.lt_of_sub_pos (by exact Nat.succ_pos _)) S128x8x64 _ rfl rfl 7184 rfl (ix3 b p ⟨z.val - 7184, by omega⟩) ?_ ?_).trans ?_
  · intro d hd
    match d with
    | ⟨0, _⟩ => rfl
    | ⟨1, _⟩ => rfl
    | ⟨2, _⟩ => exact absurd rfl hd
  · show 7184 + (z.val - 7184) = z.val
    omega
  · unfold extractStridedSlice
    congr 1
    funext d
    apply Fin.ext
    match d with
    | ⟨0, _⟩ => show 0 + b.val = b.val; omega
    | ⟨1, _⟩ => show 0 + p.val = p.val; omega
    | ⟨2, _⟩ => show 7168 + (z.val - 7184) = y.val; omega

theorem back_4 (a : S1024x7296.Idx → EReal) (b : Fin 128) (p : Fin 8) (z : Fin 7264) (y : Fin 7296)
    (h1 : 7248 ≤ z.val) (h2 : z.val < 7264) (hy : y.val = 7248 + (z.val - 7248)) :
    back a (ix3 b p z) = a (ix2 ⟨8 * b.val + p.val, by omega⟩ y) := by
  refine Eq.trans ?_ (row_at a b p y)
  refine (concatenate_apply_piece (t := S128x8x7264) 2 (parts (shapeCast S128x8x7296 a shapeCasts_S1024x7296_S128x8x7296)) _ (ix3 b p z) 4
    (Nat.lt_of_sub_pos (by exact Nat.succ_pos _)) S128x8x16 _ rfl rfl 7248 rfl (ix3 b p ⟨z.val - 7248, by omega⟩) ?_ ?_).trans ?_
  · intro d hd
    match d with
    | ⟨0, _⟩ => rfl
    | ⟨1, _⟩ => rfl
    | ⟨2, _⟩ => exact absurd rfl hd
  · show 7248 + (z.val - 7248) = z.val
    omega
  · unfold extractStridedSlice
    congr 1
    funext d
    apply Fin.ext
    match d with
    | ⟨0, _⟩ => show 0 + b.val = b.val; omega
    | ⟨1, _⟩ => show 0 + p.val = p.val; omega
    | ⟨2, _⟩ => show 7248 + (z.val - 7248) = y.val; omega

/-- One row of the projection, whichever way its columns are named. -/
theorem rows_at (x : Act) (mod : Mod) (g : Gain) (w : Vec Ideal S2x2048x7264 .f32) (b : Fin 128) (p : Fin 8) (z : Fin 7264) (y : Fin 7296)
    (h : ∀ k : Fin 2048, laid w (ix3 0 k y) = w (ix3 0 k z)) :
    rows x mod g (laid w) (ix2 ⟨8 * b.val + p.val, by omega⟩ y) = proj x mod g w (ix3 b p z) := by
  unfold rows proj
  have hb : (⟨(8 * b.val + p.val) / 8, Nat.div_lt_of_lt_mul (by omega)⟩ : Fin 128) = b := Fin.ext (by show (8 * b.val + p.val) / 8 = b.val; omega)
  have hp : (⟨(8 * b.val + p.val) % 8, Nat.mod_lt _ (by decide)⟩ : Fin 8) = p := Fin.ext (by show (8 * b.val + p.val) % 8 = p.val; omega)
  refine Finset.sum_congr rfl fun k _ => ?_
  exact congrArg₂ (· * ·) (congrArg₂ (fun b p => normed x mod g b p k) hb hp) (h k)

/-- Put back, the kernel's array is the projection. -/
theorem back_rows (x : Act) (mod : Mod) (g : Gain) (w : Vec Ideal S2x2048x7264 .f32) :
    back (rows x mod g (laid w)) = proj x mod g w := by
  funext j
  obtain ⟨b, p, z, rfl⟩ : ∃ (b : Fin 128) (p : Fin 8) (z : Fin 7264), j = ix3 b p z := ⟨j 0, j 1, j 2, eq_ix3 j⟩

  by_cases c0 : z.val < 3072

  · exact (back_0 (rows x mod g (laid w)) b p z ⟨0 + (z.val - 0), by omega⟩ (by omega) (by omega) rfl).trans
      (rows_at x mod g w b p z _ fun k => laid_0 w 0 k _ z (by show 0 ≤ 0 + (z.val - 0); omega)
        (by show 0 + (z.val - 0) < 3072; omega) (by show z.val = 0 + (0 + (z.val - 0) - 0); omega))

  by_cases c1 : z.val < 3088

  · exact (back_1 (rows x mod g (laid w)) b p z ⟨7232 + (z.val - 3072), by omega⟩ (by omega) (by omega) rfl).trans
      (rows_at x mod g w b p z _ fun k => laid_3 w 0 k _ z (by show 7232 ≤ 7232 + (z.val - 3072); omega)
        (by show 7232 + (z.val - 3072) < 7248; omega) (by show z.val = 3072 + (7232 + (z.val - 3072) - 7232); omega))

  by_cases c2 : z.val < 7184

  · exact (back_2 (rows x mod g (laid w)) b p z ⟨3072 + (z.val - 3088), by omega⟩ (by omega) (by omega) rfl).trans
      (rows_at x mod g w b p z _ fun k => laid_1 w 0 k _ z (by show 3072 ≤ 3072 + (z.val - 3088); omega)
        (by show 3072 + (z.val - 3088) < 7168; omega) (by show z.val = 3088 + (3072 + (z.val - 3088) - 3072); omega))

  by_cases c3 : z.val < 7248

  · exact (back_3 (rows x mod g (laid w)) b p z ⟨7168 + (z.val - 7184), by omega⟩ (by omega) (by omega) rfl).trans
      (rows_at x mod g w b p z _ fun k => laid_2 w 0 k _ z (by show 7168 ≤ 7168 + (z.val - 7184); omega)
        (by show 7168 + (z.val - 7184) < 7232; omega) (by show z.val = 7184 + (7168 + (z.val - 7184) - 7168); omega))

  exact (back_4 (rows x mod g (laid w)) b p z ⟨7248 + (z.val - 7248), by omega⟩ (by omega) (by omega) rfl).trans
      (rows_at x mod g w b p z _ fun k => laid_4 w 0 k _ z (by show 7248 ≤ 7248 + (z.val - 7248); omega)
        (by show 7248 + (z.val - 7248) < 7264; omega) (by show z.val = 7248 + (7248 + (z.val - 7248) - 7248); omega))

/-! ## The result -/

theorem result_17 (c : Dev nD) : Pipeline.afterTail₀ cfgs (dats m) 0 (V0 m) [hostOps1] c main_v17
    = proj (m ((c : Thread nD τ).loc main_arg0)) (m ((c : Thread nD τ).loc main_arg1)) (m ((c : Thread nD τ).loc main_arg2)) (m ((c : Thread nD τ).loc main_arg3)) := by
  unfold Pipeline.afterTail₀ hostOps1
  after_results_simp
  have e := Pipeline.Dat.withArrays_arrAt (dats m 0 c) sharedIn0 (V0 m c) (A_eq m c) 5
  refine (congrArg (fun a => back a) (e.trans (left_5 m c))).trans ?_
  exact back_rows _ _ _ _

/-- The kernel's program ends with the projection, and leaves its arguments. -/
theorem run_value (ρ : Dev nD → PrngReg) : θ_run (defs (F := Ideal)) (onTc (τ := τ) (main (F := Ideal))) ⟨m, fun _ => 0, ρ⟩ (fun r => ∀ c : Dev nD,
    r.2.mem ((c.tc : Thread nD τ).loc main_v17)
      = proj (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)) :=
  (θ_run defs _ _).mono
    (fun r h c => ⟨((h.1 c).2 main_v17 (Pipeline.mem_restRefs_of main_v17 (by decide) (by decide))).trans (result_17 m c),
      h.2 c⟩)
    (θ_run_and (run_main (F := Ideal) m ρ) (unchanged (F := Ideal) m ρ))

end Cert.Kernel7Ideal.Hand

namespace Cert.Reference7Ideal.Hand

open Cert.Reference7Ideal
open Idealize.ShloMosaic Idealize.ShloMosaic.TcCoe Idealize.ShloMosaic.Tactic Idealize.ShloMosaic.ValueIdx
open Cert.Norm (Mod Gain)
open Cert.Sample

/-- The reference's product is the projection. -/
theorem ref_proj (x : Act) (mod : Mod) (g : Gain) (w : S2x2048x7264.Idx → EReal) : Read.val_main_v31 (F := Ideal) x mod g w = Cert.Kernel7Ideal.Hand.proj x mod g w := by
  funext j
  rw [Read.val_main_v31_apply]
  unfold Cert.Kernel7Ideal.Hand.proj
  refine Finset.sum_congr rfl fun k _ => congrArg₂ (· * ·) ?_ ?_
  · refine Eq.trans (congrArg _ (funext fun a => ?_)) (ref_normed7 x mod g (j 0) (j 1) k)
    match a with
    | ⟨0, _⟩ => rfl
    | ⟨1, _⟩ => rfl
    | ⟨2, _⟩ => rfl
  · have h2 : (j 2).val < 7264 := (j 2).isLt
    rw [Read.val_main_v30_apply, Read.val_main_v29_apply]
    congr 1
    funext a
    apply Fin.ext
    match a with
    | ⟨0, _⟩ => rfl
    | ⟨1, _⟩ => show (k.val * 7264 + (j 2).val) / 7264 % 2048 = k.val; omega
    | ⟨2, _⟩ => show (k.val * 7264 + (j 2).val) % 7264 = (j 2).val; omega

/-- The reference's arguments are unchanged and every counter is back at zero. -/
theorem run_main (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => (h c).2, sem_eq_zero_of_no_sems (by decide) r.2⟩) (Value.run m ρ)

end Cert.Reference7Ideal.Hand

namespace Cert.Kernel8Ideal.Hand

open Cert.Kernel8Ideal Cert.Kernel8Ideal.Gen
open Idealize.ShloMosaic Idealize.ShloMosaic.TcCoe Idealize.ShloMosaic.Tactic Idealize.ShloMosaic.ValueIdx
open Cert.Norm (rms)
open Cert.Sample

/-- Every row over its root mean square, times the gain. -/
def scaled (x : Act) (g : S2048.Idx → EReal) : S128x8x2048.Idx → EReal := fun i =>
  x (ix3 (i 0) (i 1) (i 2)) * rms (fun j => x (ix3 (i 0) (i 1) j)) * g (ix1 (i 2))

/-- The body's tile, entry by entry. -/
theorem pay_apply (x : Vec Ideal S64x8x2048 .f32) (g : Vec Ideal S1x1x2048 .f32) (a : Fin 64) (r : Fin 8) (k : Fin 2048) :
    (k0_pay1 (F := Ideal) x g (ix3 a r k) : EReal) = x (ix3 a r k) * rms (fun j => x (ix3 a r j)) * g (ix3 0 0 k) := by
  unfold k0_pay1
  simp only [shapeCast_self]
  refine congrArg₂ (· * ·) (congrArg (x (ix3 a r k) * ·) ((across_apply _ a r k).trans ?_)) (spread_apply g a r k)
  exact congrArg (fun q => FloatOps.rsqrt (F := Ideal) (φ := .f32) (FloatOps.divf (F := Ideal) (φ := .f32) q (Ideal.ofBits .f32 0x45000000#32) + Ideal.ofBits .f32 0x358637BD#32))
    (sumsq_apply (mulf (F := Ideal) (φ := .f32) x x) a r)

/-- Every window's block index at every point. -/
theorem index_at : ∀ t : Fin cfg0.N,
    win0_0.index t = ![(grid0.coords t 0).val, 0, 0] ∧ win0_1.index t = ![0, 0, 0] ∧ win0_2.index t = ![(grid0.coords t 0).val, 0, 0] :=
  (by decide +kernel : ∀ t : Fin grid0.N, _)

variable (m : (ℓ : Loc nD τ sig) → Buf (Elt Ideal) ℓ)

theorem V_v0 (c : Dev nD) : V m c main_v0 = shapeCast S1x1x2048 (m ((c : Thread nD τ).loc main_arg1)) shapeCasts_S2048_S1x1x2048 := by
  unfold V hostOps0
  after_results_simp
  rfl

theorem gain_at (g : Vec Ideal S2048 .f32) (k : Fin 2048) : shapeCast S1x1x2048 g shapeCasts_S2048_S1x1x2048 (ix3 0 0 k) = g (ix1 k) :=
  shapeCast_apply g _ _ _ (by rw [Shape.rowMajor_val_one, Shape.rowMajor_val_three]; show k.val = (0 * 1 + 0) * 2048 + k.val; omega)

section blocks
variable (c : Dev nD) (t : Fin cfg0.N)

theorem x_at (b : Fin 128) (a : Fin 64) (r : Fin 8) (k : Fin 2048) (hb : b.val = 64 * (grid0.coords t 0).val + a.val) :
    iblk m c 0 t (ix3 a r k) = m ((c : Thread nD τ).loc main_arg0) (ix3 b r k) := by
  rw [← V_main_arg0 m c]
  unfold iblk
  blk_simp
  congr 1
  funext d
  apply Fin.ext
  obtain ⟨h0, h1, h2⟩ := index_at t
  blk_simp [h0]
  match d with
  | ⟨0, _⟩ => show (grid0.coords t 0).val * 64 + a.val = b.val; omega
  | ⟨1, _⟩ => show 0 * 8 + r.val = r.val; omega
  | ⟨2, _⟩ => show 0 * 2048 + k.val = k.val; omega

theorem g_at (k : Fin 2048) : iblk m c 1 t (ix3 0 0 k) = m ((c : Thread nD τ).loc main_arg1) (ix1 k) := by
  refine Eq.trans ?_ (gain_at _ k)
  rw [← V_v0 m c]
  unfold iblk
  blk_simp
  congr 1
  funext a
  apply Fin.ext
  obtain ⟨h0, h1, h2⟩ := index_at t
  blk_simp [h1]
  match a with
  | ⟨0, _⟩ => rfl
  | ⟨1, _⟩ => rfl
  | ⟨2, _⟩ => show 0 * 2048 + k.val = k.val; omega

/-- The tile at a point: its rows of the result. -/
theorem point (a : Fin 64) (r : Fin 8) (k : Fin 2048) (i : S128x8x2048.Idx) (h0 : (i 0).val = 64 * (grid0.coords t 0).val + a.val)
    (h1 : (i 1).val = r.val) (h2 : (i 2).val = k.val) :
    (k0_pay1 (F := Ideal) (iblk m c 0 t) (iblk m c 1 t) (ix3 a r k) : EReal)
      = scaled (m ((c : Thread nD τ).loc main_arg0)) (m ((c : Thread nD τ).loc main_arg1)) i := by
  obtain ⟨b, p, z, rfl⟩ : ∃ (b : Fin 128) (p : Fin 8) (z : Fin 2048), i = ix3 b p z := ⟨i 0, i 1, i 2, eq_ix3 i⟩
  obtain rfl : z = k := Fin.ext h2
  obtain rfl : p = r := Fin.ext h1
  rw [pay_apply, funext fun j => x_at m c t b a p j h0, x_at m c t b a p z h0, g_at]
  rfl
end blocks

/-- The array the run leaves. -/
theorem left_2 (c : Dev nD) : (dats m 0 c).arrAt 2 cfg0.N
    = scaled (m ((c : Thread nD τ).loc main_arg0)) (m ((c : Thread nD τ).loc main_arg1)) := by
  refine (dats m 0 c).arrAt_eq_of_covers 2 _ (by decide +kernel) fun t hf y => ?_
  blk_simp
  rw [after0_2]
  unfold out0_2
  obtain ⟨-, -, h2⟩ := index_at t
  rw [View.canon_unit_zero (by decide), View.ld_unit_zero (by decide), View.ld_unit_zero (by decide)]
  refine Eq.trans (congrArg _ (eq_ix3 y)) (point m c t (y 0) (y 1) (y 2) _ ?_ ?_ ?_)
  · blk_simp [h2]; show (grid0.coords t 0).val * 64 + (y 0).val = _; omega
  · blk_simp [h2]
  · blk_simp [h2]

/-- The kernel's program ends with the scaled rows, and leaves its arguments. -/
theorem run_value (ρ : Dev nD → PrngReg) : θ_run (defs (F := Ideal)) (onTc (τ := τ) (main (F := Ideal))) ⟨m, fun _ => 0, ρ⟩ (fun r => ∀ c : Dev nD,
    r.2.mem ((c.tc : Thread nD τ).loc main_v1)
      = scaled (m ((c.tc : Thread nD τ).loc main_arg0)) (m ((c.tc : Thread nD τ).loc main_arg1))
    ∧ r.2.mem ((c.tc : Thread nD τ).loc main_arg0) = m ((c.tc : Thread nD τ).loc main_arg0)
    ∧ r.2.mem ((c.tc : Thread nD τ).loc main_arg1) = m ((c.tc : Thread nD τ).loc main_arg1)) :=
  (θ_run defs _ _).mono (fun r h c => ⟨(h c).1.trans (left_2 m c), (h c).2⟩) (Value.run_blocks (F := Ideal) m ρ)

end Cert.Kernel8Ideal.Hand

namespace Cert.Reference8Ideal.Hand

open Cert.Reference8Ideal Cert.Reference8Ideal.Read
open Idealize.ShloMosaic Idealize.ShloMosaic.TcCoe Idealize.ShloMosaic.Tactic Idealize.ShloMosaic.ValueIdx
open Cert.Norm (rms)
open Cert.Sample

/-- The reference's one over root mean square. -/
theorem ref_rms (x0 : Act) (b : Fin 128) (p : Fin 8) : (val_main_v7 (F := Ideal) x0 (ix3 b p 0) : EReal) = rms fun j => x0 (ix3 b p j) := by
  rw [val_main_v7_apply, val_main_v6_apply, val_main_v4_apply, val_main_v2_apply, val_main_v1_apply, val_main_cst_apply, val_main_v3_apply,
    val_main_cst_0_apply, val_main_v5_apply, val_main_cst_1_apply]
  refine congrArg (fun q => FloatOps.rsqrt (F := Ideal) (φ := .f32) (FloatOps.divf (F := Ideal) (φ := .f32) q (Ideal.ofBits .f32 0x45000000#32) + Ideal.ofBits .f32 0x358637BD#32)) ?_
  refine (congrArg (· + _) Ideal.ofBits_zero_f32).trans ((zero_add _).trans (Finset.sum_congr rfl fun j _ => ?_))
  have e : idx_main_v1 (idx_main_v2 (ix3 b p 0)) j = ix3 b p j := funext fun a => match a with
    | ⟨0, _⟩ => rfl
    | ⟨1, _⟩ => rfl
    | ⟨2, _⟩ => rfl
  rw [val_main_v0_apply, e]
  rfl

/-- The reference's result is the scaled rows. -/
theorem ref_scaled (x : Act) (g : S2048.Idx → EReal) : val_main_v12 (F := Ideal) x g = Cert.Kernel8Ideal.Hand.scaled x g := by
  funext i
  obtain ⟨b, p, k, rfl⟩ : ∃ (b : Fin 128) (p : Fin 8) (k : Fin 2048), i = ix3 b p k := ⟨i 0, i 1, i 2, eq_ix3 i⟩
  rw [val_main_v12_apply, val_main_v9_apply, val_main_v8_apply, val_main_v11_apply, val_main_v10_apply]
  have e1 : idx_main_v8 (ix3 b p k) = ix3 b p 0 := funext fun a => match a with
    | ⟨0, _⟩ => rfl
    | ⟨1, _⟩ => rfl
    | ⟨2, _⟩ => rfl
  have e2 : idx_main_v10 (idx_main_v11 (ix3 b p k)) = ix1 k := funext fun a => match a with
    | ⟨0, _⟩ => rfl
  rw [e1, e2, ref_rms]
  rfl

/-- The reference's arguments are unchanged and every counter is back at zero. -/
theorem run_main (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) r.2⟩) (Value.run m ρ)

end Cert.Reference8Ideal.Hand

end
-- ==== Proof.Decay.lean ====
/- The gated linear attention's decay: its log-sigmoid, its running sum over a chunk's eight positions, and the gate weights set into a block of zeros. -/
module

public import proofs.«01_k».proof.Proof.Norm
public import proofs.«01_k».proof.Proof.Gen.Reference9Ideal.Read
public import Idealize.ShloMosaic.Lib.Pipeline.ValueKit.Geometry
public import Idealize.ShloMosaic.Lib.Pipeline.ValueKit.Acc

@[expose] public section

set_option maxRecDepth 16384

noncomputable section

namespace Cert.Gated

open Idealize.ShloMosaic Idealize.ShloMosaic.TcCoe Idealize.ShloMosaic.ValueIdx

/-- The log of the sigmoid, as the kernel takes it. -/
def logSigmoid (z : EReal) : EReal := min z 0 - Ideal.log (1 + Ideal.exp (0 - max z (-z)))

/-- What the log-sigmoid takes off. -/
theorem exp_pos_real (r : ℝ) : Ideal.log (1 + Ideal.exp (r : EReal)) = ((Real.log (1 + Real.exp r) : ℝ) : EReal) := by
  have h : (1 : EReal) + Ideal.exp (r : EReal) = ((1 + Real.exp r : ℝ) : EReal) := by
    show (1 : EReal) + ((Real.exp r : ℝ) : EReal) = _
    push_cast
    rfl
  rw [h]
  show (if 1 + Real.exp r ≤ 0 then ⊥ else ((Real.log (1 + Real.exp r) : ℝ) : EReal)) = _
  rw [if_neg (not_le.2 (by positivity))]

/-- It is the negation of the reference's softplus of `-z`. -/
theorem logSigmoid_eq (z : EReal) :
    logSigmoid z = -(max (-z) 0 + Ideal.log1p (Ideal.exp (-(max (-z - 0) (-(-z - 0)))))) := by
  unfold logSigmoid Ideal.log1p
  rw [sub_zero, neg_neg, max_comm (-z) z, zero_sub]
  have hm : min z 0 = -max (-z) 0 := by
    rw [← neg_zero (G := EReal), EReal.max_neg_neg]
    simp
  rw [hm]
  have hb : Ideal.log (1 + Ideal.exp (-max z (-z))) ≠ ⊥ ∧ Ideal.log (1 + Ideal.exp (-max z (-z))) ≠ ⊤ := by
    induction z using EReal.rec with
    | bot =>
      have : (1 : EReal) + Ideal.exp (-max ⊥ (-⊥)) = ((1 : ℝ) : EReal) := by
        have e : -max (⊥ : EReal) (-⊥) = ⊥ := by simp
        rw [e]
        show (1 : EReal) + 0 = _
        simp
      rw [this]
      show (if (1 : ℝ) ≤ 0 then ⊥ else ((Real.log 1 : ℝ) : EReal)) ≠ ⊥ ∧ (if (1 : ℝ) ≤ 0 then ⊥ else ((Real.log 1 : ℝ) : EReal)) ≠ ⊤
      norm_num
    | top =>
      have : (1 : EReal) + Ideal.exp (-max ⊤ (-⊤)) = ((1 : ℝ) : EReal) := by
        have e : -max (⊤ : EReal) (-⊤) = ⊥ := by simp
        rw [e]
        show (1 : EReal) + 0 = _
        simp
      rw [this]
      show (if (1 : ℝ) ≤ 0 then ⊥ else ((Real.log 1 : ℝ) : EReal)) ≠ ⊥ ∧ (if (1 : ℝ) ≤ 0 then ⊥ else ((Real.log 1 : ℝ) : EReal)) ≠ ⊤
      norm_num
    | coe r =>
      have : -max (r : EReal) (-(r : EReal)) = ((-max r (-r) : ℝ) : EReal) := by
        rw [EReal.coe_neg, EReal.coe_strictMono.monotone.map_max, EReal.coe_neg]
      rw [this, exp_pos_real]
      exact ⟨EReal.coe_ne_bot _, EReal.coe_ne_top _⟩
  rw [EReal.neg_add (.inr hb.2) (.inr hb.1)]

/-- A sixteenth. -/
theorem sixteenth (x : EReal) : x * Ideal.ofBits .f32 0x3D800000#32 = Ideal.div x (Ideal.ofBits .f32 0x41800000#32) := by
  have h1 : Ideal.ofBits .f32 0x3D800000#32 = ((1 / 16 : ℝ) : EReal) := by
    simp [Ideal.ofBits, Ideal.ieee]
    rw [← EReal.coe_mul]
    norm_num
  have h2 : Ideal.ofBits .f32 0x41800000#32 = ((16 : ℝ) : EReal) := by
    simp [Ideal.ofBits, Ideal.ieee]
    rw [← EReal.coe_mul]
    norm_num
  rw [h1, h2]
  unfold Ideal.div
  rw [if_neg (by norm_num), ← EReal.coe_inv]
  norm_num

theorem foldl_add (n : Nat) (g : Fin n → EReal) (v : EReal) : (List.finRange n).foldl (fun r i => r + g i) v = v + ∑ i, g i := by
  rw [Fin.sum_univ_def]
  generalize List.finRange n = l
  induction l generalizing v with
  | nil => simp
  | cons a l ih => rw [List.foldl_cons, ih, List.map_cons, List.sum_cons, add_assoc]

/-- A window of eight that ends at position `p`, its positions before the first read as zero. -/
theorem window_sum (f : Fin 8 → EReal) (p : Fin 8) (g : Fin 8 → EReal)
    (hg : ∀ w : Fin 8, g w = if h : 7 ≤ p.val + w.val ∧ p.val + w.val - 7 < 8 then f ⟨p.val + w.val - 7, h.2⟩ else 0) :
    ∑ w, g w = ∑ q : Fin 8, if q.val ≤ p.val then f q else 0 := by
  rw [Finset.sum_congr rfl fun w _ => hg w]
  fin_cases p <;> simp [Fin.sum_univ_eight]

section reference
open Cert.Reference9Ideal Cert.Reference9Ideal.Gen Cert.Reference9Ideal.Read

/-- A running sum along the third axis, as the reference's window prints. -/
theorem cumsum_apply (x : S128x4x8x128.Idx → EReal) (v : S_.Idx → EReal) (hv : ∀ i, v i = 0) (b : Fin 128) (h : Fin 4) (p : Fin 8) (d : Fin 128) :
    (Host.reduceWindowAdd (F := Ideal) (φ := .f32) ![1, 1, 8, 1] ![1, 1, 1, 1] ![0, 0, 7, 0] ![0, 0, 0, 0] x v
      reduceWindows_S128x4x8x128_S128x4x8x128_w1s1p0_0_w1s1p0_0_w8s1p7_0_w1s1p0_0 h_S_ (ix4 b h p d) : EReal)
      = ∑ q : Fin 8, if q.val ≤ p.val then x (ix4 b h q d) else 0 := by
  unfold Host.reduceWindowAdd
  rw [Ideal.hostReduceWindowAdd_def]
  unfold Ideal.hostReduceWindowAdd Host.reduceWindow
  rw [hv]
  dsimp only
  rw [foldl_add, zero_add]
  rw [← Equiv.sum_comp (Shape.rowMajor ⟨4, ![1, 1, 8, 1]⟩)]
  simp only [Equiv.symm_apply_apply]
  let e : Fin 8 ≃ (⟨4, ![1, 1, 8, 1]⟩ : Shape).Idx := {
    toFun := fun q => ix4 (0 : Fin 1) (0 : Fin 1) q (0 : Fin 1)
    invFun := fun w => w 2
    left_inv := fun _ => rfl
    right_inv := fun w => funext fun a => match a with
      | ⟨0, _⟩ => Subsingleton.elim (α := Fin 1) _ _
      | ⟨1, _⟩ => Subsingleton.elim (α := Fin 1) _ _
      | ⟨2, _⟩ => rfl
      | ⟨3, _⟩ => Subsingleton.elim (α := Fin 1) _ _ }
  rw [← Equiv.sum_comp e]
  refine window_sum (fun q => x (ix4 b h q d)) p _ fun w => ?_
  by_cases hw : 7 ≤ p.val + w.val ∧ p.val + w.val - 7 < 8
  · rw [dif_pos hw, dif_pos]
    · congr 1
      funext a
      apply Fin.ext
      match a with
      | ⟨0, _⟩ => show b.val * 1 + 0 - 0 = b.val; omega
      | ⟨1, _⟩ => show h.val * 1 + 0 - 0 = h.val; omega
      | ⟨2, _⟩ => show p.val * 1 + w.val - 7 = p.val + w.val - 7; omega
      | ⟨3, _⟩ => show d.val * 1 + 0 - 0 = d.val; omega
    · intro a
      match a with
      | ⟨0, _⟩ => show 0 ≤ b.val * 1 + 0 ∧ b.val * 1 + 0 - 0 < 128; omega
      | ⟨1, _⟩ => show 0 ≤ h.val * 1 + 0 ∧ h.val * 1 + 0 - 0 < 4; omega
      | ⟨2, _⟩ => show 7 ≤ p.val * 1 + w.val ∧ p.val * 1 + w.val - 7 < 8; omega
      | ⟨3, _⟩ => show 0 ≤ d.val * 1 + 0 ∧ d.val * 1 + 0 - 0 < 128; omega
  · rw [dif_neg hw, dif_neg]
    intro q
    have q2 : 7 ≤ p.val * 1 + w.val ∧ p.val * 1 + w.val - 7 < 8 := q 2
    omega

/-- The log-decay of a position, in the reference's terms. -/
def gate (x : S128x8x7264.Idx → EReal) (w : S2x16x512.Idx → EReal) (a : S2x512.Idx → EReal) (b : Fin 128) (q : Fin 8) (y : Fin 512) : EReal :=
  (∑ j : Fin 16, x (ix3 b q ⟨3072 + j.val, by omega⟩) * w (ix3 0 j y)) + a (ix2 0 y)

/-- The running sum of log-decays. -/
def cum (x : S128x8x7264.Idx → EReal) (w : S2x16x512.Idx → EReal) (a : S2x512.Idx → EReal) (b : Fin 128) (p : Fin 8) (y : Fin 512) : EReal :=
  ∑ q : Fin 8, if q.val ≤ p.val then logSigmoid (gate x w a b q y) * Ideal.ofBits .f32 0x3D800000#32 else 0

/-- A layer's states after the chunk. -/
def states (x : S128x8x7264.Idx → EReal) (s : S2x128x4x128x256.Idx → EReal) (w : S2x16x512.Idx → EReal) (a : S2x512.Idx → EReal)
    (b : Fin 128) (h : Fin 4) (d : Fin 128) (e : Fin 256) : EReal :=
  s (ix5 0 b h d e) * Ideal.exp (cum x w a b 7 ⟨128 * h.val + d.val, by omega⟩)
    + ∑ c : Fin 8, (x (ix3 b c ⟨512 + (128 * h.val + d.val), by omega⟩)
        * Ideal.exp (cum x w a b 7 ⟨128 * h.val + d.val, by omega⟩ - cum x w a b c ⟨128 * h.val + d.val, by omega⟩))
      * x (ix3 b c ⟨1024 + (256 * h.val + e.val), by omega⟩)

theorem gate_apply (x : S128x8x7264.Idx → EReal) (w : S2x16x512.Idx → EReal) (a : S2x512.Idx → EReal) (b : Fin 128) (q : Fin 8) (y : Fin 512) :
    (val_main_v16 (F := Ideal) x w a (ix3 b q y) : EReal) = gate x w a b q y := by
  rw [val_main_v16_apply, val_main_v11_apply, val_main_v15_apply, val_main_v14_apply, val_main_v13_apply, val_main_v12_apply]
  refine congrArg₂ (· + ·) (Finset.sum_congr rfl fun j _ => ?_) (congrArg a ?_)
  · rw [val_main_v8_apply, val_main_v10_apply, val_main_v9_apply]
    refine congrArg₂ (· * ·) (congrArg x (funext fun d => Fin.ext ?_)) (congrArg w (funext fun d => Fin.ext ?_))
    · match d with
      | ⟨0, _⟩ => rfl
      | ⟨1, _⟩ => rfl
      | ⟨2, _⟩ => rfl
    · match d with
      | ⟨0, _⟩ => rfl
      | ⟨1, _⟩ => show (j.val * 512 + y.val) / 512 % 16 = j.val; omega
      | ⟨2, _⟩ => show (j.val * 512 + y.val) % 512 = y.val; omega
  · funext d
    apply Fin.ext
    match d with
    | ⟨0, _⟩ => rfl
    | ⟨1, _⟩ => show y.val % 512 = y.val; omega

theorem log_apply (x : S128x8x7264.Idx → EReal) (w : S2x16x512.Idx → EReal) (a : S2x512.Idx → EReal) (b : Fin 128) (h : Fin 4) (q : Fin 8) (d : Fin 128) :
    (val_main_v21 (F := Ideal) x w a (ix4 b h q d) : EReal)
      = logSigmoid (gate x w a b q ⟨128 * h.val + d.val, by omega⟩) * Ideal.ofBits .f32 0x3D800000#32 := by
  rw [← gate_apply, logSigmoid_eq, sixteenth]
  rw [val_main_v21_apply, val_main_v20_apply, val_main_v18_apply, val_main_v19_apply, val_main_cst_apply, val_main_call0_v1_apply,
    val_main_call0_call0_v4_apply]
  have e : idx_main_v17 (idx_main_v21 (ix4 b h q d)) = ix3 b q ⟨128 * h.val + d.val, by omega⟩ := funext fun z => Fin.ext (by
    match z with
    | ⟨0, _⟩ => show (((b.val * 8 + q.val) * 4 + h.val) * 128 + d.val) / 4096 = b.val; omega
    | ⟨1, _⟩ => show (((b.val * 8 + q.val) * 4 + h.val) * 128 + d.val) / 512 % 8 = q.val; omega
    | ⟨2, _⟩ => show (((b.val * 8 + q.val) * 4 + h.val) * 128 + d.val) % 512 = 128 * h.val + d.val; omega)
  rw [← e, ← val_main_v17_apply]
  generalize hi : idx_main_v21 (ix4 b h q d) = i
  rw [val_main_call0_call0_v11_apply, val_main_call0_call0_v1_apply, val_main_call0_call0_v10_apply, val_main_call0_call0_v9_apply, val_main_call0_call0_v8_apply,
    val_main_call0_call0_v7_apply, val_main_call0_call0_v3_apply, val_main_call0_v0_apply, val_main_call0_call0_v0_apply, val_main_call0_call0_v2_apply,
    val_main_call0_call0_cst_apply]
  generalize (val_main_call0_call0_v6 (F := Ideal) x w a i : EReal) = u
  generalize (val_main_v17 (F := Ideal) x w a i : EReal) = z
  rw [show (FloatOps.ofBits (F := Ideal) .f32 0x00000000#32 : EReal) = 0 from Ideal.ofBits_zero_f32]
  have hc : Ideal.cmp .une (-z - 0) (-z - 0) = 0#1 := by
    simp [Ideal.cmp]
  show Ideal.div (-(Scalar.select (Ideal.cmp .une (-z - 0) (-z - 0)) u (max (-z) 0 + Ideal.log1p (Ideal.exp (-(max (-z - 0) (-(-z - 0)))))))) (Ideal.ofBits .f32 0x41800000#32) = _
  rw [hc]
  rfl

theorem cum_apply (x : S128x8x7264.Idx → EReal) (w : S2x16x512.Idx → EReal) (a : S2x512.Idx → EReal) (b : Fin 128) (h : Fin 4) (p : Fin 8) (d : Fin 128) :
    (val_main_v22 (F := Ideal) x w a (ix4 b h p d) : EReal) = cum x w a b p ⟨128 * h.val + d.val, by omega⟩ := by
  unfold val_main_v22
  refine (cumsum_apply _ _ (fun i => ?_) b h p d).trans (Finset.sum_congr rfl fun q _ => if_congr Iff.rfl (log_apply x w a b h q d) rfl)
  rw [val_main_call1_call0_v0_apply]
  exact Ideal.ofBits_zero_f32

/-- The reference's result is the states after the chunk. -/
theorem ref_states (x : S128x8x7264.Idx → EReal) (s : S2x128x4x128x256.Idx → EReal) (w : S2x16x512.Idx → EReal) (a : S2x512.Idx → EReal)
    (b : Fin 128) (h : Fin 4) (d : Fin 128) (e : Fin 256) :
    (val_main_v34 (F := Ideal) x s w a (ix4 b h d e) : EReal) = states x s w a b h d e := by
  have hl : ∀ d : Fin 128, (val_main_v23 (F := Ideal) x w a (ix4 b h 0 d) : EReal) = cum x w a b 7 ⟨128 * h.val + d.val, by omega⟩ := fun d => by
    rw [← cum_apply, val_main_v23_apply]
    refine congrArg _ (funext fun z => ?_)
    match z with
    | ⟨0, _⟩ => rfl
    | ⟨1, _⟩ => rfl
    | ⟨2, _⟩ => rfl
    | ⟨3, _⟩ => rfl
  rw [val_main_v34_apply, val_main_v28_apply, val_main_v33_apply, val_main_v7_apply, val_main_v6_apply, val_main_v27_apply, val_main_v26_apply,
    val_main_v25_apply, val_main_v24_apply]
  unfold states
  refine congrArg₂ (· + ·) (congrArg₂ (· * ·) (congrArg s (funext fun z => Fin.ext ?_)) (congrArg Ideal.exp (Eq.trans (congrArg _ (funext fun z => Fin.ext ?_)) (hl d))))
    (Finset.sum_congr rfl fun c _ => ?_)
  · match z with
    | ⟨0, _⟩ => rfl
    | ⟨1, _⟩ => show (((b.val * 4 + h.val) * 128 + d.val) * 256 + e.val) / 131072 % 128 = b.val; omega
    | ⟨2, _⟩ => show (((b.val * 4 + h.val) * 128 + d.val) * 256 + e.val) / 32768 % 4 = h.val; omega
    | ⟨3, _⟩ => show (((b.val * 4 + h.val) * 128 + d.val) * 256 + e.val) / 256 % 128 = d.val; omega
    | ⟨4, _⟩ => show (((b.val * 4 + h.val) * 128 + d.val) * 256 + e.val) % 256 = e.val; omega
  · match z with
    | ⟨0, _⟩ => show ((b.val * 4 + h.val) * 128 + d.val) / 512 = b.val; omega
    | ⟨1, _⟩ => show ((b.val * 4 + h.val) * 128 + d.val) / 128 % 4 = h.val; omega
    | ⟨2, _⟩ => rfl
    | ⟨3, _⟩ => show ((b.val * 4 + h.val) * 128 + d.val) % 128 = d.val; omega
  have el : lidx_main_v33 (ix4 b h d e) c = ix4 b h c d := funext fun z => match z with
    | ⟨0, _⟩ => rfl
    | ⟨1, _⟩ => rfl
    | ⟨2, _⟩ => rfl
    | ⟨3, _⟩ => rfl
  have er : ridx_main_v33 (ix4 b h d e) c = ix4 b h c e := funext fun z => match z with
    | ⟨0, _⟩ => rfl
    | ⟨1, _⟩ => rfl
    | ⟨2, _⟩ => rfl
    | ⟨3, _⟩ => rfl
  have e29 : idx_main_v29 (ix4 b h c d) = ix4 b h 0 d := funext fun z => match z with
    | ⟨0, _⟩ => rfl
    | ⟨1, _⟩ => rfl
    | ⟨2, _⟩ => rfl
    | ⟨3, _⟩ => rfl
  rw [el, er, val_main_v32_apply, val_main_v31_apply, val_main_v30_apply, val_main_v29_apply, e29, hl, cum_apply, val_main_v3_apply, val_main_v2_apply,
    val_main_v0_apply, val_main_v5_apply, val_main_v4_apply, val_main_v1_apply]
  refine congrArg₂ (· * ·) (congrArg (· * _) (congrArg x (funext fun z => Fin.ext ?_))) (congrArg x (funext fun z => Fin.ext ?_))
  · match z with
    | ⟨0, _⟩ => show (((b.val * 8 + c.val) * 4 + h.val) * 128 + d.val) / 4096 = b.val; omega
    | ⟨1, _⟩ => show (((b.val * 8 + c.val) * 4 + h.val) * 128 + d.val) / 512 % 8 = c.val; omega
    | ⟨2, _⟩ => show 512 + (((b.val * 8 + c.val) * 4 + h.val) * 128 + d.val) % 512 = 512 + (128 * h.val + d.val); omega
  · match z with
    | ⟨0, _⟩ => show (((b.val * 8 + c.val) * 4 + h.val) * 256 + e.val) / 8192 = b.val; omega
    | ⟨1, _⟩ => show (((b.val * 8 + c.val) * 4 + h.val) * 256 + e.val) / 1024 % 8 = c.val; omega
    | ⟨2, _⟩ => show 1024 + (((b.val * 8 + c.val) * 4 + h.val) * 256 + e.val) % 1024 = 1024 + (256 * h.val + e.val); omega

end reference

end Cert.Gated

end
-- ==== Proof.Gated.lean ====
/- The sample's gated linear attention: each head's state, scaled by the decay of its chunk of eight positions, plus the chunk's keys against its values. -/
module

public import proofs.«01_k».proof.Proof.Norm
public import proofs.«01_k».proof.Proof.Decay
public import proofs.«01_k».proof.Proof.Gen.Kernel9Ideal.Frame
public import Idealize.ShloMosaic.Lib.WholeRead
public import Idealize.ShloMosaic.Lib.Pipeline.ReadBack
public import Idealize.ShloMosaic.Lib.Pipeline.ValueKit.Geometry
public import Idealize.ShloMosaic.Lib.Pipeline.ValueKit.Acc

@[expose] public section

set_option maxRecDepth 16384

noncomputable section

namespace Cert.Kernel9Ideal.Hand

open Cert.Kernel9Ideal Cert.Kernel9Ideal.Gen
open Idealize.ShloMosaic Idealize.ShloMosaic.TcCoe Idealize.ShloMosaic.Tactic Idealize.ShloMosaic.ValueIdx

/-- The product over a chunk's eight positions, at an entry. -/
theorem over_positions (x : FVec Ideal S8x128 .f32) (v : FVec Ideal S8x256 .f32) (d : Fin 128) (e : Fin 256) :
    (matmul dot_S8x128_S8x256_S128x256_0_0_1_1_n_n none x v (constant S128x256 .f32 0x00000000#32) (ix2 d e) : EReal)
      = ∑ c : Fin 8, x (ix2 c d) * v (ix2 c e) := by
  refine (Ideal.matmul_constant_zero_apply (φ₁ := .f32) (φ₂ := .f32) dot_S8x128_S8x256_S128x256_0_0_1_1_n_n none x v (ix2 d e)).trans ?_
  rw [← Equiv.sum_comp (ValueIdx.contrEquiv1 dot_S8x128_S8x256_S128x256_0_0_1_1_n_n 8 rfl rfl).symm]
  refine Finset.sum_congr rfl fun c _ => ?_
  have hk := ValueIdx.contrEquiv1_symm_val dot_S8x128_S8x256_S128x256_0_0_1_1_n_n 8 rfl rfl c
  refine congrArg₂ (· * ·) (congrArg x (funext fun a => Fin.ext ?_)) (congrArg v (funext fun a => Fin.ext ?_))
  · match a with
    | ⟨0, _⟩ => exact (dot_S8x128_S8x256_S128x256_0_0_1_1_n_n.lhsIdx_val_of_single rfl (ix2 d e) _).trans hk
    | ⟨1, _⟩ =>
      show (dot_S8x128_S8x256_S128x256_0_0_1_1_n_n.lhsIdx (ix2 d e) _ 1).val = d.val
      unfold DotDims.lhsIdx
      rw [dif_neg (show ¬(1 : Fin S8x128.rank) ∈ dot_S8x128_S8x256_S128x256_0_0_1_1_n_n.lhsBatch by decide), dif_pos (show (1 : Fin S8x128.rank) ∈ dot_S8x128_S8x256_S128x256_0_0_1_1_n_n.lhsNonContracting by decide)]
      rfl
  · match a with
    | ⟨0, _⟩ => exact (dot_S8x128_S8x256_S128x256_0_0_1_1_n_n.rhsIdx_val_of_single rfl (ix2 d e) _).trans hk
    | ⟨1, _⟩ =>
      show (dot_S8x128_S8x256_S128x256_0_0_1_1_n_n.rhsIdx (ix2 d e) _ 1).val = e.val
      unfold DotDims.rhsIdx
      rw [dif_neg (show ¬(1 : Fin S8x256.rank) ∈ dot_S8x128_S8x256_S128x256_0_0_1_1_n_n.rhsBatch by decide), dif_pos (show (1 : Fin S8x256.rank) ∈ dot_S8x128_S8x256_S128x256_0_0_1_1_n_n.rhsNonContracting by decide)]
      rfl

/-- A row of numbers stood up as a column and spread. -/
theorem column_apply (w : FVec Ideal S1x128 .f32) (d : Fin 128) (e : Fin 256) :
    broadcastTo S128x256 (extractStridedSlice S128x1 ![0, 0] (transpose S128x128 [1, 0]
      (broadcastTo S128x128 (shapeCast S1x128 w shapeCasts_S1x128_S1x128) broadcasts_S1x128_S128x128) transposes_S128x128_p1_0_S128x128)
      slices_S128x128_o0_0_S128x1) broadcasts_S128x1_S128x256 (ix2 d e) = w (ix2 0 d) := by
  rw [shapeCast_self]
  refine (broadcastTo_apply _ broadcasts_S128x1_S128x256 (ix2 d e) (ix2 d (0 : Fin 1)) fun a => match a with
    | ⟨0, _⟩ => rfl
    | ⟨1, _⟩ => rfl).trans ?_
  refine (extractStridedSlice_apply ![0, 0] _ slices_S128x128_o0_0_S128x1 (ix2 d 0) (ix2 d 0) fun a => match a with
    | ⟨0, _⟩ => (Nat.zero_add _).symm
    | ⟨1, _⟩ => rfl).trans ?_
  refine (transpose_apply [1, 0] _ transposes_S128x128_p1_0_S128x128 (ix2 d 0) (ix2 0 d) fun a => match a with
    | ⟨0, _⟩ => rfl
    | ⟨1, _⟩ => rfl).trans ?_
  exact broadcastTo_apply _ _ (ix2 0 d) (ix2 0 d) fun a => match a with
    | ⟨0, _⟩ => rfl
    | ⟨1, _⟩ => rfl

/-- A head's new state. -/
theorem slab_apply (k : FVec Ideal S8x128 .f32) (v : FVec Ideal S8x256 .f32) (b : FVec Ideal S8x128 .f32) (s : FVec Ideal S128x256 .f32)
    (d : Fin 128) (e : Fin 256) :
    (k0_pay31 (F := Ideal) k v b s (ix3 0 d e) : EReal)
      = s (ix2 d e) * Ideal.exp (b (ix2 7 d)) + ∑ c : Fin 8, (k (ix2 c d) * Ideal.exp (b (ix2 7 d) - b (ix2 c d))) * v (ix2 c e) := by
  have h7 : ∀ d : Fin 128, extractStridedSlice S1x128 ![7, 0] b slices_S8x128_o7_0_S1x128 (ix2 0 d) = b (ix2 7 d) := fun d =>
    extractStridedSlice_apply ![7, 0] b slices_S8x128_o7_0_S1x128 (ix2 0 d) (ix2 7 d) fun a => match a with
    | ⟨0, _⟩ => rfl
    | ⟨1, _⟩ => (Nat.zero_add _).symm
  unfold k0_pay31
  refine (shapeCast_apply _ shapeCasts_S128x256_S1x128x256 (ix3 0 d e) (ix2 d e) ?_).trans ?_
  · rw [Shape.rowMajor_val_two, Shape.rowMajor_val_three]
    show d.val * 256 + e.val = (0 * 128 + d.val) * 256 + e.val
    omega
  refine congrArg₂ (· + ·) (congrArg (s (ix2 d e) * ·) ((column_apply _ d e).trans (congrArg Ideal.exp (h7 d)))) ?_
  refine (over_positions _ _ d e).trans (Finset.sum_congr rfl fun c _ => congrArg (· * v (ix2 c e)) (congrArg (k (ix2 c d) * ·) (congrArg Ideal.exp ?_)))
  refine congrArg (· - b (ix2 c d)) (Eq.trans ?_ (h7 d))
  exact broadcastTo_apply _ _ (ix2 c d) (ix2 0 d) fun a => match a with
    | ⟨0, _⟩ => rfl
    | ⟨1, _⟩ => rfl

/-- The chunk's running sum of log-decays: a product with the ones on and under the diagonal. -/
theorem bcum_apply (x : Vec Ideal S1x8x128 .f32) (w : Vec Ideal S128x512 .f32) (a : Vec Ideal S1x512 .f32) (p : Fin 8) (y : Fin 512) :
    (k0_pay4 (F := Ideal) x w a (ix2 p y) : EReal)
      = ∑ q : Fin 8, if q.val ≤ p.val then
          (min ((∑ j : Fin 128, x (ix3 0 q j) * w (ix2 j y)) + a (ix2 0 y)) 0
            - Ideal.log (1 + Ideal.exp (0 - max ((∑ j : Fin 128, x (ix3 0 q j) * w (ix2 j y)) + a (ix2 0 y)) (-((∑ j : Fin 128, x (ix3 0 q j) * w (ix2 j y)) + a (ix2 0 y))))))
            * Ideal.ofBits .f32 0x3D800000#32
        else 0 := by
  have hz : ∀ q : Fin 8, (addf (F := Ideal) (φ := .f32) (matmul (F := Ideal) (φ₁ := .f32) (φ₂ := .f32) dot_S8x128_S128x512_S8x512_1_0_0_1_n_n (some .fp32)
      (shapeCast S8x128 x shapeCasts_S1x8x128_S8x128) (shapeCast S128x512 w shapeCasts_S128x512_S128x512) (constant S8x512 .f32 0x00000000#32))
      (broadcastTo S8x512 (shapeCast S1x512 a shapeCasts_S1x512_S1x512) broadcasts_S1x512_S8x512) (ix2 q y) : EReal)
      = (∑ j : Fin 128, x (ix3 0 q j) * w (ix2 j y)) + a (ix2 0 y) := by
    intro q
    rw [shapeCast_self, shapeCast_self]
    refine congrArg₂ (· + ·) ?_ (broadcastTo_apply _ _ (ix2 q y) (ix2 0 y) fun a => match a with
      | ⟨0, _⟩ => rfl
      | ⟨1, _⟩ => rfl)
    refine (Ideal.matmul_plain_apply (φ₁ := .f32) (φ₂ := .f32) (some .fp32) _ w _ q y).trans ?_
    refine (congrArg (· + _) Ideal.ofBits_zero_f32).trans ((zero_add _).trans (Finset.sum_congr rfl fun j _ => ?_))
    exact congrArg (· * w (ix2 j y)) (shapeCast_1ab_ab_apply x shapeCasts_S1x8x128_S8x128 q j)
  have ht : ∀ q : Fin 8, (sitofp (F := Ideal) .f32 (extui 32 k0_pay3 natLt_1_32) (ix2 p q) : EReal) = if q.val ≤ p.val then 1 else 0 := by
    intro q
    show (((extui 32 k0_pay3 natLt_1_32 (ix2 p q)).toInt : ℝ) : EReal) = _
    have : extui 32 k0_pay3 natLt_1_32 (ix2 p q) = if q.val ≤ p.val then 1#32 else 0#32 := by
      revert p q
      decide +kernel
    rw [this]
    split <;> simp
  unfold k0_pay4
  refine (Ideal.matmul_plain_apply (φ₁ := .f32) (φ₂ := .f32) (some .fp32) _ _ _ p y).trans ?_
  refine (congrArg (· + _) Ideal.ofBits_zero_f32).trans ((zero_add _).trans (Finset.sum_congr rfl fun q _ => ?_))
  rw [ht q]
  split
  · rw [one_mul]
    refine congrArg (· * Ideal.ofBits .f32 0x3D800000#32) ?_
    rw [← hz q]
    have o : Ideal.ofBits .f32 0x3F800000#32 = 1 := by
      simp [Ideal.ofBits, Ideal.ieee]
      rw [← EReal.coe_mul]
      norm_num
    show min _ (Ideal.ofBits .f32 0x00000000#32) - Ideal.log (Ideal.ofBits .f32 0x3F800000#32 + Ideal.exp (Ideal.ofBits .f32 0x00000000#32 - max _ (-_))) = _
    rw [o, Ideal.ofBits_zero_f32]
  · exact zero_mul _

variable (m : (ℓ : Loc nD τ sig) → Buf (Elt Ideal) ℓ)

/-- A unit-stride load of `x` at offset `off`. -/
abbrev ldU {s : Shape} {e : EltTy} (x : s.Idx → Elt Ideal e) (off size : Fin s.rank → ℕ) (h : ∀ a, off a + size a ≤ s.size a) :
    (Rect.unit off size h).shape.Idx → Elt Ideal e := fun j => x ((Rect.unit off size h).toLoadRect.idx j)

theorem readAt_unread_ldU {sig : RefSig} {κ : Kind} {sp : Space} {s : Shape} {e : EltTy} (m : Memref sig κ sp s e) (hm : m.IsWhole)
    (x : s.Idx → Elt Ideal e) (off size : Fin s.rank → ℕ) (h : ∀ a, off a + size a ≤ s.size a) :
    View.readAt (Elt Ideal) m.view (Rect.unit off size h).toLoadRect (hm.unread x) = ldU x off size h :=
  funext fun j => Memref.IsWhole.readAt_unread hm x _ j

theorem unit_emb_val {s : Shape} (off size : Fin s.rank → ℕ) (h : ∀ a, off a + size a ≤ s.size a) (x : (Rect.unit off size h).shape.Idx)
    (a : Fin s.rank) : ((Rect.unit off size h).emb x a).val = off a + (x a).val := by
  show off a + 1 * (x a).val = _
  omega

/-- The heads' new states. -/
def after (K : S1x8x512.Idx → EReal) (V : S1x8x1024.Idx → EReal) (B : S8x512.Idx → EReal) (S : S1x4x128x256.Idx → EReal) (i : S4x128x256.Idx) : EReal :=
  have h0 : (i 0).val < 4 := (i 0).isLt
  have h1 : (i 1).val < 128 := (i 1).isLt
  have h2 : (i 2).val < 256 := (i 2).isLt
  S (ix4 0 (i 0) (i 1) (i 2)) * Ideal.exp (B (ix2 7 ⟨128 * (i 0).val + (i 1).val, by omega⟩))
    + ∑ c : Fin 8, (K (ix3 0 c ⟨128 * (i 0).val + (i 1).val, by omega⟩)
        * Ideal.exp (B (ix2 7 ⟨128 * (i 0).val + (i 1).val, by omega⟩) - B (ix2 c ⟨128 * (i 0).val + (i 1).val, by omega⟩)))
      * V (ix3 0 c ⟨256 * (i 0).val + (i 2).val, by omega⟩)

theorem ldU_whole {s : Shape} {e : EltTy} (x : s.Idx → Elt Ideal e) (off : Fin s.rank → ℕ) (h : ∀ a, off a + s.size a ≤ s.size a) (h0 : ∀ a, off a = 0) :
    ldU x off s.size h = x :=
  funext fun j => congrArg x (funext fun a => Fin.ext (by show off a + 1 * (j a).val = (j a).val; rw [h0]; omega))

section heads
variable (K : S1x8x512.Idx → EReal) (V : S1x8x1024.Idx → EReal) (B : S8x512.Idx → EReal) (S : S1x4x128x256.Idx → EReal)

theorem k_at (h : Fin 4) (o : ℕ) (ho : o = 128 * h.val) (inb : ∀ a, ![0, 0, o] a + S1x8x128.size a ≤ S1x8x512.size a) (c : Fin 8) (d : Fin 128) :
    shapeCast S8x128 (ldU (e := .f32) K ![0, 0, o] S1x8x128.size inb) shapeCasts_S1x8x128_S8x128 (ix2 c d) = K (ix3 0 c ⟨128 * h.val + d.val, by omega⟩) := by
  subst ho
  refine (shapeCast_1ab_ab_apply (ldU (e := .f32) K ![0, 0, 128 * h.val] S1x8x128.size inb) shapeCasts_S1x8x128_S8x128 c d).trans (congrArg K (funext fun a => Fin.ext ?_))
  match a with
  | ⟨0, _⟩ => rfl
  | ⟨1, _⟩ => show 0 + 1 * c.val = c.val; omega
  | ⟨2, _⟩ => show 128 * h.val + 1 * d.val = 128 * h.val + d.val; omega

theorem v_at (h : Fin 4) (o : ℕ) (ho : o = 256 * h.val) (inb : ∀ a, ![0, 0, o] a + S1x8x256.size a ≤ S1x8x1024.size a) (c : Fin 8) (e : Fin 256) :
    shapeCast S8x256 (ldU (e := .f32) V ![0, 0, o] S1x8x256.size inb) shapeCasts_S1x8x256_S8x256 (ix2 c e) = V (ix3 0 c ⟨256 * h.val + e.val, by omega⟩) := by
  subst ho
  refine (shapeCast_1ab_ab_apply (ldU (e := .f32) V ![0, 0, 256 * h.val] S1x8x256.size inb) shapeCasts_S1x8x256_S8x256 c e).trans (congrArg V (funext fun a => Fin.ext ?_))
  match a with
  | ⟨0, _⟩ => rfl
  | ⟨1, _⟩ => show 0 + 1 * c.val = c.val; omega
  | ⟨2, _⟩ => show 256 * h.val + 1 * e.val = 256 * h.val + e.val; omega

theorem b_at (h : Fin 4) (o : ℕ) (ho : o = 128 * h.val) (sl : S8x512.Slices ![0, o] S8x128) (c : Fin 8) (d : Fin 128) :
    extractStridedSlice S8x128 ![0, o] B sl (ix2 c d) = B (ix2 c ⟨128 * h.val + d.val, by omega⟩) := by
  subst ho
  exact extractStridedSlice_apply ![0, 128 * h.val] B sl (ix2 c d) (ix2 c ⟨128 * h.val + d.val, by omega⟩) fun a => match a with
    | ⟨0, _⟩ => (Nat.zero_add _).symm
    | ⟨1, _⟩ => rfl

theorem s_at (h : Fin 4) (o : ℕ) (ho : o = h.val) (inb : ∀ a, ![o, 0, 0] a + S1x128x256.size a ≤ S4x128x256.size a) (d : Fin 128) (e : Fin 256) :
    shapeCast S128x256 (View.ld (e' := .f32) (Val := Elt Ideal) (k0_pay2 (F := Ideal) S) (Rect.unit (s := S4x128x256) ![o, 0, 0] S1x128x256.size inb)) shapeCasts_S1x128x256_S128x256 (ix2 d e) = S (ix4 0 h d e) := by
  subst ho
  refine (shapeCast_1ab_ab_apply (View.ld (e' := .f32) (Val := Elt Ideal) (k0_pay2 (F := Ideal) S) (Rect.unit (s := S4x128x256) ![h.val, 0, 0] S1x128x256.size inb)) shapeCasts_S1x128x256_S128x256 d e).trans ?_
  unfold k0_pay2
  simp only [shapeCast_self]
  refine (congrArg (shapeCast S4x128x256 S shapeCasts_S1x4x128x256_S4x128x256) (a₂ := ix3 h d e) (funext fun a => Fin.ext ?_)).trans (shapeCast_apply S shapeCasts_S1x4x128x256_S4x128x256 (ix3 h d e) (ix4 0 h d e) ?_)
  · match a with
    | ⟨0, _⟩ => show h.val + 1 * 0 = h.val; omega
    | ⟨1, _⟩ => show 0 + 1 * d.val = d.val; omega
    | ⟨2, _⟩ => show 0 + 1 * e.val = e.val; omega
  · rw [Shape.rowMajor_val_three, Shape.rowMajor_val_four]
    show ((0 * 4 + h.val) * 128 + d.val) * 256 + e.val = (h.val * 128 + d.val) * 256 + e.val
    omega

/-- A head's store is its block of the new states. -/
theorem piece (h : Fin 4) (o : ℕ) (ho : o = h.val) (inb : ∀ a, ![o, 0, 0] a + S1x128x256.size a ≤ S4x128x256.size a)
    (k : FVec Ideal S8x128 .f32) (v : FVec Ideal S8x256 .f32) (b : FVec Ideal S8x128 .f32) (s : FVec Ideal S128x256 .f32)
    (hk : ∀ c d, k (ix2 c d) = K (ix3 0 c ⟨128 * h.val + d.val, by omega⟩)) (hv : ∀ c e, v (ix2 c e) = V (ix3 0 c ⟨256 * h.val + e.val, by omega⟩))
    (hb : ∀ c d, b (ix2 c d) = B (ix2 c ⟨128 * h.val + d.val, by omega⟩)) (hs : ∀ d e, s (ix2 d e) = S (ix4 0 h d e))
    (x : (Rect.unit (s := S4x128x256) ![o, 0, 0] S1x128x256.size inb).shape.Idx) :
    k0_pay31 (F := Ideal) k v b s x = after K V B S ((Rect.unit (s := S4x128x256) ![o, 0, 0] S1x128x256.size inb).emb x) := by
  subst ho
  obtain ⟨z, d, e, rfl⟩ : ∃ (z : Fin 1) (d : Fin 128) (e : Fin 256), x = ix3 z d e := ⟨x 0, x 1, x 2, eq_ix3 x⟩
  obtain rfl : z = 0 := Subsingleton.elim _ _
  have hx : (Rect.unit (s := S4x128x256) ![h.val, 0, 0] S1x128x256.size inb).emb (ix3 0 d e) = ix3 h d e := funext fun a => Fin.ext (by
    refine (unit_emb_val _ _ inb _ a).trans ?_
    match a with
    | ⟨0, _⟩ => rfl
    | ⟨1, _⟩ => exact Nat.zero_add _
    | ⟨2, _⟩ => exact Nat.zero_add _)
  refine (slab_apply k v b s d e).trans (Eq.trans ?_ (congrArg (after K V B S) hx).symm)
  unfold after
  simp only [hk, hv, hb, hs]

end heads

theorem pay1_apply (w : Vec Ideal S4x128x256 .f32) (i : S1x4x128x256.Idx) : k0_pay1 (F := Ideal) w i = w (ix3 (i 1) (i 2) (i 3)) := by
  have h0 : (i 0).val < 1 := (i 0).isLt
  unfold k0_pay1
  refine shapeCast_apply w _ i _ ?_
  rw [Shape.rowMajor_val_three, Shape.rowMajor_val_four]
  show ((i 1).val * 128 + (i 2).val) * 256 + (i 3).val = (((i 0).val * 4 + (i 1).val) * 128 + (i 2).val) * 256 + (i 3).val
  omega

theorem out_eq (c : Dev nD) (t : Fin cfg0.N) (i : S1x4x128x256.Idx) : (outsAt0 m c t).2 i
    = after (X0_1 m c t) (X0_2 m c t) (k0_pay4 (iblk m c 4 t) (iblk m c 5 t) (iblk m c 6 t)) (iblk m c 8 t) (ix3 (i 1) (i 2) (i 3)) := by
  unfold outsAt0
  dsimp only
  unfold out0_A_10
  unfold kernelRun0_A
  dsimp only
  unfold kernelRun0_A.sl.v331 kernelRun0_A.sl.HS0_5
  set_option maxRecDepth 100000 in
  simp only [kernelRun0_A.sl.HS0_4, kernelRun0_A.sl.HS0_3, kernelRun0_A.sl.HS0_2, kernelRun0_A.sl.HS0_1, kernelRun0_A.sl.r_19, kernelRun0_A.sl.r_20,
    kernelRun0_A.sl.r_21, kernelRun0_A.sl.r_22, kernelRun0_A.sl.r_24, kernelRun0_A.sl.r_25, kernelRun0_A.sl.r_11, kernelRun0_A.sl.r_12, kernelRun0_A.sl.r_13,
    kernelRun0_A.sl.r_14, kernelRun0_A.sl.r_5, kernelRun0_A.sl.r_6, kernelRun0_A.sl.r_7, kernelRun0_A.sl.r_8, kernelRun0_A.sl.r_3, kernelRun0_A.sl.r,
    kernelRun0_A.sl.v44, kernelRun0_A.sl.v118, kernelRun0_A.sl.v192, kernelRun0_A.sl.v266, readAt_unread_ldU]
  generalize X0_1 m c t = K
  generalize X0_2 m c t = V
  generalize iblk m c 8 t = S
  simp (disch := decide) only [View.readCov_skip, View.readCov_fill]
  have e4 : ldU (s := S1x8x128) (e := .f32) (iblk m c 4 t) ![0, 0, 0] ![1, 8, 128] inb_S1x8x128_S1x8x128_0_0_0 = iblk m c 4 t := ldU_whole _ _ _ (by decide)
  have e5 : ldU (s := S128x512) (e := .f32) (iblk m c 5 t) ![0, 0] ![128, 512] inb_S128x512_S128x512_0_0 = iblk m c 5 t := ldU_whole _ _ _ (by decide)
  have e6 : ldU (s := S1x512) (e := .f32) (iblk m c 6 t) ![0, 0] ![1, 512] inb_S1x512_S1x512_0_0 = iblk m c 6 t := ldU_whole _ _ _ (by decide)
  have e8 : ldU (s := S1x4x128x256) (e := .f32) S ![0, 0, 0, 0] ![1, 4, 128, 256] inb_S1x4x128x256_S1x4x128x256_0_0_0_0 = S := ldU_whole _ _ _ (by decide)
  rw [e4, e5, e6, e8]
  clear e4 e5 e6 e8
  generalize k0_pay4 (iblk m c 4 t) (iblk m c 5 t) (iblk m c 6 t) = B
  rw [View.read_writes_junk_eq_canon]
  refine (congrFun (View.canon_cons_unit_lit _ _ _ (by decide)) i).trans ?_
  refine (pay1_apply _ i).trans ?_
  have hi0 : (i 1).val < 4 := (i 1).isLt
  have hi1 : (i 2).val < 128 := (i 2).isLt
  have hi2 : (i 3).val < 256 := (i 3).isLt
  generalize hy : (ix3 (i 1) (i 2) (i 3) : S4x128x256.Idx) = y
  have y0 : (y 0).val < 4 := (y 0).isLt
  have y1 : (y 1).val < 128 := (y 1).isLt
  have y2 : (y 2).val < 256 := (y 2).isLt
  rw [View.readCov_eq_canon']
  have hidx : (Rect.unit (s := S4x128x256) ![0, 0, 0] ![4, 128, 256] inb_S4x128x256_S4x128x256_0_0_0).toLoadRect.idx y = y := funext fun a => Fin.ext (by
    show ![0, 0, 0] a + 1 * (y a).val = (y a).val
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega)
  refine (congrArg (View.canon _) hidx).trans ?_
  refine View.canon_append_of_piecesOf (s := S4x128x256) (e := .f32) (Val := Elt Ideal) (after K V B S) [_] [_, _, _, _] ⟨?_, ?_, ?_, ?_, trivial⟩ y ?_
  · exact piece K V B S 3 3 rfl inb_S4x128x256_S1x128x256_3_0_0 _ _ _ _ (k_at K 3 384 rfl _) (v_at V 3 768 rfl _) (fun c d => b_at B 3 384 rfl slices_S8x512_o0_384_S8x128 c d) (s_at S 3 3 rfl _)
  · exact piece K V B S 2 2 rfl inb_S4x128x256_S1x128x256_2_0_0 _ _ _ _ (k_at K 2 256 rfl _) (v_at V 2 512 rfl _) (fun c d => b_at B 2 256 rfl slices_S8x512_o0_256_S8x128 c d) (s_at S 2 2 rfl _)
  · exact piece K V B S 1 1 rfl inb_S4x128x256_S1x128x256_1_0_0 _ _ _ _ (k_at K 1 128 rfl _) (v_at V 1 256 rfl _) (fun c d => b_at B 1 128 rfl slices_S8x512_o0_128_S8x128 c d) (s_at S 1 1 rfl _)
  · exact piece K V B S 0 0 rfl inb_S4x128x256_S1x128x256_0_0_0 _ _ _ _ (k_at K 0 0 rfl _) (v_at V 0 0 rfl _) (fun c d => b_at B 0 0 rfl slices_S8x512_o0_0_S8x128 c d) (s_at S 0 0 rfl _)
  · have hb : ∀ (o : ℕ) (inb : ∀ a, ![o, 0, 0] a + S1x128x256.size a ≤ S4x128x256.size a), (y 0).val = o → y ∈ (Rect.unit (s := S4x128x256) ![o, 0, 0] S1x128x256.size inb).set := fun o inb ho =>
      Rect.mem_set_unit.mpr fun a => match a with
        | ⟨0, _⟩ => ⟨le_of_eq ho.symm, by show (y 0).val < o + 1; omega⟩
        | ⟨1, _⟩ => ⟨Nat.zero_le _, by show (y 1).val < 0 + 128; omega⟩
        | ⟨2, _⟩ => ⟨Nat.zero_le _, by show (y 2).val < 0 + 256; omega⟩
    have hd : (y 0).val = 3 ∨ (y 0).val = 2 ∨ (y 0).val = 1 ∨ (y 0).val = 0 := by omega
    rcases hd with h | h | h | h
    · exact ⟨_, .head _, hb 3 inb_S4x128x256_S1x128x256_3_0_0 h⟩
    · exact ⟨_, .tail _ (.head _), hb 2 inb_S4x128x256_S1x128x256_2_0_0 h⟩
    · exact ⟨_, .tail _ (.tail _ (.head _)), hb 1 inb_S4x128x256_S1x128x256_1_0_0 h⟩
    · exact ⟨_, .tail _ (.tail _ (.tail _ (.head _))), hb 0 inb_S4x128x256_S1x128x256_0_0_0 h⟩

end Cert.Kernel9Ideal.Hand

end
-- ==== Proof.Chunk.lean ====
/- The sample's gated linear attention: what its launch reads of the host's packed arrays, and the states that it returns. -/
module

public import proofs.«01_k».proof.Proof.Gated
public import proofs.«01_k».proof.Proof.Gen.Reference9Ideal.Run
public import Idealize.ShloMosaic.Lib.Routing.OpsSet
public import Idealize.ShloMosaic.Lib.Routing.OpsPair
public import Idealize.ShloMosaic.Lib.Pipeline.ValueKit.Partial

@[expose] public section

set_option maxRecDepth 16384

noncomputable section

namespace Cert.Kernel9Ideal.Hand

open Cert.Kernel9Ideal Cert.Kernel9Ideal.Gen
open Idealize.ShloMosaic Idealize.ShloMosaic.TcCoe Idealize.ShloMosaic.Tactic Idealize.ShloMosaic.ValueIdx
open Cert.Gated (logSigmoid gate cum states)

/-- The pieces of the projection in the order the kernel takes them. -/
def pieces (x : S128x8x7264.Idx → EReal) : List ((s : Shape) × (s.Idx → EReal)) :=
  [⟨S128x8x3072, extractStridedSlice S128x8x3072 ![0, 0, 0] x slices_S128x8x7264_S128x8x3072_0_0_0⟩,
   ⟨S128x8x4096, extractStridedSlice S128x8x4096 ![0, 0, 3088] x slices_S128x8x7264_S128x8x4096_0_0_3088⟩,
   ⟨S128x8x64, extractStridedSlice S128x8x64 ![0, 0, 7184] x slices_S128x8x7264_S128x8x64_0_0_7184⟩,
   ⟨S128x8x16, extractStridedSlice S128x8x16 ![0, 0, 3072] x slices_S128x8x7264_S128x8x16_0_0_3072⟩,
   ⟨S128x8x16, extractStridedSlice S128x8x16 ![0, 0, 7248] x slices_S128x8x7264_S128x8x16_0_0_7248⟩,
   ⟨S128x8x32, broadcastInDim S128x8x32 ![] bcast_S_S128x8x32 (constant (F := Ideal) S_ .f32 0x00000000#32)⟩]

/-- The projection as the kernel takes it. -/
def pack (x : S128x8x7264.Idx → EReal) : S128x8x7296.Idx → EReal := concatenate S128x8x7296 2 (pieces x)
  concatenates_S128x8x3072_S128x8x4096_S128x8x64_S128x8x16_S128x8x16_S128x8x32_S128x8x7296_d2

/-- Its first 3072 columns are the projection's. -/
theorem pack_0 (x : S128x8x7264.Idx → EReal) (b : Fin 128) (p : Fin 8) (y : Fin 7296) (z : Fin 7264) (h2 : y.val < 3072) (hz : z.val = y.val) :
    pack x (ix3 b p y) = x (ix3 b p z) := by
  refine (concatenate_apply_piece (t := S128x8x7296) 2 (pieces x) _ (ix3 b p y) 0 (Nat.lt_of_sub_pos (by exact Nat.succ_pos _)) S128x8x3072 _ rfl rfl 0 rfl
    (ix3 b p ⟨y.val, h2⟩) ?_ ?_).trans ?_
  · intro a ha
    match a with
    | ⟨0, _⟩ => rfl
    | ⟨1, _⟩ => rfl
    | ⟨2, _⟩ => exact absurd rfl ha
  · show 0 + y.val = y.val
    omega
  · unfold extractStridedSlice
    congr 1
    funext a
    apply Fin.ext
    match a with
    | ⟨0, _⟩ => show 0 + b.val = b.val; omega
    | ⟨1, _⟩ => show 0 + p.val = p.val; omega
    | ⟨2, _⟩ => show 0 + y.val = z.val; omega

/-- Its columns from 7232 are the projection's low-rank decays. -/
theorem pack_3 (x : S128x8x7264.Idx → EReal) (b : Fin 128) (p : Fin 8) (y : Fin 7296) (j : Fin 16) (hy : y.val = 7232 + j.val) :
    pack x (ix3 b p y) = x (ix3 b p ⟨3072 + j.val, by omega⟩) := by
  refine (concatenate_apply_piece (t := S128x8x7296) 2 (pieces x) _ (ix3 b p y) 3 (Nat.lt_of_sub_pos (by exact Nat.succ_pos _)) S128x8x16 _ rfl rfl 7232 rfl
    (ix3 b p j) ?_ ?_).trans ?_
  · intro a ha
    match a with
    | ⟨0, _⟩ => rfl
    | ⟨1, _⟩ => rfl
    | ⟨2, _⟩ => exact absurd rfl ha
  · show 7232 + j.val = y.val
    omega
  · unfold extractStridedSlice
    congr 1
    funext a
    apply Fin.ext
    match a with
    | ⟨0, _⟩ => show 0 + b.val = b.val; omega
    | ⟨1, _⟩ => show 0 + p.val = p.val; omega
    | ⟨2, _⟩ => rfl

/-- The decay's weights among rows of zeros. -/
def wide (w : S2x16x512.Idx → EReal) : S2x128x512.Idx → EReal :=
  Host.scatter scatter_S2x128x512_S1_S2x16x512_012_n_1_0 (fun _ b => b) (broadcastInDim S2x128x512 ![] bcast_S_S2x128x512 (constant (F := Ideal) S_ .f32 0x00000000#32))
    (broadcastInDim S1 ![] bcast_S_S1 (constantI S_ 32 64#32)) w

/-- Row `j` of the weights lands at row `64 + j`. -/
theorem lands (k : S2x16x512.Idx) (i : S2x128x512.Idx) :
    scatter_S2x128x512_S1_S2x16x512_012_n_1_0.resultIdx? k (broadcastInDim S1 ![] bcast_S_S1 (constantI S_ 32 64#32)) = some i
      ↔ (k 0).val = (i 0).val ∧ 64 + (k 1).val = (i 1).val ∧ (k 2).val = (i 2).val := by
  rw [Routing.resultIdx?_eq_some]
  have w0 : scatter_S2x128x512_S1_S2x16x512_012_n_1_0.window k 0 = (k 0).val := rfl
  have w1 : scatter_S2x128x512_S1_S2x16x512_012_n_1_0.window k 1 = (k 1).val := rfl
  have w2 : scatter_S2x128x512_S1_S2x16x512_012_n_1_0.window k 2 = (k 2).val := rfl
  have s0 : scatter_S2x128x512_S1_S2x16x512_012_n_1_0.start k (broadcastInDim S1 ![] bcast_S_S1 (constantI S_ 32 64#32)) 0 = 0 := rfl
  have s1 : scatter_S2x128x512_S1_S2x16x512_012_n_1_0.start k (broadcastInDim S1 ![] bcast_S_S1 (constantI S_ 32 64#32)) 1 = 64 := rfl
  have s2 : scatter_S2x128x512_S1_S2x16x512_012_n_1_0.start k (broadcastInDim S1 ![] bcast_S_S1 (constantI S_ 32 64#32)) 2 = 0 := rfl
  constructor
  · intro h
    have h0 := h 0
    have h1 := h 1
    have h2 := h 2
    rw [w0, s0] at h0
    rw [w1, s1] at h1
    rw [w2, s2] at h2
    omega
  · rintro ⟨h0, h1, h2⟩ a
    match a with
    | ⟨0, _⟩ => refine (congrArg₂ (fun (p : Int) (q : ℕ) => p + (q : Int)) s0 w0).trans ?_; show (0 : Int) + ((k 0).val : Int) = ((i 0).val : Int); omega
    | ⟨1, _⟩ => refine (congrArg₂ (fun (p : Int) (q : ℕ) => p + (q : Int)) s1 w1).trans ?_; show (64 : Int) + ((k 1).val : Int) = ((i 1).val : Int); omega
    | ⟨2, _⟩ => refine (congrArg₂ (fun (p : Int) (q : ℕ) => p + (q : Int)) s2 w2).trans ?_; show (0 : Int) + ((k 2).val : Int) = ((i 2).val : Int); omega

theorem wide_hit (w : S2x16x512.Idx → EReal) (l : Fin 2) (i : Fin 128) (y : Fin 512) (j : Fin 16) (hi : i.val = 64 + j.val) :
    wide w (ix3 l i y) = w (ix3 l j y) :=
  Routing.scatter_set_hit _ _ _ _ _ _ (fun k hk => congrArg w (by
    obtain ⟨h0, h1, h2⟩ := (lands k _).1 hk
    funext a
    apply Fin.ext
    match a with
    | ⟨0, _⟩ => exact h0
    | ⟨1, _⟩ => have h1' : 64 + (k 1).val = i.val := h1; show (k 1).val = j.val; omega
    | ⟨2, _⟩ => exact h2)) (ix3 l j y) ((lands _ _).2 ⟨rfl, hi.symm, rfl⟩)

theorem wide_miss (w : S2x16x512.Idx → EReal) (l : Fin 2) (i : Fin 128) (y : Fin 512) (hi : i.val < 64 ∨ 80 ≤ i.val) : wide w (ix3 l i y) = 0 :=
  (Routing.scatter_set_miss _ _ _ _ _ fun k hk => by
    obtain ⟨h0, h1, h2⟩ := (lands k _).1 hk
    have h1' : 64 + (k 1).val = i.val := h1
    have hk1 : (k 1).val < 16 := (k 1).isLt
    omega).trans Ideal.ofBits_zero_f32

/-- The tail's product with the widened weights is the low-rank product. -/
theorem low_rank (x : S128x8x7264.Idx → EReal) (w : S2x16x512.Idx → EReal) (b : Fin 128) (q : Fin 8) (y : Fin 512) :
    (∑ j : Fin 128, pack x (ix3 b q ⟨7168 + j.val, by omega⟩) * wide w (ix3 0 j y)) = ∑ j : Fin 16, x (ix3 b q ⟨3072 + j.val, by omega⟩) * w (ix3 0 j y) := by
  have e : ∀ f : Fin (64 + 16 + 48) → EReal, (∀ j : Fin 64, f (Fin.castAdd 48 (Fin.castAdd 16 j)) = 0) → (∀ j : Fin 48, f (Fin.natAdd (64 + 16) j) = 0) →
      (∑ j, f j) = ∑ j : Fin 16, f (Fin.castAdd 48 (Fin.natAdd 64 j)) := fun f h1 h2 => by
    rw [Fin.sum_univ_add, Fin.sum_univ_add, Finset.sum_eq_zero fun j _ => h1 j, Finset.sum_eq_zero fun j _ => h2 j, zero_add, add_zero]
  refine (e (fun j => pack x (ix3 b q ⟨7168 + j.val, by omega⟩) * wide w (ix3 0 j y)) (fun j => ?_) (fun j => ?_)).trans (Finset.sum_congr rfl fun j _ => ?_)
  · show _ * wide w (ix3 0 (⟨j.val, by omega⟩ : Fin 128) y) = 0
    rw [wide_miss w 0 _ y (Or.inl j.isLt), mul_zero]
  · show _ * wide w (ix3 0 (⟨80 + j.val, by omega⟩ : Fin 128) y) = 0
    rw [wide_miss w 0 _ y (Or.inr (Nat.le_add_right _ _)), mul_zero]
  · show pack x (ix3 b q ⟨7168 + (64 + j.val), by omega⟩) * wide w (ix3 0 (⟨64 + j.val, by omega⟩ : Fin 128) y) = _
    rw [wide_hit w 0 _ y j rfl, pack_3 x b q _ j (by show 7168 + (64 + j.val) = 7232 + j.val; omega)]

/-- Every window's block index at every point. -/
theorem index_at : ∀ t : Fin cfg0.N,
    win0_1.index t = ![(grid0.coords t 0).val, 0, 1] ∧ win0_2.index t = ![(grid0.coords t 0).val, 0, 1] ∧ win0_4.index t = ![(grid0.coords t 0).val, 0, 56]
    ∧ win0_5.index t = ![0, 0] ∧ win0_6.index t = ![0, 0]
    ∧ win0_8.index t = ![(grid0.coords t 0).val, 0, 0, 0] ∧ win0_10.index t = ![(grid0.coords t 0).val, 0, 0, 0] :=
  (by decide +kernel : ∀ t : Fin grid0.N, _)

variable (m : (ℓ : Loc nD τ sig) → Buf (Elt Ideal) ℓ)

theorem V_v6 (c : Dev nD) : V m c main_v6 = pack (m ((c : Thread nD τ).loc main_arg0)) := by
  unfold V V0 hostOps0
  after_results_simp
  rfl

theorem V_v11 (c : Dev nD) : V m c main_v11 = shapeCast S128x512 (extractStridedSlice S1x128x512 ![0, 0, 0] (wide (m ((c : Thread nD τ).loc main_arg2)))
    slices_S2x128x512_S1x128x512_0_0_0) shapeCasts_S1x128x512_S128x512 := by
  unfold V V0 hostOps0
  dsimp only [List.flatten, List.append]
  after_results
  rfl

theorem V_v12 (c : Dev nD) : V m c main_v12 = extractStridedSlice S1x512 ![0, 0] (m ((c : Thread nD τ).loc main_arg3)) slices_S2x512_S1x512_0_0 := by
  unfold V V0 hostOps0
  after_results_simp
  rfl

theorem V_v14 (c : Dev nD) : V m c main_v14
    = shapeCast S256x4x128x256 (m ((c : Thread nD τ).loc main_arg1)) shapeCasts_S2x128x4x128x256_S256x4x128x256 := by
  unfold V V0 hostOps0
  after_results_simp
  rfl

theorem first_w (W : S2x128x512.Idx → EReal) (j : Fin 128) (y : Fin 512) :
    shapeCast S128x512 (extractStridedSlice S1x128x512 ![0, 0, 0] W slices_S2x128x512_S1x128x512_0_0_0) shapeCasts_S1x128x512_S128x512 (ix2 j y) = W (ix3 0 j y) :=
  (shapeCast_1ab_ab_apply _ shapeCasts_S1x128x512_S128x512 j y).trans
    (extractStridedSlice_apply ![0, 0, 0] W slices_S2x128x512_S1x128x512_0_0_0 (ix3 0 j y) (ix3 0 j y) fun a => match a with
      | ⟨0, _⟩ => rfl
      | ⟨1, _⟩ => (Nat.zero_add _).symm
      | ⟨2, _⟩ => (Nat.zero_add _).symm)

/-- The running sums of log-decays over a tail, widened weights and a bias. -/
theorem cum_of (T : S1x8x128.Idx → EReal) (W : S128x512.Idx → EReal) (A : S1x512.Idx → EReal) (x : S128x8x7264.Idx → EReal) (w : S2x16x512.Idx → EReal)
    (a : S2x512.Idx → EReal) (b : Fin 128) (hT : ∀ (p : Fin 8) (j : Fin 128), T (ix3 0 p j) = pack x (ix3 b p ⟨7168 + j.val, by omega⟩))
    (hW : ∀ (j : Fin 128) (y : Fin 512), W (ix2 j y) = wide w (ix3 0 j y)) (hA : ∀ y : Fin 512, A (ix2 0 y) = a (ix2 0 y)) (p : Fin 8) (y : Fin 512) :
    k0_pay4 (F := Ideal) T W A (ix2 p y) = cum x w a b p y := by
  refine (bcum_apply _ _ _ p y).trans ?_
  unfold cum logSigmoid
  refine Finset.sum_congr rfl fun q _ => ?_
  have e : (∑ j : Fin 128, T (ix3 0 q j) * W (ix2 j y)) + A (ix2 0 y) = gate x w a b q y :=
    congrArg₂ (· + ·) ((Finset.sum_congr rfl fun j _ => congrArg₂ (· * ·) (hT q j) (hW j y)).trans (low_rank x w b q y)) (hA y)
  rw [e]

section blocks
variable (c : Dev nD) (t : Fin cfg0.N) (b : Fin 128) (hb : b.val = (grid0.coords t 0).val)
include hb

theorem k_blk (p : Fin 8) (y : Fin 512) : X0_1 m c t (ix3 0 p y) = m ((c : Thread nD τ).loc main_arg0) (ix3 b p ⟨512 + y.val, by omega⟩) := by
  refine Eq.trans ?_ (pack_0 (m ((c : Thread nD τ).loc main_arg0)) b p ⟨512 + y.val, by omega⟩ ⟨512 + y.val, by omega⟩
    (by show 512 + y.val < 3072; omega) rfl)
  rw [← V_v6 m c]
  unfold X0_1 Pipeline.Window.fill
  rw [dif_pos (moved0_1 t _)]
  unfold iblk
  blk_simp
  congr 1
  funext a
  apply Fin.ext
  obtain ⟨h1, h2, h4, h5, h6, h8, h10⟩ := index_at t
  blk_simp [h1]
  match a with
  | ⟨0, _⟩ => show (grid0.coords t 0).val * 1 + 0 = b.val; omega
  | ⟨1, _⟩ => show 0 * 8 + p.val = p.val; omega
  | ⟨2, _⟩ => show 1 * 512 + y.val = 512 + y.val; omega

theorem v_blk (p : Fin 8) (y : Fin 1024) : X0_2 m c t (ix3 0 p y) = m ((c : Thread nD τ).loc main_arg0) (ix3 b p ⟨1024 + y.val, by omega⟩) := by
  refine Eq.trans ?_ (pack_0 (m ((c : Thread nD τ).loc main_arg0)) b p ⟨1024 + y.val, by omega⟩ ⟨1024 + y.val, by omega⟩
    (by show 1024 + y.val < 3072; omega) rfl)
  rw [← V_v6 m c]
  unfold X0_2 Pipeline.Window.fill
  rw [dif_pos (moved0_2 t _)]
  unfold iblk
  blk_simp
  congr 1
  funext a
  apply Fin.ext
  obtain ⟨h1, h2, h4, h5, h6, h8, h10⟩ := index_at t
  blk_simp [h2]
  match a with
  | ⟨0, _⟩ => show (grid0.coords t 0).val * 1 + 0 = b.val; omega
  | ⟨1, _⟩ => show 0 * 8 + p.val = p.val; omega
  | ⟨2, _⟩ => show 1 * 1024 + y.val = 1024 + y.val; omega

theorem tail_blk (p : Fin 8) (j : Fin 128) : iblk m c 4 t (ix3 0 p j) = pack (m ((c : Thread nD τ).loc main_arg0)) (ix3 b p ⟨7168 + j.val, by omega⟩) := by
  rw [← V_v6 m c]
  unfold iblk
  blk_simp
  congr 1
  funext a
  apply Fin.ext
  obtain ⟨h1, h2, h4, h5, h6, h8, h10⟩ := index_at t
  blk_simp [h4]
  match a with
  | ⟨0, _⟩ => show (grid0.coords t 0).val * 1 + 0 = b.val; omega
  | ⟨1, _⟩ => show 0 * 8 + p.val = p.val; omega
  | ⟨2, _⟩ => show 56 * 128 + j.val = 7168 + j.val; omega

omit hb in
theorem w_blk (j : Fin 128) (y : Fin 512) : iblk m c 5 t (ix2 j y) = wide (m ((c : Thread nD τ).loc main_arg2)) (ix3 0 j y) := by
  refine Eq.trans ?_ ((congrFun (V_v11 m c) (ix2 j y)).trans (first_w _ j y))
  unfold iblk
  blk_simp
  refine congrArg (V m c main_v11) ?_
  funext a
  apply Fin.ext
  obtain ⟨h1, h2, h4, h5, h6, h8, h10⟩ := index_at t
  blk_simp [h5]
  match a with
  | ⟨0, _⟩ => show 0 * 128 + j.val = j.val; omega
  | ⟨1, _⟩ => show 0 * 512 + y.val = y.val; omega

omit hb in
theorem a_blk (y : Fin 512) : iblk m c 6 t (ix2 0 y) = m ((c : Thread nD τ).loc main_arg3) (ix2 0 y) := by
  refine Eq.trans ?_ (extractStridedSlice_apply ![0, 0] (m ((c : Thread nD τ).loc main_arg3)) slices_S2x512_S1x512_0_0 (ix2 0 y) (ix2 0 y) fun a => match a with
    | ⟨0, _⟩ => rfl
    | ⟨1, _⟩ => (Nat.zero_add _).symm)
  rw [← V_v12 m c]
  unfold iblk
  blk_simp
  congr 1
  funext a
  apply Fin.ext
  obtain ⟨h1, h2, h4, h5, h6, h8, h10⟩ := index_at t
  blk_simp [h6]
  match a with
  | ⟨0, _⟩ => rfl
  | ⟨1, _⟩ => show 0 * 512 + y.val = y.val; omega

theorem s_blk (h : Fin 4) (d : Fin 128) (e : Fin 256) : iblk m c 8 t (ix4 0 h d e) = m ((c : Thread nD τ).loc main_arg1) (ix5 0 b h d e) := by
  refine Eq.trans ?_ (shapeCast_apply (m ((c : Thread nD τ).loc main_arg1)) shapeCasts_S2x128x4x128x256_S256x4x128x256
    (ix4 (⟨b.val, by omega⟩ : Fin 256) h d e) (ix5 0 b h d e) (by
      show (S2x128x4x128x256.rowMajor (ix5 0 b h d e)).val = (S256x4x128x256.rowMajor (ix4 (⟨b.val, by omega⟩ : Fin 256) h d e)).val
      rw [Shape.rowMajor_val_five, Shape.rowMajor_val_four]
      show (((0 * 128 + b.val) * 4 + h.val) * 128 + d.val) * 256 + e.val = ((b.val * 4 + h.val) * 128 + d.val) * 256 + e.val
      omega))
  rw [← V_v14 m c]
  unfold iblk
  blk_simp
  congr 1
  funext a
  apply Fin.ext
  obtain ⟨h1, h2, h4, h5, h6, h8, h10⟩ := index_at t
  blk_simp [h8]
  match a with
  | ⟨0, _⟩ => show (grid0.coords t 0).val * 1 + 0 = b.val; omega
  | ⟨1, _⟩ => show 0 * 4 + h.val = h.val; omega
  | ⟨2, _⟩ => show 0 * 128 + d.val = d.val; omega
  | ⟨3, _⟩ => show 0 * 256 + e.val = e.val; omega

/-- The kernel's running sums of log-decays are the layer's. -/
theorem cum_at (p : Fin 8) (y : Fin 512) : (k0_pay4 (F := Ideal) (iblk m c 4 t) (iblk m c 5 t) (iblk m c 6 t) (ix2 p y) : EReal)
    = cum (m ((c : Thread nD τ).loc main_arg0)) (m ((c : Thread nD τ).loc main_arg2)) (m ((c : Thread nD τ).loc main_arg3)) b p y :=
  cum_of _ _ _ _ _ _ b (tail_blk m c t b hb) (w_blk m c t) (a_blk m c t) p y

/-- The states that a point leaves. -/
theorem point (h : Fin 4) (d : Fin 128) (e : Fin 256) :
    after (X0_1 m c t) (X0_2 m c t) (k0_pay4 (iblk m c 4 t) (iblk m c 5 t) (iblk m c 6 t)) (iblk m c 8 t) (ix3 h d e)
      = states (m ((c : Thread nD τ).loc main_arg0)) (m ((c : Thread nD τ).loc main_arg1)) (m ((c : Thread nD τ).loc main_arg2))
          (m ((c : Thread nD τ).loc main_arg3)) b h d e := by
  unfold after states
  refine congrArg₂ (· + ·) (congrArg₂ (· * ·) (s_blk m c t b hb h d e) (congrArg Ideal.exp (cum_at m c t b hb 7 _)))
    (Finset.sum_congr rfl fun p _ => congrArg₂ (· * ·) (congrArg₂ (· * ·) (k_blk m c t b hb p _)
      (congrArg Ideal.exp (congrArg₂ (· - ·) (cum_at m c t b hb 7 _) (cum_at m c t b hb p _)))) (v_blk m c t b hb p _))
end blocks

/-- The states by sequence, as the launch leaves them in the sample's half of its array. -/
def left (x : S128x8x7264.Idx → EReal) (s : S2x128x4x128x256.Idx → EReal) (w : S2x16x512.Idx → EReal) (a : S2x512.Idx → EReal) : S256x4x128x256.Idx → EReal :=
  fun i => if h : (i 0).val < 128 then states x s w a ⟨(i 0).val, h⟩ (i 1) (i 2) (i 3) else 0

theorem left_10 (c : Dev nD) : (dats m 0 c).arrAt 10 cfg0.N = fun i => if (i 0).val < 128 then
    left (m ((c : Thread nD τ).loc main_arg0)) (m ((c : Thread nD τ).loc main_arg1)) (m ((c : Thread nD τ).loc main_arg2)) (m ((c : Thread nD τ).loc main_arg3)) i
    else V m c main_v15_1 i := by
  refine (dats m 0 c).arrAt_eq_of_coversWhere 10 _ (fun β => β (0 : Fin 4) < 128) (by decide +kernel) (fun t hf y => ?_)
    (fun j => by blk_simp [Pipeline.Window.cell_apply]; omega)
  blk_simp
  rw [after0_10]
  have ht : (grid0.coords t 0).val < 128 := (grid0.coords t 0).isLt
  have hy0 : (y 0).val < 1 := (y 0).isLt
  obtain ⟨-, -, -, -, -, -, h10⟩ := index_at t
  refine (out_eq m c t y).trans ((point m c t ⟨(grid0.coords t 0).val, ht⟩ rfl (y 1) (y 2) (y 3)).trans ?_)
  unfold left
  have e0 : ((win0_10.blk t).view.emb y 0).val = (grid0.coords t 0).val := by blk_simp [h10]
  have e1 : (win0_10.blk t).view.emb y 1 = y 1 := Fin.ext (by blk_simp [h10])
  have e2 : (win0_10.blk t).view.emb y 2 = y 2 := Fin.ext (by blk_simp [h10])
  have e3 : (win0_10.blk t).view.emb y 3 = y 3 := Fin.ext (by blk_simp [h10])
  rw [dif_pos (by rw [e0]; exact ht), e1, e2, e3]
  simp only [e0]

/-- The states after the call's tokens. -/
def stateOut (x : S128x8x7264.Idx → EReal) (s : S2x128x4x128x256.Idx → EReal) (w : S2x16x512.Idx → EReal) (a : S2x512.Idx → EReal) : S128x4x128x256.Idx → EReal :=
  fun i => states x s w a (i 0) (i 1) (i 2) (i 3)

theorem result_16 (c : Dev nD) : Pipeline.afterTail₀ cfgs (dats m) 0 (V0 m) [hostOps1] c main_v16
    = stateOut (m ((c : Thread nD τ).loc main_arg0)) (m ((c : Thread nD τ).loc main_arg1)) (m ((c : Thread nD τ).loc main_arg2)) (m ((c : Thread nD τ).loc main_arg3)) := by
  unfold Pipeline.afterTail₀ hostOps1
  after_results_simp
  have e := Pipeline.Dat.withArrays_arrAt (dats m 0 c) sharedIn0 (V0 m c) (A_eq m c) 10
  refine (congrArg (fun a : S256x4x128x256.Idx → EReal => extractStridedSlice S128x4x128x256 ![0, 0, 0, 0] a slices_S256x4x128x256_S128x4x128x256_0_0_0_0)
    (e.trans (left_10 m c))).trans ?_
  funext i
  have h0 : (i 0).val < 128 := (i 0).isLt
  refine (extractStridedSlice_apply ![0, 0, 0, 0] _ slices_S256x4x128x256_S128x4x128x256_0_0_0_0 i
    (ix4 (⟨(i 0).val, by omega⟩ : Fin 256) (i 1) (i 2) (i 3)) fun a => match a with
      | ⟨0, _⟩ => (Nat.zero_add _).symm
      | ⟨1, _⟩ => (Nat.zero_add _).symm
      | ⟨2, _⟩ => (Nat.zero_add _).symm
      | ⟨3, _⟩ => (Nat.zero_add _).symm).trans ?_
  refine (if_pos h0).trans ?_
  unfold left stateOut
  exact dif_pos h0

/-- What the kernel's program ends with. -/
theorem run_value (ρ : Dev nD → PrngReg) : θ_run (defs (F := Ideal)) (onTc (τ := τ) (main (F := Ideal))) ⟨m, fun _ => 0, ρ⟩ (fun r => ∀ c : Dev nD,
    r.2.mem ((c.tc : Thread nD τ).loc main_v16)
      = stateOut (m ((c.tc : Thread nD τ).loc main_arg0)) (m ((c.tc : Thread nD τ).loc main_arg1)) (m ((c.tc : Thread nD τ).loc main_arg2)) (m ((c.tc : Thread nD τ).loc main_arg3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) :=
  (θ_run defs _ _).mono (fun r h c => ⟨((h.1 c).2 main_v16 (Pipeline.mem_restRefs_of main_v16 (by decide) (by decide))).trans (result_16 m c), h.2 c⟩)
    (θ_run_and (run_main (F := Ideal) m ρ) (unchanged (F := Ideal) m ρ))

end Cert.Kernel9Ideal.Hand

namespace Cert.Reference9Ideal.Hand
open Cert.Reference9Ideal
open Idealize.ShloMosaic Idealize.ShloMosaic.TcCoe Idealize.ShloMosaic.Tactic Idealize.ShloMosaic.ValueIdx

theorem ref_out (m : (ℓ : Loc nD τ sig) → Buf (Elt Ideal) ℓ) (c : Dev nD) : Value.res_main_v34 m c
    = Cert.Kernel9Ideal.Hand.stateOut (m ((c.tc : Thread nD τ).loc main_arg0)) (m ((c.tc : Thread nD τ).loc main_arg1)) (m ((c.tc : Thread nD τ).loc main_arg2)) (m ((c.tc : Thread nD τ).loc main_arg3)) := by
  refine (Read.val_main_v34_eq m c).trans ?_
  funext i
  have hi : i = ix4 (i 0) (i 1) (i 2) (i 3) := by funext a; match a with | ⟨0, _⟩ => rfl | ⟨1, _⟩ => rfl | ⟨2, _⟩ => rfl | ⟨3, _⟩ => rfl
  refine (congrArg _ hi).trans ?_
  exact Cert.Gated.ref_states _ _ _ _ (i 0) (i 1) (i 2) (i 3)

theorem run_main (m : (ℓ : Loc nD τ sig) → Buf (Elt Ideal) ℓ) (ρ : Dev nD → PrngReg) : θ_run (defs (F := Ideal)) (onTc (τ := τ) (main (F := Ideal))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)) ∧ r.2.sem = fun _ => 0) :=
  (θ_run defs _ _).mono (fun r h => ⟨fun c => (h c).2, sem_eq_zero_of_no_sems (by decide) r.2⟩) (Value.run m ρ)

end Cert.Reference9Ideal.Hand

end
-- ==== Proof.lean ====
/- The certificate's claim: the frames of the kernel and of its idealization from one run, the reference's frame from its
   run, and the values of the two programs equal at the ideal instance where the indexer scores are apart. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_scores_apart
public import proofs.«01_k».proof.Proof.Gen.Kernel2
public import proofs.«01_k».proof.Proof.Gen.Kernel2Ideal
public import proofs.«01_k».proof.Proof.Gen.Reference2Ideal
public import proofs.«01_k».proof.Proof.Gen.Kernel2Ideal.Frame
public import proofs.«01_k».proof.Proof.Gen.Reference2Ideal.Run
public import proofs.«01_k».proof.Proof.Gen.Reference2Ideal.Read
public import proofs.«01_k».proof.Proof.Gen.Kernel3
public import proofs.«01_k».proof.Proof.Gen.Kernel3Ideal
public import proofs.«01_k».proof.Proof.Gen.Reference3Ideal
public import proofs.«01_k».proof.Proof.Gen.Kernel3Ideal.Value
public import proofs.«01_k».proof.Proof.Gen.Kernel3Ideal.Frame
public import proofs.«01_k».proof.Proof.Gen.Reference3Ideal.Run
public import proofs.«01_k».proof.Proof.Gen.Reference3Ideal.Read
public import proofs.«01_k».proof.Proof.Gen.Kernel4
public import proofs.«01_k».proof.Proof.Gen.Kernel4Ideal
public import proofs.«01_k».proof.Proof.Gen.Reference4Ideal
public import proofs.«01_k».proof.Proof.Gen.Kernel4Ideal.Value
public import proofs.«01_k».proof.Proof.Gen.Kernel4Ideal.Frame
public import proofs.«01_k».proof.Proof.Gen.Reference4Ideal.Run
public import proofs.«01_k».proof.Proof.Gen.Reference4Ideal.Read
public import proofs.«01_k».proof.Proof.Gen.Kernel5
public import proofs.«01_k».proof.Proof.Gen.Kernel5Ideal
public import proofs.«01_k».proof.Proof.Gen.Reference5Ideal
public import proofs.«01_k».proof.Proof.Gen.Kernel5Ideal.Value
public import proofs.«01_k».proof.Proof.Gen.Kernel5Ideal.Frame
public import proofs.«01_k».proof.Proof.Gen.Reference5Ideal.Run
public import proofs.«01_k».proof.Proof.Gen.Reference5Ideal.Read
public import proofs.«01_k».proof.Proof.Gen.Kernel6
public import proofs.«01_k».proof.Proof.Gen.Kernel6Ideal
public import proofs.«01_k».proof.Proof.Gen.Reference6Ideal
public import proofs.«01_k».proof.Proof.Gen.Kernel6Ideal.Frame
public import proofs.«01_k».proof.Proof.Gen.Reference6Ideal.Run
public import proofs.«01_k».proof.Proof.Gen.Reference6Ideal.Read
public import proofs.«01_k».proof.Proof.Gen.Kernel7
public import proofs.«01_k».proof.Proof.Gen.Kernel7Ideal
public import proofs.«01_k».proof.Proof.Gen.Reference7Ideal
public import proofs.«01_k».proof.Proof.Gen.Kernel7Ideal.Frame
public import proofs.«01_k».proof.Proof.Gen.Reference7Ideal.Run
public import proofs.«01_k».proof.Proof.Gen.Reference7Ideal.Read
public import proofs.«01_k».proof.Proof.Gen.Kernel8
public import proofs.«01_k».proof.Proof.Gen.Kernel8Ideal
public import proofs.«01_k».proof.Proof.Gen.Reference8Ideal
public import proofs.«01_k».proof.Proof.Gen.Kernel8Ideal.Value
public import proofs.«01_k».proof.Proof.Gen.Kernel8Ideal.Frame
public import proofs.«01_k».proof.Proof.Gen.Reference8Ideal.Run
public import proofs.«01_k».proof.Proof.Gen.Reference8Ideal.Read
public import proofs.«01_k».proof.Proof.Gen.Kernel9
public import proofs.«01_k».proof.Proof.Gen.Kernel9Ideal
public import proofs.«01_k».proof.Proof.Gen.Reference9Ideal
public import proofs.«01_k».proof.Proof.Gen.Kernel9Ideal.Frame
public import proofs.«01_k».proof.Proof.Gen.Reference9Ideal.Run
public import proofs.«01_k».proof.Proof.Gen.Reference9Ideal.Read
public import proofs.«01_k».proof.Proof.Launch
public import proofs.«01_k».proof.Proof.Reference
public import proofs.«01_k».proof.Proof.Output
public import proofs.«01_k».proof.Proof.Attention
public import proofs.«01_k».proof.Proof.Apart
public import proofs.«01_k».proof.Proof.Project
public import proofs.«01_k».proof.Proof.Residual
public import proofs.«01_k».proof.Proof.Query
public import proofs.«01_k».proof.Proof.Final
public import proofs.«01_k».proof.Proof.Modulate
public import proofs.«01_k».proof.Proof.Sample
public import proofs.«01_k».proof.Proof.Chunk
public import Idealize.ShloMosaic.Adequacy
public import Idealize.ShloMosaic.Init

@[expose] public section

set_option maxRecDepth 16384

noncomputable section

namespace Cert.Proof

open Idealize.ShloMosaic Idealize.SL.Sem

/-- The two programs' bodies, the same text under two names. -/
theorem body_same : Cert.Kernel.defs₀ (F := Bits) = Cert.KernelIdeal.defs₀ (F := Bits) := by
  unfold Cert.Kernel.defs₀ Cert.KernelIdeal.defs₀
  refine congrArg Defs.onTc (funext fun x => funext fun y => ?_)
  match x, y with
  | ⟨0, _⟩, (t, s) => rfl

theorem defs_same : Cert.Kernel.defs (F := Bits) = Cert.KernelIdeal.defs (F := Bits) :=
  congrArg (Pipeline.defs _) body_same

/-- The kernel's frame, from its idealization's run over any float model. -/
theorem frame_kernel : Cert.quiescent_Kernel := fun m ρ _ => by
  rw [defs_same]
  exact (θ_run Cert.KernelIdeal.defs _ _).mono (fun _ h => h) (Cert.KernelIdeal.Hand.run_main (F := Bits) m ρ)

/-- The reference ends with the attention of its argument. -/
theorem reference_value (m : (ℓ : Loc Cert.ReferenceIdeal.nD Cert.ReferenceIdeal.τ Cert.ReferenceIdeal.sig) → Buf (Elt Ideal) ℓ)
    (c : Dev Cert.ReferenceIdeal.nD) (x : Cert.Attend.Proj)
    (e : m ((c.tc : Thread Cert.ReferenceIdeal.nD Cert.ReferenceIdeal.τ).loc Cert.ReferenceIdeal.main_arg0) = x) :
    Cert.ReferenceIdeal.Value.res_main_v65 m c = Cert.KernelIdeal.Hand.attended x := by
  rw [Cert.ReferenceIdeal.Read.val_main_v65_eq, e]
  funext j
  rw [ValueIdx.eq_ix3 j]
  exact Cert.ReferenceIdeal.Hand.result_at x (j 0) (j 1) (j 2)

/-- The kernel ends with the attention of its argument, and leaves the argument. -/
theorem kernel_value (m : (ℓ : Loc Cert.KernelIdeal.nD Cert.KernelIdeal.τ Cert.KernelIdeal.sig) → Buf (Elt Ideal) ℓ)
    (ρ : Dev Cert.KernelIdeal.nD → PrngReg)
    (pre : ∀ (c : Dev Cert.KernelIdeal.nD) b P, Cert.Attend.PreX (m ((c.tc : Thread Cert.KernelIdeal.nD Cert.KernelIdeal.τ).loc Cert.KernelIdeal.main_arg0)) b P) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v8)
          = Cert.KernelIdeal.Hand.attended (m ((c.tc : Thread Cert.KernelIdeal.nD Cert.KernelIdeal.τ).loc Cert.KernelIdeal.main_arg0))
        ∧ r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)) :=
  (θ_run Cert.KernelIdeal.defs _ _).mono
    (fun r h c => ⟨((h.1 c).1 6).trans (Cert.KernelIdeal.Hand.left_out m c (pre c)), h.2.1 c⟩)
    (θ_run_and (Cert.KernelIdeal.Hand.run_post (F := Ideal) m ρ) (Cert.KernelIdeal.Hand.run_main (F := Ideal) m ρ))

/-- The two programs end with the same values. -/
theorem algebraic : Cert.algebraic_KernelIdeal_ReferenceIdeal_pre_scores_apart (hPre_scores_apart := Cert.Pre_scores_apart.Gen.facts) :=
  fun m ρ m' ρ' pre same =>
    ⟨fun c => Cert.KernelIdeal.Hand.attended (m ((c.tc : Thread Cert.KernelIdeal.nD Cert.KernelIdeal.τ).loc Cert.KernelIdeal.main_arg0)),
      kernel_value m ρ fun c b P => Cert.Pre_scores_apart.Hand.pre_of _ b P (pre c),
      (θ_run Cert.ReferenceIdeal.defs _ _).mono
        (fun r h c => ⟨(h c).1.trans (reference_value m' c _ (same c)), (h c).2⟩)
        (Cert.ReferenceIdeal.Value.run (F := Ideal) m' ρ')⟩

theorem body_same2 : Cert.Kernel2.defs₀ (F := Bits) = Cert.Kernel2Ideal.defs₀ (F := Bits) := by
  unfold Cert.Kernel2.defs₀ Cert.Kernel2Ideal.defs₀
  refine congrArg Defs.onTc (funext fun x => funext fun y => ?_)
  match x, y with
  | ⟨0, _⟩, (t, s) => rfl

theorem defs_same2 : Cert.Kernel2.defs (F := Bits) = Cert.Kernel2Ideal.defs (F := Bits) :=
  congrArg (Pipeline.defs _) body_same2

theorem frame_kernel2 : Cert.quiescent_Kernel2 := fun m ρ _ => by
  rw [defs_same2]
  exact (θ_run Cert.Kernel2Ideal.defs _ _).mono (fun _ h => h) (Cert.Kernel2Ideal.Gen.frame (F := Bits) m ρ)

theorem body_same3 : Cert.Kernel3.defs₀ (F := Bits) = Cert.Kernel3Ideal.defs₀ (F := Bits) := by
  unfold Cert.Kernel3.defs₀ Cert.Kernel3Ideal.defs₀
  refine congrArg Defs.onTc (funext fun x => funext fun y => ?_)
  match x, y with
  | ⟨0, _⟩, (t, s) => rfl

theorem defs_same3 : Cert.Kernel3.defs (F := Bits) = Cert.Kernel3Ideal.defs (F := Bits) :=
  congrArg (Pipeline.defs _) body_same3

theorem frame_kernel3 : Cert.quiescent_Kernel3 := fun m ρ _ => by
  rw [defs_same3]
  exact (θ_run Cert.Kernel3Ideal.defs _ _).mono (fun _ h => h) (Cert.Kernel3Ideal.Gen.frame (F := Bits) m ρ)

theorem body_same4 : Cert.Kernel4.defs₀ (F := Bits) = Cert.Kernel4Ideal.defs₀ (F := Bits) := by
  unfold Cert.Kernel4.defs₀ Cert.Kernel4Ideal.defs₀
  refine congrArg Defs.onTc (funext fun x => funext fun y => ?_)
  match x, y with
  | ⟨0, _⟩, (t, s) => rfl

theorem defs_same4 : Cert.Kernel4.defs (F := Bits) = Cert.Kernel4Ideal.defs (F := Bits) :=
  congrArg (Pipeline.defs _) body_same4

theorem frame_kernel4 : Cert.quiescent_Kernel4 := fun m ρ _ => by
  rw [defs_same4]
  exact (θ_run Cert.Kernel4Ideal.defs _ _).mono (fun _ h => h) (Cert.Kernel4Ideal.Gen.frame (F := Bits) m ρ)

theorem body_same5 : Cert.Kernel5.defs₀ (F := Bits) = Cert.Kernel5Ideal.defs₀ (F := Bits) := by
  unfold Cert.Kernel5.defs₀ Cert.Kernel5Ideal.defs₀
  refine congrArg Defs.onTc (funext fun x => funext fun y => ?_)
  match x, y with
  | ⟨0, _⟩, (t, s) => rfl

theorem defs_same5 : Cert.Kernel5.defs (F := Bits) = Cert.Kernel5Ideal.defs (F := Bits) :=
  congrArg (Pipeline.defs _) body_same5

theorem frame_kernel5 : Cert.quiescent_Kernel5 := fun m ρ _ => by
  rw [defs_same5]
  exact (θ_run Cert.Kernel5Ideal.defs _ _).mono (fun _ h => h) (Cert.Kernel5Ideal.Gen.frame (F := Bits) m ρ)

theorem body_same6 : Cert.Kernel6.defs₀ (F := Bits) = Cert.Kernel6Ideal.defs₀ (F := Bits) := by
  unfold Cert.Kernel6.defs₀ Cert.Kernel6Ideal.defs₀
  refine congrArg Defs.onTc (funext fun x => funext fun y => ?_)
  match x, y with
  | ⟨0, _⟩, (t, s) => rfl

theorem defs_same6 : Cert.Kernel6.defs (F := Bits) = Cert.Kernel6Ideal.defs (F := Bits) :=
  congrArg (Pipeline.defs _) body_same6

theorem frame_kernel6 : Cert.quiescent_Kernel6 := fun m ρ _ => by
  rw [defs_same6]
  exact (θ_run Cert.Kernel6Ideal.defs _ _).mono (fun _ h => h) (Cert.Kernel6Ideal.Gen.frame (F := Bits) m ρ)

theorem body_same7 : Cert.Kernel7.defs₀ (F := Bits) = Cert.Kernel7Ideal.defs₀ (F := Bits) := by
  unfold Cert.Kernel7.defs₀ Cert.Kernel7Ideal.defs₀
  refine congrArg Defs.onTc (funext fun x => funext fun y => ?_)
  match x, y with
  | ⟨0, _⟩, (t, s) => rfl

theorem defs_same7 : Cert.Kernel7.defs (F := Bits) = Cert.Kernel7Ideal.defs (F := Bits) :=
  congrArg (Pipeline.defs _) body_same7

theorem frame_kernel7 : Cert.quiescent_Kernel7 := fun m ρ _ => by
  rw [defs_same7]
  exact (θ_run Cert.Kernel7Ideal.defs _ _).mono (fun _ h => h) (Cert.Kernel7Ideal.Gen.frame (F := Bits) m ρ)

theorem body_same8 : Cert.Kernel8.defs₀ (F := Bits) = Cert.Kernel8Ideal.defs₀ (F := Bits) := by
  unfold Cert.Kernel8.defs₀ Cert.Kernel8Ideal.defs₀
  refine congrArg Defs.onTc (funext fun x => funext fun y => ?_)
  match x, y with
  | ⟨0, _⟩, (t, s) => rfl

theorem defs_same8 : Cert.Kernel8.defs (F := Bits) = Cert.Kernel8Ideal.defs (F := Bits) :=
  congrArg (Pipeline.defs _) body_same8

theorem frame_kernel8 : Cert.quiescent_Kernel8 := fun m ρ _ => by
  rw [defs_same8]
  exact (θ_run Cert.Kernel8Ideal.defs _ _).mono (fun _ h => h) (Cert.Kernel8Ideal.Gen.frame (F := Bits) m ρ)

theorem body_same9 : Cert.Kernel9.defs₀ (F := Bits) = Cert.Kernel9Ideal.defs₀ (F := Bits) := by
  unfold Cert.Kernel9.defs₀ Cert.Kernel9Ideal.defs₀
  refine congrArg Defs.onTc (funext fun x => funext fun y => ?_)
  match x, y with
  | ⟨0, _⟩, (t, s) => rfl

theorem defs_same9 : Cert.Kernel9.defs (F := Bits) = Cert.Kernel9Ideal.defs (F := Bits) :=
  congrArg (Pipeline.defs _) body_same9

theorem frame_kernel9 : Cert.quiescent_Kernel9 := fun m ρ _ => by
  rw [defs_same9]
  exact (θ_run Cert.Kernel9Ideal.defs _ _).mono (fun _ h => h) (Cert.Kernel9Ideal.Gen.frame (F := Bits) m ρ)

/-- The two programs of the projection end with the same values. -/
theorem algebraic2 : Cert.algebraic_Kernel2Ideal_Reference2Ideal :=
  fun m ρ m' ρ' _ same =>
    ⟨fun c => Cert.Kernel2Ideal.Hand.proj (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)),
      fun c => Cert.Kernel2Ideal.Hand.proj (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)),
      Cert.Kernel2Ideal.Hand.run_value m ρ,
      (θ_run Cert.Reference2Ideal.defs _ _).mono
        (fun r h c => by
          obtain ⟨e0, e1, e2, e3⟩ := same c
          have w0 : Cert.Kernel2Ideal.Hand.proj (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3))
              = Cert.Kernel2Ideal.Hand.proj (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) := by
            rw [e0, e1, e2, e3]
          have w1 : Cert.Kernel2Ideal.Hand.proj (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3))
              = Cert.Kernel2Ideal.Hand.proj (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) := by
            rw [e0, e1, e2, e3]
          exact ⟨((h c).1.trans (Cert.Reference2Ideal.Hand.ref_proj  _ _ _ _)).trans w0, ((h c).2.1.trans (Cert.Reference2Ideal.Hand.ref_proj  _ _ _ _)).trans w1, (h c).2.2⟩)
        (Cert.Reference2Ideal.Value.run (F := Ideal) m' ρ')⟩

/-- The two programs of the residual sum end with the same values. -/
theorem algebraic3 : Cert.algebraic_Kernel3Ideal_Reference3Ideal :=
  fun m ρ m' ρ' _ same =>
    ⟨fun c => Cert.Kernel3Ideal.Hand.added (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)),
      Cert.Kernel3Ideal.Hand.run_value m ρ,
      (θ_run Cert.Reference3Ideal.defs _ _).mono
        (fun r h c => by
          obtain ⟨e0, e1, e2, e3, e4⟩ := same c
          have w0 : Cert.Kernel3Ideal.Hand.added (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4))
              = Cert.Kernel3Ideal.Hand.added (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) := by
            rw [e0, e1, e2, e3, e4]
          exact ⟨((h c).1.trans (Cert.Reference3Ideal.Hand.ref_added  _ _ _ _ _)).trans w0, (h c).2⟩)
        (Cert.Reference3Ideal.Value.run (F := Ideal) m' ρ')⟩

/-- The two programs of the product-key queries end with the same values. -/
theorem algebraic4 : Cert.algebraic_Kernel4Ideal_Reference4Ideal :=
  fun m ρ m' ρ' _ same =>
    ⟨fun c => Cert.Kernel4Ideal.Hand.queries (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)),
      fun c => Cert.Kernel4Ideal.Hand.hidden (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)),
      Cert.Kernel4Ideal.Hand.run_value m ρ,
      (θ_run Cert.Reference4Ideal.defs _ _).mono
        (fun r h c => by
          obtain ⟨e0, e1, e2, e3⟩ := same c
          have w0 : Cert.Kernel4Ideal.Hand.queries (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3))
              = Cert.Kernel4Ideal.Hand.queries (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) := by
            rw [e0, e1, e2, e3]
          have w1 : Cert.Kernel4Ideal.Hand.hidden (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2))
              = Cert.Kernel4Ideal.Hand.hidden (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) := by
            rw [e0, e1, e2]
          exact ⟨((h c).1.trans (Cert.Reference4Ideal.Hand.ref_queries  _ _ _ _)).trans w0, ((h c).2.1.trans (Cert.Reference4Ideal.Hand.ref_hidden  _ _ _)).trans w1, (h c).2.2⟩)
        (Cert.Reference4Ideal.Value.run (F := Ideal) m' ρ')⟩

/-- The two programs of the final norm end with the same values. -/
theorem algebraic5 : Cert.algebraic_Kernel5Ideal_Reference5Ideal :=
  fun m ρ m' ρ' _ same =>
    ⟨fun c => Cert.Kernel5Ideal.Hand.scaled (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)),
      Cert.Kernel5Ideal.Hand.run_value m ρ,
      (θ_run Cert.Reference5Ideal.defs _ _).mono
        (fun r h c => by
          obtain ⟨e0, e1⟩ := same c
          have w0 : Cert.Kernel5Ideal.Hand.scaled (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1))
              = Cert.Kernel5Ideal.Hand.scaled (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) := by
            rw [e0, e1]
          exact ⟨((h c).1.trans (Cert.Reference5Ideal.Hand.ref_scaled _ _)).trans w0, (h c).2⟩)
        (Cert.Reference5Ideal.Value.run (F := Ideal) m' ρ')⟩

/-- The two programs of the modulation end with the same values. -/
theorem algebraic6 : Cert.algebraic_Kernel6Ideal_Reference6Ideal :=
  fun m ρ m' ρ' _ same =>
    ⟨fun c => Cert.Kernel6Ideal.Hand.modulated (n := 4) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)),
      fun c => Cert.Kernel6Ideal.Hand.modulated (n := 128) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)),
      Cert.Kernel6Ideal.Hand.run_value m ρ,
      (θ_run Cert.Reference6Ideal.defs _ _).mono
        (fun r h c => by
          obtain ⟨e0, e1, e2, e3⟩ := same c
          have w0 : Cert.Kernel6Ideal.Hand.modulated (n := 4) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3))
              = Cert.Kernel6Ideal.Hand.modulated (n := 4) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) := by
            rw [e0, e2, e3]
          have w1 : Cert.Kernel6Ideal.Hand.modulated (n := 128) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3))
              = Cert.Kernel6Ideal.Hand.modulated (n := 128) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) := by
            rw [e1, e2, e3]
          exact ⟨((h c).1.trans (Cert.Reference6Ideal.Hand.ref_prompt _ _ _)).trans w0, ((h c).2.1.trans (Cert.Reference6Ideal.Hand.ref_sample _ _ _)).trans w1, (h c).2.2⟩)
        (Cert.Reference6Ideal.Value.run (F := Ideal) m' ρ')⟩

/-- The two programs of the sample's projection end with the same values. -/
theorem algebraic7 : Cert.algebraic_Kernel7Ideal_Reference7Ideal :=
  fun m ρ m' ρ' _ same =>
    ⟨fun c => Cert.Kernel7Ideal.Hand.proj (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)),
      Cert.Kernel7Ideal.Hand.run_value m ρ,
      (θ_run Cert.Reference7Ideal.defs _ _).mono
        (fun r h c => by
          obtain ⟨e0, e1, e2, e3⟩ := same c
          have w0 : Cert.Kernel7Ideal.Hand.proj (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3))
              = Cert.Kernel7Ideal.Hand.proj (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) := by
            rw [e0, e1, e2, e3]
          exact ⟨((h c).1.trans (Cert.Reference7Ideal.Hand.ref_proj _ _ _ _)).trans w0, (h c).2⟩)
        (Cert.Reference7Ideal.Value.run (F := Ideal) m' ρ')⟩

/-- The two programs of the final norm of the sample end with the same values. -/
theorem algebraic8 : Cert.algebraic_Kernel8Ideal_Reference8Ideal :=
  fun m ρ m' ρ' _ same =>
    ⟨fun c => Cert.Kernel8Ideal.Hand.scaled (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)),
      Cert.Kernel8Ideal.Hand.run_value m ρ,
      (θ_run Cert.Reference8Ideal.defs _ _).mono
        (fun r h c => by
          obtain ⟨e0, e1⟩ := same c
          have w0 : Cert.Kernel8Ideal.Hand.scaled (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1))
              = Cert.Kernel8Ideal.Hand.scaled (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) := by
            rw [e0, e1]
          exact ⟨((h c).1.trans (Cert.Reference8Ideal.Hand.ref_scaled _ _)).trans w0, (h c).2⟩)
        (Cert.Reference8Ideal.Value.run (F := Ideal) m' ρ')⟩

/-- The two programs of the sample's gated linear attention end with the same states. -/
theorem algebraic9 : Cert.algebraic_Kernel9Ideal_Reference9Ideal :=
  fun m ρ m' ρ' _ same =>
    ⟨fun c => Cert.Kernel9Ideal.Hand.stateOut (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)),
      Cert.Kernel9Ideal.Hand.run_value m ρ,
      (θ_run Cert.Reference9Ideal.defs _ _).mono
        (fun r h c => by
          obtain ⟨e0, e1, e2, e3, e4⟩ := same c
          have w0 : Cert.Kernel9Ideal.Hand.stateOut (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3))
              = Cert.Kernel9Ideal.Hand.stateOut (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) := by
            rw [e0, e1, e2, e3]
          exact ⟨((h c).1.trans (Cert.Reference9Ideal.Hand.ref_out m' c)).trans w0, (h c).2⟩)
        (Cert.Reference9Ideal.Value.run (F := Ideal) m' ρ')⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Pre_scores_apart.Gen.facts, frame_kernel, fun m ρ _ => Cert.KernelIdeal.Hand.run_main m ρ,
  fun m ρ _ => Cert.KernelIdeal.Hand.run_main m ρ, fun m ρ _ => Cert.ReferenceIdeal.Hand.run_main m ρ,
  fun m ρ _ => Cert.ReferenceIdeal.Hand.run_main m ρ,
  frame_kernel2, fun m ρ _ => Cert.Kernel2Ideal.Gen.frame m ρ, fun m ρ _ => Cert.Reference2Ideal.Hand.run_main m ρ,
  frame_kernel3, fun m ρ _ => Cert.Kernel3Ideal.Gen.frame m ρ, fun m ρ _ => Cert.Reference3Ideal.Hand.run_main m ρ,
  frame_kernel4, fun m ρ _ => Cert.Kernel4Ideal.Gen.frame m ρ, fun m ρ _ => Cert.Reference4Ideal.Hand.run_main m ρ,
  frame_kernel5, fun m ρ _ => Cert.Kernel5Ideal.Gen.frame m ρ, fun m ρ _ => Cert.Reference5Ideal.Hand.run_main m ρ,
  frame_kernel6, fun m ρ _ => Cert.Kernel6Ideal.Gen.frame m ρ, fun m ρ _ => Cert.Reference6Ideal.Hand.run_main m ρ,
  frame_kernel7, fun m ρ _ => Cert.Kernel7Ideal.Gen.frame m ρ, fun m ρ _ => Cert.Reference7Ideal.Hand.run_main m ρ,
  frame_kernel8, fun m ρ _ => Cert.Kernel8Ideal.Gen.frame m ρ, fun m ρ _ => Cert.Reference8Ideal.Hand.run_main m ρ,
  frame_kernel9, fun m ρ _ => Cert.Kernel9Ideal.Gen.frame m ρ, fun m ρ _ => Cert.Reference9Ideal.Hand.run_main m ρ,
  trivial, algebraic, trivial, algebraic2, trivial, algebraic3, trivial, algebraic4, trivial, algebraic5, trivial, algebraic6, trivial, algebraic7, trivial, algebraic8, trivial, algebraic9⟩

end Cert.Proof

end
